-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_InTwo (m : (ℓ : Loc Cert.InTwo.nD Cert.InTwo.τ Cert.InTwo.sig) → Buf (Elt Bits) ℓ) : Prop :=
  True

def Pre_InTwoIdeal (m : (ℓ : Loc Cert.InTwoIdeal.nD Cert.InTwoIdeal.τ Cert.InTwoIdeal.sig) → Buf (Elt Ideal) ℓ) : Prop :=
  True

def Pre_InTwoRefIdeal (m : (ℓ : Loc Cert.InTwoRefIdeal.nD Cert.InTwoRefIdeal.τ Cert.InTwoRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_TailTwo (m : (ℓ : Loc Cert.TailTwo.nD Cert.TailTwo.τ Cert.TailTwo.sig) → Buf (Elt Bits) ℓ) : Prop :=
  True

def Pre_TailTwoIdeal (m : (ℓ : Loc Cert.TailTwoIdeal.nD Cert.TailTwoIdeal.τ Cert.TailTwoIdeal.sig) → Buf (Elt Ideal) ℓ) : Prop :=
  True

def Pre_TailTwoRefIdeal (m : (ℓ : Loc Cert.TailTwoRefIdeal.nD Cert.TailTwoRefIdeal.τ Cert.TailTwoRefIdeal.sig) → Buf (Elt Ideal) ℓ) : Prop :=
  True

def Pre_MergeTwo (m : (ℓ : Loc Cert.MergeTwo.nD Cert.MergeTwo.τ Cert.MergeTwo.sig) → Buf (Elt Bits) ℓ) : Prop :=
  True

def Pre_MergeTwoIdeal (m : (ℓ : Loc Cert.MergeTwoIdeal.nD Cert.MergeTwoIdeal.τ Cert.MergeTwoIdeal.sig) → Buf (Elt Ideal) ℓ) : Prop :=
  True

def Pre_MergeTwoRefIdeal (m : (ℓ : Loc Cert.MergeTwoRefIdeal.nD Cert.MergeTwoRefIdeal.τ Cert.MergeTwoRefIdeal.sig) → Buf (Elt Ideal) ℓ) : Prop :=
  True

def Pre_OutTwo (m : (ℓ : Loc Cert.OutTwo.nD Cert.OutTwo.τ Cert.OutTwo.sig) → Buf (Elt Bits) ℓ) : Prop :=
  True

def Pre_OutTwoIdeal (m : (ℓ : Loc Cert.OutTwoIdeal.nD Cert.OutTwoIdeal.τ Cert.OutTwoIdeal.sig) → Buf (Elt Ideal) ℓ) : Prop :=
  True

def Pre_OutTwoRefIdeal (m : (ℓ : Loc Cert.OutTwoRefIdeal.nD Cert.OutTwoRefIdeal.τ Cert.OutTwoRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_InTwo [hInTwo : Cert.InTwo.Facts] : Prop :=
  ∀ (m : (ℓ : Loc Cert.InTwo.nD Cert.InTwo.τ Cert.InTwo.sig) → Buf (Elt Bits) ℓ) (g : Dev Cert.InTwo.nD → PrngReg), Pre_InTwo m →
    θ_run (Cert.InTwo.defs (F := Bits)) (onTc (τ := Cert.InTwo.τ) (Cert.InTwo.main (F := Bits))) ⟨m, fun _ => 0, g⟩ (fun r => (∀ c : Dev Cert.InTwo.nD,
      r.2.mem ((c.tc : Thread Cert.InTwo.nD Cert.InTwo.τ).loc Cert.InTwo.main_arg0) = m ((c.tc : Thread Cert.InTwo.nD Cert.InTwo.τ).loc Cert.InTwo.main_arg0)
      ∧ r.2.mem ((c.tc : Thread Cert.InTwo.nD Cert.InTwo.τ).loc Cert.InTwo.main_arg1) = m ((c.tc : Thread Cert.InTwo.nD Cert.InTwo.τ).loc Cert.InTwo.main_arg1))
      ∧ r.2.sem = fun _ => 0)

def quiescent_InTwoIdeal [hInTwoIdeal : Cert.InTwoIdeal.Facts] : Prop :=
  ∀ (m : (ℓ : Loc Cert.InTwoIdeal.nD Cert.InTwoIdeal.τ Cert.InTwoIdeal.sig) → Buf (Elt Ideal) ℓ) (g : Dev Cert.InTwoIdeal.nD → PrngReg), Pre_InTwoIdeal m →
    θ_run (Cert.InTwoIdeal.defs (F := Ideal)) (onTc (τ := Cert.InTwoIdeal.τ) (Cert.InTwoIdeal.main (F := Ideal))) ⟨m, fun _ => 0, g⟩ (fun r => (∀ c : Dev Cert.InTwoIdeal.nD,
      r.2.mem ((c.tc : Thread Cert.InTwoIdeal.nD Cert.InTwoIdeal.τ).loc Cert.InTwoIdeal.main_arg0) = m ((c.tc : Thread Cert.InTwoIdeal.nD Cert.InTwoIdeal.τ).loc Cert.InTwoIdeal.main_arg0)
      ∧ r.2.mem ((c.tc : Thread Cert.InTwoIdeal.nD Cert.InTwoIdeal.τ).loc Cert.InTwoIdeal.main_arg1) = m ((c.tc : Thread Cert.InTwoIdeal.nD Cert.InTwoIdeal.τ).loc Cert.InTwoIdeal.main_arg1))
      ∧ r.2.sem = fun _ => 0)

def quiescent_InTwoRefIdeal [hInTwoRefIdeal : Cert.InTwoRefIdeal.Facts] : Prop :=
  ∀ (m : (ℓ : Loc Cert.InTwoRefIdeal.nD Cert.InTwoRefIdeal.τ Cert.InTwoRefIdeal.sig) → Buf (Elt Ideal) ℓ) (g : Dev Cert.InTwoRefIdeal.nD → PrngReg), Pre_InTwoRefIdeal m →
    θ_run (Cert.InTwoRefIdeal.defs (F := Ideal)) (onTc (τ := Cert.InTwoRefIdeal.τ) (Cert.InTwoRefIdeal.main (F := Ideal))) ⟨m, fun _ => 0, g⟩ (fun r => (∀ c : Dev Cert.InTwoRefIdeal.nD,
      r.2.mem ((c.tc : Thread Cert.InTwoRefIdeal.nD Cert.InTwoRefIdeal.τ).loc Cert.InTwoRefIdeal.main_arg0) = m ((c.tc : Thread Cert.InTwoRefIdeal.nD Cert.InTwoRefIdeal.τ).loc Cert.InTwoRefIdeal.main_arg0)
      ∧ r.2.mem ((c.tc : Thread Cert.InTwoRefIdeal.nD Cert.InTwoRefIdeal.τ).loc Cert.InTwoRefIdeal.main_arg1) = m ((c.tc : Thread Cert.InTwoRefIdeal.nD Cert.InTwoRefIdeal.τ).loc Cert.InTwoRefIdeal.main_arg1))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1))
      ∧ r.2.sem = fun _ => 0)

def quiescent_TailTwo [hTailTwo : Cert.TailTwo.Facts] : Prop :=
  ∀ (m : (ℓ : Loc Cert.TailTwo.nD Cert.TailTwo.τ Cert.TailTwo.sig) → Buf (Elt Bits) ℓ) (g : Dev Cert.TailTwo.nD → PrngReg), Pre_TailTwo m →
    θ_run (Cert.TailTwo.defs (F := Bits)) (onTc (τ := Cert.TailTwo.τ) (Cert.TailTwo.main (F := Bits))) ⟨m, fun _ => 0, g⟩ (fun r => (∀ c : Dev Cert.TailTwo.nD,
      r.2.mem ((c.tc : Thread Cert.TailTwo.nD Cert.TailTwo.τ).loc Cert.TailTwo.main_arg0) = m ((c.tc : Thread Cert.TailTwo.nD Cert.TailTwo.τ).loc Cert.TailTwo.main_arg0)
      ∧ r.2.mem ((c.tc : Thread Cert.TailTwo.nD Cert.TailTwo.τ).loc Cert.TailTwo.main_arg1) = m ((c.tc : Thread Cert.TailTwo.nD Cert.TailTwo.τ).loc Cert.TailTwo.main_arg1))
      ∧ r.2.sem = fun _ => 0)

def quiescent_TailTwoIdeal [hTailTwoIdeal : Cert.TailTwoIdeal.Facts] : Prop :=
  ∀ (m : (ℓ : Loc Cert.TailTwoIdeal.nD Cert.TailTwoIdeal.τ Cert.TailTwoIdeal.sig) → Buf (Elt Ideal) ℓ) (g : Dev Cert.TailTwoIdeal.nD → PrngReg), Pre_TailTwoIdeal m →
    θ_run (Cert.TailTwoIdeal.defs (F := Ideal)) (onTc (τ := Cert.TailTwoIdeal.τ) (Cert.TailTwoIdeal.main (F := Ideal))) ⟨m, fun _ => 0, g⟩ (fun r => (∀ c : Dev Cert.TailTwoIdeal.nD,
      r.2.mem ((c.tc : Thread Cert.TailTwoIdeal.nD Cert.TailTwoIdeal.τ).loc Cert.TailTwoIdeal.main_arg0) = m ((c.tc : Thread Cert.TailTwoIdeal.nD Cert.TailTwoIdeal.τ).loc Cert.TailTwoIdeal.main_arg0)
      ∧ r.2.mem ((c.tc : Thread Cert.TailTwoIdeal.nD Cert.TailTwoIdeal.τ).loc Cert.TailTwoIdeal.main_arg1) = m ((c.tc : Thread Cert.TailTwoIdeal.nD Cert.TailTwoIdeal.τ).loc Cert.TailTwoIdeal.main_arg1))
      ∧ r.2.sem = fun _ => 0)

def quiescent_TailTwoRefIdeal [hTailTwoRefIdeal : Cert.TailTwoRefIdeal.Facts] : Prop :=
  ∀ (m : (ℓ : Loc Cert.TailTwoRefIdeal.nD Cert.TailTwoRefIdeal.τ Cert.TailTwoRefIdeal.sig) → Buf (Elt Ideal) ℓ) (g : Dev Cert.TailTwoRefIdeal.nD → PrngReg), Pre_TailTwoRefIdeal m →
    θ_run (Cert.TailTwoRefIdeal.defs (F := Ideal)) (onTc (τ := Cert.TailTwoRefIdeal.τ) (Cert.TailTwoRefIdeal.main (F := Ideal))) ⟨m, fun _ => 0, g⟩ (fun r => (∀ c : Dev Cert.TailTwoRefIdeal.nD,
      r.2.mem ((c.tc : Thread Cert.TailTwoRefIdeal.nD Cert.TailTwoRefIdeal.τ).loc Cert.TailTwoRefIdeal.main_arg0) = m ((c.tc : Thread Cert.TailTwoRefIdeal.nD Cert.TailTwoRefIdeal.τ).loc Cert.TailTwoRefIdeal.main_arg0)
      ∧ r.2.mem ((c.tc : Thread Cert.TailTwoRefIdeal.nD Cert.TailTwoRefIdeal.τ).loc Cert.TailTwoRefIdeal.main_arg1) = m ((c.tc : Thread Cert.TailTwoRefIdeal.nD Cert.TailTwoRefIdeal.τ).loc Cert.TailTwoRefIdeal.main_arg1))
      ∧ r.2.sem = fun _ => 0)

def quiescent_MergeTwo [hMergeTwo : Cert.MergeTwo.Facts] : Prop :=
  ∀ (m : (ℓ : Loc Cert.MergeTwo.nD Cert.MergeTwo.τ Cert.MergeTwo.sig) → Buf (Elt Bits) ℓ) (g : Dev Cert.MergeTwo.nD → PrngReg), Pre_MergeTwo m →
    θ_run (Cert.MergeTwo.defs (F := Bits)) (onTc (τ := Cert.MergeTwo.τ) (Cert.MergeTwo.main (F := Bits))) ⟨m, fun _ => 0, g⟩ (fun r => (∀ c : Dev Cert.MergeTwo.nD,
      r.2.mem ((c.tc : Thread Cert.MergeTwo.nD Cert.MergeTwo.τ).loc Cert.MergeTwo.main_arg0) = m ((c.tc : Thread Cert.MergeTwo.nD Cert.MergeTwo.τ).loc Cert.MergeTwo.main_arg0)
      ∧ r.2.mem ((c.tc : Thread Cert.MergeTwo.nD Cert.MergeTwo.τ).loc Cert.MergeTwo.main_arg1) = m ((c.tc : Thread Cert.MergeTwo.nD Cert.MergeTwo.τ).loc Cert.MergeTwo.main_arg1)
      ∧ r.2.mem ((c.tc : Thread Cert.MergeTwo.nD Cert.MergeTwo.τ).loc Cert.MergeTwo.main_arg2) = m ((c.tc : Thread Cert.MergeTwo.nD Cert.MergeTwo.τ).loc Cert.MergeTwo.main_arg2)
      ∧ r.2.mem ((c.tc : Thread Cert.MergeTwo.nD Cert.MergeTwo.τ).loc Cert.MergeTwo.main_arg3) = m ((c.tc : Thread Cert.MergeTwo.nD Cert.MergeTwo.τ).loc Cert.MergeTwo.main_arg3)
      ∧ r.2.mem ((c.tc : Thread Cert.MergeTwo.nD Cert.MergeTwo.τ).loc Cert.MergeTwo.main_arg4) = m ((c.tc : Thread Cert.MergeTwo.nD Cert.MergeTwo.τ).loc Cert.MergeTwo.main_arg4)
      ∧ r.2.mem ((c.tc : Thread Cert.MergeTwo.nD Cert.MergeTwo.τ).loc Cert.MergeTwo.main_arg5) = m ((c.tc : Thread Cert.MergeTwo.nD Cert.MergeTwo.τ).loc Cert.MergeTwo.main_arg5)
      ∧ r.2.mem ((c.tc : Thread Cert.MergeTwo.nD Cert.MergeTwo.τ).loc Cert.MergeTwo.main_arg6) = m ((c.tc : Thread Cert.MergeTwo.nD Cert.MergeTwo.τ).loc Cert.MergeTwo.main_arg6))
      ∧ r.2.sem = fun _ => 0)

def quiescent_MergeTwoIdeal [hMergeTwoIdeal : Cert.MergeTwoIdeal.Facts] : Prop :=
  ∀ (m : (ℓ : Loc Cert.MergeTwoIdeal.nD Cert.MergeTwoIdeal.τ Cert.MergeTwoIdeal.sig) → Buf (Elt Ideal) ℓ) (g : Dev Cert.MergeTwoIdeal.nD → PrngReg), Pre_MergeTwoIdeal m →
    θ_run (Cert.MergeTwoIdeal.defs (F := Ideal)) (onTc (τ := Cert.MergeTwoIdeal.τ) (Cert.MergeTwoIdeal.main (F := Ideal))) ⟨m, fun _ => 0, g⟩ (fun r => (∀ c : Dev Cert.MergeTwoIdeal.nD,
      r.2.mem ((c.tc : Thread Cert.MergeTwoIdeal.nD Cert.MergeTwoIdeal.τ).loc Cert.MergeTwoIdeal.main_arg0) = m ((c.tc : Thread Cert.MergeTwoIdeal.nD Cert.MergeTwoIdeal.τ).loc Cert.MergeTwoIdeal.main_arg0)
      ∧ r.2.mem ((c.tc : Thread Cert.MergeTwoIdeal.nD Cert.MergeTwoIdeal.τ).loc Cert.MergeTwoIdeal.main_arg1) = m ((c.tc : Thread Cert.MergeTwoIdeal.nD Cert.MergeTwoIdeal.τ).loc Cert.MergeTwoIdeal.main_arg1)
      ∧ r.2.mem ((c.tc : Thread Cert.MergeTwoIdeal.nD Cert.MergeTwoIdeal.τ).loc Cert.MergeTwoIdeal.main_arg2) = m ((c.tc : Thread Cert.MergeTwoIdeal.nD Cert.MergeTwoIdeal.τ).loc Cert.MergeTwoIdeal.main_arg2)
      ∧ r.2.mem ((c.tc : Thread Cert.MergeTwoIdeal.nD Cert.MergeTwoIdeal.τ).loc Cert.MergeTwoIdeal.main_arg3) = m ((c.tc : Thread Cert.MergeTwoIdeal.nD Cert.MergeTwoIdeal.τ).loc Cert.MergeTwoIdeal.main_arg3)
      ∧ r.2.mem ((c.tc : Thread Cert.MergeTwoIdeal.nD Cert.MergeTwoIdeal.τ).loc Cert.MergeTwoIdeal.main_arg4) = m ((c.tc : Thread Cert.MergeTwoIdeal.nD Cert.MergeTwoIdeal.τ).loc Cert.MergeTwoIdeal.main_arg4)
      ∧ r.2.mem ((c.tc : Thread Cert.MergeTwoIdeal.nD Cert.MergeTwoIdeal.τ).loc Cert.MergeTwoIdeal.main_arg5) = m ((c.tc : Thread Cert.MergeTwoIdeal.nD Cert.MergeTwoIdeal.τ).loc Cert.MergeTwoIdeal.main_arg5)
      ∧ r.2.mem ((c.tc : Thread Cert.MergeTwoIdeal.nD Cert.MergeTwoIdeal.τ).loc Cert.MergeTwoIdeal.main_arg6) = m ((c.tc : Thread Cert.MergeTwoIdeal.nD Cert.MergeTwoIdeal.τ).loc Cert.MergeTwoIdeal.main_arg6))
      ∧ r.2.sem = fun _ => 0)

def quiescent_MergeTwoRefIdeal [hMergeTwoRefIdeal : Cert.MergeTwoRefIdeal.Facts] : Prop :=
  ∀ (m : (ℓ : Loc Cert.MergeTwoRefIdeal.nD Cert.MergeTwoRefIdeal.τ Cert.MergeTwoRefIdeal.sig) → Buf (Elt Ideal) ℓ) (g : Dev Cert.MergeTwoRefIdeal.nD → PrngReg), Pre_MergeTwoRefIdeal m →
    θ_run (Cert.MergeTwoRefIdeal.defs (F := Ideal)) (onTc (τ := Cert.MergeTwoRefIdeal.τ) (Cert.MergeTwoRefIdeal.main (F := Ideal))) ⟨m, fun _ => 0, g⟩ (fun r => (∀ c : Dev Cert.MergeTwoRefIdeal.nD,
      r.2.mem ((c.tc : Thread Cert.MergeTwoRefIdeal.nD Cert.MergeTwoRefIdeal.τ).loc Cert.MergeTwoRefIdeal.main_arg0) = m ((c.tc : Thread Cert.MergeTwoRefIdeal.nD Cert.MergeTwoRefIdeal.τ).loc Cert.MergeTwoRefIdeal.main_arg0)
      ∧ r.2.mem ((c.tc : Thread Cert.MergeTwoRefIdeal.nD Cert.MergeTwoRefIdeal.τ).loc Cert.MergeTwoRefIdeal.main_arg1) = m ((c.tc : Thread Cert.MergeTwoRefIdeal.nD Cert.MergeTwoRefIdeal.τ).loc Cert.MergeTwoRefIdeal.main_arg1)
      ∧ r.2.mem ((c.tc : Thread Cert.MergeTwoRefIdeal.nD Cert.MergeTwoRefIdeal.τ).loc Cert.MergeTwoRefIdeal.main_arg2) = m ((c.tc : Thread Cert.MergeTwoRefIdeal.nD Cert.MergeTwoRefIdeal.τ).loc Cert.MergeTwoRefIdeal.main_arg2)
      ∧ r.2.mem ((c.tc : Thread Cert.MergeTwoRefIdeal.nD Cert.MergeTwoRefIdeal.τ).loc Cert.MergeTwoRefIdeal.main_arg3) = m ((c.tc : Thread Cert.MergeTwoRefIdeal.nD Cert.MergeTwoRefIdeal.τ).loc Cert.MergeTwoRefIdeal.main_arg3)
      ∧ r.2.mem ((c.tc : Thread Cert.MergeTwoRefIdeal.nD Cert.MergeTwoRefIdeal.τ).loc Cert.MergeTwoRefIdeal.main_arg4) = m ((c.tc : Thread Cert.MergeTwoRefIdeal.nD Cert.MergeTwoRefIdeal.τ).loc Cert.MergeTwoRefIdeal.main_arg4)
      ∧ r.2.mem ((c.tc : Thread Cert.MergeTwoRefIdeal.nD Cert.MergeTwoRefIdeal.τ).loc Cert.MergeTwoRefIdeal.main_arg5) = m ((c.tc : Thread Cert.MergeTwoRefIdeal.nD Cert.MergeTwoRefIdeal.τ).loc Cert.MergeTwoRefIdeal.main_arg5)
      ∧ r.2.mem ((c.tc : Thread Cert.MergeTwoRefIdeal.nD Cert.MergeTwoRefIdeal.τ).loc Cert.MergeTwoRefIdeal.main_arg6) = m ((c.tc : Thread Cert.MergeTwoRefIdeal.nD Cert.MergeTwoRefIdeal.τ).loc Cert.MergeTwoRefIdeal.main_arg6))
      ∧ r.2.sem = fun _ => 0)

def quiescent_OutTwo [hOutTwo : Cert.OutTwo.Facts] : Prop :=
  ∀ (m : (ℓ : Loc Cert.OutTwo.nD Cert.OutTwo.τ Cert.OutTwo.sig) → Buf (Elt Bits) ℓ) (g : Dev Cert.OutTwo.nD → PrngReg), Pre_OutTwo m →
    θ_run (Cert.OutTwo.defs (F := Bits)) (onTc (τ := Cert.OutTwo.τ) (Cert.OutTwo.main (F := Bits))) ⟨m, fun _ => 0, g⟩ (fun r => (∀ c : Dev Cert.OutTwo.nD,
      r.2.mem ((c.tc : Thread Cert.OutTwo.nD Cert.OutTwo.τ).loc Cert.OutTwo.main_arg0) = m ((c.tc : Thread Cert.OutTwo.nD Cert.OutTwo.τ).loc Cert.OutTwo.main_arg0)
      ∧ r.2.mem ((c.tc : Thread Cert.OutTwo.nD Cert.OutTwo.τ).loc Cert.OutTwo.main_arg1) = m ((c.tc : Thread Cert.OutTwo.nD Cert.OutTwo.τ).loc Cert.OutTwo.main_arg1)
      ∧ r.2.mem ((c.tc : Thread Cert.OutTwo.nD Cert.OutTwo.τ).loc Cert.OutTwo.main_arg2) = m ((c.tc : Thread Cert.OutTwo.nD Cert.OutTwo.τ).loc Cert.OutTwo.main_arg2)
      ∧ r.2.mem ((c.tc : Thread Cert.OutTwo.nD Cert.OutTwo.τ).loc Cert.OutTwo.main_arg3) = m ((c.tc : Thread Cert.OutTwo.nD Cert.OutTwo.τ).loc Cert.OutTwo.main_arg3))
      ∧ r.2.sem = fun _ => 0)

def quiescent_OutTwoIdeal [hOutTwoIdeal : Cert.OutTwoIdeal.Facts] : Prop :=
  ∀ (m : (ℓ : Loc Cert.OutTwoIdeal.nD Cert.OutTwoIdeal.τ Cert.OutTwoIdeal.sig) → Buf (Elt Ideal) ℓ) (g : Dev Cert.OutTwoIdeal.nD → PrngReg), Pre_OutTwoIdeal m →
    θ_run (Cert.OutTwoIdeal.defs (F := Ideal)) (onTc (τ := Cert.OutTwoIdeal.τ) (Cert.OutTwoIdeal.main (F := Ideal))) ⟨m, fun _ => 0, g⟩ (fun r => (∀ c : Dev Cert.OutTwoIdeal.nD,
      r.2.mem ((c.tc : Thread Cert.OutTwoIdeal.nD Cert.OutTwoIdeal.τ).loc Cert.OutTwoIdeal.main_arg0) = m ((c.tc : Thread Cert.OutTwoIdeal.nD Cert.OutTwoIdeal.τ).loc Cert.OutTwoIdeal.main_arg0)
      ∧ r.2.mem ((c.tc : Thread Cert.OutTwoIdeal.nD Cert.OutTwoIdeal.τ).loc Cert.OutTwoIdeal.main_arg1) = m ((c.tc : Thread Cert.OutTwoIdeal.nD Cert.OutTwoIdeal.τ).loc Cert.OutTwoIdeal.main_arg1)
      ∧ r.2.mem ((c.tc : Thread Cert.OutTwoIdeal.nD Cert.OutTwoIdeal.τ).loc Cert.OutTwoIdeal.main_arg2) = m ((c.tc : Thread Cert.OutTwoIdeal.nD Cert.OutTwoIdeal.τ).loc Cert.OutTwoIdeal.main_arg2)
      ∧ r.2.mem ((c.tc : Thread Cert.OutTwoIdeal.nD Cert.OutTwoIdeal.τ).loc Cert.OutTwoIdeal.main_arg3) = m ((c.tc : Thread Cert.OutTwoIdeal.nD Cert.OutTwoIdeal.τ).loc Cert.OutTwoIdeal.main_arg3))
      ∧ r.2.sem = fun _ => 0)

def quiescent_OutTwoRefIdeal [hOutTwoRefIdeal : Cert.OutTwoRefIdeal.Facts] : Prop :=
  ∀ (m : (ℓ : Loc Cert.OutTwoRefIdeal.nD Cert.OutTwoRefIdeal.τ Cert.OutTwoRefIdeal.sig) → Buf (Elt Ideal) ℓ) (g : Dev Cert.OutTwoRefIdeal.nD → PrngReg), Pre_OutTwoRefIdeal m →
    θ_run (Cert.OutTwoRefIdeal.defs (F := Ideal)) (onTc (τ := Cert.OutTwoRefIdeal.τ) (Cert.OutTwoRefIdeal.main (F := Ideal))) ⟨m, fun _ => 0, g⟩ (fun r => (∀ c : Dev Cert.OutTwoRefIdeal.nD,
      r.2.mem ((c.tc : Thread Cert.OutTwoRefIdeal.nD Cert.OutTwoRefIdeal.τ).loc Cert.OutTwoRefIdeal.main_arg0) = m ((c.tc : Thread Cert.OutTwoRefIdeal.nD Cert.OutTwoRefIdeal.τ).loc Cert.OutTwoRefIdeal.main_arg0)
      ∧ r.2.mem ((c.tc : Thread Cert.OutTwoRefIdeal.nD Cert.OutTwoRefIdeal.τ).loc Cert.OutTwoRefIdeal.main_arg1) = m ((c.tc : Thread Cert.OutTwoRefIdeal.nD Cert.OutTwoRefIdeal.τ).loc Cert.OutTwoRefIdeal.main_arg1)
      ∧ r.2.mem ((c.tc : Thread Cert.OutTwoRefIdeal.nD Cert.OutTwoRefIdeal.τ).loc Cert.OutTwoRefIdeal.main_arg2) = m ((c.tc : Thread Cert.OutTwoRefIdeal.nD Cert.OutTwoRefIdeal.τ).loc Cert.OutTwoRefIdeal.main_arg2)
      ∧ r.2.mem ((c.tc : Thread Cert.OutTwoRefIdeal.nD Cert.OutTwoRefIdeal.τ).loc Cert.OutTwoRefIdeal.main_arg3) = m ((c.tc : Thread Cert.OutTwoRefIdeal.nD Cert.OutTwoRefIdeal.τ).loc Cert.OutTwoRefIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v1) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v4) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v23) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v35) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v25) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_InTwo_InTwoIdeal : Prop :=
  True

def algebraic_InTwoIdeal_InTwoRefIdeal [hInTwoIdeal : Cert.InTwoIdeal.Facts] [hInTwoRefIdeal : Cert.InTwoRefIdeal.Facts] : Prop :=
  ∀ (m : (ℓ : Loc Cert.InTwoIdeal.nD Cert.InTwoIdeal.τ Cert.InTwoIdeal.sig) → Buf (Elt Ideal) ℓ) (g : Dev Cert.InTwoIdeal.nD → PrngReg)
    (m' : (ℓ : Loc Cert.InTwoRefIdeal.nD Cert.InTwoRefIdeal.τ Cert.InTwoRefIdeal.sig) → Buf (Elt Ideal) ℓ) (g' : Dev Cert.InTwoRefIdeal.nD → PrngReg), Pre_InTwoIdeal m →
    (∀ c : Dev Cert.InTwoIdeal.nD,
      m' ((c.tc : Thread Cert.InTwoRefIdeal.nD Cert.InTwoRefIdeal.τ).loc Cert.InTwoRefIdeal.main_arg0) = m ((c.tc : Thread Cert.InTwoIdeal.nD Cert.InTwoIdeal.τ).loc Cert.InTwoIdeal.main_arg0)
      ∧ m' ((c.tc : Thread Cert.InTwoRefIdeal.nD Cert.InTwoRefIdeal.τ).loc Cert.InTwoRefIdeal.main_arg1) = m ((c.tc : Thread Cert.InTwoIdeal.nD Cert.InTwoIdeal.τ).loc Cert.InTwoIdeal.main_arg1)) →
    ∃ (v0 : (c : Dev Cert.InTwoIdeal.nD) → Buf (Elt Ideal) ((c.tc : Thread Cert.InTwoIdeal.nD Cert.InTwoIdeal.τ).loc Cert.InTwoIdeal.main_v1)),
      θ_run (Cert.InTwoIdeal.defs (F := Ideal)) (onTc (τ := Cert.InTwoIdeal.τ) (Cert.InTwoIdeal.main (F := Ideal))) ⟨m, fun _ => 0, g⟩ (fun r => ∀ c : Dev Cert.InTwoIdeal.nD,
          r.2.mem ((c.tc : Thread Cert.InTwoIdeal.nD Cert.InTwoIdeal.τ).loc Cert.InTwoIdeal.main_v1) = v0 c
          ∧ r.2.mem ((c.tc : Thread Cert.InTwoIdeal.nD Cert.InTwoIdeal.τ).loc Cert.InTwoIdeal.main_arg0) = m ((c.tc : Thread Cert.InTwoIdeal.nD Cert.InTwoIdeal.τ).loc Cert.InTwoIdeal.main_arg0)
          ∧ r.2.mem ((c.tc : Thread Cert.InTwoIdeal.nD Cert.InTwoIdeal.τ).loc Cert.InTwoIdeal.main_arg1) = m ((c.tc : Thread Cert.InTwoIdeal.nD Cert.InTwoIdeal.τ).loc Cert.InTwoIdeal.main_arg1))
      ∧ θ_run (Cert.InTwoRefIdeal.defs (F := Ideal)) (onTc (τ := Cert.InTwoRefIdeal.τ) (Cert.InTwoRefIdeal.main (F := Ideal))) ⟨m', fun _ => 0, g'⟩ (fun r => ∀ c : Dev Cert.InTwoRefIdeal.nD,
          r.2.mem ((c.tc : Thread Cert.InTwoRefIdeal.nD Cert.InTwoRefIdeal.τ).loc Cert.InTwoRefIdeal.main_v4) = v0 c
          ∧ r.2.mem ((c.tc : Thread Cert.InTwoRefIdeal.nD Cert.InTwoRefIdeal.τ).loc Cert.InTwoRefIdeal.main_arg0) = m' ((c.tc : Thread Cert.InTwoRefIdeal.nD Cert.InTwoRefIdeal.τ).loc Cert.InTwoRefIdeal.main_arg0)
          ∧ r.2.mem ((c.tc : Thread Cert.InTwoRefIdeal.nD Cert.InTwoRefIdeal.τ).loc Cert.InTwoRefIdeal.main_arg1) = m' ((c.tc : Thread Cert.InTwoRefIdeal.nD Cert.InTwoRefIdeal.τ).loc Cert.InTwoRefIdeal.main_arg1))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)) →
    ∃ (v0 : (c : Dev Cert.TailIdeal.nD) → Buf (Elt Ideal) ((c.tc : Thread Cert.TailIdeal.nD Cert.TailIdeal.τ).loc Cert.TailIdeal.main_v7)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v7) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v9) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1))

def preserves_TailTwo_TailTwoIdeal : Prop :=
  True

def algebraic_TailTwoIdeal_TailTwoRefIdeal [hTailTwoIdeal : Cert.TailTwoIdeal.Facts] [hTailTwoRefIdeal : Cert.TailTwoRefIdeal.Facts] : Prop :=
  ∀ (m : (ℓ : Loc Cert.TailTwoIdeal.nD Cert.TailTwoIdeal.τ Cert.TailTwoIdeal.sig) → Buf (Elt Ideal) ℓ) (g : Dev Cert.TailTwoIdeal.nD → PrngReg)
    (m' : (ℓ : Loc Cert.TailTwoRefIdeal.nD Cert.TailTwoRefIdeal.τ Cert.TailTwoRefIdeal.sig) → Buf (Elt Ideal) ℓ) (g' : Dev Cert.TailTwoRefIdeal.nD → PrngReg), Pre_TailTwoIdeal m →
    (∀ c : Dev Cert.TailTwoIdeal.nD,
      m' ((c.tc : Thread Cert.TailTwoRefIdeal.nD Cert.TailTwoRefIdeal.τ).loc Cert.TailTwoRefIdeal.main_arg0) = m ((c.tc : Thread Cert.TailTwoIdeal.nD Cert.TailTwoIdeal.τ).loc Cert.TailTwoIdeal.main_arg0)
      ∧ m' ((c.tc : Thread Cert.TailTwoRefIdeal.nD Cert.TailTwoRefIdeal.τ).loc Cert.TailTwoRefIdeal.main_arg1) = m ((c.tc : Thread Cert.TailTwoIdeal.nD Cert.TailTwoIdeal.τ).loc Cert.TailTwoIdeal.main_arg1)) →
    ∃ (v0 : (c : Dev Cert.TailTwoIdeal.nD) → Buf (Elt Ideal) ((c.tc : Thread Cert.TailTwoIdeal.nD Cert.TailTwoIdeal.τ).loc Cert.TailTwoIdeal.main_v7)),
      θ_run (Cert.TailTwoIdeal.defs (F := Ideal)) (onTc (τ := Cert.TailTwoIdeal.τ) (Cert.TailTwoIdeal.main (F := Ideal))) ⟨m, fun _ => 0, g⟩ (fun r => ∀ c : Dev Cert.TailTwoIdeal.nD,
          r.2.mem ((c.tc : Thread Cert.TailTwoIdeal.nD Cert.TailTwoIdeal.τ).loc Cert.TailTwoIdeal.main_v7) = v0 c
          ∧ r.2.mem ((c.tc : Thread Cert.TailTwoIdeal.nD Cert.TailTwoIdeal.τ).loc Cert.TailTwoIdeal.main_arg0) = m ((c.tc : Thread Cert.TailTwoIdeal.nD Cert.TailTwoIdeal.τ).loc Cert.TailTwoIdeal.main_arg0)
          ∧ r.2.mem ((c.tc : Thread Cert.TailTwoIdeal.nD Cert.TailTwoIdeal.τ).loc Cert.TailTwoIdeal.main_arg1) = m ((c.tc : Thread Cert.TailTwoIdeal.nD Cert.TailTwoIdeal.τ).loc Cert.TailTwoIdeal.main_arg1))
      ∧ θ_run (Cert.TailTwoRefIdeal.defs (F := Ideal)) (onTc (τ := Cert.TailTwoRefIdeal.τ) (Cert.TailTwoRefIdeal.main (F := Ideal))) ⟨m', fun _ => 0, g'⟩ (fun r => ∀ c : Dev Cert.TailTwoRefIdeal.nD,
          r.2.mem ((c.tc : Thread Cert.TailTwoRefIdeal.nD Cert.TailTwoRefIdeal.τ).loc Cert.TailTwoRefIdeal.main_v9) = v0 c
          ∧ r.2.mem ((c.tc : Thread Cert.TailTwoRefIdeal.nD Cert.TailTwoRefIdeal.τ).loc Cert.TailTwoRefIdeal.main_arg0) = m' ((c.tc : Thread Cert.TailTwoRefIdeal.nD Cert.TailTwoRefIdeal.τ).loc Cert.TailTwoRefIdeal.main_arg0)
          ∧ r.2.mem ((c.tc : Thread Cert.TailTwoRefIdeal.nD Cert.TailTwoRefIdeal.τ).loc Cert.TailTwoRefIdeal.main_arg1) = m' ((c.tc : Thread Cert.TailTwoRefIdeal.nD Cert.TailTwoRefIdeal.τ).loc Cert.TailTwoRefIdeal.main_arg1))

def preserves_MergeTwo_MergeTwoIdeal : Prop :=
  True

def algebraic_MergeTwoIdeal_MergeTwoRefIdeal [hMergeTwoIdeal : Cert.MergeTwoIdeal.Facts] [hMergeTwoRefIdeal : Cert.MergeTwoRefIdeal.Facts] : Prop :=
  ∀ (m : (ℓ : Loc Cert.MergeTwoIdeal.nD Cert.MergeTwoIdeal.τ Cert.MergeTwoIdeal.sig) → Buf (Elt Ideal) ℓ) (g : Dev Cert.MergeTwoIdeal.nD → PrngReg)
    (m' : (ℓ : Loc Cert.MergeTwoRefIdeal.nD Cert.MergeTwoRefIdeal.τ Cert.MergeTwoRefIdeal.sig) → Buf (Elt Ideal) ℓ) (g' : Dev Cert.MergeTwoRefIdeal.nD → PrngReg), Pre_MergeTwoIdeal m →
    (∀ c : Dev Cert.MergeTwoIdeal.nD,
      m' ((c.tc : Thread Cert.MergeTwoRefIdeal.nD Cert.MergeTwoRefIdeal.τ).loc Cert.MergeTwoRefIdeal.main_arg0) = m ((c.tc : Thread Cert.MergeTwoIdeal.nD Cert.MergeTwoIdeal.τ).loc Cert.MergeTwoIdeal.main_arg0)
      ∧ m' ((c.tc : Thread Cert.MergeTwoRefIdeal.nD Cert.MergeTwoRefIdeal.τ).loc Cert.MergeTwoRefIdeal.main_arg1) = m ((c.tc : Thread Cert.MergeTwoIdeal.nD Cert.MergeTwoIdeal.τ).loc Cert.MergeTwoIdeal.main_arg1)
      ∧ m' ((c.tc : Thread Cert.MergeTwoRefIdeal.nD Cert.MergeTwoRefIdeal.τ).loc Cert.MergeTwoRefIdeal.main_arg2) = m ((c.tc : Thread Cert.MergeTwoIdeal.nD Cert.MergeTwoIdeal.τ).loc Cert.MergeTwoIdeal.main_arg2)
      ∧ m' ((c.tc : Thread Cert.MergeTwoRefIdeal.nD Cert.MergeTwoRefIdeal.τ).loc Cert.MergeTwoRefIdeal.main_arg3) = m ((c.tc : Thread Cert.MergeTwoIdeal.nD Cert.MergeTwoIdeal.τ).loc Cert.MergeTwoIdeal.main_arg3)
      ∧ m' ((c.tc : Thread Cert.MergeTwoRefIdeal.nD Cert.MergeTwoRefIdeal.τ).loc Cert.MergeTwoRefIdeal.main_arg4) = m ((c.tc : Thread Cert.MergeTwoIdeal.nD Cert.MergeTwoIdeal.τ).loc Cert.MergeTwoIdeal.main_arg4)
      ∧ m' ((c.tc : Thread Cert.MergeTwoRefIdeal.nD Cert.MergeTwoRefIdeal.τ).loc Cert.MergeTwoRefIdeal.main_arg5) = m ((c.tc : Thread Cert.MergeTwoIdeal.nD Cert.MergeTwoIdeal.τ).loc Cert.MergeTwoIdeal.main_arg5)
      ∧ m' ((c.tc : Thread Cert.MergeTwoRefIdeal.nD Cert.MergeTwoRefIdeal.τ).loc Cert.MergeTwoRefIdeal.main_arg6) = m ((c.tc : Thread Cert.MergeTwoIdeal.nD Cert.MergeTwoIdeal.τ).loc Cert.MergeTwoIdeal.main_arg6)) →
    ∃ (v0 : (c : Dev Cert.MergeTwoIdeal.nD) → Buf (Elt Ideal) ((c.tc : Thread Cert.MergeTwoIdeal.nD Cert.MergeTwoIdeal.τ).loc Cert.MergeTwoIdeal.main_v6)),
      θ_run (Cert.MergeTwoIdeal.defs (F := Ideal)) (onTc (τ := Cert.MergeTwoIdeal.τ) (Cert.MergeTwoIdeal.main (F := Ideal))) ⟨m, fun _ => 0, g⟩ (fun r => ∀ c : Dev Cert.MergeTwoIdeal.nD,
          r.2.mem ((c.tc : Thread Cert.MergeTwoIdeal.nD Cert.MergeTwoIdeal.τ).loc Cert.MergeTwoIdeal.main_v6) = v0 c
          ∧ r.2.mem ((c.tc : Thread Cert.MergeTwoIdeal.nD Cert.MergeTwoIdeal.τ).loc Cert.MergeTwoIdeal.main_arg0) = m ((c.tc : Thread Cert.MergeTwoIdeal.nD Cert.MergeTwoIdeal.τ).loc Cert.MergeTwoIdeal.main_arg0)
          ∧ r.2.mem ((c.tc : Thread Cert.MergeTwoIdeal.nD Cert.MergeTwoIdeal.τ).loc Cert.MergeTwoIdeal.main_arg1) = m ((c.tc : Thread Cert.MergeTwoIdeal.nD Cert.MergeTwoIdeal.τ).loc Cert.MergeTwoIdeal.main_arg1)
          ∧ r.2.mem ((c.tc : Thread Cert.MergeTwoIdeal.nD Cert.MergeTwoIdeal.τ).loc Cert.MergeTwoIdeal.main_arg2) = m ((c.tc : Thread Cert.MergeTwoIdeal.nD Cert.MergeTwoIdeal.τ).loc Cert.MergeTwoIdeal.main_arg2)
          ∧ r.2.mem ((c.tc : Thread Cert.MergeTwoIdeal.nD Cert.MergeTwoIdeal.τ).loc Cert.MergeTwoIdeal.main_arg3) = m ((c.tc : Thread Cert.MergeTwoIdeal.nD Cert.MergeTwoIdeal.τ).loc Cert.MergeTwoIdeal.main_arg3)
          ∧ r.2.mem ((c.tc : Thread Cert.MergeTwoIdeal.nD Cert.MergeTwoIdeal.τ).loc Cert.MergeTwoIdeal.main_arg4) = m ((c.tc : Thread Cert.MergeTwoIdeal.nD Cert.MergeTwoIdeal.τ).loc Cert.MergeTwoIdeal.main_arg4)
          ∧ r.2.mem ((c.tc : Thread Cert.MergeTwoIdeal.nD Cert.MergeTwoIdeal.τ).loc Cert.MergeTwoIdeal.main_arg5) = m ((c.tc : Thread Cert.MergeTwoIdeal.nD Cert.MergeTwoIdeal.τ).loc Cert.MergeTwoIdeal.main_arg5)
          ∧ r.2.mem ((c.tc : Thread Cert.MergeTwoIdeal.nD Cert.MergeTwoIdeal.τ).loc Cert.MergeTwoIdeal.main_arg6) = m ((c.tc : Thread Cert.MergeTwoIdeal.nD Cert.MergeTwoIdeal.τ).loc Cert.MergeTwoIdeal.main_arg6))
      ∧ θ_run (Cert.MergeTwoRefIdeal.defs (F := Ideal)) (onTc (τ := Cert.MergeTwoRefIdeal.τ) (Cert.MergeTwoRefIdeal.main (F := Ideal))) ⟨m', fun _ => 0, g'⟩ (fun r => ∀ c : Dev Cert.MergeTwoRefIdeal.nD,
          r.2.mem ((c.tc : Thread Cert.MergeTwoRefIdeal.nD Cert.MergeTwoRefIdeal.τ).loc Cert.MergeTwoRefIdeal.main_v38) = v0 c
          ∧ r.2.mem ((c.tc : Thread Cert.MergeTwoRefIdeal.nD Cert.MergeTwoRefIdeal.τ).loc Cert.MergeTwoRefIdeal.main_arg0) = m' ((c.tc : Thread Cert.MergeTwoRefIdeal.nD Cert.MergeTwoRefIdeal.τ).loc Cert.MergeTwoRefIdeal.main_arg0)
          ∧ r.2.mem ((c.tc : Thread Cert.MergeTwoRefIdeal.nD Cert.MergeTwoRefIdeal.τ).loc Cert.MergeTwoRefIdeal.main_arg1) = m' ((c.tc : Thread Cert.MergeTwoRefIdeal.nD Cert.MergeTwoRefIdeal.τ).loc Cert.MergeTwoRefIdeal.main_arg1)
          ∧ r.2.mem ((c.tc : Thread Cert.MergeTwoRefIdeal.nD Cert.MergeTwoRefIdeal.τ).loc Cert.MergeTwoRefIdeal.main_arg2) = m' ((c.tc : Thread Cert.MergeTwoRefIdeal.nD Cert.MergeTwoRefIdeal.τ).loc Cert.MergeTwoRefIdeal.main_arg2)
          ∧ r.2.mem ((c.tc : Thread Cert.MergeTwoRefIdeal.nD Cert.MergeTwoRefIdeal.τ).loc Cert.MergeTwoRefIdeal.main_arg3) = m' ((c.tc : Thread Cert.MergeTwoRefIdeal.nD Cert.MergeTwoRefIdeal.τ).loc Cert.MergeTwoRefIdeal.main_arg3)
          ∧ r.2.mem ((c.tc : Thread Cert.MergeTwoRefIdeal.nD Cert.MergeTwoRefIdeal.τ).loc Cert.MergeTwoRefIdeal.main_arg4) = m' ((c.tc : Thread Cert.MergeTwoRefIdeal.nD Cert.MergeTwoRefIdeal.τ).loc Cert.MergeTwoRefIdeal.main_arg4)
          ∧ r.2.mem ((c.tc : Thread Cert.MergeTwoRefIdeal.nD Cert.MergeTwoRefIdeal.τ).loc Cert.MergeTwoRefIdeal.main_arg5) = m' ((c.tc : Thread Cert.MergeTwoRefIdeal.nD Cert.MergeTwoRefIdeal.τ).loc Cert.MergeTwoRefIdeal.main_arg5)
          ∧ r.2.mem ((c.tc : Thread Cert.MergeTwoRefIdeal.nD Cert.MergeTwoRefIdeal.τ).loc Cert.MergeTwoRefIdeal.main_arg6) = m' ((c.tc : Thread Cert.MergeTwoRefIdeal.nD Cert.MergeTwoRefIdeal.τ).loc Cert.MergeTwoRefIdeal.main_arg6))

def preserves_OutTwo_OutTwoIdeal : Prop :=
  True

def algebraic_OutTwoIdeal_OutTwoRefIdeal [hOutTwoIdeal : Cert.OutTwoIdeal.Facts] [hOutTwoRefIdeal : Cert.OutTwoRefIdeal.Facts] : Prop :=
  ∀ (m : (ℓ : Loc Cert.OutTwoIdeal.nD Cert.OutTwoIdeal.τ Cert.OutTwoIdeal.sig) → Buf (Elt Ideal) ℓ) (g : Dev Cert.OutTwoIdeal.nD → PrngReg)
    (m' : (ℓ : Loc Cert.OutTwoRefIdeal.nD Cert.OutTwoRefIdeal.τ Cert.OutTwoRefIdeal.sig) → Buf (Elt Ideal) ℓ) (g' : Dev Cert.OutTwoRefIdeal.nD → PrngReg), Pre_OutTwoIdeal m →
    (∀ c : Dev Cert.OutTwoIdeal.nD,
      m' ((c.tc : Thread Cert.OutTwoRefIdeal.nD Cert.OutTwoRefIdeal.τ).loc Cert.OutTwoRefIdeal.main_arg0) = m ((c.tc : Thread Cert.OutTwoIdeal.nD Cert.OutTwoIdeal.τ).loc Cert.OutTwoIdeal.main_arg0)
      ∧ m' ((c.tc : Thread Cert.OutTwoRefIdeal.nD Cert.OutTwoRefIdeal.τ).loc Cert.OutTwoRefIdeal.main_arg1) = m ((c.tc : Thread Cert.OutTwoIdeal.nD Cert.OutTwoIdeal.τ).loc Cert.OutTwoIdeal.main_arg1)
      ∧ m' ((c.tc : Thread Cert.OutTwoRefIdeal.nD Cert.OutTwoRefIdeal.τ).loc Cert.OutTwoRefIdeal.main_arg2) = m ((c.tc : Thread Cert.OutTwoIdeal.nD Cert.OutTwoIdeal.τ).loc Cert.OutTwoIdeal.main_arg2)
      ∧ m' ((c.tc : Thread Cert.OutTwoRefIdeal.nD Cert.OutTwoRefIdeal.τ).loc Cert.OutTwoRefIdeal.main_arg3) = m ((c.tc : Thread Cert.OutTwoIdeal.nD Cert.OutTwoIdeal.τ).loc Cert.OutTwoIdeal.main_arg3)) →
    ∃ (v0 : (c : Dev Cert.OutTwoIdeal.nD) → Buf (Elt Ideal) ((c.tc : Thread Cert.OutTwoIdeal.nD Cert.OutTwoIdeal.τ).loc Cert.OutTwoIdeal.main_v2)),
      θ_run (Cert.OutTwoIdeal.defs (F := Ideal)) (onTc (τ := Cert.OutTwoIdeal.τ) (Cert.OutTwoIdeal.main (F := Ideal))) ⟨m, fun _ => 0, g⟩ (fun r => ∀ c : Dev Cert.OutTwoIdeal.nD,
          r.2.mem ((c.tc : Thread Cert.OutTwoIdeal.nD Cert.OutTwoIdeal.τ).loc Cert.OutTwoIdeal.main_v2) = v0 c
          ∧ r.2.mem ((c.tc : Thread Cert.OutTwoIdeal.nD Cert.OutTwoIdeal.τ).loc Cert.OutTwoIdeal.main_arg0) = m ((c.tc : Thread Cert.OutTwoIdeal.nD Cert.OutTwoIdeal.τ).loc Cert.OutTwoIdeal.main_arg0)
          ∧ r.2.mem ((c.tc : Thread Cert.OutTwoIdeal.nD Cert.OutTwoIdeal.τ).loc Cert.OutTwoIdeal.main_arg1) = m ((c.tc : Thread Cert.OutTwoIdeal.nD Cert.OutTwoIdeal.τ).loc Cert.OutTwoIdeal.main_arg1)
          ∧ r.2.mem ((c.tc : Thread Cert.OutTwoIdeal.nD Cert.OutTwoIdeal.τ).loc Cert.OutTwoIdeal.main_arg2) = m ((c.tc : Thread Cert.OutTwoIdeal.nD Cert.OutTwoIdeal.τ).loc Cert.OutTwoIdeal.main_arg2)
          ∧ r.2.mem ((c.tc : Thread Cert.OutTwoIdeal.nD Cert.OutTwoIdeal.τ).loc Cert.OutTwoIdeal.main_arg3) = m ((c.tc : Thread Cert.OutTwoIdeal.nD Cert.OutTwoIdeal.τ).loc Cert.OutTwoIdeal.main_arg3))
      ∧ θ_run (Cert.OutTwoRefIdeal.defs (F := Ideal)) (onTc (τ := Cert.OutTwoRefIdeal.τ) (Cert.OutTwoRefIdeal.main (F := Ideal))) ⟨m', fun _ => 0, g'⟩ (fun r => ∀ c : Dev Cert.OutTwoRefIdeal.nD,
          r.2.mem ((c.tc : Thread Cert.OutTwoRefIdeal.nD Cert.OutTwoRefIdeal.τ).loc Cert.OutTwoRefIdeal.main_v13) = v0 c
          ∧ r.2.mem ((c.tc : Thread Cert.OutTwoRefIdeal.nD Cert.OutTwoRefIdeal.τ).loc Cert.OutTwoRefIdeal.main_arg0) = m' ((c.tc : Thread Cert.OutTwoRefIdeal.nD Cert.OutTwoRefIdeal.τ).loc Cert.OutTwoRefIdeal.main_arg0)
          ∧ r.2.mem ((c.tc : Thread Cert.OutTwoRefIdeal.nD Cert.OutTwoRefIdeal.τ).loc Cert.OutTwoRefIdeal.main_arg1) = m' ((c.tc : Thread Cert.OutTwoRefIdeal.nD Cert.OutTwoRefIdeal.τ).loc Cert.OutTwoRefIdeal.main_arg1)
          ∧ r.2.mem ((c.tc : Thread Cert.OutTwoRefIdeal.nD Cert.OutTwoRefIdeal.τ).loc Cert.OutTwoRefIdeal.main_arg2) = m' ((c.tc : Thread Cert.OutTwoRefIdeal.nD Cert.OutTwoRefIdeal.τ).loc Cert.OutTwoRefIdeal.main_arg2)
          ∧ r.2.mem ((c.tc : Thread Cert.OutTwoRefIdeal.nD Cert.OutTwoRefIdeal.τ).loc Cert.OutTwoRefIdeal.main_arg3) = m' ((c.tc : Thread Cert.OutTwoRefIdeal.nD Cert.OutTwoRefIdeal.τ).loc Cert.OutTwoRefIdeal.main_arg3))

def Claim : Prop :=
  ∃ (hKernel : Cert.Kernel.Facts) (hKernelIdeal : Cert.KernelIdeal.Facts) (hReferenceIdeal : Cert.ReferenceIdeal.Facts) (hIn : Cert.In.Facts) (hInIdeal : Cert.InIdeal.Facts) (hInRefIdeal : Cert.InRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hInTwo : Cert.InTwo.Facts) (hInTwoIdeal : Cert.InTwoIdeal.Facts) (hInTwoRefIdeal : Cert.InTwoRefIdeal.Facts) (hTail : Cert.Tail.Facts) (hTailIdeal : Cert.TailIdeal.Facts) (hTailRefIdeal : Cert.TailRefIdeal.Facts) (hTailTwo : Cert.TailTwo.Facts) (hTailTwoIdeal : Cert.TailTwoIdeal.Facts) (hTailTwoRefIdeal : Cert.TailTwoRefIdeal.Facts) (hMergeTwo : Cert.MergeTwo.Facts) (hMergeTwoIdeal : Cert.MergeTwoIdeal.Facts) (hMergeTwoRefIdeal : Cert.MergeTwoRefIdeal.Facts) (hOutTwo : Cert.OutTwo.Facts) (hOutTwoIdeal : Cert.OutTwoIdeal.Facts) (hOutTwoRefIdeal : Cert.OutTwoRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_In (hIn := hIn)
    ∧ quiescent_InIdeal (hInIdeal := hInIdeal)
    ∧ quiescent_InRefIdeal (hInRefIdeal := hInRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_InTwo (hInTwo := hInTwo)
    ∧ quiescent_InTwoIdeal (hInTwoIdeal := hInTwoIdeal)
    ∧ quiescent_InTwoRefIdeal (hInTwoRefIdeal := hInTwoRefIdeal)
    ∧ quiescent_Tail (hTail := hTail)
    ∧ quiescent_TailIdeal (hTailIdeal := hTailIdeal)
    ∧ quiescent_TailRefIdeal (hTailRefIdeal := hTailRefIdeal)
    ∧ quiescent_TailTwo (hTailTwo := hTailTwo)
    ∧ quiescent_TailTwoIdeal (hTailTwoIdeal := hTailTwoIdeal)
    ∧ quiescent_TailTwoRefIdeal (hTailTwoRefIdeal := hTailTwoRefIdeal)
    ∧ quiescent_MergeTwo (hMergeTwo := hMergeTwo)
    ∧ quiescent_MergeTwoIdeal (hMergeTwoIdeal := hMergeTwoIdeal)
    ∧ quiescent_MergeTwoRefIdeal (hMergeTwoRefIdeal := hMergeTwoRefIdeal)
    ∧ quiescent_OutTwo (hOutTwo := hOutTwo)
    ∧ quiescent_OutTwoIdeal (hOutTwoIdeal := hOutTwoIdeal)
    ∧ quiescent_OutTwoRefIdeal (hOutTwoRefIdeal := hOutTwoRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_In_InIdeal
    ∧ algebraic_InIdeal_InRefIdeal (hInIdeal := hInIdeal) (hInRefIdeal := hInRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_InTwo_InTwoIdeal
    ∧ algebraic_InTwoIdeal_InTwoRefIdeal (hInTwoIdeal := hInTwoIdeal) (hInTwoRefIdeal := hInTwoRefIdeal)
    ∧ preserves_Tail_TailIdeal
    ∧ algebraic_TailIdeal_TailRefIdeal (hTailIdeal := hTailIdeal) (hTailRefIdeal := hTailRefIdeal)
    ∧ preserves_TailTwo_TailTwoIdeal
    ∧ algebraic_TailTwoIdeal_TailTwoRefIdeal (hTailTwoIdeal := hTailTwoIdeal) (hTailTwoRefIdeal := hTailTwoRefIdeal)
    ∧ preserves_MergeTwo_MergeTwoIdeal
    ∧ algebraic_MergeTwoIdeal_MergeTwoRefIdeal (hMergeTwoIdeal := hMergeTwoIdeal) (hMergeTwoRefIdeal := hMergeTwoRefIdeal)
    ∧ preserves_OutTwo_OutTwoIdeal
    ∧ algebraic_OutTwoIdeal_OutTwoRefIdeal (hOutTwoIdeal := hOutTwoIdeal) (hOutTwoRefIdeal := hOutTwoRefIdeal)
-- ==== Pre_finite.lean ====
abbrev S17408x20480 : Shape := ⟨2, ![17408, 20480]⟩
abbrev S2048 : Shape := ⟨1, ![2048]⟩
abbrev S17408x8192 : Shape := ⟨2, ![17408, 8192]⟩
abbrev S_ : Shape := ⟨0, ![]⟩

class Facts : Prop where
  slices_S17408x20480_S17408x8192_0_6144 : S17408x20480.Slices ![0, 6144] S17408x8192
  bcast_S_S17408x8192 : S_.BroadcastsInDim S17408x8192 (![] : Fin 0 → Fin S17408x8192.rank)
  reducesTo_S17408x8192_S_d0_1 : S17408x8192.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S17408x20480 .f32) (main_arg1 : FVec F S2048 .f32) : IVec S_ 1 :=
  let main_v0 : FVec F S17408x8192 .f32 := (extractStridedSlice S17408x8192 ![0, 6144] · slices_S17408x20480_S17408x8192_0_6144) main_arg0
  let main_v1 : FVec F S17408x8192 .f32 := Host.absf main_v0
  let main_cst : FVec F S_ .f32 := constant S_ .f32 0x7F800000#32
  let main_v2 : FVec F S17408x8192 .f32 := broadcastInDim S17408x8192 ![] bcast_S_S17408x8192 main_cst
  let main_v3 : IVec S17408x8192 1 := cmpf .olt main_v1 main_v2
  let main_c : IVec S_ 1 := constantI S_ 1 1#1
  let main_v4 : IVec S_ 1 := (fun x v => Host.reduce IntOp.andi x v reducesTo_S17408x8192_S_d0_1 h_S_) main_v3 main_c
  let main_v5 : FVec F S2048 .f32 := Host.absf main_arg1
  let main_cst_0 : FVec F S_ .f32 := constant S_ .f32 0x7F800000#32
  let main_v6 : FVec F S2048 .f32 := broadcastInDim S2048 ![] bcast_S_S2048 main_cst_0
  let main_v7 : IVec S2048 1 := cmpf .olt main_v5 main_v6
  let main_c_1 : IVec S_ 1 := constantI S_ 1 1#1
  let main_v8 : IVec S_ 1 := (fun x v => Host.reduce IntOp.andi x v reducesTo_S2048_S_d0 h_S_) main_v7 main_c_1
  let main_v9 : IVec S_ 1 := andi main_v4 main_v8
  main_v9
-- ==== Kernel.lean ====
abbrev S17408x20480 : Shape := ⟨2, ![17408, 20480]⟩
abbrev S2048 : Shape := ⟨1, ![2048]⟩
abbrev S1x2048 : Shape := ⟨2, ![1, 2048]⟩
abbrev S17408x2048 : Shape := ⟨2, ![17408, 2048]⟩
abbrev S256x1024 : Shape := ⟨2, ![256, 1024]⟩
abbrev S1x1024 : Shape := ⟨2, ![1, 1024]⟩
abbrev S2x8x128x128 : Shape := ⟨4, ![2, 8, 128, 128]⟩
abbrev S256x256 : Shape := ⟨2, ![256, 256]⟩
abbrev S128x128 : Shape := ⟨2, ![128, 128]⟩
abbrev S1x128 : Shape := ⟨2, ![1, 128]⟩
abbrev S256x128 : Shape := ⟨2, ![256, 128]⟩
abbrev S256x1 : Shape := ⟨2, ![256, 1]⟩
abbrev S32x8x128 : Shape := ⟨3, ![32, 8, 128]⟩
abbrev S32x1x128 : Shape := ⟨3, ![32, 1, 128]⟩
abbrev S16x16x128 : Shape := ⟨3, ![16, 16, 128]⟩
abbrev S16x1x128 : Shape := ⟨3, ![16, 1, 128]⟩
abbrev S8x32x128 : Shape := ⟨3, ![8, 32, 128]⟩
abbrev S8x1x128 : Shape := ⟨3, ![8, 1, 128]⟩
abbrev S4x64x128 : Shape := ⟨3, ![4, 64, 128]⟩
abbrev S4x1x128 : Shape := ⟨3, ![4, 1, 128]⟩
abbrev S2x128x128 : Shape := ⟨3, ![2, 128, 128]⟩
abbrev S2x1x128 : Shape := ⟨3, ![2, 1, 128]⟩
abbrev S1x1x128x128 : Shape := ⟨4, ![1, 1, 128, 128]⟩
abbrev S256 : Shape := ⟨1, ![256]⟩
abbrev S128x256 : Shape := ⟨2, ![128, 256]⟩

abbrev nBuf : Space → Nat
  | .hbm => 5
  | .vmem => 19
  | .smem => 0
  | _ => 0

abbrev bufTy : (tb : Table) → Fin (tcTables nBuf tb) → BufTy
  | .hbm, ⟨0, _⟩ => ⟨S17408x20480, .f32⟩
  | .hbm, ⟨1, _⟩ => ⟨S2048, .f32⟩
  | .hbm, ⟨2, _⟩ => ⟨S1x2048, .f32⟩
  | .hbm, ⟨3, _⟩ => ⟨S17408x2048, .f32⟩
  | .hbm, ⟨4, _⟩ => ⟨S17408x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S2x8x128x128, .f32⟩
  | _, _ => ⟨S17408x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 17], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c16_i32 : BitVec 32 := 16#32
  let v2 : BitVec 32 := Scalar.muli arg0 c16_i32
  let c4_i32 : BitVec 32 := 4#32
  let v3 : BitVec 32 := Scalar.addi c4_i32 v2
  let c1_i32_0 : BitVec 32 := 1#32
  let v4 : BitVec 32 := Scalar.subi arg2 c1_i32_0
  let v5 : BitVec 32 := Scalar.addi v3 v4
  let c1_i32_1 : BitVec 32 := 1#32
  let v6 : BitVec 1 := Scalar.cmpi .slt arg2 c1_i32_1
  let v7 : BitVec 32 := Scalar.select v6 v1 v5
  let c6_i32 : BitVec 32 := 6#32
  let v8 : BitVec 32 := Scalar.addi c6_i32 arg1
  let c0_i32 : BitVec 32 := 0#32
  ![v7.toNat, v8.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c16_i32 : BitVec 32 := 16#32
  let v2 : BitVec 32 := Scalar.muli arg0 c16_i32
  let c4_i32 : BitVec 32 := 4#32
  let v3 : BitVec 32 := Scalar.addi c4_i32 v2
  let c1_i32_0 : BitVec 32 := 1#32
  let v4 : BitVec 32 := Scalar.subi arg2 c1_i32_0
  let v5 : BitVec 32 := Scalar.addi v3 v4
  let c1_i32_1 : BitVec 32 := 1#32
  let v6 : BitVec 1 := Scalar.cmpi .slt arg2 c1_i32_1
  let v7 : BitVec 32 := Scalar.select v6 v1 v5
  let c8_i32 : BitVec 32 := 8#32
  let v8 : BitVec 32 := Scalar.addi c8_i32 arg1
  let c0_i32 : BitVec 32 := 0#32
  ![v7.toNat, v8.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c16_i32 : BitVec 32 := 16#32
  let v2 : BitVec 32 := Scalar.muli arg0 c16_i32
  let c4_i32 : BitVec 32 := 4#32
  let v3 : BitVec 32 := Scalar.addi c4_i32 v2
  let c1_i32_0 : BitVec 32 := 1#32
  let v4 : BitVec 32 := Scalar.subi arg2 c1_i32_0
  let v5 : BitVec 32 := Scalar.addi v3 v4
  let c1_i32_1 : BitVec 32 := 1#32
  let v6 : BitVec 1 := Scalar.cmpi .slt arg2 c1_i32_1
  let v7 : BitVec 32 := Scalar.select v6 v1 v5
  let c12_i32 : BitVec 32 := 12#32
  let v8 : BitVec 32 := Scalar.addi c12_i32 arg1
  let c0_i32 : BitVec 32 := 0#32
  ![v7.toNat, v8.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.subi c0_i32 arg2
  let v2 : BitVec 32 := Scalar.addi v0 v1
  let c16_i32 : BitVec 32 := 16#32
  let v3 : BitVec 32 := Scalar.muli arg0 c16_i32
  let c4_i32 : BitVec 32 := 4#32
  let v4 : BitVec 32 := Scalar.addi c4_i32 v3
  let c1_i32_0 : BitVec 32 := 1#32
  let v5 : BitVec 32 := Scalar.subi arg2 c1_i32_0
  let c15_i32 : BitVec 32 := 15#32
  let v6 : BitVec 32 := Scalar.subi c15_i32 v5
  let v7 : BitVec 32 := Scalar.addi v4 v6
  let c1_i32_1 : BitVec 32 := 1#32
  let v8 : BitVec 1 := Scalar.cmpi .slt arg2 c1_i32_1
  let v9 : BitVec 32 := Scalar.select v8 v2 v7
  let c6_i32 : BitVec 32 := 6#32
  let v10 : BitVec 32 := Scalar.addi c6_i32 arg1
  let c0_i32_2 : BitVec 32 := 0#32
  ![v9.toNat, v10.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.subi c0_i32 arg2
  let v2 : BitVec 32 := Scalar.addi v0 v1
  let c16_i32 : BitVec 32 := 16#32
  let v3 : BitVec 32 := Scalar.muli arg0 c16_i32
  let c4_i32 : BitVec 32 := 4#32
  let v4 : BitVec 32 := Scalar.addi c4_i32 v3
  let c1_i32_0 : BitVec 32 := 1#32
  let v5 : BitVec 32 := Scalar.subi arg2 c1_i32_0
  let c15_i32 : BitVec 32 := 15#32
  let v6 : BitVec 32 := Scalar.subi c15_i32 v5
  let v7 : BitVec 32 := Scalar.addi v4 v6
  let c1_i32_1 : BitVec 32 := 1#32
  let v8 : BitVec 1 := Scalar.cmpi .slt arg2 c1_i32_1
  let v9 : BitVec 32 := Scalar.select v8 v2 v7
  let c10_i32 : BitVec 32 := 10#32
  let v10 : BitVec 32 := Scalar.addi c10_i32 arg1
  let c0_i32_2 : BitVec 32 := 0#32
  ![v9.toNat, v10.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.subi c0_i32 arg2
  let v2 : BitVec 32 := Scalar.addi v0 v1
  let c16_i32 : BitVec 32 := 16#32
  let v3 : BitVec 32 := Scalar.muli arg0 c16_i32
  let c4_i32 : BitVec 32 := 4#32
  let v4 : BitVec 32 := Scalar.addi c4_i32 v3
  let c1_i32_0 : BitVec 32 := 1#32
  let v5 : BitVec 32 := Scalar.subi arg2 c1_i32_0
  let c15_i32 : BitVec 32 := 15#32
  let v6 : BitVec 32 := Scalar.subi c15_i32 v5
  let v7 : BitVec 32 := Scalar.addi v4 v6
  let c1_i32_1 : BitVec 32 := 1#32
  let v8 : BitVec 1 := Scalar.cmpi .slt arg2 c1_i32_1
  let v9 : BitVec 32 := Scalar.select v8 v2 v7
  let c12_i32 : BitVec 32 := 12#32
  let v10 : BitVec 32 := Scalar.addi c12_i32 arg1
  let c0_i32_2 : BitVec 32 := 0#32
  ![v9.toNat, v10.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c16_i32 : BitVec 32 := 16#32
  let v2 : BitVec 32 := Scalar.muli arg0 c16_i32
  let c4_i32 : BitVec 32 := 4#32
  let v3 : BitVec 32 := Scalar.addi c4_i32 v2
  let c1_i32_0 : BitVec 32 := 1#32
  let v4 : BitVec 32 := Scalar.subi arg2 c1_i32_0
  let v5 : BitVec 32 := Scalar.addi v3 v4
  let c1_i32_1 : BitVec 32 := 1#32
  let v6 : BitVec 1 := Scalar.cmpi .slt arg2 c1_i32_1
  let v7 : BitVec 32 := Scalar.select v6 v1 v5
  let c0_i32 : BitVec 32 := 0#32
  ![v7.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.subi c0_i32 arg2
  let v2 : BitVec 32 := Scalar.addi v0 v1
  let c16_i32 : BitVec 32 := 16#32
  let v3 : BitVec 32 := Scalar.muli arg0 c16_i32
  let c4_i32 : BitVec 32 := 4#32
  let v4 : BitVec 32 := Scalar.addi c4_i32 v3
  let c1_i32_0 : BitVec 32 := 1#32
  let v5 : BitVec 32 := Scalar.subi arg2 c1_i32_0
  let c15_i32 : BitVec 32 := 15#32
  let v6 : BitVec 32 := Scalar.subi c15_i32 v5
  let v7 : BitVec 32 := Scalar.addi v4 v6
  let c1_i32_1 : BitVec 32 := 1#32
  let v8 : BitVec 1 := Scalar.cmpi .slt arg2 c1_i32_1
  let v9 : BitVec 32 := Scalar.select v8 v2 v7
  let c0_i32_2 : BitVec 32 := 0#32
  ![v9.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S17408x20480 : Shape := ⟨2, ![17408, 20480]⟩
abbrev S2048 : Shape := ⟨1, ![2048]⟩
abbrev S17408x2048 : Shape := ⟨2, ![17408, 2048]⟩
abbrev S1024x2048 : Shape := ⟨2, ![1024, 2048]⟩
abbrev S4x256x2048 : Shape := ⟨3, ![4, 256, 2048]⟩
abbrev S16384x2048 : Shape := ⟨2, ![16384, 2048]⟩
abbrev S4x4096x2048 : Shape := ⟨3, ![4, 4096, 2048]⟩
abbrev S4x4352x2048 : Shape := ⟨3, ![4, 4352, 2048]⟩
abbrev S8x4352x2048 : Shape := ⟨3, ![8, 4352, 2048]⟩
abbrev S_ : Shape := ⟨0, ![]⟩
abbrev S8x4352x16x128 : Shape := ⟨4, ![8, 4352, 16, 128]⟩
abbrev S8x16x4352x128 : Shape := ⟨4, ![8, 16, 4352, 128]⟩
abbrev S16x1x128 : Shape := ⟨3, ![16, 1, 128]⟩
abbrev S1x16x1x128 : Shape := ⟨4, ![1, 16, 1, 128]⟩
abbrev S8x16x128x128 : Shape := ⟨4, ![8, 16, 128, 128]⟩
abbrev S64x64 : Shape := ⟨2, ![64, 64]⟩
abbrev S8x16x68x64x128 : Shape := ⟨5, ![8, 16, 68, 64, 128]⟩
abbrev S68x8x16x64x128 : Shape := ⟨5, ![68, 8, 16, 64, 128]⟩
abbrev S1x8x16x64x128 : Shape := ⟨5, ![1, 8, 16, 64, 128]⟩
abbrev S8x16x64x128 : Shape := ⟨4, ![8, 16, 64, 128]⟩
abbrev S8x16x1x128 : Shape := ⟨4, ![8, 16, 1, 128]⟩
abbrev S8x16x64x1x128 : Shape := ⟨5, ![8, 16, 64, 1, 128]⟩
abbrev S8x16x1x64x128 : Shape := ⟨5, ![8, 16, 1, 64, 128]⟩
abbrev S8x16x64x64x128 : Shape := ⟨5, ![8, 16, 64, 64, 128]⟩
abbrev S64x64x1 : Shape := ⟨3, ![64, 64, 1]⟩
abbrev S8x16x64x64 : Shape := ⟨4, ![8, 16, 64, 64]⟩
abbrev S8x16x128x1 : Shape := ⟨4, ![8, 16, 128, 1]⟩

abbrev nBuf : Space → Nat
  | .hbm => 240
  | .vmem => 0
  | .smem => 0
  | _ => 0

abbrev hbmTy0_0 (i : Nat) : BufTy := match i % 128 with
  | 0 => ⟨S17408x20480, .f32⟩
  | 1 => ⟨S2048, .f32⟩
  | 2 => ⟨S17408x2048, .f32⟩
  | 3 => ⟨S1024x2048, .f32⟩
  | 4 => ⟨S4x256x2048, .f32⟩
  | 5 => ⟨S16384x2048, .f32⟩
  | 6 => ⟨S4x4096x2048, .f32⟩
  | 7 => ⟨S4x4352x2048, .f32⟩
  | 8 => ⟨S17408x2048, .f32⟩
  | 9 => ⟨S1024x2048, .f32⟩
  | 10 => ⟨S4x256x2048, .f32⟩
  | 11 => ⟨S16384x2048, .f32⟩
  | 12 => ⟨S4x4096x2048, .f32⟩
  | 13 => ⟨S4x256x2048, .f32⟩
  | 14 => ⟨S4x4096x2048, .f32⟩
  | 15 => ⟨S4x4352x2048, .f32⟩
  | 16 => ⟨S8x4352x2048, .f32⟩
  | 17 => ⟨S17408x2048, .f32⟩
  | 18 => ⟨S1024x2048, .f32⟩
  | 19 => ⟨S4x256x2048, .f32⟩
  | 20 => ⟨S16384x2048, .f32⟩
  | 21 => ⟨S4x4096x2048, .f32⟩
  | 22 => ⟨S4x4352x2048, .f32⟩
  | 23 => ⟨S17408x2048, .f32⟩
  | 24 => ⟨S1024x2048, .f32⟩
  | 25 => ⟨S4x256x2048, .f32⟩
  | 26 => ⟨S16384x2048, .f32⟩
  | 27 => ⟨S4x4096x2048, .f32⟩
  | 28 => ⟨S4x256x2048, .f32⟩
  | 29 => ⟨S4x4096x2048, .f32⟩
  | 30 => ⟨S4x4352x2048, .f32⟩
  | 31 => ⟨S8x4352x2048, .f32⟩
  | 32 => ⟨S17408x2048, .f32⟩
  | 33 => ⟨S1024x2048, .f32⟩
  | 34 => ⟨S4x256x2048, .f32⟩
  | 35 => ⟨S16384x2048, .f32⟩
  | 36 => ⟨S4x4096x2048, .f32⟩
  | 37 => ⟨S4x4352x2048, .f32⟩
  | 38 => ⟨S17408x2048, .f32⟩
  | 39 => ⟨S1024x2048, .f32⟩
  | 40 => ⟨S4x256x2048, .f32⟩
  | 41 => ⟨S16384x2048, .f32⟩
  | 42 => ⟨S4x4096x2048, .f32⟩
  | 43 => ⟨S4x256x2048, .f32⟩
  | 44 => ⟨S4x4096x2048, .f32⟩
  | 45 => ⟨S4x4352x2048, .f32⟩
  | 46 => ⟨S8x4352x2048, .f32⟩
  | 47 => ⟨S8x4352x2048, .f32⟩
  | 48 => ⟨S8x4352x2048, .f32⟩
  | 49 => ⟨S_, .f32⟩
  | 50 => ⟨S8x4352x2048, .f32⟩
  | 51 => ⟨S8x4352x2048, .f32⟩
  | 52 => ⟨S_, .f32⟩
  | 53 => ⟨S8x4352x2048, .f32⟩
  | 54 => ⟨S8x4352x2048, .f32⟩
  | 55 => ⟨S8x4352x2048, .f32⟩
  | 56 => ⟨S8x4352x16x128, .f32⟩
  | 57 => ⟨S8x16x4352x128, .f32⟩
  | 58 => ⟨S_, .f32⟩
  | 59 => ⟨S8x16x4352x128, .f32⟩
  | 60 => ⟨S8x16x4352x128, .f32⟩
  | 61 => ⟨S8x4352x16x128, .f32⟩
  | 62 => ⟨S8x16x4352x128, .f32⟩
  | 63 => ⟨S16x1x128, .f32⟩
  | 64 => ⟨S16x1x128, .f32⟩
  | 65 => ⟨S16x1x128, .f32⟩
  | 66 => ⟨S16x1x128, .f32⟩
  | 67 => ⟨S8x16x4352x128, .f32⟩
  | 68 => ⟨S_, .f32⟩
  | 69 => ⟨S8x16x4352x128, .f32⟩
  | 70 => ⟨S8x16x4352x128, .f32⟩
  | 71 => ⟨S8x16x4352x128, .f32⟩
  | 72 => ⟨S8x16x4352x128, .f32⟩
  | 73 => ⟨S8x16x4352x128, .i1⟩
  | 74 => ⟨S8x16x4352x128, .f32⟩
  | 75 => ⟨S8x16x4352x128, .f32⟩
  | 76 => ⟨S8x16x4352x128, .f32⟩
  | 77 => ⟨S8x16x4352x128, .f32⟩
  | 78 => ⟨S8x16x4352x128, .f32⟩
  | 79 => ⟨S8x16x4352x128, .f32⟩
  | 80 => ⟨S8x16x4352x128, .f32⟩
  | 81 => ⟨S8x16x4352x128, .f32⟩
  | 82 => ⟨S8x16x4352x128, .f32⟩
  | 83 => ⟨S1x16x1x128, .f32⟩
  | 84 => ⟨S8x16x4352x128, .f32⟩
  | 85 => ⟨S8x16x4352x128, .f32⟩
  | 86 => ⟨S1x16x1x128, .f32⟩
  | 87 => ⟨S8x16x4352x128, .f32⟩
  | 88 => ⟨S8x16x4352x128, .f32⟩
  | 89 => ⟨S8x16x4352x128, .f32⟩
  | 90 => ⟨S8x16x4352x128, .f32⟩
  | 91 => ⟨S8x16x4352x128, .i1⟩
  | 92 => ⟨S8x16x4352x128, .f32⟩
  | 93 => ⟨S8x16x4352x128, .f32⟩
  | 94 => ⟨S8x16x4352x128, .f32⟩
  | 95 => ⟨S8x16x4352x128, .f32⟩
  | 96 => ⟨S8x16x4352x128, .f32⟩
  | 97 => ⟨S8x16x4352x128, .f32⟩
  | 98 => ⟨S8x16x4352x128, .f32⟩
  | 99 => ⟨S8x16x4352x128, .f32⟩
  | 100 => ⟨S_, .f32⟩
  | 101 => ⟨S16x1x128, .f32⟩
  | 102 => ⟨S16x1x128, .f32⟩
  | 103 => ⟨S8x16x4352x128, .f32⟩
  | 104 => ⟨S8x16x4352x128, .f32⟩
  | 105 => ⟨S8x16x4352x128, .f32⟩
  | 106 => ⟨S_, .f32⟩
  | 107 => ⟨S8x16x4352x128, .f32⟩
  | 108 => ⟨S8x16x4352x128, .f32⟩
  | 109 => ⟨S_, .f32⟩
  | 110 => ⟨S8x16x4352x128, .f32⟩
  | 111 => ⟨S8x16x4352x128, .f32⟩
  | 112 => ⟨S1x16x1x128, .f32⟩
  | 113 => ⟨S8x16x4352x128, .f32⟩
  | 114 => ⟨S8x16x4352x128, .f32⟩
  | 115 => ⟨S8x4352x16x128, .f32⟩
  | 116 => ⟨S8x16x4352x128, .f32⟩
  | 117 => ⟨S_, .f32⟩
  | 118 => ⟨S8x16x128x128, .f32⟩
  | 119 => ⟨S_, .i1⟩
  | 120 => ⟨S64x64, .i1⟩
  | 121 => ⟨S64x64, .i32⟩
  | 122 => ⟨S_, .i32⟩
  | 123 => ⟨S64x64, .i32⟩
  | 124 => ⟨S64x64, .i32⟩
  | 125 => ⟨S64x64, .i32⟩
  | 126 => ⟨S64x64, .i1⟩
  | 127 => ⟨S_, .i1⟩
  | _ => ⟨S17408x20480, .f32⟩

abbrev hbmTy0_1 (i : Nat) : BufTy := match i % 128 with
  | 0 => ⟨S64x64, .i1⟩
  | 1 => ⟨S64x64, .i1⟩
  | 2 => ⟨S8x16x68x64x128, .f32⟩
  | 3 => ⟨S68x8x16x64x128, .f32⟩
  | 4 => ⟨S8x16x68x64x128, .f32⟩
  | 5 => ⟨S68x8x16x64x128, .f32⟩
  | 6 => ⟨S8x16x68x64x128, .f32⟩
  | 7 => ⟨S68x8x16x64x128, .f32⟩
  | 8 => ⟨S8x16x68x64x128, .f32⟩
  | 9 => ⟨S68x8x16x64x128, .f32⟩
  | 10 => ⟨S_, .f32⟩
  | 11 => ⟨S68x8x16x64x128, .f32⟩
  | 12 => ⟨S_, .i32⟩
  | 13 => ⟨S68x8x16x64x128, .f32⟩
  | 14 => ⟨S68x8x16x64x128, .f32⟩
  | 15 => ⟨S68x8x16x64x128, .f32⟩
  | 16 => ⟨S68x8x16x64x128, .f32⟩
  | 17 => ⟨S64x64, .i1⟩
  | 18 => ⟨S_, .i32⟩
  | 19 => ⟨S8x16x128x128, .f32⟩
  | 20 => ⟨S68x8x16x64x128, .f32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S1x8x16x64x128, .f32⟩
  | 28 => ⟨S8x16x64x128, .f32⟩
  | 29 => ⟨S_, .i32⟩
  | 30 => ⟨S_, .i32⟩
  | 31 => ⟨S_, .i32⟩
  | 32 => ⟨S_, .i32⟩
  | 33 => ⟨S1x8x16x64x128, .f32⟩
  | 34 => ⟨S8x16x64x128, .f32⟩
  | 35 => ⟨S_, .i32⟩
  | 36 => ⟨S_, .i32⟩
  | 37 => ⟨S_, .i32⟩
  | 38 => ⟨S_, .i32⟩
  | 39 => ⟨S1x8x16x64x128, .f32⟩
  | 40 => ⟨S8x16x64x128, .f32⟩
  | 41 => ⟨S_, .i32⟩
  | 42 => ⟨S_, .i32⟩
  | 43 => ⟨S_, .i32⟩
  | 44 => ⟨S_, .i32⟩
  | 45 => ⟨S1x8x16x64x128, .f32⟩
  | 46 => ⟨S8x16x64x128, .f32⟩
  | 47 => ⟨S_, .f32⟩
  | 48 => ⟨S_, .f32⟩
  | 49 => ⟨S8x16x64x128, .f32⟩
  | 50 => ⟨S8x16x1x128, .f32⟩
  | 51 => ⟨S8x16x64x1x128, .f32⟩
  | 52 => ⟨S8x16x1x64x128, .f32⟩
  | 53 => ⟨S8x16x64x64x128, .f32⟩
  | 54 => ⟨S8x16x64x64x128, .f32⟩
  | 55 => ⟨S8x16x64x64x128, .f32⟩
  | 56 => ⟨S64x64x1, .i1⟩
  | 57 => ⟨S_, .f32⟩
  | 58 => ⟨S_, .f32⟩
  | 59 => ⟨S8x16x64x64x128, .i1⟩
  | 60 => ⟨S8x16x64x64x128, .f32⟩
  | 61 => ⟨S8x16x64x64x128, .f32⟩
  | 62 => ⟨S8x16x64x64x128, .f32⟩
  | 63 => ⟨S8x16x64x1x128, .f32⟩
  | 64 => ⟨S8x16x1x64x128, .f32⟩
  | 65 => ⟨S8x16x64x64x128, .f32⟩
  | 66 => ⟨S8x16x64x64x128, .f32⟩
  | 67 => ⟨S8x16x64x64x128, .f32⟩
  | 68 => ⟨S8x16x64x64x128, .f32⟩
  | 69 => ⟨S_, .f32⟩
  | 70 => ⟨S8x16x64x64, .f32⟩
  | 71 => ⟨S8x16x64x128, .f32⟩
  | 72 => ⟨S8x16x64x128, .f32⟩
  | 73 => ⟨S8x16x64x128, .f32⟩
  | 74 => ⟨S8x16x64x128, .f32⟩
  | 75 => ⟨S8x16x64x128, .f32⟩
  | 76 => ⟨S8x16x128x1, .f32⟩
  | 77 => ⟨S8x16x128x1, .f32⟩
  | 78 => ⟨S8x16x128x128, .f32⟩
  | 79 => ⟨S8x16x128x128, .f32⟩
  | 80 => ⟨S8x16x64x128, .f32⟩
  | 81 => ⟨S8x16x64x128, .f32⟩
  | 82 => ⟨S8x16x64x128, .f32⟩
  | 83 => ⟨S8x16x64x128, .f32⟩
  | 84 => ⟨S8x16x128x128, .f32⟩
  | 85 => ⟨S8x16x128x128, .f32⟩
  | 86 => ⟨S1x8x16x64x128, .f32⟩
  | 87 => ⟨S_, .i32⟩
  | 88 => ⟨S_, .i32⟩
  | 89 => ⟨S_, .i32⟩
  | 90 => ⟨S_, .i32⟩
  | 91 => ⟨S68x8x16x64x128, .f32⟩
  | 92 => ⟨S_, .i32⟩
  | 93 => ⟨S_, .i32⟩
  | 94 => ⟨S8x16x68x64x128, .f32⟩
  | 95 => ⟨S8x16x4352x128, .f32⟩
  | 96 => ⟨S8x4352x16x128, .f32⟩
  | 97 => ⟨S8x4352x2048, .f32⟩
  | 98 => ⟨S4x4352x2048, .f32⟩
  | 99 => ⟨S4x256x2048, .f32⟩
  | 100 => ⟨S4x4096x2048, .f32⟩
  | 101 => ⟨S1024x2048, .f32⟩
  | 102 => ⟨S16384x2048, .f32⟩
  | 103 => ⟨S17408x2048, .f32⟩
  | 104 => ⟨S4x4352x2048, .f32⟩
  | 105 => ⟨S4x256x2048, .f32⟩
  | 106 => ⟨S4x4096x2048, .f32⟩
  | 107 => ⟨S4x256x2048, .f32⟩
  | 108 => ⟨S4x4096x2048, .f32⟩
  | 109 => ⟨S1024x2048, .f32⟩
  | 110 => ⟨S16384x2048, .f32⟩
  | 111 => ⟨S17408x2048, .f32⟩
  | _ => ⟨S17408x20480, .f32⟩

abbrev hbmTy (i : Nat) : BufTy := match i / 128 with
  | 0 => hbmTy0_0 i
  | 1 => hbmTy0_1 i
  | _ => ⟨S17408x20480, .f32⟩

abbrev bufTy : (tb : Table) → Fin (tcTables nBuf tb) → BufTy
  | .hbm, ⟨i, _⟩ => hbmTy i
  | _, _ => ⟨S17408x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_call6_v0 : Ref sig .tc := ⟨.hbm, 47, rfl⟩
abbrev main_call6_v1 : Ref sig .tc := ⟨.hbm, 48, rfl⟩
abbrev main_call6_cst : Ref sig .tc := ⟨.hbm, 49, rfl⟩
abbrev main_call6_v2 : Ref sig .tc := ⟨.hbm, 50, rfl⟩
abbrev main_call6_v3 : Ref sig .tc := ⟨.hbm, 51, rfl⟩
abbrev main_call6_cst_0 : Ref sig .tc := ⟨.hbm, 52, rfl⟩
abbrev main_call6_v4 : Ref sig .tc := ⟨.hbm, 53, rfl⟩
abbrev main_call6_v5 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_call7_v0 : Ref sig .tc := ⟨.hbm, 67, rfl⟩
abbrev main_call7_call0_cst : Ref sig .tc := ⟨.hbm, 68, rfl⟩
abbrev main_call7_call0_v0 : Ref sig .tc := ⟨.hbm, 69, rfl⟩
abbrev main_call7_call0_v1 : Ref sig .tc := ⟨.hbm, 70, rfl⟩
abbrev main_call7_call0_v2 : Ref sig .tc := ⟨.hbm, 71, rfl⟩
abbrev main_call7_call0_v3 : Ref sig .tc := ⟨.hbm, 72, rfl⟩
abbrev main_call7_call0_v4 : Ref sig .tc := ⟨.hbm, 73, rfl⟩
abbrev main_call7_call0_v5 : Ref sig .tc := ⟨.hbm, 74, rfl⟩
abbrev main_call7_call0_v6 : Ref sig .tc := ⟨.hbm, 75, rfl⟩
abbrev main_call7_call0_v7 : Ref sig .tc := ⟨.hbm, 76, rfl⟩
abbrev main_call7_call0_v8 : Ref sig .tc := ⟨.hbm, 77, rfl⟩
abbrev main_call7_call0_v9 : Ref sig .tc := ⟨.hbm, 78, rfl⟩
abbrev main_call7_call0_v10 : Ref sig .tc := ⟨.hbm, 79, rfl⟩
abbrev main_call7_call0_v11 : Ref sig .tc := ⟨.hbm, 80, rfl⟩
abbrev main_call7_v1 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_0 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_1 : Ref sig .tc := ⟨.hbm, 106, rfl⟩
abbrev main_v79 : Ref sig .tc := ⟨.hbm, 107, rfl⟩
abbrev main_v80 : Ref sig .tc := ⟨.hbm, 108, rfl⟩
abbrev main_cst_2 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_3 : Ref sig .tc := ⟨.hbm, 117, rfl⟩
abbrev main_v88 : Ref sig .tc := ⟨.hbm, 118, rfl⟩
abbrev main_c : Ref sig .tc := ⟨.hbm, 119, rfl⟩
abbrev main_v89 : Ref sig .tc := ⟨.hbm, 120, rfl⟩
abbrev main_call8_v0 : Ref sig .tc := ⟨.hbm, 121, rfl⟩
abbrev main_call8_c : Ref sig .tc := ⟨.hbm, 122, rfl⟩
abbrev main_call8_v1 : Ref sig .tc := ⟨.hbm, 123, rfl⟩
abbrev main_call8_v2 : Ref sig .tc := ⟨.hbm, 124, rfl⟩
abbrev main_call8_v3 : Ref sig .tc := ⟨.hbm, 125, rfl⟩
abbrev main_call8_v4 : Ref sig .tc := ⟨.hbm, 126, rfl⟩
abbrev main_call8_c_0 : Ref sig .tc := ⟨.hbm, 127, rfl⟩
abbrev main_call8_v5 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_4 : Ref sig .tc := ⟨.hbm, 138, rfl⟩
abbrev main_v99 : Ref sig .tc := ⟨.hbm, 139, rfl⟩
abbrev main_c_5 : Ref sig .tc := ⟨.hbm, 140, rfl⟩
abbrev main_v100_0 : Ref sig .tc := ⟨.hbm, 141, rfl⟩
abbrev main_v100_1 : Ref sig .tc := ⟨.hbm, 142, rfl⟩
abbrev main_v100_2 : Ref sig .tc := ⟨.hbm, 143, rfl⟩
abbrev main_v100_3 : Ref sig .tc := ⟨.hbm, 144, rfl⟩
abbrev main_v100_4 : Ref sig .tc := ⟨.hbm, 145, rfl⟩
abbrev main_v100_5 : Ref sig .tc := ⟨.hbm, 146, rfl⟩
abbrev main_v100_6 : Ref sig .tc := ⟨.hbm, 147, rfl⟩
abbrev main_v100_7 : Ref sig .tc := ⟨.hbm, 148, rfl⟩
abbrev main_while0c_c_13 : Ref sig .tc := ⟨.hbm, 149, rfl⟩
abbrev main_while0c_v119 : Ref sig .tc := ⟨.hbm, 150, rfl⟩
abbrev main_while0b_call9_c : Ref sig .tc := ⟨.hbm, 151, rfl⟩
abbrev main_while0b_call9_c_0 : Ref sig .tc := ⟨.hbm, 152, rfl⟩
abbrev main_while0b_call9_c_1 : Ref sig .tc := ⟨.hbm, 153, rfl⟩
abbrev main_while0b_call9_c_2 : Ref sig .tc := ⟨.hbm, 154, rfl⟩
abbrev main_while0b_call9_v0 : Ref sig .tc := ⟨.hbm, 155, rfl⟩
abbrev main_while0b_v119 : Ref sig .tc := ⟨.hbm, 156, rfl⟩
abbrev main_while0b_call10_c : Ref sig .tc := ⟨.hbm, 157, rfl⟩
abbrev main_while0b_call10_c_0 : Ref sig .tc := ⟨.hbm, 158, rfl⟩
abbrev main_while0b_call10_c_1 : Ref sig .tc := ⟨.hbm, 159, rfl⟩
abbrev main_while0b_call10_c_2 : Ref sig .tc := ⟨.hbm, 160, rfl⟩
abbrev main_while0b_call10_v0 : Ref sig .tc := ⟨.hbm, 161, rfl⟩
abbrev main_while0b_v120 : Ref sig .tc := ⟨.hbm, 162, rfl⟩
abbrev main_while0b_call11_c : Ref sig .tc := ⟨.hbm, 163, rfl⟩
abbrev main_while0b_call11_c_0 : Ref sig .tc := ⟨.hbm, 164, rfl⟩
abbrev main_while0b_call11_c_1 : Ref sig .tc := ⟨.hbm, 165, rfl⟩
abbrev main_while0b_call11_c_2 : Ref sig .tc := ⟨.hbm, 166, rfl⟩
abbrev main_while0b_call11_v0 : Ref sig .tc := ⟨.hbm, 167, rfl⟩
abbrev main_while0b_v121 : Ref sig .tc := ⟨.hbm, 168, rfl⟩
abbrev main_while0b_call12_c : Ref sig .tc := ⟨.hbm, 169, rfl⟩
abbrev main_while0b_call12_c_0 : Ref sig .tc := ⟨.hbm, 170, rfl⟩
abbrev main_while0b_call12_c_1 : Ref sig .tc := ⟨.hbm, 171, rfl⟩
abbrev main_while0b_call12_c_2 : Ref sig .tc := ⟨.hbm, 172, rfl⟩
abbrev main_while0b_call12_v0 : Ref sig .tc := ⟨.hbm, 173, rfl⟩
abbrev main_while0b_v122 : Ref sig .tc := ⟨.hbm, 174, rfl⟩
abbrev main_while0b_call13_call0_cst : Ref sig .tc := ⟨.hbm, 175, rfl⟩
abbrev main_while0b_call13_call0_v0 : Ref sig .tc := ⟨.hbm, 176, rfl⟩
abbrev main_while0b_v123 : Ref sig .tc := ⟨.hbm, 177, rfl⟩
abbrev main_while0b_v124 : Ref sig .tc := ⟨.hbm, 178, rfl⟩
abbrev main_while0b_v125 : Ref sig .tc := ⟨.hbm, 179, rfl⟩
abbrev main_while0b_v126 : Ref sig .tc := ⟨.hbm, 180, rfl⟩
abbrev main_while0b_v127 : Ref sig .tc := ⟨.hbm, 181, rfl⟩
abbrev main_while0b_v128 : Ref sig .tc := ⟨.hbm, 182, rfl⟩
abbrev main_while0b_v129 : Ref sig .tc := ⟨.hbm, 183, rfl⟩
abbrev main_while0b_v130 : Ref sig .tc := ⟨.hbm, 184, rfl⟩
abbrev main_while0b_cst_13 : Ref sig .tc := ⟨.hbm, 185, rfl⟩
abbrev main_while0b_call14_v0 : Ref sig .tc := ⟨.hbm, 186, rfl⟩
abbrev main_while0b_call14_v1 : Ref sig .tc := ⟨.hbm, 187, rfl⟩
abbrev main_while0b_call14_v2 : Ref sig .tc := ⟨.hbm, 188, rfl⟩
abbrev main_while0b_v131 : Ref sig .tc := ⟨.hbm, 189, rfl⟩
abbrev main_while0b_v132 : Ref sig .tc := ⟨.hbm, 190, rfl⟩
abbrev main_while0b_v133 : Ref sig .tc := ⟨.hbm, 191, rfl⟩
abbrev main_while0b_v134 : Ref sig .tc := ⟨.hbm, 192, rfl⟩
abbrev main_while0b_v135 : Ref sig .tc := ⟨.hbm, 193, rfl⟩
abbrev main_while0b_v136 : Ref sig .tc := ⟨.hbm, 194, rfl⟩
abbrev main_while0b_v137 : Ref sig .tc := ⟨.hbm, 195, rfl⟩
abbrev main_while0b_v138 : Ref sig .tc := ⟨.hbm, 196, rfl⟩
abbrev main_while0b_cst_14 : Ref sig .tc := ⟨.hbm, 197, rfl⟩
abbrev main_while0b_v139 : Ref sig .tc := ⟨.hbm, 198, rfl⟩
abbrev main_while0b_v140 : Ref sig .tc := ⟨.hbm, 199, rfl⟩
abbrev main_while0b_v141 : Ref sig .tc := ⟨.hbm, 200, rfl⟩
abbrev main_while0b_v142 : Ref sig .tc := ⟨.hbm, 201, rfl⟩
abbrev main_while0b_v143 : Ref sig .tc := ⟨.hbm, 202, rfl⟩
abbrev main_while0b_v144 : Ref sig .tc := ⟨.hbm, 203, rfl⟩
abbrev main_while0b_v145 : Ref sig .tc := ⟨.hbm, 204, rfl⟩
abbrev main_while0b_v146 : Ref sig .tc := ⟨.hbm, 205, rfl⟩
abbrev main_while0b_v147 : Ref sig .tc := ⟨.hbm, 206, rfl⟩
abbrev main_while0b_v148 : Ref sig .tc := ⟨.hbm, 207, rfl⟩
abbrev main_while0b_v149 : Ref sig .tc := ⟨.hbm, 208, rfl⟩
abbrev main_while0b_v150 : Ref sig .tc := ⟨.hbm, 209, rfl⟩
abbrev main_while0b_v151 : Ref sig .tc := ⟨.hbm, 210, rfl⟩
abbrev main_while0b_v152 : Ref sig .tc := ⟨.hbm, 211, rfl⟩
abbrev main_while0b_v153 : Ref sig .tc := ⟨.hbm, 212, rfl⟩
abbrev main_while0b_v154 : Ref sig .tc := ⟨.hbm, 213, rfl⟩
abbrev main_while0b_call15_v0 : Ref sig .tc := ⟨.hbm, 214, rfl⟩
abbrev main_while0b_call15_c : Ref sig .tc := ⟨.hbm, 215, rfl⟩
abbrev main_while0b_call15_c_0 : Ref sig .tc := ⟨.hbm, 216, rfl⟩
abbrev main_while0b_call15_c_1 : Ref sig .tc := ⟨.hbm, 217, rfl⟩
abbrev main_while0b_call15_c_2 : Ref sig .tc := ⟨.hbm, 218, rfl⟩
abbrev main_while0b_v155 : Ref sig .tc := ⟨.hbm, 219, rfl⟩
abbrev main_while0b_c_15 : Ref sig .tc := ⟨.hbm, 220, rfl⟩
abbrev main_while0b_v156 : Ref sig .tc := ⟨.hbm, 221, rfl⟩
abbrev main_v101 : Ref sig .tc := ⟨.hbm, 222, rfl⟩
abbrev main_v102 : Ref sig .tc := ⟨.hbm, 223, rfl⟩
abbrev main_v103 : Ref sig .tc := ⟨.hbm, 224, rfl⟩
abbrev main_v104 : Ref sig .tc := ⟨.hbm, 225, rfl⟩
abbrev main_v105 : Ref sig .tc := ⟨.hbm, 226, rfl⟩
abbrev main_v106 : Ref sig .tc := ⟨.hbm, 227, rfl⟩
abbrev main_v107 : Ref sig .tc := ⟨.hbm, 228, rfl⟩
abbrev main_v108 : Ref sig .tc := ⟨.hbm, 229, rfl⟩
abbrev main_v109 : Ref sig .tc := ⟨.hbm, 230, rfl⟩
abbrev main_v110 : Ref sig .tc := ⟨.hbm, 231, rfl⟩
abbrev main_v111 : Ref sig .tc := ⟨.hbm, 232, rfl⟩
abbrev main_v112 : Ref sig .tc := ⟨.hbm, 233, rfl⟩
abbrev main_v113 : Ref sig .tc := ⟨.hbm, 234, rfl⟩
abbrev main_v114 : Ref sig .tc := ⟨.hbm, 235, rfl⟩
abbrev main_v115 : Ref sig .tc := ⟨.hbm, 236, rfl⟩
abbrev main_v116 : Ref sig .tc := ⟨.hbm, 237, rfl⟩
abbrev main_v117 : Ref sig .tc := ⟨.hbm, 238, rfl⟩
abbrev main_v118 : Ref sig .tc := ⟨.hbm, 239, rfl⟩

abbrev nD : Nat := 1
abbrev τ : Topo := Topo.v7x

variable {F : FTy → Type} [FloatOps F]

abbrev main_while0_count : Scf.Loop 32 := ⟨0#32, 68#32, 1#32⟩
-- ==== In.lean ====
abbrev S17408x4096 : Shape := ⟨2, ![17408, 4096]⟩
abbrev S2x4096x22880 : Shape := ⟨3, ![2, 4096, 22880]⟩
abbrev S17408x20480 : Shape := ⟨2, ![17408, 20480]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 4
  | .vmem => 6
  | .smem => 0
  | _ => 0

abbrev bufTy : (tb : Table) → Fin (tcTables nBuf tb) → BufTy
  | .hbm, ⟨0, _⟩ => ⟨S17408x4096, .bf16⟩
  | .hbm, ⟨1, _⟩ => ⟨S2x4096x22880, .f32⟩
  | .hbm, ⟨2, _⟩ => ⟨S2x4096x22880, .bf16⟩
  | .hbm, ⟨3, _⟩ => ⟨S17408x20480, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![17, 20, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S17408x4096 : Shape := ⟨2, ![17408, 4096]⟩
abbrev S2x4096x22880 : Shape := ⟨3, ![2, 4096, 22880]⟩
abbrev S1x4096x22880 : Shape := ⟨3, ![1, 4096, 22880]⟩
abbrev S4096x22880 : Shape := ⟨2, ![4096, 22880]⟩
abbrev S17408x22880 : Shape := ⟨2, ![17408, 22880]⟩
abbrev S17408x20480 : Shape := ⟨2, ![17408, 20480]⟩

abbrev nBuf : Space → Nat
  | .hbm => 7
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S2x4096x22880, .f32⟩
  | .hbm, ⟨2, _⟩ => ⟨S17408x4096, .f32⟩
  | .hbm, ⟨3, _⟩ => ⟨S1x4096x22880, .f32⟩
  | .hbm, ⟨4, _⟩ => ⟨S4096x22880, .f32⟩
  | .hbm, ⟨5, _⟩ => ⟨S17408x22880, .f32⟩
  | .hbm, ⟨6, _⟩ => ⟨S17408x20480, .f32⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Up.lean ====
abbrev S17408x4096 : Shape := ⟨2, ![17408, 4096]⟩
abbrev S4096x8192 : Shape := ⟨2, ![4096, 8192]⟩
abbrev S17408x8192 : Shape := ⟨2, ![17408, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 10
  | .smem => 0
  | _ => 0

abbrev bufTy : (tb : Table) → Fin (tcTables nBuf tb) → BufTy
  | .hbm, ⟨0, _⟩ => ⟨S17408x4096, .bf16⟩
  | .hbm, ⟨1, _⟩ => ⟨S4096x8192, .f32⟩
  | .hbm, ⟨2, _⟩ => ⟨S4096x8192, .f32⟩
  | .hbm, ⟨3, _⟩ => ⟨S4096x8192, .bf16⟩
  | .hbm, ⟨4, _⟩ => ⟨S4096x8192, .bf16⟩
  | .hbm, ⟨5, _⟩ => ⟨S17408x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![17, 8, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S17408x4096 : Shape := ⟨2, ![17408, 4096]⟩
abbrev S4096x8192 : Shape := ⟨2, ![4096, 8192]⟩
abbrev S17408x8192 : Shape := ⟨2, ![17408, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S4096x8192, .f32⟩
  | .hbm, ⟨2, _⟩ => ⟨S4096x8192, .f32⟩
  | .hbm, ⟨3, _⟩ => ⟨S17408x4096, .f32⟩
  | .hbm, ⟨4, _⟩ => ⟨S17408x8192, .f32⟩
  | .hbm, ⟨5, _⟩ => ⟨S17408x8192, .f32⟩
  | .hbm, ⟨6, _⟩ => ⟨S17408x8192, .f32⟩
  | .hbm, ⟨7, _⟩ => ⟨S_, .f32⟩
  | .hbm, ⟨8, _⟩ => ⟨S17408x8192, .f32⟩
  | .hbm, ⟨9, _⟩ => ⟨S17408x8192, .f32⟩
  | .hbm, ⟨10, _⟩ => ⟨S_, .f32⟩
  | .hbm, ⟨11, _⟩ => ⟨S17408x8192, .f32⟩
  | .hbm, ⟨12, _⟩ => ⟨S17408x8192, .f32⟩
  | .hbm, ⟨13, _⟩ => ⟨S17408x8192, .f32⟩
  | .hbm, ⟨14, _⟩ => ⟨S17408x8192, .f32⟩
  | .hbm, ⟨15, _⟩ => ⟨S17408x8192, .f32⟩
  | .hbm, ⟨16, _⟩ => ⟨S17408x8192, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Down.lean ====
abbrev S17408x8192 : Shape := ⟨2, ![17408, 8192]⟩
abbrev S8192x4096 : Shape := ⟨2, ![8192, 4096]⟩
abbrev S17408x4096 : Shape := ⟨2, ![17408, 4096]⟩
abbrev S8x24576 : Shape := ⟨2, ![8, 24576]⟩
abbrev S1024x2048 : Shape := ⟨2, ![1024, 2048]⟩
abbrev S2048x1024 : Shape := ⟨2, ![2048, 1024]⟩
abbrev S1024x1024 : Shape := ⟨2, ![1024, 1024]⟩
abbrev S8x1024 : Shape := ⟨2, ![8, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S17408x8192, .bf16⟩
  | .hbm, ⟨1, _⟩ => ⟨S8192x4096, .f32⟩
  | .hbm, ⟨2, _⟩ => ⟨S17408x4096, .f32⟩
  | .hbm, ⟨3, _⟩ => ⟨S8x24576, .f32⟩
  | .hbm, ⟨4, _⟩ => ⟨S8192x4096, .bf16⟩
  | .hbm, ⟨5, _⟩ => ⟨S17408x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S8x1024, .f32⟩
  | .local _ .vmem, ⟨7, _⟩ => ⟨S8x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S17408x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![17, 4, 4], ![false, false, false]⟩

def k0_cond3 (i : grid0.Coords) : BitVec 1 :=
  let arg2 : BitVec 32 := BitVec.ofNat 32 (i 2).val
  let c3_i32_12 : BitVec 32 := 3#32
  let v29 : BitVec 1 := Scalar.cmpi .eq arg2 c3_i32_12
  let v30 : BitVec 32 := Scalar.extui v29
  let c0_i32_13 : BitVec 32 := 0#32
  let v31 : BitVec 1 := Scalar.cmpi .ne v30 c0_i32_13
  v31

def k0_off1 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 1 := Scalar.cmpi .slt v0 c1_i32
  let c4_i32_7 : BitVec 32 := 4#32
  let c1_i32_0 : BitVec 32 := 1#32
  let v2 : BitVec 32 := Scalar.subi v0 c1_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let v3 : BitVec 32 := Scalar.divsi v2 c4_i32
  let c1_i32_6 : BitVec 32 := 1#32
  let v18 : BitVec 32 := Scalar.subi v3 c1_i32_6
  let v19 : BitVec 32 := Scalar.select v17 v18 v3
  let v20 : BitVec 32 := Scalar.select v1 c4_i32_7 v19
  let v39 : Index := Scalar.indexCast v20
  let c0_21 : Index := 0#32
  ![v39.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DownRefIdeal.lean ====
abbrev S17408x8192 : Shape := ⟨2, ![17408, 8192]⟩
abbrev S8192x4096 : Shape := ⟨2, ![8192, 4096]⟩
abbrev S17408x4096 : Shape := ⟨2, ![17408, 4096]⟩
abbrev S8x24576 : Shape := ⟨2, ![8, 24576]⟩
abbrev S4x4096 : Shape := ⟨2, ![4, 4096]⟩
abbrev S1x4096 : Shape := ⟨2, ![1, 4096]⟩
abbrev S4096 : Shape := ⟨1, ![4096]⟩
abbrev S1024x4096 : Shape := ⟨2, ![1024, 4096]⟩
abbrev S4x256x4096 : Shape := ⟨3, ![4, 256, 4096]⟩
abbrev S1x1x4096 : Shape := ⟨3, ![1, 1, 4096]⟩
abbrev S4x1x4096 : Shape := ⟨3, ![4, 1, 4096]⟩
abbrev S16384x4096 : Shape := ⟨2, ![16384, 4096]⟩
abbrev S4x4096x4096 : Shape := ⟨3, ![4, 4096, 4096]⟩

abbrev nBuf : Space → Nat
  | .hbm => 28
  | .vmem => 0
  | .smem => 0
  | _ => 0

abbrev bufTy : (tb : Table) → Fin (tcTables nBuf tb) → BufTy
  | .hbm, ⟨0, _⟩ => ⟨S17408x8192, .bf16⟩
  | .hbm, ⟨1, _⟩ => ⟨S8192x4096, .f32⟩
  | .hbm, ⟨2, _⟩ => ⟨S17408x4096, .f32⟩
  | .hbm, ⟨3, _⟩ => ⟨S8x24576, .f32⟩
  | .hbm, ⟨4, _⟩ => ⟨S4x4096, .f32⟩
  | .hbm, ⟨5, _⟩ => ⟨S1x4096, .f32⟩
  | .hbm, ⟨6, _⟩ => ⟨S4096, .f32⟩
  | .hbm, ⟨7, _⟩ => ⟨S17408x8192, .f32⟩
  | .hbm, ⟨8, _⟩ => ⟨S17408x4096, .f32⟩
  | .hbm, ⟨9, _⟩ => ⟨S1024x4096, .f32⟩
  | .hbm, ⟨10, _⟩ => ⟨S4x256x4096, .f32⟩
  | .hbm, ⟨11, _⟩ => ⟨S1024x4096, .f32⟩
  | .hbm, ⟨12, _⟩ => ⟨S4x256x4096, .f32⟩
  | .hbm, ⟨13, _⟩ => ⟨S1x1x4096, .f32⟩
  | .hbm, ⟨14, _⟩ => ⟨S4x256x4096, .f32⟩
  | .hbm, ⟨15, _⟩ => ⟨S4x256x4096, .f32⟩
  | .hbm, ⟨16, _⟩ => ⟨S4x256x4096, .f32⟩
  | .hbm, ⟨17, _⟩ => ⟨S1024x4096, .f32⟩
  | .hbm, ⟨18, _⟩ => ⟨S4x1x4096, .f32⟩
  | .hbm, ⟨19, _⟩ => ⟨S16384x4096, .f32⟩
  | .hbm, ⟨20, _⟩ => ⟨S4x4096x4096, .f32⟩
  | .hbm, ⟨21, _⟩ => ⟨S16384x4096, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S16384x4096, .f32⟩
  | .hbm, ⟨27, _⟩ => ⟨S17408x4096, .f32⟩
  | _, _ => ⟨S17408x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== Merge.lean ====
abbrev S17408x2048 : Shape := ⟨2, ![17408, 2048]⟩
abbrev S2x3x2048x4096 : Shape := ⟨4, ![2, 3, 2048, 4096]⟩
abbrev S17408x2560 : Shape := ⟨2, ![17408, 2560]⟩
abbrev S2x256x12288 : Shape := ⟨3, ![2, 256, 12288]⟩
abbrev S2x12288 : Shape := ⟨2, ![2, 12288]⟩
abbrev S1x12288 : Shape := ⟨2, ![1, 12288]⟩
abbrev S12288 : Shape := ⟨1, ![12288]⟩
abbrev S17408x4096 : Shape := ⟨2, ![17408, 4096]⟩
abbrev S1024x2048 : Shape := ⟨2, ![1024, 2048]⟩
abbrev S1x1x2048x1024 : Shape := ⟨4, ![1, 1, 2048, 1024]⟩
abbrev S1024x256 : Shape := ⟨2, ![1024, 256]⟩
abbrev S1x256x1024 : Shape := ⟨3, ![1, 256, 1024]⟩
abbrev S1x1024 : Shape := ⟨2, ![1, 1024]⟩
abbrev S1024x1024 : Shape := ⟨2, ![1024, 1024]⟩
abbrev S256x1024 : Shape := ⟨2, ![256, 1024]⟩
abbrev S2048x1024 : Shape := ⟨2, ![2048, 1024]⟩

abbrev nBuf : Space → Nat
  | .hbm => 13
  | .vmem => 17
  | .smem => 0
  | _ => 0

abbrev bufTy : (tb : Table) → Fin (tcTables nBuf tb) → BufTy
  | .hbm, ⟨0, _⟩ => ⟨S17408x2048, .bf16⟩
  | .hbm, ⟨1, _⟩ => ⟨S17408x2048, .bf16⟩
  | .hbm, ⟨2, _⟩ => ⟨S17408x2048, .bf16⟩
  | .hbm, ⟨3, _⟩ => ⟨S2x3x2048x4096, .f32⟩
  | .hbm, ⟨4, _⟩ => ⟨S17408x2560, .f32⟩
  | .hbm, ⟨5, _⟩ => ⟨S2x256x12288, .f32⟩
  | .hbm, ⟨6, _⟩ => ⟨S2x12288, .f32⟩
  | .hbm, ⟨7, _⟩ => ⟨S2x3x2048x4096, .bf16⟩
  | .hbm, ⟨8, _⟩ => ⟨S2x256x12288, .bf16⟩
  | .hbm, ⟨9, _⟩ => ⟨S1x12288, .f32⟩
  | .hbm, ⟨10, _⟩ => ⟨S12288, .f32⟩
  | .hbm, ⟨11, _⟩ => ⟨S1x12288, .f32⟩
  | .hbm, ⟨12, _⟩ => ⟨S17408x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1x1x2048x1024, .bf16⟩
  | .local _ .vmem, ⟨7, _⟩ => ⟨S1x1x2048x1024, .bf16⟩
  | .local _ .vmem, ⟨8, _⟩ => ⟨S1024x256, .f32⟩
  | .local _ .vmem, ⟨9, _⟩ => ⟨S1024x256, .f32⟩
  | .local _ .vmem, ⟨10, _⟩ => ⟨S1x256x1024, .bf16⟩
  | .local _ .vmem, ⟨11, _⟩ => ⟨S1x256x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![17, 4, 3], ![false, false, false]⟩

def k0_cond3 (i : grid0.Coords) : BitVec 1 :=
  let arg2 : BitVec 32 := BitVec.ofNat 32 (i 2).val
  let c2_i32 : BitVec 32 := 2#32
  let v22 : BitVec 1 := Scalar.cmpi .eq arg2 c2_i32
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c8_i32 : BitVec 32 := 8#32
  let c0_i32_0 : BitVec 32 := 0#32
  ![v0.toNat, c8_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== MergeRefIdeal.lean ====
abbrev S17408x2048 : Shape := ⟨2, ![17408, 2048]⟩
abbrev S2x3x2048x4096 : Shape := ⟨4, ![2, 3, 2048, 4096]⟩
abbrev S17408x2560 : Shape := ⟨2, ![17408, 2560]⟩
abbrev S2x256x12288 : Shape := ⟨3, ![2, 256, 12288]⟩
abbrev S2x12288 : Shape := ⟨2, ![2, 12288]⟩
abbrev S17408x256 : Shape := ⟨2, ![17408, 256]⟩
abbrev S1x256x12288 : Shape := ⟨3, ![1, 256, 12288]⟩
abbrev S256x12288 : Shape := ⟨2, ![256, 12288]⟩
abbrev S17408x12288 : Shape := ⟨2, ![17408, 12288]⟩
abbrev S1x12288 : Shape := ⟨2, ![1, 12288]⟩
abbrev S12288 : Shape := ⟨1, ![12288]⟩
abbrev S_ : Shape := ⟨0, ![]⟩
abbrev S17408x4096 : Shape := ⟨2, ![17408, 4096]⟩
abbrev S1x1x2048x4096 : Shape := ⟨4, ![1, 1, 2048, 4096]⟩
abbrev S2048x4096 : Shape := ⟨2, ![2048, 4096]⟩

abbrev nBuf : Space → Nat
  | .hbm => 45
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S17408x2048, .bf16⟩
  | .hbm, ⟨2, _⟩ => ⟨S17408x2048, .bf16⟩
  | .hbm, ⟨3, _⟩ => ⟨S2x3x2048x4096, .f32⟩
  | .hbm, ⟨4, _⟩ => ⟨S17408x2560, .f32⟩
  | .hbm, ⟨5, _⟩ => ⟨S2x256x12288, .f32⟩
  | .hbm, ⟨6, _⟩ => ⟨S2x12288, .f32⟩
  | .hbm, ⟨7, _⟩ => ⟨S17408x256, .f32⟩
  | .hbm, ⟨8, _⟩ => ⟨S1x256x12288, .f32⟩
  | .hbm, ⟨9, _⟩ => ⟨S256x12288, .f32⟩
  | .hbm, ⟨10, _⟩ => ⟨S17408x12288, .f32⟩
  | .hbm, ⟨11, _⟩ => ⟨S1x12288, .f32⟩
  | .hbm, ⟨12, _⟩ => ⟨S12288, .f32⟩
  | .hbm, ⟨13, _⟩ => ⟨S1x12288, .f32⟩
  | .hbm, ⟨14, _⟩ => ⟨S17408x12288, .f32⟩
  | .hbm, ⟨15, _⟩ => ⟨S17408x12288, .f32⟩
  | .hbm, ⟨16, _⟩ => ⟨S17408x12288, .f32⟩
  | .hbm, ⟨17, _⟩ => ⟨S17408x12288, .f32⟩
  | .hbm, ⟨18, _⟩ => ⟨S_, .f32⟩
  | .hbm, ⟨19, _⟩ => ⟨S17408x12288, .f32⟩
  | .hbm, ⟨20, _⟩ => ⟨S17408x12288, .f32⟩
  | .hbm, ⟨21, _⟩ => ⟨S_, .f32⟩
  | .hbm, ⟨22, _⟩ => ⟨S17408x12288, .f32⟩
  | .hbm, ⟨23, _⟩ => ⟨S17408x12288, .f32⟩
  | .hbm, ⟨24, _⟩ => ⟨S17408x4096, .f32⟩
  | .hbm, ⟨25, _⟩ => ⟨S17408x4096, .f32⟩
  | .hbm, ⟨26, _⟩ => ⟨S17408x4096, .f32⟩
  | .hbm, ⟨27, _⟩ => ⟨S17408x2048, .f32⟩
  | .hbm, ⟨28, _⟩ => ⟨S17408x2048, .f32⟩
  | .hbm, ⟨29, _⟩ => ⟨S17408x2048, .f32⟩
  | .hbm, ⟨30, _⟩ => ⟨S1x1x2048x4096, .f32⟩
  | .hbm, ⟨31, _⟩ => ⟨S2048x4096, .f32⟩
  | .hbm, ⟨32, _⟩ => ⟨S17408x4096, .f32⟩
  | .hbm, ⟨33, _⟩ => ⟨S17408x4096, .f32⟩
  | .hbm, ⟨34, _⟩ => ⟨S1x1x2048x4096, .f32⟩
  | .hbm, ⟨35, _⟩ => ⟨S2048x4096, .f32⟩
  | .hbm, ⟨36, _⟩ => ⟨S17408x4096, .f32⟩
  | .hbm, ⟨37, _⟩ => ⟨S17408x4096, .f32⟩
  | .hbm, ⟨38, _⟩ => ⟨S17408x4096, .f32⟩
  | .hbm, ⟨39, _⟩ => ⟨S1x1x2048x4096, .f32⟩
  | .hbm, ⟨40, _⟩ => ⟨S2048x4096, .f32⟩
  | .hbm, ⟨41, _⟩ => ⟨S17408x4096, .f32⟩
  | .hbm, ⟨42, _⟩ => ⟨S17408x4096, .f32⟩
  | .hbm, ⟨43, _⟩ => ⟨S17408x4096, .f32⟩
  | .hbm, ⟨44, _⟩ => ⟨S17408x4096, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Out.lean ====
abbrev S17408x4096 : Shape := ⟨2, ![17408, 4096]⟩
abbrev S2x4096x4096 : Shape := ⟨3, ![2, 4096, 4096]⟩
abbrev S8x24576 : Shape := ⟨2, ![8, 24576]⟩
abbrev S1024x4096 : Shape := ⟨2, ![1024, 4096]⟩
abbrev S1x4096x1024 : Shape := ⟨3, ![1, 4096, 1024]⟩
abbrev S1024x1024 : Shape := ⟨2, ![1024, 1024]⟩
abbrev S8x1024 : Shape := ⟨2, ![8, 1024]⟩
abbrev S4096x1024 : Shape := ⟨2, ![4096, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S17408x4096, .bf16⟩
  | .hbm, ⟨1, _⟩ => ⟨S2x4096x4096, .f32⟩
  | .hbm, ⟨2, _⟩ => ⟨S17408x4096, .f32⟩
  | .hbm, ⟨3, _⟩ => ⟨S8x24576, .f32⟩
  | .hbm, ⟨4, _⟩ => ⟨S2x4096x4096, .bf16⟩
  | .hbm, ⟨5, _⟩ => ⟨S17408x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | .local _ .vmem, ⟨6, _⟩ => ⟨S8x1024, .f32⟩
  | .local _ .vmem, ⟨7, _⟩ => ⟨S8x1024, .f32⟩
  | .local _ .vmem, ⟨8, _⟩ => ⟨S1024x1024, .f32⟩
  | .local _ .vmem, ⟨9, _⟩ => ⟨S1024x1024, .f32⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![17, 4, 1], ![false, false, false]⟩

def k0_off1 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 1 := Scalar.cmpi .slt v0 c1_i32
  let c4_i32_7 : BitVec 32 := 4#32
  let c1_i32_0 : BitVec 32 := 1#32
  let v2 : BitVec 32 := Scalar.subi v0 c1_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let v3 : BitVec 32 := Scalar.divsi v2 c4_i32
  let c1_i32_6 : BitVec 32 := 1#32
  let v18 : BitVec 32 := Scalar.subi v3 c1_i32_6
  let v19 : BitVec 32 := Scalar.select v17 v18 v3
  let v20 : BitVec 32 := Scalar.select v1 c4_i32_7 v19
  let v26 : Index := Scalar.indexCast v20
  let c0_14 : Index := 0#32
  ![v26.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== OutRefIdeal.lean ====
abbrev S17408x4096 : Shape := ⟨2, ![17408, 4096]⟩
abbrev S2x4096x4096 : Shape := ⟨3, ![2, 4096, 4096]⟩
abbrev S8x24576 : Shape := ⟨2, ![8, 24576]⟩
abbrev S4x4096 : Shape := ⟨2, ![4, 4096]⟩
abbrev S1x4096 : Shape := ⟨2, ![1, 4096]⟩
abbrev S4096 : Shape := ⟨1, ![4096]⟩
abbrev S1x4096x4096 : Shape := ⟨3, ![1, 4096, 4096]⟩
abbrev S4096x4096 : Shape := ⟨2, ![4096, 4096]⟩
abbrev S1024x4096 : Shape := ⟨2, ![1024, 4096]⟩
abbrev S4x256x4096 : Shape := ⟨3, ![4, 256, 4096]⟩
abbrev S1x1x4096 : Shape := ⟨3, ![1, 1, 4096]⟩
abbrev S4x1x4096 : Shape := ⟨3, ![4, 1, 4096]⟩
abbrev S16384x4096 : Shape := ⟨2, ![16384, 4096]⟩
abbrev S4x4096x4096 : Shape := ⟨3, ![4, 4096, 4096]⟩

abbrev nBuf : Space → Nat
  | .hbm => 30
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S2x4096x4096, .f32⟩
  | .hbm, ⟨2, _⟩ => ⟨S17408x4096, .f32⟩
  | .hbm, ⟨3, _⟩ => ⟨S8x24576, .f32⟩
  | .hbm, ⟨4, _⟩ => ⟨S4x4096, .f32⟩
  | .hbm, ⟨5, _⟩ => ⟨S1x4096, .f32⟩
  | .hbm, ⟨6, _⟩ => ⟨S4096, .f32⟩
  | .hbm, ⟨7, _⟩ => ⟨S17408x4096, .f32⟩
  | .hbm, ⟨8, _⟩ => ⟨S1x4096x4096, .f32⟩
  | .hbm, ⟨9, _⟩ => ⟨S4096x4096, .f32⟩
  | .hbm, ⟨10, _⟩ => ⟨S17408x4096, .f32⟩
  | .hbm, ⟨11, _⟩ => ⟨S1024x4096, .f32⟩
  | .hbm, ⟨12, _⟩ => ⟨S4x256x4096, .f32⟩
  | .hbm, ⟨13, _⟩ => ⟨S1024x4096, .f32⟩
  | .hbm, ⟨14, _⟩ => ⟨S4x256x4096, .f32⟩
  | .hbm, ⟨15, _⟩ => ⟨S1x1x4096, .f32⟩
  | .hbm, ⟨16, _⟩ => ⟨S4x256x4096, .f32⟩
  | .hbm, ⟨17, _⟩ => ⟨S4x256x4096, .f32⟩
  | .hbm, ⟨18, _⟩ => ⟨S4x256x4096, .f32⟩
  | .hbm, ⟨19, _⟩ => ⟨S1024x4096, .f32⟩
  | .hbm, ⟨20, _⟩ => ⟨S4x1x4096, .f32⟩
  | .hbm, ⟨21, _⟩ => ⟨S16384x4096, .f32⟩
  | .hbm, ⟨22, _⟩ => ⟨S4x4096x4096, .f32⟩
  | .hbm, ⟨23, _⟩ => ⟨S16384x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S16384x4096, .f32⟩
  | .hbm, ⟨29, _⟩ => ⟨S17408x4096, .f32⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== InTwo.lean ====
abbrev S17408x4096 : Shape := ⟨2, ![17408, 4096]⟩
abbrev S2x4096x22880 : Shape := ⟨3, ![2, 4096, 22880]⟩
abbrev S17408x20480 : Shape := ⟨2, ![17408, 20480]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 4
  | .vmem => 6
  | .smem => 0
  | _ => 0

abbrev bufTy : (tb : Table) → Fin (tcTables nBuf tb) → BufTy
  | .hbm, ⟨0, _⟩ => ⟨S17408x4096, .bf16⟩
  | .hbm, ⟨1, _⟩ => ⟨S2x4096x22880, .f32⟩
  | .hbm, ⟨2, _⟩ => ⟨S2x4096x22880, .bf16⟩
  | .hbm, ⟨3, _⟩ => ⟨S17408x20480, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![17, 20, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InTwoRefIdeal.lean ====
abbrev S17408x4096 : Shape := ⟨2, ![17408, 4096]⟩
abbrev S2x4096x22880 : Shape := ⟨3, ![2, 4096, 22880]⟩
abbrev S1x4096x22880 : Shape := ⟨3, ![1, 4096, 22880]⟩
abbrev S4096x22880 : Shape := ⟨2, ![4096, 22880]⟩
abbrev S17408x22880 : Shape := ⟨2, ![17408, 22880]⟩
abbrev S17408x20480 : Shape := ⟨2, ![17408, 20480]⟩

abbrev nBuf : Space → Nat
  | .hbm => 7
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S2x4096x22880, .f32⟩
  | .hbm, ⟨2, _⟩ => ⟨S17408x4096, .f32⟩
  | .hbm, ⟨3, _⟩ => ⟨S1x4096x22880, .f32⟩
  | .hbm, ⟨4, _⟩ => ⟨S4096x22880, .f32⟩
  | .hbm, ⟨5, _⟩ => ⟨S17408x22880, .f32⟩
  | .hbm, ⟨6, _⟩ => ⟨S17408x20480, .f32⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Tail.lean ====
abbrev S17408x4096 : Shape := ⟨2, ![17408, 4096]⟩
abbrev S2x4096x22880 : Shape := ⟨3, ![2, 4096, 22880]⟩
abbrev S2x4096x2048 : Shape := ⟨3, ![2, 4096, 2048]⟩
abbrev S2x4096x256 : Shape := ⟨3, ![2, 4096, 256]⟩
abbrev S2x4096x32 : Shape := ⟨3, ![2, 4096, 32]⟩
abbrev S2x4096x64 : Shape := ⟨3, ![2, 4096, 64]⟩
abbrev S_ : Shape := ⟨0, ![]⟩
abbrev S2x4096x160 : Shape := ⟨3, ![2, 4096, 160]⟩
abbrev S2x4096x2560 : Shape := ⟨3, ![2, 4096, 2560]⟩
abbrev S17408x2560 : Shape := ⟨2, ![17408, 2560]⟩
abbrev S1024x2048 : Shape := ⟨2, ![1024, 2048]⟩
abbrev S1x2048x1280 : Shape := ⟨3, ![1, 2048, 1280]⟩
abbrev S1024x1280 : Shape := ⟨2, ![1024, 1280]⟩
abbrev S2048x1280 : Shape := ⟨2, ![2048, 1280]⟩

abbrev nBuf : Space → Nat
  | .hbm => 11
  | .vmem => 7
  | .smem => 0
  | _ => 0

abbrev bufTy : (tb : Table) → Fin (tcTables nBuf tb) → BufTy
  | .hbm, ⟨0, _⟩ => ⟨S17408x4096, .bf16⟩
  | .hbm, ⟨1, _⟩ => ⟨S2x4096x22880, .f32⟩
  | .hbm, ⟨2, _⟩ => ⟨S2x4096x2048, .f32⟩
  | .hbm, ⟨3, _⟩ => ⟨S2x4096x256, .f32⟩
  | .hbm, ⟨4, _⟩ => ⟨S2x4096x32, .f32⟩
  | .hbm, ⟨5, _⟩ => ⟨S2x4096x64, .f32⟩
  | .hbm, ⟨6, _⟩ => ⟨S_, .f32⟩
  | .hbm, ⟨7, _⟩ => ⟨S2x4096x160, .f32⟩
  | .hbm, ⟨8, _⟩ => ⟨S2x4096x2560, .f32⟩
  | .hbm, ⟨9, _⟩ => ⟨S2x4096x2560, .bf16⟩
  | .hbm, ⟨10, _⟩ => ⟨S17408x2560, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1280, .bf16⟩
  | .local _ .vmem, ⟨3, _⟩ => ⟨S1x2048x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x1280, .f32⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![17, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TailRefIdeal.lean ====
abbrev S17408x4096 : Shape := ⟨2, ![17408, 4096]⟩
abbrev S2x4096x22880 : Shape := ⟨3, ![2, 4096, 22880]⟩
abbrev S1x4096x22880 : Shape := ⟨3, ![1, 4096, 22880]⟩
abbrev S4096x22880 : Shape := ⟨2, ![4096, 22880]⟩
abbrev S17408x22880 : Shape := ⟨2, ![17408, 22880]⟩
abbrev S17408x2048 : Shape := ⟨2, ![17408, 2048]⟩
abbrev S17408x256 : Shape := ⟨2, ![17408, 256]⟩
abbrev S17408x32 : Shape := ⟨2, ![17408, 32]⟩
abbrev S17408x64 : Shape := ⟨2, ![17408, 64]⟩
abbrev S_ : Shape := ⟨0, ![]⟩
abbrev S17408x160 : Shape := ⟨2, ![17408, 160]⟩
abbrev S17408x2560 : Shape := ⟨2, ![17408, 2560]⟩

abbrev nBuf : Space → Nat
  | .hbm => 13
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S2x4096x22880, .f32⟩
  | .hbm, ⟨2, _⟩ => ⟨S17408x4096, .f32⟩
  | .hbm, ⟨3, _⟩ => ⟨S1x4096x22880, .f32⟩
  | .hbm, ⟨4, _⟩ => ⟨S4096x22880, .f32⟩
  | .hbm, ⟨5, _⟩ => ⟨S17408x22880, .f32⟩
  | .hbm, ⟨6, _⟩ => ⟨S17408x2048, .f32⟩
  | .hbm, ⟨7, _⟩ => ⟨S17408x256, .f32⟩
  | .hbm, ⟨8, _⟩ => ⟨S17408x32, .f32⟩
  | .hbm, ⟨9, _⟩ => ⟨S17408x64, .f32⟩
  | .hbm, ⟨10, _⟩ => ⟨S_, .f32⟩
  | .hbm, ⟨11, _⟩ => ⟨S17408x160, .f32⟩
  | .hbm, ⟨12, _⟩ => ⟨S17408x2560, .f32⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== TailTwo.lean ====
abbrev S17408x4096 : Shape := ⟨2, ![17408, 4096]⟩
abbrev S2x4096x22880 : Shape := ⟨3, ![2, 4096, 22880]⟩
abbrev S2x4096x2048 : Shape := ⟨3, ![2, 4096, 2048]⟩
abbrev S2x4096x256 : Shape := ⟨3, ![2, 4096, 256]⟩
abbrev S2x4096x32 : Shape := ⟨3, ![2, 4096, 32]⟩
abbrev S2x4096x64 : Shape := ⟨3, ![2, 4096, 64]⟩
abbrev S_ : Shape := ⟨0, ![]⟩
abbrev S2x4096x160 : Shape := ⟨3, ![2, 4096, 160]⟩
abbrev S2x4096x2560 : Shape := ⟨3, ![2, 4096, 2560]⟩
abbrev S17408x2560 : Shape := ⟨2, ![17408, 2560]⟩
abbrev S1024x2048 : Shape := ⟨2, ![1024, 2048]⟩
abbrev S1x2048x1280 : Shape := ⟨3, ![1, 2048, 1280]⟩
abbrev S1024x1280 : Shape := ⟨2, ![1024, 1280]⟩
abbrev S2048x1280 : Shape := ⟨2, ![2048, 1280]⟩

abbrev nBuf : Space → Nat
  | .hbm => 11
  | .vmem => 7
  | .smem => 0
  | _ => 0

abbrev bufTy : (tb : Table) → Fin (tcTables nBuf tb) → BufTy
  | .hbm, ⟨0, _⟩ => ⟨S17408x4096, .bf16⟩
  | .hbm, ⟨1, _⟩ => ⟨S2x4096x22880, .f32⟩
  | .hbm, ⟨2, _⟩ => ⟨S2x4096x2048, .f32⟩
  | .hbm, ⟨3, _⟩ => ⟨S2x4096x256, .f32⟩
  | .hbm, ⟨4, _⟩ => ⟨S2x4096x32, .f32⟩
  | .hbm, ⟨5, _⟩ => ⟨S2x4096x64, .f32⟩
  | .hbm, ⟨6, _⟩ => ⟨S_, .f32⟩
  | .hbm, ⟨7, _⟩ => ⟨S2x4096x160, .f32⟩
  | .hbm, ⟨8, _⟩ => ⟨S2x4096x2560, .f32⟩
  | .hbm, ⟨9, _⟩ => ⟨S2x4096x2560, .bf16⟩
  | .hbm, ⟨10, _⟩ => ⟨S17408x2560, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1280, .bf16⟩
  | .local _ .vmem, ⟨3, _⟩ => ⟨S1x2048x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x1280, .f32⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![17, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TailTwoRefIdeal.lean ====
abbrev S17408x4096 : Shape := ⟨2, ![17408, 4096]⟩
abbrev S2x4096x22880 : Shape := ⟨3, ![2, 4096, 22880]⟩
abbrev S1x4096x22880 : Shape := ⟨3, ![1, 4096, 22880]⟩
abbrev S4096x22880 : Shape := ⟨2, ![4096, 22880]⟩
abbrev S17408x22880 : Shape := ⟨2, ![17408, 22880]⟩
abbrev S17408x2048 : Shape := ⟨2, ![17408, 2048]⟩
abbrev S17408x256 : Shape := ⟨2, ![17408, 256]⟩
abbrev S17408x32 : Shape := ⟨2, ![17408, 32]⟩
abbrev S17408x64 : Shape := ⟨2, ![17408, 64]⟩
abbrev S_ : Shape := ⟨0, ![]⟩
abbrev S17408x160 : Shape := ⟨2, ![17408, 160]⟩
abbrev S17408x2560 : Shape := ⟨2, ![17408, 2560]⟩

abbrev nBuf : Space → Nat
  | .hbm => 13
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S2x4096x22880, .f32⟩
  | .hbm, ⟨2, _⟩ => ⟨S17408x4096, .f32⟩
  | .hbm, ⟨3, _⟩ => ⟨S1x4096x22880, .f32⟩
  | .hbm, ⟨4, _⟩ => ⟨S4096x22880, .f32⟩
  | .hbm, ⟨5, _⟩ => ⟨S17408x22880, .f32⟩
  | .hbm, ⟨6, _⟩ => ⟨S17408x2048, .f32⟩
  | .hbm, ⟨7, _⟩ => ⟨S17408x256, .f32⟩
  | .hbm, ⟨8, _⟩ => ⟨S17408x32, .f32⟩
  | .hbm, ⟨9, _⟩ => ⟨S17408x64, .f32⟩
  | .hbm, ⟨10, _⟩ => ⟨S_, .f32⟩
  | .hbm, ⟨11, _⟩ => ⟨S17408x160, .f32⟩
  | .hbm, ⟨12, _⟩ => ⟨S17408x2560, .f32⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== MergeTwo.lean ====
abbrev S17408x2048 : Shape := ⟨2, ![17408, 2048]⟩
abbrev S2x3x2048x4096 : Shape := ⟨4, ![2, 3, 2048, 4096]⟩
abbrev S17408x2560 : Shape := ⟨2, ![17408, 2560]⟩
abbrev S2x256x12288 : Shape := ⟨3, ![2, 256, 12288]⟩
abbrev S2x12288 : Shape := ⟨2, ![2, 12288]⟩
abbrev S1x12288 : Shape := ⟨2, ![1, 12288]⟩
abbrev S12288 : Shape := ⟨1, ![12288]⟩
abbrev S17408x4096 : Shape := ⟨2, ![17408, 4096]⟩
abbrev S1024x2048 : Shape := ⟨2, ![1024, 2048]⟩
abbrev S1x1x2048x1024 : Shape := ⟨4, ![1, 1, 2048, 1024]⟩
abbrev S1024x256 : Shape := ⟨2, ![1024, 256]⟩
abbrev S1x256x1024 : Shape := ⟨3, ![1, 256, 1024]⟩
abbrev S1x1024 : Shape := ⟨2, ![1, 1024]⟩
abbrev S1024x1024 : Shape := ⟨2, ![1024, 1024]⟩
abbrev S256x1024 : Shape := ⟨2, ![256, 1024]⟩
abbrev S2048x1024 : Shape := ⟨2, ![2048, 1024]⟩
abbrev S16384x4096 : Shape := ⟨2, ![16384, 4096]⟩

abbrev nBuf : Space → Nat
  | .hbm => 14
  | .vmem => 17
  | .smem => 0
  | _ => 0

abbrev bufTy : (tb : Table) → Fin (tcTables nBuf tb) → BufTy
  | .hbm, ⟨0, _⟩ => ⟨S17408x2048, .bf16⟩
  | .hbm, ⟨1, _⟩ => ⟨S17408x2048, .bf16⟩
  | .hbm, ⟨2, _⟩ => ⟨S17408x2048, .bf16⟩
  | .hbm, ⟨3, _⟩ => ⟨S2x3x2048x4096, .f32⟩
  | .hbm, ⟨4, _⟩ => ⟨S17408x2560, .f32⟩
  | .hbm, ⟨5, _⟩ => ⟨S2x256x12288, .f32⟩
  | .hbm, ⟨6, _⟩ => ⟨S2x12288, .f32⟩
  | .hbm, ⟨7, _⟩ => ⟨S2x3x2048x4096, .bf16⟩
  | .hbm, ⟨8, _⟩ => ⟨S2x256x12288, .bf16⟩
  | .hbm, ⟨9, _⟩ => ⟨S1x12288, .f32⟩
  | .hbm, ⟨10, _⟩ => ⟨S12288, .f32⟩
  | .hbm, ⟨11, _⟩ => ⟨S1x12288, .f32⟩
  | .hbm, ⟨12, _⟩ => ⟨S17408x4096, .bf16⟩
  | .hbm, ⟨13, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1x1x2048x1024, .bf16⟩
  | .local _ .vmem, ⟨7, _⟩ => ⟨S1x1x2048x1024, .bf16⟩
  | .local _ .vmem, ⟨8, _⟩ => ⟨S1024x256, .f32⟩
  | .local _ .vmem, ⟨9, _⟩ => ⟨S1024x256, .f32⟩
  | .local _ .vmem, ⟨10, _⟩ => ⟨S1x256x1024, .bf16⟩
  | .local _ .vmem, ⟨11, _⟩ => ⟨S1x256x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![16, 4, 3], ![false, false, false]⟩

def k0_cond3 (i : grid0.Coords) : BitVec 1 :=
  let arg2 : BitVec 32 := BitVec.ofNat 32 (i 2).val
  let c2_i32 : BitVec 32 := 2#32
  let v22 : BitVec 1 := Scalar.cmpi .eq arg2 c2_i32
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg2.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c8_i32 : BitVec 32 := 8#32
  let c0_i32 : BitVec 32 := 0#32
  ![v0.toNat, c8_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg1
  let c1_i32 : BitVec 32 := 1#32
  let c0_i32 : BitVec 32 := 0#32
  let c0_i32_0 : BitVec 32 := 0#32
  ![c1_i32.toNat, c0_i32.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== MergeTwoRefIdeal.lean ====
abbrev S17408x2048 : Shape := ⟨2, ![17408, 2048]⟩
abbrev S2x3x2048x4096 : Shape := ⟨4, ![2, 3, 2048, 4096]⟩
abbrev S17408x2560 : Shape := ⟨2, ![17408, 2560]⟩
abbrev S2x256x12288 : Shape := ⟨3, ![2, 256, 12288]⟩
abbrev S2x12288 : Shape := ⟨2, ![2, 12288]⟩
abbrev S16384x256 : Shape := ⟨2, ![16384, 256]⟩
abbrev S1x256x12288 : Shape := ⟨3, ![1, 256, 12288]⟩
abbrev S256x12288 : Shape := ⟨2, ![256, 12288]⟩
abbrev S16384x12288 : Shape := ⟨2, ![16384, 12288]⟩
abbrev S1x12288 : Shape := ⟨2, ![1, 12288]⟩
abbrev S12288 : Shape := ⟨1, ![12288]⟩
abbrev S_ : Shape := ⟨0, ![]⟩
abbrev S16384x4096 : Shape := ⟨2, ![16384, 4096]⟩
abbrev S16384x2048 : Shape := ⟨2, ![16384, 2048]⟩
abbrev S1x1x2048x4096 : Shape := ⟨4, ![1, 1, 2048, 4096]⟩
abbrev S2048x4096 : Shape := ⟨2, ![2048, 4096]⟩

abbrev nBuf : Space → Nat
  | .hbm => 48
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S17408x2048, .bf16⟩
  | .hbm, ⟨2, _⟩ => ⟨S17408x2048, .bf16⟩
  | .hbm, ⟨3, _⟩ => ⟨S2x3x2048x4096, .f32⟩
  | .hbm, ⟨4, _⟩ => ⟨S17408x2560, .f32⟩
  | .hbm, ⟨5, _⟩ => ⟨S2x256x12288, .f32⟩
  | .hbm, ⟨6, _⟩ => ⟨S2x12288, .f32⟩
  | .hbm, ⟨7, _⟩ => ⟨S16384x256, .f32⟩
  | .hbm, ⟨8, _⟩ => ⟨S1x256x12288, .f32⟩
  | .hbm, ⟨9, _⟩ => ⟨S256x12288, .f32⟩
  | .hbm, ⟨10, _⟩ => ⟨S16384x12288, .f32⟩
  | .hbm, ⟨11, _⟩ => ⟨S1x12288, .f32⟩
  | .hbm, ⟨12, _⟩ => ⟨S12288, .f32⟩
  | .hbm, ⟨13, _⟩ => ⟨S1x12288, .f32⟩
  | .hbm, ⟨14, _⟩ => ⟨S16384x12288, .f32⟩
  | .hbm, ⟨15, _⟩ => ⟨S16384x12288, .f32⟩
  | .hbm, ⟨16, _⟩ => ⟨S16384x12288, .f32⟩
  | .hbm, ⟨17, _⟩ => ⟨S16384x12288, .f32⟩
  | .hbm, ⟨18, _⟩ => ⟨S_, .f32⟩
  | .hbm, ⟨19, _⟩ => ⟨S16384x12288, .f32⟩
  | .hbm, ⟨20, _⟩ => ⟨S16384x12288, .f32⟩
  | .hbm, ⟨21, _⟩ => ⟨S_, .f32⟩
  | .hbm, ⟨22, _⟩ => ⟨S16384x12288, .f32⟩
  | .hbm, ⟨23, _⟩ => ⟨S16384x12288, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S16384x2048, .bf16⟩
  | .hbm, ⟨28, _⟩ => ⟨S16384x2048, .f32⟩
  | .hbm, ⟨29, _⟩ => ⟨S16384x2048, .bf16⟩
  | .hbm, ⟨30, _⟩ => ⟨S16384x2048, .f32⟩
  | .hbm, ⟨31, _⟩ => ⟨S16384x2048, .bf16⟩
  | .hbm, ⟨32, _⟩ => ⟨S16384x2048, .f32⟩
  | .hbm, ⟨33, _⟩ => ⟨S1x1x2048x4096, .f32⟩
  | .hbm, ⟨34, _⟩ => ⟨S2048x4096, .f32⟩
  | .hbm, ⟨35, _⟩ => ⟨S16384x4096, .f32⟩
  | .hbm, ⟨36, _⟩ => ⟨S16384x4096, .f32⟩
  | .hbm, ⟨37, _⟩ => ⟨S1x1x2048x4096, .f32⟩
  | .hbm, ⟨38, _⟩ => ⟨S2048x4096, .f32⟩
  | .hbm, ⟨39, _⟩ => ⟨S16384x4096, .f32⟩
  | .hbm, ⟨40, _⟩ => ⟨S16384x4096, .f32⟩
  | .hbm, ⟨41, _⟩ => ⟨S16384x4096, .f32⟩
  | .hbm, ⟨42, _⟩ => ⟨S1x1x2048x4096, .f32⟩
  | .hbm, ⟨43, _⟩ => ⟨S2048x4096, .f32⟩
  | .hbm, ⟨44, _⟩ => ⟨S16384x4096, .f32⟩
  | .hbm, ⟨45, _⟩ => ⟨S16384x4096, .f32⟩
  | .hbm, ⟨46, _⟩ => ⟨S16384x4096, .f32⟩
  | .hbm, ⟨47, _⟩ => ⟨S16384x4096, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== OutTwo.lean ====
abbrev S17408x4096 : Shape := ⟨2, ![17408, 4096]⟩
abbrev S2x4096x4096 : Shape := ⟨3, ![2, 4096, 4096]⟩
abbrev S8x24576 : Shape := ⟨2, ![8, 24576]⟩
abbrev S1024x4096 : Shape := ⟨2, ![1024, 4096]⟩
abbrev S1x4096x1024 : Shape := ⟨3, ![1, 4096, 1024]⟩
abbrev S1024x1024 : Shape := ⟨2, ![1024, 1024]⟩
abbrev S8x1024 : Shape := ⟨2, ![8, 1024]⟩
abbrev S4096x1024 : Shape := ⟨2, ![4096, 1024]⟩
abbrev S1x1024 : Shape := ⟨2, ![1, 1024]⟩
abbrev S16384x4096 : Shape := ⟨2, ![16384, 4096]⟩

abbrev nBuf : Space → Nat
  | .hbm => 7
  | .vmem => 10
  | .smem => 0
  | _ => 0

abbrev bufTy : (tb : Table) → Fin (tcTables nBuf tb) → BufTy
  | .hbm, ⟨0, _⟩ => ⟨S17408x4096, .bf16⟩
  | .hbm, ⟨1, _⟩ => ⟨S2x4096x4096, .f32⟩
  | .hbm, ⟨2, _⟩ => ⟨S17408x4096, .f32⟩
  | .hbm, ⟨3, _⟩ => ⟨S8x24576, .f32⟩
  | .hbm, ⟨4, _⟩ => ⟨S2x4096x4096, .bf16⟩
  | .hbm, ⟨5, _⟩ => ⟨S17408x4096, .f32⟩
  | .hbm, ⟨6, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | .local _ .vmem, ⟨6, _⟩ => ⟨S8x1024, .f32⟩
  | .local _ .vmem, ⟨7, _⟩ => ⟨S8x1024, .f32⟩
  | .local _ .vmem, ⟨8, _⟩ => ⟨S1024x1024, .f32⟩
  | .local _ .vmem, ⟨9, _⟩ => ⟨S1024x1024, .f32⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 1], ![false, false, false]⟩

def k0_off1 (i : grid0.Coords) : Fin 2 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 1 := Scalar.cmpi .slt v0 c1_i32_0
  let c4_i32_7 : BitVec 32 := 4#32
  let c1_i32_1 : BitVec 32 := 1#32
  let v2 : BitVec 32 := Scalar.subi v0 c1_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let v3 : BitVec 32 := Scalar.divsi v2 c4_i32
  let c1_i32_6 : BitVec 32 := 1#32
  let v18 : BitVec 32 := Scalar.subi v3 c1_i32_6
  let v19 : BitVec 32 := Scalar.select v17 v18 v3
  let v20 : BitVec 32 := Scalar.select v1 c4_i32_7 v19
  let v26 : Index := Scalar.indexCast v20
  let c0_14 : Index := 0#32
  ![v26.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== OutTwoRefIdeal.lean ====
abbrev S17408x4096 : Shape := ⟨2, ![17408, 4096]⟩
abbrev S2x4096x4096 : Shape := ⟨3, ![2, 4096, 4096]⟩
abbrev S8x24576 : Shape := ⟨2, ![8, 24576]⟩
abbrev S16384x4096 : Shape := ⟨2, ![16384, 4096]⟩
abbrev S1x4096x4096 : Shape := ⟨3, ![1, 4096, 4096]⟩
abbrev S4096x4096 : Shape := ⟨2, ![4096, 4096]⟩
abbrev S4x4096x4096 : Shape := ⟨3, ![4, 4096, 4096]⟩
abbrev S4x4096 : Shape := ⟨2, ![4, 4096]⟩
abbrev S4x1x4096 : Shape := ⟨3, ![4, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S2x4096x4096, .f32⟩
  | .hbm, ⟨2, _⟩ => ⟨S17408x4096, .f32⟩
  | .hbm, ⟨3, _⟩ => ⟨S8x24576, .f32⟩
  | .hbm, ⟨4, _⟩ => ⟨S16384x4096, .bf16⟩
  | .hbm, ⟨5, _⟩ => ⟨S16384x4096, .f32⟩
  | .hbm, ⟨6, _⟩ => ⟨S1x4096x4096, .f32⟩
  | .hbm, ⟨7, _⟩ => ⟨S4096x4096, .f32⟩
  | .hbm, ⟨8, _⟩ => ⟨S16384x4096, .f32⟩
  | .hbm, ⟨9, _⟩ => ⟨S4x4096x4096, .f32⟩
  | .hbm, ⟨10, _⟩ => ⟨S16384x4096, .f32⟩
  | .hbm, ⟨11, _⟩ => ⟨S4x4096x4096, .f32⟩
  | .hbm, ⟨12, _⟩ => ⟨S4x4096, .f32⟩
  | .hbm, ⟨13, _⟩ => ⟨S4x1x4096, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S16384x4096, .f32⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Proof.Frames.lean ====
/- The claims that are not about values: every program runs and stops, its arguments kept; the ideal kernel differs from
   the kernel by the name of one constant alone. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Lib.Quiescent
public import Idealize.ShloMosaic.Adequacy
public import Idealize.ShloMosaic.Init

@[expose] public section

noncomputable section

namespace Cert.Hgrn

open Idealize.ShloMosaic Idealize.SL.Sem

/-- The shape relations of the precondition's operations. -/
instance preFacts : Cert.Pre_finite.Facts where
  slices_S17408x20480_S17408x8192_0_6144 := by decide
  bcast_S_S17408x8192 := by decide
  reducesTo_S17408x8192_S_d0_1 := by decide
  h_S_ := by decide
  bcast_S_S2048 := by decide
  reducesTo_S2048_S_d0 := by decide

/-- The kernel runs from any memory and keeps its arguments. -/
theorem frame_k : Cert.quiescent_Kernel := fun m ρ _ => Cert.Kernel.Gen.frame m ρ

/-- So does the ideal kernel. -/
theorem frame_ki : Cert.quiescent_KernelIdeal := fun m ρ _ => Cert.KernelIdeal.Gen.frame m ρ

/-- So does the ideal kernel from memories the precondition holds of. -/
theorem frame_ki_pre : Cert.quiescent_KernelIdeal_pre_finite := fun m ρ _ => Cert.KernelIdeal.Gen.frame m ρ

/-- The reference runs from any memory and keeps its arguments. -/
theorem run_ri (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2.2, sem_eq_zero_of_no_sems (by decide) r.2⟩)
    (Cert.ReferenceIdeal.Value.run (F := Ideal) m ρ)

theorem frame_ri : Cert.quiescent_ReferenceIdeal := fun m ρ _ => run_ri m ρ

theorem frame_ri_pre : Cert.quiescent_ReferenceIdeal_pre_finite := fun m ρ _ => run_ri m ρ

/-- The named constant is two's logarithm inverted, and the kernel's word is its rounding. -/
theorem preserves : Cert.preserves_Kernel_KernelIdeal :=
  IdealRules.named_const.statement Cert.KernelIdeal.κ "log2e" .f32 0x3FB8AA3B#32 (((Real.log 2)⁻¹ : ℝ) : EReal) rfl

end Cert.Hgrn

end
-- ==== Proof.Head.lean ====
/- One head of one direction of the scan kernel's body, written once as a function of the head's blocks: the gates, the
   running sums of the log decay, the scores inside each half of the tile, the scores from half to half, the two stored
   halves of the output and the stored state. A direction (`Dir`) says which token sees which. -/
module

public import proofs.«01_k».proof.Proof.Gen.KernelIdeal.Skeleton

@[expose] public section

set_option maxRecDepth 16384

noncomputable section

namespace Cert.Hgrn

open Idealize.ShloMosaic Idealize.SL.Sem Cert.KernelIdeal Cert.KernelIdeal.Gen

variable {F : FTy → Type} [FloatOps F] [Named F]

/-- What tells one direction from the other: the 0/1 matrix of the tokens a token sees, the level of each pair of
    tokens of one half, the row each level is measured from, the row the tile's last token stands at, and the row
    offsets of the half that comes first (`e`) and of the half that comes second (`l`). -/
structure Dir (F : FTy → Type) where
  keep : FVec F S256x256 .bf16
  level : IVec S128x128 32
  ref : ℕ → FVec F S256x128 .f32 → FVec F S256x128 .f32
  mid : FVec F S256x128 .f32 → FVec F S1x128 .f32
  fin : FVec F S256x128 .f32 → FVec F S1x128 .f32
  e : ℕ
  l : ℕ
  he : S256x128.Slices ![e, 0] S128x128
  hl : S256x128.Slices ![l, 0] S128x128

/-- A 0.0 everywhere. -/
abbrev zeros (S : Shape) : FVec F S .f32 := broadcast S (Scalar.ofBits .f32 0x00000000#32)

/-- A 1.0 everywhere. -/
abbrev ones (S : Shape) : FVec F S .f32 := broadcast S (Scalar.ofBits .f32 0x3F800000#32)

/-- The query: the block times its logistic function, times the scale. -/
def hq (x : FVec F S256x128 .f32) : FVec F S256x128 .f32 :=
  mulf (mulf x (divf (ones S256x128) (addf (ones S256x128) (exp (subf (zeros S256x128) x)))))
    (broadcast S256x128 (Scalar.ofBits .f32 0x3DB504F3#32))

/-- The key: one less the lower bound, times the logistic function of the negated gate. -/
def hk (b : FVec F S1x128 .f32) (u : FVec F S256x128 .f32) : FVec F S256x128 .f32 :=
  mulf (broadcastTo S256x128 (subf (ones S1x128) b) broadcasts_S1x128_S256x128)
    (divf (ones S256x128) (addf (ones S256x128) (exp (subf (zeros S256x128) (subf (zeros S256x128) u)))))

/-- The logarithm of one less the lower bound, times the logistic function of the gate. -/
def hlc (b : FVec F S1x128 .f32) (u : FVec F S256x128 .f32) : FVec F S256x128 .f32 :=
  addf (broadcastTo S256x128 (log1p (subf (zeros S1x128) b)) broadcasts_S1x128_S256x128)
    (subf (minimumf u (zeros S256x128)) (log1p (exp (subf (zeros S256x128) (absf u)))))

/-- The logarithm of the decay. -/
def hlogf (b : FVec F S1x128 .f32) (u : FVec F S256x128 .f32) : FVec F S256x128 .f32 :=
  addf (maximumf (broadcastTo S256x128 (log b) broadcasts_S1x128_S256x128) (hlc b u))
    (log1p (exp (subf (minimumf (broadcastTo S256x128 (log b) broadcasts_S1x128_S256x128) (hlc b u))
      (maximumf (broadcastTo S256x128 (log b) broadcasts_S1x128_S256x128) (hlc b u)))))

/-- The logarithm of the decay to base two. -/
def hlog2f (b : FVec F S1x128 .f32) (u : FVec F S256x128 .f32) : FVec F S256x128 .f32 :=
  mulf (hlogf b u) (broadcast S256x128 (Named.named κ "log2e" 0x3FB8AA3B#32))

/-- The 0/1 matrix times a block cut in three parts. -/
def dotExact (keep : FVec F S256x256 .bf16) (x : FVec F S256x128 .f32) : FVec F S256x128 .f32 :=
  addf (addf
    (matmul dot_S256x256_S256x128_S256x128_1_0_0_1_n_n none keep (truncf .bf16 x bitsLt_bf16_f32)
      (constant S256x128 .f32 0x00000000#32))
    (matmul dot_S256x256_S256x128_S256x128_1_0_0_1_n_n none keep
      (truncf .bf16 (subf x (extf .f32 (truncf .bf16 x bitsLt_bf16_f32) bitsLt_bf16_f32)) bitsLt_bf16_f32)
      (constant S256x128 .f32 0x00000000#32)))
    (matmul dot_S256x256_S256x128_S256x128_1_0_0_1_n_n none keep
      (truncf .bf16
        (subf (subf x (extf .f32 (truncf .bf16 x bitsLt_bf16_f32) bitsLt_bf16_f32))
          (extf .f32
            (truncf .bf16 (subf x (extf .f32 (truncf .bf16 x bitsLt_bf16_f32) bitsLt_bf16_f32)) bitsLt_bf16_f32)
            bitsLt_bf16_f32)) bitsLt_bf16_f32)
      (constant S256x128 .f32 0x00000000#32))

/-- The running sums of the log decay over the tokens each token sees. -/
def hbl (D : Dir F) (b : FVec F S1x128 .f32) (u : FVec F S256x128 .f32) : FVec F S256x128 .f32 :=
  dotExact D.keep (hlog2f b u)

/-- The queries scaled by two to the power `x`. -/
def upBy (q x : FVec F S256x128 .f32) : FVec F S256x128 .bf16 := truncf .bf16 (mulf q (exp2 x)) bitsLt_bf16_f32

/-- The keys scaled by two to the power `0 - x`. -/
def downBy (k x : FVec F S256x128 .f32) : FVec F S256x128 .bf16 :=
  truncf .bf16 (mulf k (exp2 (subf (zeros S256x128) x))) bitsLt_bf16_f32

/-- The scores of one half (its rows from `o`), filled in level by level: after `n` levels. -/
def scores (D : Dir F) (o : ℕ) (ho : S256x128.Slices ![o, 0] S128x128) (q k bl : FVec F S256x128 .f32) :
    ℕ → FVec F S128x128 .f32
  | 0 => zeros S128x128
  | n + 1 => select (cmpi .eq D.level (broadcast S128x128 (BitVec.ofNat 32 n)))
      (matmul dot_S128x128_S128x128_S128x128_1_1_0_0_n_n none
        (extractStridedSlice S128x128 ![o, 0] (upBy q (subf bl (D.ref n bl))) ho)
        (extractStridedSlice S128x128 ![o, 0] (downBy k (subf bl (D.ref n bl))) ho)
        (constant S128x128 .f32 0x00000000#32))
      (scores D o ho q k bl n)

/-- The running sums less the row between the halves. -/
def toMid (D : Dir F) (bl : FVec F S256x128 .f32) : FVec F S256x128 .f32 :=
  subf bl (broadcastTo S256x128 (D.mid bl) broadcasts_S1x128_S256x128)

/-- The scores of the second half's tokens against the first half's. -/
def cross (D : Dir F) (q k bl : FVec F S256x128 .f32) : FVec F S128x128 .f32 :=
  matmul dot_S128x128_S128x128_S128x128_1_1_0_0_n_n none
    (truncf .bf16 (mulf (extractStridedSlice S128x128 ![D.l, 0] q D.hl)
      (exp2 (extractStridedSlice S128x128 ![D.l, 0] (toMid D bl) D.hl))) bitsLt_bf16_f32)
    (truncf .bf16 (mulf (extractStridedSlice S128x128 ![D.e, 0] k D.he)
      (exp2 (subf (zeros S128x128) (extractStridedSlice S128x128 ![D.e, 0] (toMid D bl) D.he)))) bitsLt_bf16_f32)
    (constant S128x128 .f32 0x00000000#32)

/-- The carried state of a head, as a matrix. -/
def stMat (st : FVec F S1x1x128x128 .f32) : FVec F S128x128 .f32 :=
  shapeCast S128x128 st shapeCasts_S1x1x128x128_S128x128

/-- What a token takes from itself and from the state carried in. -/
def rest (q k v bl : FVec F S256x128 .f32) (st : FVec F S1x1x128x128 .f32) : FVec F S256x128 .f32 :=
  addf (mulf (broadcastTo S256x128 (shapeCast S256x1
      (multiReduction .add [1] S256 (mulf q k) 0x00000000#32 reduces_S256x128_S256 (.inl rfl) rfl) shapeCasts_S256_S256x1)
      broadcasts_S256x1_S256x128) v)
    (matmul dot_S256x128_S128x128_S256x128_1_1_0_0_n_n none (upBy q bl) (truncf .bf16 (stMat st) bitsLt_bf16_f32)
      (constant S256x128 .f32 0x00000000#32))

/-- The rows from `o` of the output without what comes from the other half. -/
def near (D : Dir F) (o : ℕ) (ho : S256x128.Slices ![o, 0] S128x128) (q k v bl : FVec F S256x128 .f32)
    (st : FVec F S1x1x128x128 .f32) : FVec F S128x128 .f32 :=
  addf (matmul dot_S128x128_S128x128_S128x128_1_0_0_1_n_n none
      (truncf .bf16 (scores D o ho q k bl 7) bitsLt_bf16_f32)
      (extractStridedSlice S128x128 ![o, 0] (truncf .bf16 v bitsLt_bf16_f32) ho)
      (constant S128x128 .f32 0x00000000#32))
    (extractStridedSlice S128x128 ![o, 0] (rest q k v bl st) ho)

/-- The first half of the head's output. -/
def outE (D : Dir F) (q : FVec F S256x128 .f32) (u v : FVec F S256x128 .f32) (b : FVec F S1x128 .f32)
    (st : FVec F S1x1x128x128 .f32) : FVec F S128x128 .f32 :=
  near D D.e D.he (hq q) (hk b u) v (hbl D b u) st

/-- The second half of the head's output. -/
def outL (D : Dir F) (q : FVec F S256x128 .f32) (u v : FVec F S256x128 .f32) (b : FVec F S1x128 .f32)
    (st : FVec F S1x1x128x128 .f32) : FVec F S128x128 .f32 :=
  addf (near D D.l D.hl (hq q) (hk b u) v (hbl D b u) st)
    (matmul dot_S128x128_S128x128_S128x128_1_0_0_1_n_n none
      (truncf .bf16 (cross D (hq q) (hk b u) (hbl D b u)) bitsLt_bf16_f32)
      (extractStridedSlice S128x128 ![D.e, 0] (truncf .bf16 v bitsLt_bf16_f32) D.he)
      (constant S128x128 .f32 0x00000000#32))

/-- The state the head leaves. -/
def stNew (D : Dir F) (u v : FVec F S256x128 .f32) (b : FVec F S1x128 .f32) (st : FVec F S1x1x128x128 .f32) :
    FVec F S1x1x128x128 .f32 :=
  shapeCast S1x1x128x128
    (addf (mulf (stMat st) (broadcastTo S128x128 (exp2 (D.fin (hbl D b u))) broadcasts_S1x128_S128x128))
      (matmul dot_S128x256_S256x128_S128x128_1_0_0_1_n_n none
        (truncf .bf16 (transpose S128x256 [1, 0] v transposes_S256x128_p1_0_S128x256) bitsLt_bf16_f32)
        (upBy (hk b u) (subf (broadcastTo S256x128 (D.fin (hbl D b u)) broadcasts_S1x128_S256x128) (hbl D b u)))
        (constant S128x128 .f32 0x00000000#32)))
    shapeCasts_S128x128_S1x1x128x128

/-! ## The two directions -/

/-- The row number modulo `k`, as the program computes it. -/
def rowMod (k : BitVec 32) : IVec S256x1 32 :=
  select (andi (xori (cmpi .slt (remsi (iota .tc S256x1 32 [0] iota_S256x1_d0_w32)
            (broadcast S256x1 (Scalar.select (Scalar.cmpi .eq k 0#32) 1#32 k))) (broadcast S256x1 0#32))
        (broadcastTo S256x1 (broadcast S256x1 (Scalar.cmpi .slt (Scalar.select (Scalar.cmpi .eq k 0#32) 1#32 k) 0#32))
          broadcasts_S256x1_S256x1))
      (cmpi .ne (remsi (iota .tc S256x1 32 [0] iota_S256x1_d0_w32)
        (broadcast S256x1 (Scalar.select (Scalar.cmpi .eq k 0#32) 1#32 k))) (broadcast S256x1 0#32)))
    (addi (remsi (iota .tc S256x1 32 [0] iota_S256x1_d0_w32)
        (broadcast S256x1 (Scalar.select (Scalar.cmpi .eq k 0#32) 1#32 k)))
      (broadcast S256x1 (Scalar.select (Scalar.cmpi .eq k 0#32) 1#32 k)))
    (remsi (iota .tc S256x1 32 [0] iota_S256x1_d0_w32)
      (broadcast S256x1 (Scalar.select (Scalar.cmpi .eq k 0#32) 1#32 k)))

/-- `r`, but where the row number modulo `k` is `a` the block rotated by `s` rows. -/
def rotAt (k a s : BitVec 32) (bl r : FVec F S256x128 .f32) : FVec F S256x128 .f32 :=
  select (broadcastTo S256x128 (shapeCast S256x1 (cmpi .eq (rowMod k) (broadcast S256x1 a)) shapeCasts_S256x1_S256x1)
    broadcasts_S256x1_S256x128) (dynamicRotate 0 s none bl rotates_S256x128_d0) r

/-- Row `3 + s` of every eight. -/
def ref8 (s : ℕ) (h : S32x8x128.Slices ![0, s, 0] S32x1x128) (bl : FVec F S256x128 .f32) : FVec F S256x128 .f32 :=
  shapeCast S256x128 (broadcastTo S32x8x128 (shapeCast S32x1x128 (extractStridedSlice S32x1x128 ![0, s, 0]
    (shapeCast S32x8x128 bl shapeCasts_S256x128_S32x8x128) h) shapeCasts_S32x1x128_S32x1x128)
    broadcasts_S32x1x128_S32x8x128) shapeCasts_S32x8x128_S256x128

/-- Row `s` of every sixteen. -/
def ref16 (s : ℕ) (h : S16x16x128.Slices ![0, s, 0] S16x1x128) (bl : FVec F S256x128 .f32) : FVec F S256x128 .f32 :=
  shapeCast S256x128 (broadcastTo S16x16x128 (shapeCast S16x1x128 (extractStridedSlice S16x1x128 ![0, s, 0]
    (shapeCast S16x16x128 bl shapeCasts_S256x128_S16x16x128) h) shapeCasts_S16x1x128_S16x1x128)
    broadcasts_S16x1x128_S16x16x128) shapeCasts_S16x16x128_S256x128

/-- Row `s` of every thirty-two. -/
def ref32 (s : ℕ) (h : S8x32x128.Slices ![0, s, 0] S8x1x128) (bl : FVec F S256x128 .f32) : FVec F S256x128 .f32 :=
  shapeCast S256x128 (broadcastTo S8x32x128 (shapeCast S8x1x128 (extractStridedSlice S8x1x128 ![0, s, 0]
    (shapeCast S8x32x128 bl shapeCasts_S256x128_S8x32x128) h) shapeCasts_S8x1x128_S8x1x128)
    broadcasts_S8x1x128_S8x32x128) shapeCasts_S8x32x128_S256x128

/-- Row `s` of every sixty-four. -/
def ref64 (s : ℕ) (h : S4x64x128.Slices ![0, s, 0] S4x1x128) (bl : FVec F S256x128 .f32) : FVec F S256x128 .f32 :=
  shapeCast S256x128 (broadcastTo S4x64x128 (shapeCast S4x1x128 (extractStridedSlice S4x1x128 ![0, s, 0]
    (shapeCast S4x64x128 bl shapeCasts_S256x128_S4x64x128) h) shapeCasts_S4x1x128_S4x1x128)
    broadcasts_S4x1x128_S4x64x128) shapeCasts_S4x64x128_S256x128

/-- Row `s` of every hundred and twenty-eight. -/
def ref128 (s : ℕ) (h : S2x128x128.Slices ![0, s, 0] S2x1x128) (bl : FVec F S256x128 .f32) : FVec F S256x128 .f32 :=
  shapeCast S256x128 (broadcastTo S2x128x128 (shapeCast S2x1x128 (extractStridedSlice S2x1x128 ![0, s, 0]
    (shapeCast S2x128x128 bl shapeCasts_S256x128_S2x128x128) h) shapeCasts_S2x1x128_S2x1x128)
    broadcasts_S2x1x128_S2x128x128) shapeCasts_S2x128x128_S256x128

/-- The rows the forward direction's levels are measured from. -/
def refF : ℕ → FVec F S256x128 .f32 → FVec F S256x128 .f32
  | 0 => fun bl => rotAt 2#32 1#32 1#32 bl bl
  | 1 => fun bl => rotAt 4#32 3#32 2#32 bl (rotAt 4#32 2#32 1#32 bl (rotAt 4#32 0#32 255#32 bl bl))
  | 2 => ref8 3 slices_S32x8x128_o0_3_0_S32x1x128
  | 3 => ref16 7 slices_S16x16x128_o0_7_0_S16x1x128
  | 4 => ref32 15 slices_S8x32x128_o0_15_0_S8x1x128
  | 5 => ref64 31 slices_S4x64x128_o0_31_0_S4x1x128
  | _ => ref128 63 slices_S2x128x128_o0_63_0_S2x1x128

/-- The rows the backward direction's levels are measured from. -/
def refB : ℕ → FVec F S256x128 .f32 → FVec F S256x128 .f32
  | 0 => fun bl => rotAt 2#32 0#32 255#32 bl bl
  | 1 => fun bl => rotAt 4#32 3#32 1#32 bl (rotAt 4#32 1#32 255#32 bl (rotAt 4#32 0#32 254#32 bl bl))
  | 2 => ref8 4 slices_S32x8x128_o0_4_0_S32x1x128
  | 3 => ref16 8 slices_S16x16x128_o0_8_0_S16x1x128
  | 4 => ref32 16 slices_S8x32x128_o0_16_0_S8x1x128
  | 5 => ref64 32 slices_S4x64x128_o0_32_0_S4x1x128
  | _ => ref128 64 slices_S2x128x128_o0_64_0_S2x1x128

/-- The 0/1 matrix of a comparison of the column with the row. -/
def keepM (p : CmpIPredicate) : FVec F S256x256 .bf16 :=
  truncf .bf16 (select (cmpi p (iota .tc S256x256 32 [1] iota_S256x256_d1_w32) (iota .tc S256x256 32 [0] iota_S256x256_d0_w32))
    (ones S256x256) (zeros S256x256)) bitsLt_bf16_f32

/-- The number of the highest bit in which row and column differ, where the column compares so to the row; else -1. -/
def levelM (p : CmpIPredicate) : IVec S128x128 32 :=
  select (cmpi p (iota .tc S128x128 32 [1] iota_S128x128_d1_w32) (iota .tc S128x128 32 [0] iota_S128x128_d0_w32))
    (subi (broadcast S128x128 31#32) (ctlz (xori (iota .tc S128x128 32 [0] iota_S128x128_d0_w32)
      (iota .tc S128x128 32 [1] iota_S128x128_d1_w32))))
    (broadcast S128x128 4294967295#32)

/-- The forward direction: a token sees the tokens before it. -/
def fwd : Dir F where
  keep := keepM .sle
  level := levelM .slt
  ref := refF
  mid := fun bl => extractStridedSlice S1x128 ![127, 0] bl slices_S256x128_o127_0_S1x128
  fin := fun bl => extractStridedSlice S1x128 ![255, 0] bl slices_S256x128_o255_0_S1x128
  e := 0
  l := 128
  he := slices_S256x128_o0_0_S128x128
  hl := slices_S256x128_o128_0_S128x128

/-- The backward direction: a token sees the tokens after it. -/
def bwd : Dir F where
  keep := keepM .sge
  level := levelM .sgt
  ref := refB
  mid := fun bl => extractStridedSlice S1x128 ![128, 0] bl slices_S256x128_o128_0_S1x128
  fin := fun bl => extractStridedSlice S1x128 ![0, 0] bl slices_S256x128_o0_0_S1x128
  e := 128
  l := 0
  he := slices_S256x128_o128_0_S128x128
  hl := slices_S256x128_o0_0_S128x128

end Cert.Hgrn

end
-- ==== Proof.Scalar.lean ====
/-
  The scalar values: what the gates' expressions are at real arguments.
-/
module
public import proofs.«01_k».proof.Proof.Head
public import Idealize.ShloMosaic.Lib.Pointwise

@[expose] public section
set_option maxRecDepth 16384
noncomputable section
namespace Cert.Hgrn
open Idealize.ShloMosaic Cert.KernelIdeal Cert.KernelIdeal.Gen

/-- A finite sum of reals, read as an extended real, is the sum of the extended reals. -/
theorem coe_fsum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, read as an extended real. -/
theorem coe_max' (x y : ℝ) : ((max x y : ℝ) : EReal) = max (x : EReal) (y : EReal) :=
  EReal.coe_strictMono.monotone.map_max

/-- The smaller of two reals, read as an extended real. -/
theorem coe_min' (x y : ℝ) : ((min x y : ℝ) : EReal) = min (x : EReal) (y : EReal) :=
  EReal.coe_strictMono.monotone.map_min

/-- The logistic function. -/
def sg (x : ℝ) : ℝ := 1 / (1 + Real.exp (0 - x))

/-- The scale of the queries. -/
def ks : ℝ := EReal.toReal (Ideal.ofBits FTy.f32 1035273459#32)

/-- The scale is a real. -/
theorem ks_coe : Ideal.ofBits FTy.f32 1035273459#32 = ((ks : ℝ) : EReal) := by
  have h : ∃ r : ℝ, Ideal.ofBits FTy.f32 1035273459#32 = (r : EReal) := by
    show ∃ r : ℝ, Ideal.ieee 8 23 (1035273459#32) = (r : EReal)
    unfold Ideal.ieee
    dsimp only
    rw [if_neg (by decide : ¬ (BitVec.extractLsb' 23 8 (1035273459#32)).toNat = 2 ^ 8 - 1),
      if_neg (by decide : ¬ (BitVec.extractLsb' 23 8 (1035273459#32)).toNat = 0)]
    exact ⟨_, rfl⟩
  obtain ⟨r, hr⟩ := h
  rw [ks, hr, EReal.toReal_coe]

/-- The exponential of a real. -/
theorem exp_coe (x : ℝ) : Ideal.exp (x : EReal) = ((Real.exp x : ℝ) : EReal) := rfl

/-- The quotient of reals off zero. -/
theorem div_coe (x y : ℝ) (h : y ≠ 0) : Ideal.div (x : EReal) (y : EReal) = ((x / y : ℝ) : EReal) := by
  rw [Ideal.div, if_neg (by exact_mod_cast h), div_eq_mul_inv, EReal.coe_mul, EReal.coe_inv]

/-- Zero less a real. -/
theorem zero_sub_coe (x : ℝ) : (0 : EReal) - (x : EReal) = ((0 - x : ℝ) : EReal) := by
  rw [EReal.coe_sub, EReal.coe_zero]

/-- The logistic expression at a real. -/
theorem sg_coe (x : ℝ) : Ideal.div 1 (1 + Ideal.exp (0 - (x : EReal))) = ((sg x : ℝ) : EReal) := by
  have h : (1 : ℝ) + Real.exp (0 - x) ≠ 0 := by positivity
  rw [zero_sub_coe, exp_coe, ← EReal.coe_one, ← EReal.coe_add, div_coe _ _ h]
  rfl

/-- `log (1 + e^x)` at a real is a real. -/
theorem log1p_exp_coe (x : ℝ) : Ideal.log1p (Ideal.exp (x : EReal)) = ((Real.log (1 + Real.exp x) : ℝ) : EReal) := by
  have h : ¬ (1 + Real.exp x ≤ 0) := not_le.mpr (by positivity)
  rw [exp_coe]
  show Ideal.log (1 + ((Real.exp x : ℝ) : EReal)) = _
  rw [← EReal.coe_one, ← EReal.coe_add]
  show (if 1 + Real.exp x ≤ 0 then (⊥ : EReal) else _) = _
  rw [if_neg h]

/-- The logarithm of the logistic function, as the program takes it. -/
def lsig (u : ℝ) : ℝ := min u 0 - Real.log (1 + Real.exp (0 - max u (0 - u)))

/-- The absolute value of a real. -/
theorem abs_coe (u : ℝ) : (FloatOps.absf (F := Ideal) (φ := .f32) (u : EReal) : EReal) = ((max u (0 - u) : ℝ) : EReal) := by
  show max (u : EReal) (-(u : EReal)) = _
  rw [← EReal.coe_neg, coe_max', zero_sub]

/-- The logarithm of the logistic function at a real. -/
theorem lsig_coe (u : ℝ) : min (u : EReal) 0 - Ideal.log1p (Ideal.exp (0 - FloatOps.absf (F := Ideal) (φ := .f32) (u : EReal)))
    = ((lsig u : ℝ) : EReal) := by
  rw [abs_coe, zero_sub_coe, log1p_exp_coe, ← EReal.coe_zero, ← coe_min', ← EReal.coe_sub]
  rfl

/-- The sum of two exponentials in the logarithm: `log (e^a + e^c)`, as the program takes it. -/
def lae (a c : EReal) : EReal := max a c + Ideal.log1p (Ideal.exp (min a c - max a c))

/-- It is a real as soon as one is a real and the other no more than a real. -/
theorem lae_real (a c : EReal) (ha : a = ⊥ ∨ ∃ r : ℝ, a = r) (hc : c = ⊥ ∨ ∃ r : ℝ, c = r) (h : ¬ (a = ⊥ ∧ c = ⊥)) :
    ∃ r : ℝ, lae a c = r := by
  have e0 : Ideal.log1p (Ideal.exp ⊥) = ((Real.log 1 : ℝ) : EReal) := by
    show Ideal.log (1 + 0) = _
    rw [add_zero, ← EReal.coe_one]
    show (if (1 : ℝ) ≤ 0 then (⊥ : EReal) else _) = _
    rw [if_neg (by norm_num)]
  rcases ha with ha | ⟨x, ha⟩ <;> rcases hc with hc | ⟨y, hc⟩
  · exact absurd ⟨ha, hc⟩ h
  · refine ⟨y + Real.log 1, ?_⟩
    rw [lae, ha, hc, max_eq_right bot_le, min_eq_left bot_le, EReal.bot_sub, e0, EReal.coe_add]
  · refine ⟨x + Real.log 1, ?_⟩
    rw [lae, ha, hc, max_eq_left bot_le, min_eq_right bot_le, EReal.bot_sub, e0, EReal.coe_add]
  · refine ⟨max x y + Real.log (1 + Real.exp (min x y - max x y)), ?_⟩
    rw [lae, ha, hc, ← coe_max', ← coe_min', ← EReal.coe_sub, log1p_exp_coe, EReal.coe_add]

/-- The logarithm of a real is a real, or the bottom. -/
theorem log_cases (b : ℝ) : Ideal.log (b : EReal) = ⊥ ∧ b ≤ 0 ∨ Ideal.log (b : EReal) = ((Real.log b : ℝ) : EReal) := by
  by_cases h : b ≤ 0
  · left; exact ⟨if_pos h, h⟩
  · right; exact if_neg h

/-- The logarithm of the decay, as the program takes it. -/
def logfE (b u : EReal) : EReal :=
  lae (Ideal.log b) (Ideal.log1p (0 - b) + (min u 0 - Ideal.log1p (Ideal.exp (0 - FloatOps.absf (F := Ideal) (φ := .f32) u))))

/-- The two logarithms in the decay are reals or the bottom, and not both the bottom. -/
theorem logf_parts (b u : ℝ) :
    (Ideal.log (b : EReal) = ⊥ ∨ ∃ r : ℝ, Ideal.log (b : EReal) = r) ∧
    (Ideal.log1p (0 - (b : EReal)) + ((lsig u : ℝ) : EReal) = ⊥ ∨
      ∃ r : ℝ, Ideal.log1p (0 - (b : EReal)) + ((lsig u : ℝ) : EReal) = r) ∧
    ¬ (Ideal.log (b : EReal) = ⊥ ∧ Ideal.log1p (0 - (b : EReal)) + ((lsig u : ℝ) : EReal) = ⊥) := by
  have e : Ideal.log1p (0 - (b : EReal)) = Ideal.log ((1 + (0 - b) : ℝ) : EReal) := by
    show Ideal.log (1 + (0 - (b : EReal))) = _
    rw [zero_sub_coe, ← EReal.coe_one, ← EReal.coe_add]
  rw [e]
  rcases log_cases b with ⟨h1, hb⟩ | h1 <;> rcases log_cases (1 + (0 - b)) with ⟨h2, hb2⟩ | h2
  · exact absurd hb2 (by linarith)
  · rw [h1, h2]
    exact ⟨.inl rfl, .inr ⟨_, (EReal.coe_add _ _).symm⟩, fun h => by rw [← EReal.coe_add] at h; exact EReal.coe_ne_bot _ h.2⟩
  · rw [h1, h2]
    exact ⟨.inr ⟨_, rfl⟩, .inl (EReal.bot_add _), fun h => EReal.coe_ne_bot _ h.1⟩
  · rw [h1, h2]
    exact ⟨.inr ⟨_, rfl⟩, .inr ⟨_, (EReal.coe_add _ _).symm⟩, fun h => EReal.coe_ne_bot _ h.1⟩

/-- The logarithm of the decay, as a real. -/
def rl (b u : ℝ) : ℝ := EReal.toReal (logfE b u)

/-- The logarithm of the decay at reals is a real. -/
theorem logfE_coe (b u : ℝ) : logfE (b : EReal) (u : EReal) = ((rl b u : ℝ) : EReal) := by
  have h : ∃ r : ℝ, logfE (b : EReal) (u : EReal) = r := by
    rw [logfE, lsig_coe]
    obtain ⟨h1, h2, h3⟩ := logf_parts b u
    exact lae_real _ _ h1 h2 h3
  obtain ⟨r, hr⟩ := h
  rw [rl, hr, EReal.toReal_coe]

/-- The query of a projection, as a real. -/
def rq (x : ℝ) : ℝ := x * sg x * ks

/-- The key of a gate, as a real. -/
def rk (b u : ℝ) : ℝ := (1 - b) * sg (0 - u)

/-- The inverse of the natural logarithm of two. -/
def c2 : ℝ := (Real.log 2)⁻¹

/-- The named constant of the kernel is the inverse of the natural logarithm of two. -/
theorem named_c2 : Named.named (F := Ideal) κ "log2e" (φ := .f32) 1069066811#32 = ((c2 : ℝ) : EReal) :=
  IdealRules.named_const.ideal_named_scalar _ _ _ _ rfl

/-- Two to the power `y / log 2` is `e^y`. -/
theorem exp2_coe (y : ℝ) : Ideal.exp2 ((y * c2 : ℝ) : EReal) = ((Real.exp y : ℝ) : EReal) := by
  have h : Real.log 2 ≠ 0 := (Real.log_pos (by norm_num)).ne'
  show ((Real.rpow 2 (y * c2) : ℝ) : EReal) = _
  congr 1
  show (2 : ℝ) ^ (y * c2) = _
  rw [Real.rpow_def_of_pos (by norm_num), c2]
  congr 1
  field_simp

end Cert.Hgrn

end
-- ==== Proof.Direction.lean ====
/-
  The index side of the two directions: which tokens a row sees, at which level two rows meet, and the row each level is
  measured from.
-/
module
public import proofs.«01_k».proof.Proof.Head
public import Idealize.ShloMosaic.Lib.Pointwise

@[expose] public section
set_option maxRecDepth 16384
noncomputable section
namespace Cert.Hgrn
open Idealize.ShloMosaic Cert.KernelIdeal Cert.KernelIdeal.Gen

/-- Row `i` of the half that starts at row `o`. -/
def ps (o : ℕ) (h : o = 0 ∨ o = 128) (i : Fin 128) : Fin 256 := ⟨o + i.val, by omega⟩

/-- What the value of a direction needs to know of it: `σ` numbers the rows in the order they are seen. -/
structure DirOk (D : Dir Ideal) (σ : Fin 256 ≃ Fin 256) : Prop where
  /-- The 0/1 matrix keeps the rows seen no later. -/
  keep : ∀ i j, D.keep (ix2 i j) = if (σ j).val ≤ (σ i).val then (1 : EReal) else 0
  /-- Every level is measured from one row per group of rows. -/
  ref : ∀ n : ℕ, n < 7 → ∃ g : ℕ → Fin 256, ∀ x i d, D.ref n x (ix2 i d) = x (ix2 (g (i.val / 2 ^ (n + 1))) d)
  /-- Rows that meet at a level lie in one group of it, in order. -/
  meet : ∀ o h n, n < 7 → ∀ i j, D.level (ix2 i j) = BitVec.ofNat 32 n →
    (ps o h i).val / 2 ^ (n + 1) = (ps o h j).val / 2 ^ (n + 1) ∧ (σ (ps o h j)).val < (σ (ps o h i)).val
  /-- Rows in order meet at a level. -/
  meets : ∀ o h i j, (σ (ps o h j)).val < (σ (ps o h i)).val → ∃ n < 7, D.level (ix2 i j) = BitVec.ofNat 32 n
  /-- The row between the halves is a row. -/
  mid : ∃ g : Fin 256, ∀ x d, D.mid x (ix2 0 d) = x (ix2 g d)
  /-- The last row is the last in order. -/
  fin : ∃ g : Fin 256, (σ g).val + 1 = 256 ∧ ∀ x d, D.fin x (ix2 0 d) = x (ix2 g d)
  /-- The first half starts at row 0 or 128. -/
  e0 : D.e = 0 ∨ D.e = 128
  /-- The second half starts at row 0 or 128. -/
  l0 : D.l = 0 ∨ D.l = 128
  /-- The first half is seen before the second. -/
  halves : ∀ i j, (σ (ps D.e e0 j)).val < (σ (ps D.l l0 i)).val

/-- Equality of words, as the comparison's bit. -/
theorem cmpi_eq {w : ℕ} (a b : BitVec w) : IntOp.cmpi .eq a b = if a = b then 1#1 else 0#1 := by
  by_cases h : a = b
  · subst h; simp [IntOp.cmpi]
  · have : (a == b) = false := beq_eq_false_iff_ne.mpr h
    simp [IntOp.cmpi, h, this]

/-- A small number's word, read with sign. -/
theorem toInt_small (n : ℕ) (h : n < 256) : (BitVec.ofNat 32 n).toInt = n := by
  rw [BitVec.toInt_eq_toNat_cond, BitVec.toNat_ofNat]
  have : n % 2 ^ 32 = n := Nat.mod_eq_of_lt (by omega)
  rw [this, if_pos (by omega)]

theorem cmpi_sle (a b : ℕ) (ha : a < 256) (hb : b < 256) :
    IntOp.cmpi .sle (BitVec.ofNat 32 a) (BitVec.ofNat 32 b) = if a ≤ b then 1#1 else 0#1 := by
  by_cases h : a ≤ b <;> simp [IntOp.cmpi, BitVec.sle, toInt_small a ha, toInt_small b hb, h]

theorem cmpi_sge (a b : ℕ) (ha : a < 256) (hb : b < 256) :
    IntOp.cmpi .sge (BitVec.ofNat 32 a) (BitVec.ofNat 32 b) = if b ≤ a then 1#1 else 0#1 := by
  by_cases h : b ≤ a <;> simp [IntOp.cmpi, BitVec.sle, toInt_small a ha, toInt_small b hb, h]

theorem cmpi_slt (a b : ℕ) (ha : a < 256) (hb : b < 256) :
    IntOp.cmpi .slt (BitVec.ofNat 32 a) (BitVec.ofNat 32 b) = if a < b then 1#1 else 0#1 := by
  by_cases h : a < b <;> simp [IntOp.cmpi, BitVec.slt, toInt_small a ha, toInt_small b hb, h]

theorem cmpi_sgt (a b : ℕ) (ha : a < 256) (hb : b < 256) :
    IntOp.cmpi .sgt (BitVec.ofNat 32 a) (BitVec.ofNat 32 b) = if b < a then 1#1 else 0#1 := by
  by_cases h : b < a <;> simp [IntOp.cmpi, BitVec.slt, toInt_small a ha, toInt_small b hb, h]

/-- A choice by a proposition's bit. -/
theorem select_if {α : Type} (p : Prop) [Decidable p] (x y : α) :
    Scalar.select (if p then 1#1 else 0#1) x y = if p then x else y := by
  by_cases h : p <;> simp [Scalar.select, h]

/-- The 0/1 matrix of a comparison, at a row and a column. -/
theorem keepM_apply (p : CmpIPredicate) (i j : Fin 256) :
    keepM (F := Ideal) p (ix2 i j) = Scalar.select (IntOp.cmpi p (BitVec.ofNat 32 j.val) (BitVec.ofNat 32 i.val)) (1 : EReal) 0 := by
  pointwise [keepM]

/-- The level of two rows. -/
theorem levelM_apply (p : CmpIPredicate) (i j : Fin 128) :
    levelM p (ix2 i j) = Scalar.select (IntOp.cmpi p (BitVec.ofNat 32 j.val) (BitVec.ofNat 32 i.val))
      (IntOp.subi (31#32) (IntOp.ctlz (IntOp.xori (BitVec.ofNat 32 i.val) (BitVec.ofNat 32 j.val)))) 4294967295#32 := by
  pointwise [levelM]

/-- The number of the highest bit set: it is below seven, and the number is below the next power of two. -/
theorem top_bit : ∀ x : Fin 128, x.val ≠ 0 → ∃ n : Fin 7,
    IntOp.subi (31#32) (IntOp.ctlz (BitVec.ofNat 32 x.val)) = BitVec.ofNat 32 n.val ∧ x.val / 2 ^ (n.val + 1) = 0 := by
  decide +kernel

/-- Numbers whose exclusive or is zero are equal. -/
theorem xor_zero {a b : ℕ} (h : a ^^^ b = 0) : a = b := by
  have : a ^^^ b ^^^ b = b := by rw [h, Nat.zero_xor]
  rwa [Nat.xor_assoc, Nat.xor_self, Nat.xor_zero] at this

/-- Different numbers meet at a level, and lie in one group of it. -/
theorem meet_level (i j : Fin 128) (h : i.val ≠ j.val) : ∃ n < 7,
    IntOp.subi (31#32) (IntOp.ctlz (IntOp.xori (BitVec.ofNat 32 i.val) (BitVec.ofNat 32 j.val))) = BitVec.ofNat 32 n
      ∧ i.val / 2 ^ (n + 1) = j.val / 2 ^ (n + 1) := by
  have hx : i.val ^^^ j.val < 128 := Nat.xor_lt_two_pow (n := 7) i.isLt j.isLt
  have hne : i.val ^^^ j.val ≠ 0 := fun e => h (xor_zero e)
  obtain ⟨n, h1, h2⟩ := top_bit ⟨_, hx⟩ hne
  refine ⟨n.val, n.isLt, ?_, ?_⟩
  · rw [← h1]
    congr 2
    apply BitVec.eq_of_toNat_eq
    have hi : i.val % 2 ^ 32 = i.val := Nat.mod_eq_of_lt (by omega)
    have hj : j.val % 2 ^ 32 = j.val := Nat.mod_eq_of_lt (by omega)
    have hij : (i.val ^^^ j.val) % 2 ^ 32 = i.val ^^^ j.val := Nat.mod_eq_of_lt (by omega)
    show (BitVec.ofNat 32 i.val ^^^ BitVec.ofNat 32 j.val).toNat = _
    rw [BitVec.toNat_xor, BitVec.toNat_ofNat, BitVec.toNat_ofNat, BitVec.toNat_ofNat, hi, hj, hij]
  · have h2' : (i.val ^^^ j.val) / 2 ^ (n.val + 1) = 0 := h2
    rw [← Nat.shiftRight_eq_div_pow, Nat.shiftRight_xor_distrib] at h2'
    rw [← Nat.shiftRight_eq_div_pow, ← Nat.shiftRight_eq_div_pow]
    exact xor_zero h2'

/-- Numbers below seven have different words, none of them the word of -1. -/
theorem small_words : (∀ n : Fin 7, BitVec.ofNat 32 n.val ≠ 4294967295#32) ∧
    ∀ n m : Fin 7, BitVec.ofNat 32 n.val = BitVec.ofNat 32 m.val → n.val = m.val := by decide

/-- Rows of one group of the half lie in one group of the block. -/
theorem half_group (o : ℕ) (h : o = 0 ∨ o = 128) (n : ℕ) (hn : n < 7) (i j : Fin 128)
    (e : i.val / 2 ^ (n + 1) = j.val / 2 ^ (n + 1)) : (ps o h i).val / 2 ^ (n + 1) = (ps o h j).val / 2 ^ (n + 1) := by
  have hd : ∃ c, o = c * 2 ^ (n + 1) := by
    rcases h with h | h
    · exact ⟨0, by simp [h]⟩
    · refine ⟨2 ^ (6 - n), ?_⟩
      rw [h, ← pow_add, show 6 - n + (n + 1) = 7 by omega]
      rfl
  obtain ⟨c, hc⟩ := hd
  show (o + i.val) / _ = (o + j.val) / _
  rw [hc, Nat.add_comm, Nat.add_mul_div_right _ _ (by positivity), Nat.add_comm _ j.val,
    Nat.add_mul_div_right _ _ (by positivity), e]

/-- A level matrix of an order: rows that meet. -/
theorem levelM_meet (p : CmpIPredicate) (P : ℕ → ℕ → Prop) [DecidableRel P]
    (hp : ∀ a b, a < 256 → b < 256 → IntOp.cmpi p (BitVec.ofNat 32 a) (BitVec.ofNat 32 b) = if P a b then 1#1 else 0#1)
    (hP : ∀ a, ¬ P a a) (i j : Fin 128) :
    (∀ n < 7, levelM p (ix2 i j) = BitVec.ofNat 32 n → P j.val i.val ∧ i.val / 2 ^ (n + 1) = j.val / 2 ^ (n + 1)) ∧
    (P j.val i.val → ∃ n < 7, levelM p (ix2 i j) = BitVec.ofNat 32 n) := by
  rw [levelM_apply, hp _ _ (by omega) (by omega), select_if]
  by_cases h : P j.val i.val
  · rw [if_pos h]
    have hne : i.val ≠ j.val := fun e => hP _ (e ▸ h)
    obtain ⟨m, hm, h1, h2⟩ := meet_level i j hne
    refine ⟨fun n hn e => ⟨h, ?_⟩, fun _ => ⟨m, hm, h1⟩⟩
    have : m = n := small_words.2 ⟨m, hm⟩ ⟨n, hn⟩ (h1.symm.trans e)
    rw [← this]; exact h2
  · rw [if_neg h]
    exact ⟨fun n hn e => absurd e.symm (small_words.1 ⟨n, hn⟩), fun hh => absurd hh h⟩

/-- The row number modulo two. -/
theorem rowMod2 (i : Fin 256) : rowMod 2#32 (ix2 i 0) = BitVec.ofNat 32 (i.val % 2) := by
  pointwise [rowMod]
  revert i
  decide +kernel

/-- The row number modulo four. -/
theorem rowMod4 (i : Fin 256) : rowMod 4#32 (ix2 i 0) = BitVec.ofNat 32 (i.val % 4) := by
  pointwise [rowMod]
  revert i
  decide +kernel

/-- Whether a row number modulo two is a given one. -/
theorem mod2_is (i : Fin 256) (a : ℕ) (h : a < 4) :
    IntOp.cmpi .eq (BitVec.ofNat 32 (i.val % 2)) (BitVec.ofNat 32 a) = if i.val % 2 = a then 1#1 else 0#1 := by
  rw [cmpi_eq]
  congr 1
  apply propext
  rw [← BitVec.toNat_inj, BitVec.toNat_ofNat, BitVec.toNat_ofNat]
  omega

/-- Whether a row number modulo four is a given one. -/
theorem mod4_is (i : Fin 256) (a : ℕ) (h : a < 4) :
    IntOp.cmpi .eq (BitVec.ofNat 32 (i.val % 4)) (BitVec.ofNat 32 a) = if i.val % 4 = a then 1#1 else 0#1 := by
  rw [cmpi_eq]
  congr 1
  apply propext
  rw [← BitVec.toNat_inj, BitVec.toNat_ofNat, BitVec.toNat_ofNat]
  omega

/-- The row a level of the forward direction is measured from. -/
def gF (n : ℕ) (a : ℕ) : Fin 256 := ⟨(a * 2 ^ (n + 1) + (2 ^ n - 1)) % 256, Nat.mod_lt _ (by omega)⟩

/-- The row a level of the backward direction is measured from. -/
def gB (n : ℕ) (a : ℕ) : Fin 256 := ⟨(a * 2 ^ (n + 1) + 2 ^ n) % 256, Nat.mod_lt _ (by omega)⟩

/-- The forward direction's levels read that row. -/
theorem refF_apply : ∀ n < 7, ∀ (x : FVec Ideal S256x128 .f32) (i : Fin 256) (d : Fin 128),
    refF n x (ix2 i d) = x (ix2 (gF n (i.val / 2 ^ (n + 1))) d) := by
  intro n hn x i d
  interval_cases n
  · pointwise [refF, rotAt]
    rw [rowMod2, mod2_is i 1 (by omega), select_if]
    split <;> · congr 2; apply Fin.ext; show _ = (i.val / 2 ^ (0 + 1) * 2 ^ (0 + 1) + (2 ^ 0 - 1)) % 256; (try simp only []); omega
  · pointwise [refF, rotAt]
    rw [rowMod4, mod4_is i 3 (by omega), mod4_is i 2 (by omega), mod4_is i 0 (by omega), select_if, select_if, select_if]
    split_ifs <;> · congr 2; apply Fin.ext; show _ = (i.val / 2 ^ (1 + 1) * 2 ^ (1 + 1) + (2 ^ 1 - 1)) % 256; (try simp only []); omega
  · pointwise [refF, ref8]
    congr 2; apply Fin.ext; show _ = (i.val / 2 ^ (2 + 1) * 2 ^ (2 + 1) + (2 ^ 2 - 1)) % 256; (try simp only []); omega
  · pointwise [refF, ref16]
    congr 2; apply Fin.ext; show _ = (i.val / 2 ^ (3 + 1) * 2 ^ (3 + 1) + (2 ^ 3 - 1)) % 256; (try simp only []); omega
  · pointwise [refF, ref32]
    congr 2; apply Fin.ext; show _ = (i.val / 2 ^ (4 + 1) * 2 ^ (4 + 1) + (2 ^ 4 - 1)) % 256; (try simp only []); omega
  · pointwise [refF, ref64]
    congr 2; apply Fin.ext; show _ = (i.val / 2 ^ (5 + 1) * 2 ^ (5 + 1) + (2 ^ 5 - 1)) % 256; (try simp only []); omega
  · pointwise [refF, ref128]
    congr 2; apply Fin.ext; show _ = (i.val / 2 ^ (6 + 1) * 2 ^ (6 + 1) + (2 ^ 6 - 1)) % 256; (try simp only []); omega

/-- The backward direction's levels read that row. -/
theorem refB_apply : ∀ n < 7, ∀ (x : FVec Ideal S256x128 .f32) (i : Fin 256) (d : Fin 128),
    refB n x (ix2 i d) = x (ix2 (gB n (i.val / 2 ^ (n + 1))) d) := by
  intro n hn x i d
  interval_cases n
  · pointwise [refB, rotAt]
    rw [rowMod2, mod2_is i 0 (by omega), select_if]
    split <;> · congr 2; apply Fin.ext; show _ = (i.val / 2 ^ (0 + 1) * 2 ^ (0 + 1) + 2 ^ 0) % 256; (try simp only []); omega
  · pointwise [refB, rotAt]
    rw [rowMod4, mod4_is i 3 (by omega), mod4_is i 1 (by omega), mod4_is i 0 (by omega), select_if, select_if, select_if]
    split_ifs <;> · congr 2; apply Fin.ext; show _ = (i.val / 2 ^ (1 + 1) * 2 ^ (1 + 1) + 2 ^ 1) % 256; (try simp only []); omega
  · pointwise [refB, ref8]
    congr 2; apply Fin.ext; show _ = (i.val / 2 ^ (2 + 1) * 2 ^ (2 + 1) + 2 ^ 2) % 256; (try simp only []); omega
  · pointwise [refB, ref16]
    congr 2; apply Fin.ext; show _ = (i.val / 2 ^ (3 + 1) * 2 ^ (3 + 1) + 2 ^ 3) % 256; (try simp only []); omega
  · pointwise [refB, ref32]
    congr 2; apply Fin.ext; show _ = (i.val / 2 ^ (4 + 1) * 2 ^ (4 + 1) + 2 ^ 4) % 256; (try simp only []); omega
  · pointwise [refB, ref64]
    congr 2; apply Fin.ext; show _ = (i.val / 2 ^ (5 + 1) * 2 ^ (5 + 1) + 2 ^ 5) % 256; (try simp only []); omega
  · pointwise [refB, ref128]
    congr 2; apply Fin.ext; show _ = (i.val / 2 ^ (6 + 1) * 2 ^ (6 + 1) + 2 ^ 6) % 256; (try simp only []); omega

/-- The forward direction sees the rows from the first. -/
theorem fwd_ok : DirOk fwd (Equiv.refl _) where
  keep i j := by
    show keepM .sle (ix2 i j) = _
    rw [keepM_apply, cmpi_sle _ _ j.isLt i.isLt, select_if]; rfl
  ref n hn := ⟨gF n, refF_apply n hn⟩
  meet o h n hn i j e := by
    obtain ⟨h1, h2⟩ := (levelM_meet .slt (· < ·) cmpi_slt (fun a => lt_irrefl a) i j).1 n hn e
    exact ⟨half_group o h n hn i j h2, Nat.add_lt_add_left h1 o⟩
  meets o h i j e := by
    have e' : o + j.val < o + i.val := e
    exact (levelM_meet .slt (· < ·) cmpi_slt (fun a => lt_irrefl a) i j).2 (by omega)
  mid := ⟨127, fun x d => by simp only [fwd]; pointwise⟩
  fin := ⟨255, rfl, fun x d => by simp only [fwd]; pointwise⟩
  e0 := .inl rfl
  l0 := .inr rfl
  halves i j := by show 0 + j.val < 128 + i.val; omega

/-- The backward direction sees the rows from the last. -/
theorem bwd_ok : DirOk bwd Fin.revPerm where
  keep i j := by
    show keepM .sge (ix2 i j) = _
    rw [keepM_apply, cmpi_sge _ _ j.isLt i.isLt, select_if]
    congr 1
    apply propext
    show i.val ≤ j.val ↔ 256 - (j.val + 1) ≤ 256 - (i.val + 1)
    omega
  ref n hn := ⟨gB n, refB_apply n hn⟩
  meet o h n hn i j e := by
    obtain ⟨h1, h2⟩ := (levelM_meet .sgt (fun a b => b < a) cmpi_sgt (fun a => lt_irrefl a) i j).1 n hn e
    refine ⟨half_group o h n hn i j h2, ?_⟩
    show 256 - (o + j.val + 1) < 256 - (o + i.val + 1)
    omega
  meets o h i j e := by
    have e' : 256 - (o + j.val + 1) < 256 - (o + i.val + 1) := e
    exact (levelM_meet .sgt (fun a b => b < a) cmpi_sgt (fun a => lt_irrefl a) i j).2 (by omega)
  mid := ⟨128, fun x d => by simp only [bwd]; pointwise⟩
  fin := ⟨0, rfl, fun x d => by simp only [bwd]; pointwise⟩
  e0 := .inr rfl
  l0 := .inl rfl
  halves i j := by show 256 - (128 + j.val + 1) < 256 - (0 + i.val + 1); omega

end Cert.Hgrn

end
-- ==== Proof.Math.lean ====
/- The gated recurrence over the real numbers, token by token, and its two closed forms over a run of tokens. -/
module

public import Mathlib.Analysis.SpecialFunctions.Exp
public import Mathlib.Algebra.BigOperators.Fin
public import Mathlib.Algebra.BigOperators.Ring.Finset

@[expose] public section

noncomputable section

namespace Cert.Hgrn

open Finset

/-- The state after `t` tokens: each token fades every row by the exponential of its log decay and adds key times value. -/
def state (L k v : ℕ → Fin 128 → ℝ) : ℕ → Fin 128 → Fin 128 → ℝ
  | 0 => fun _ _ => 0
  | t + 1 => fun d e => Real.exp (L t d) * state L k v t d e + k t d * v t e

/-- What token `t` reads: its query against the state that holds it too. -/
def out (q L k v : ℕ → Fin 128 → ℝ) (t : ℕ) (e : Fin 128) : ℝ := ∑ d, q t d * state L k v (t + 1) d e

/-- The log decays of tokens `n` to `n + i` added up. -/
def cum (L : ℕ → Fin 128 → ℝ) (n i : ℕ) (d : Fin 128) : ℝ := ∑ l ∈ range (i + 1), L (n + l) d

variable (q L k v : ℕ → Fin 128 → ℝ)

theorem cum_succ (n i : ℕ) (d : Fin 128) : cum L n (i + 1) d = cum L n i d + L (n + (i + 1)) d := by
  unfold cum; rw [sum_range_succ]

/-- The state after a run of tokens from `n`: the state at `n` faded, and each token's contribution faded since. -/
theorem state_chunk (n i : ℕ) (d e : Fin 128) : state L k v (n + i + 1) d e
    = Real.exp (cum L n i d) * state L k v n d e
      + ∑ j ∈ range (i + 1), Real.exp (cum L n i d - cum L n j d) * (k (n + j) d * v (n + j) e) := by
  induction i with
  | zero => simp [state, cum]
  | succ i ih =>
    have h1 : state L k v (n + (i + 1) + 1) d e
        = Real.exp (L (n + (i + 1)) d) * state L k v (n + i + 1) d e + k (n + (i + 1)) d * v (n + (i + 1)) e := rfl
    rw [h1, ih, sum_range_succ _ (i + 1), sub_self, Real.exp_zero, one_mul, mul_add, ← mul_assoc, ← Real.exp_add, mul_sum,
      cum_succ, add_comm (L _ d), add_assoc]
    congr 2
    refine sum_congr rfl fun j _ => ?_
    rw [← mul_assoc, ← Real.exp_add]
    congr 2; ring

/-- A sum over an initial segment as a sum over all with a condition. -/
theorem sum_range_fin {C : ℕ} (i : ℕ) (hi : i < C) (f : ℕ → ℝ) :
    ∑ j ∈ range (i + 1), f j = ∑ j : Fin C, if j.val ≤ i then f j.val else 0 := by
  rw [Fin.sum_univ_eq_sum_range (fun j => if j ≤ i then f j else 0) C, ← sum_filter]
  refine sum_congr ?_ fun _ _ => rfl
  ext j; simp only [mem_range, mem_filter]; omega

/-- The same where the positions stand in the order `σ`. -/
theorem sum_range_ord {C : ℕ} (σ : Fin C ≃ Fin C) (i : Fin C) (f : ℕ → ℝ) :
    ∑ j ∈ range ((σ i).val + 1), f j = ∑ j : Fin C, if (σ j).val ≤ (σ i).val then f (σ j).val else 0 := by
  rw [sum_range_fin (σ i).val (σ i).isLt f]
  exact (Equiv.sum_comp σ fun j : Fin C => if j.val ≤ (σ i).val then f j.val else 0).symm

/-- The running sums over a run of `C` tokens whose positions stand in the order `σ`. -/
theorem cum_ord {C : ℕ} (σ : Fin C ≃ Fin C) (n : ℕ) (i : Fin C) (d : Fin 128) :
    cum L n (σ i).val d = ∑ j : Fin C, if (σ j).val ≤ (σ i).val then L (n + (σ j).val) d else 0 :=
  sum_range_ord σ i fun l => L (n + l) d

/-- A token's output from the tokens of its run and the state at the run's start. -/
theorem out_ord {C : ℕ} (σ : Fin C ≃ Fin C) (n : ℕ) (i : Fin C) (e : Fin 128) :
    out q L k v (n + (σ i).val) e
      = (∑ j : Fin C, if (σ j).val ≤ (σ i).val then
          (∑ d, q (n + (σ i).val) d * k (n + (σ j).val) d * Real.exp (cum L n (σ i).val d - cum L n (σ j).val d))
            * v (n + (σ j).val) e else 0)
        + ∑ d, q (n + (σ i).val) d * Real.exp (cum L n (σ i).val d) * state L k v n d e := by
  unfold out
  have h : ∀ d, q (n + (σ i).val) d * state L k v (n + (σ i).val + 1) d e
      = (∑ j : Fin C, if (σ j).val ≤ (σ i).val then
          q (n + (σ i).val) d * k (n + (σ j).val) d * Real.exp (cum L n (σ i).val d - cum L n (σ j).val d)
            * v (n + (σ j).val) e else 0)
        + q (n + (σ i).val) d * Real.exp (cum L n (σ i).val d) * state L k v n d e := fun d => by
    rw [state_chunk, sum_range_ord σ i, mul_add, add_comm, mul_sum]
    congr 1
    · refine sum_congr rfl fun j _ => ?_
      split_ifs
      · ring
      · exact mul_zero _
    · ring
  simp only [h]
  rw [sum_add_distrib, sum_comm]
  congr 1
  refine sum_congr rfl fun j _ => ?_
  split_ifs
  · rw [sum_mul]
  · simp

/-- The state after a run of `C` tokens; `i` is the position of the run's last. -/
theorem state_ord {C : ℕ} (σ : Fin C ≃ Fin C) (n : ℕ) (i : Fin C) (hi : (σ i).val + 1 = C) (d e : Fin 128) :
    state L k v (n + C) d e = Real.exp (cum L n (σ i).val d) * state L k v n d e
      + ∑ j : Fin C, Real.exp (cum L n (σ i).val d - cum L n (σ j).val d) * (k (n + (σ j).val) d * v (n + (σ j).val) e) := by
  have h : n + C = n + (σ i).val + 1 := by omega
  rw [h, state_chunk, sum_range_ord σ i]
  congr 1
  refine sum_congr rfl fun j _ => if_pos ?_
  have := (σ j).isLt; omega

end Cert.Hgrn

end
-- ==== Proof.HeadValue.lean ====
/-
  The value of one head's block at the extended reals: the outputs of the block's 256 tokens and the state it leaves are
  those of the recurrence.
-/
module
public import proofs.«01_k».proof.Proof.Scalar
public import proofs.«01_k».proof.Proof.Direction
public import proofs.«01_k».proof.Proof.Math

@[expose] public section
set_option maxRecDepth 16384
set_option maxHeartbeats 1000000
noncomputable section
namespace Cert.Hgrn
open Idealize.ShloMosaic Cert.KernelIdeal Cert.KernelIdeal.Gen

/-- A sum over the block's rows is the sum over the two halves. -/
theorem sum_halves (f : Fin 256 → ℝ) : ∑ j, f j = ∑ j, f (ps 0 (.inl rfl) j) + ∑ j, f (ps 128 (.inr rfl) j) := by
  have h := Fin.sum_univ_add (a := 128) (b := 128) f
  refine h.trans ?_
  congr 1
  all_goals exact Finset.sum_congr rfl fun j _ => congrArg f (Fin.ext (Nat.zero_add j.val).symm)

/-- The first half and the second half, in order. -/
theorem sum_order {D : Dir Ideal} {σ : Fin 256 ≃ Fin 256} (ok : DirOk D σ) (f : Fin 256 → ℝ) :
    ∑ j, f j = ∑ j, f (ps D.e ok.e0 j) + ∑ j, f (ps D.l ok.l0 j) := by
  have hne : D.e ≠ D.l := by
    intro h
    have h1 := ok.halves 0 0
    have h2 : ps D.e ok.e0 0 = ps D.l ok.l0 0 := Fin.ext (by show D.e + 0 = D.l + 0; omega)
    rw [h2] at h1
    exact lt_irrefl _ h1
  have key : ∀ (a b : ℕ) (ha : a = 0 ∨ a = 128) (hb : b = 0 ∨ b = 128), a ≠ b →
      ∑ j, f j = ∑ j, f (ps a ha j) + ∑ j, f (ps b hb j) := by
    intro a b ha hb hab
    rcases ha with rfl | rfl <;> rcases hb with rfl | rfl
    · exact absurd rfl hab
    · exact sum_halves f
    · rw [add_comm]; exact sum_halves f
    · exact absurd rfl hab
  exact key _ _ _ _ hne

section arith
variable {D : Dir Ideal} {σ : Fin 256 ≃ Fin 256} (ok : DirOk D σ) (S : Fin 256 → ℝ) (i : Fin 128)

/-- What a token of a half sees inside the half: the earlier ones and itself. -/
theorem sum_half (o : ℕ) (h : o = 0 ∨ o = 128) :
    (∑ j, if (σ (ps o h j)).val ≤ (σ (ps o h i)).val then S (ps o h j) else 0)
      = (∑ j, if (σ (ps o h j)).val < (σ (ps o h i)).val then S (ps o h j) else 0) + S (ps o h i) := by
  have hs : S (ps o h i) = ∑ j : Fin 128, if j = i then S (ps o h j) else 0 := by
    rw [Finset.sum_ite_eq' Finset.univ i, if_pos (Finset.mem_univ _)]
  rw [hs, ← Finset.sum_add_distrib]
  refine Finset.sum_congr rfl fun j _ => ?_
  by_cases hj : j = i
  · subst hj
    rw [if_pos le_rfl, if_neg (lt_irrefl _), if_pos rfl, zero_add]
  · have hne : (σ (ps o h j)).val ≠ (σ (ps o h i)).val := fun e => hj (by
      have h1 := σ.injective (Fin.ext e)
      have h2 : o + j.val = o + i.val := congrArg Fin.val h1
      exact Fin.ext (by omega))
    rw [if_neg hj, add_zero]
    by_cases hlt : (σ (ps o h j)).val < (σ (ps o h i)).val
    · rw [if_pos hlt, if_pos hlt.le]
    · rw [if_neg hlt, if_neg (by omega)]

/-- What a token of the first half sees. -/
theorem sum_first : (∑ j, if (σ j).val ≤ (σ (ps D.e ok.e0 i)).val then S j else 0)
    = (∑ j, if (σ (ps D.e ok.e0 j)).val < (σ (ps D.e ok.e0 i)).val then S (ps D.e ok.e0 j) else 0) + S (ps D.e ok.e0 i) := by
  rw [sum_order ok, sum_half S i D.e ok.e0]
  have h0 : (∑ j, if (σ (ps D.l ok.l0 j)).val ≤ (σ (ps D.e ok.e0 i)).val then S (ps D.l ok.l0 j) else 0) = 0 :=
    Finset.sum_eq_zero fun j _ => if_neg (by have := ok.halves j i; omega)
  rw [h0, add_zero]

/-- What a token of the second half sees. -/
theorem sum_second : (∑ j, if (σ j).val ≤ (σ (ps D.l ok.l0 i)).val then S j else 0)
    = (∑ j, if (σ (ps D.l ok.l0 j)).val < (σ (ps D.l ok.l0 i)).val then S (ps D.l ok.l0 j) else 0) + S (ps D.l ok.l0 i)
      + ∑ j, S (ps D.e ok.e0 j) := by
  rw [sum_order ok, sum_half S i D.l ok.l0, add_comm]
  congr 1
  exact Finset.sum_congr rfl fun j _ => if_pos (ok.halves i j).le

end arith

/-- The query block. -/
theorem hq_apply (x : FVec Ideal S256x128 .f32) (X : Fin 256 → Fin 128 → ℝ) (hx : ∀ i d, x (ix2 i d) = (X i d : EReal))
    (i : Fin 256) (d : Fin 128) : hq x (ix2 i d) = ((rq (X i d) : ℝ) : EReal) := by
  pointwise [hq]
  rw [hx, ks_coe]
  show (X i d : EReal) * Ideal.div 1 (1 + Ideal.exp (0 - (X i d : EReal))) * _ = _
  rw [sg_coe, ← EReal.coe_mul, ← EReal.coe_mul]
  rfl

section gates
variable (b : FVec Ideal S1x128 .f32) (u : FVec Ideal S256x128 .f32) (B : Fin 128 → ℝ) (U : Fin 256 → Fin 128 → ℝ)
  (hb : ∀ d, b (ix2 0 d) = (B d : EReal)) (hu : ∀ i d, u (ix2 i d) = (U i d : EReal))
include hb hu

/-- The key block. -/
theorem hk_apply (i : Fin 256) (d : Fin 128) : hk b u (ix2 i d) = ((rk (B d) (U i d) : ℝ) : EReal) := by
  pointwise [hk]
  rw [hu, hb]
  show (1 - (B d : EReal)) * Ideal.div 1 (1 + Ideal.exp (0 - (0 - (U i d : EReal)))) = _
  rw [zero_sub_coe, sg_coe, ← EReal.coe_one, ← EReal.coe_sub, ← EReal.coe_mul]
  rfl

/-- The log decay to base two. -/
theorem hlog2f_apply (i : Fin 256) (d : Fin 128) : hlog2f b u (ix2 i d) = ((rl (B d) (U i d) * c2 : ℝ) : EReal) := by
  pointwise [hlog2f, hlogf, hlc]
  rw [hu, hb, EReal.coe_mul, ← logfE_coe, ← named_c2]
  rfl

variable {D : Dir Ideal} {σ : Fin 256 ≃ Fin 256} (ok : DirOk D σ) (L : ℕ → Fin 128 → ℝ) (n : ℕ)
  (hL : ∀ i d, rl (B d) (U i d) = L (n + (σ i).val) d)
include ok hL

/-- The running sums of the log decay. -/
theorem hbl_apply (i : Fin 256) (d : Fin 128) : hbl D b u (ix2 i d) = ((cum L n (σ i).val d * c2 : ℝ) : EReal) := by
  pointwise [hbl, dotExact]
  have h0 : ∀ r : ℝ, (r : EReal) - (r : EReal) = 0 := fun r => by rw [← EReal.coe_sub, sub_self, EReal.coe_zero]
  have hz : (0 : EReal) - 0 = 0 := by rw [← EReal.coe_zero]; exact h0 0
  simp only [ok.keep, hlog2f_apply b u B U hb hu, h0, hz, mul_zero, Finset.sum_const_zero, add_zero]
  rw [cum_ord L σ, Finset.sum_mul, coe_fsum]
  refine Finset.sum_congr rfl fun j _ => ?_
  by_cases h : (σ j).val ≤ (σ i).val
  · rw [if_pos h, if_pos h, one_mul, hL]
  · rw [if_neg h, if_neg h, zero_mul, zero_mul, EReal.coe_zero]

end gates

section block
variable {D : Dir Ideal} {σ : Fin 256 ≃ Fin 256} (ok : DirOk D σ)
  (q k bl : FVec Ideal S256x128 .f32) (Q K C : Fin 256 → Fin 128 → ℝ)
  (hq : ∀ i d, q (ix2 i d) = (Q i d : EReal)) (hk : ∀ i d, k (ix2 i d) = (K i d : EReal))
  (hbl : ∀ i d, bl (ix2 i d) = ((C i d * c2 : ℝ) : EReal))

/-- The score of a later token against an earlier one. -/
def score (i j : Fin 256) : ℝ := ∑ d, Q i d * K j d * Real.exp (C i d - C j d)

/-- A sum of products of powers of two, both measured from one number, is the score. -/
theorem pair_sum (i j : Fin 256) (R : Fin 128 → ℝ) :
    ∑ x, (Q i x : EReal) * Ideal.exp2 (((C i x * c2 : ℝ) : EReal) - ((R x * c2 : ℝ) : EReal))
      * ((K j x : EReal) * Ideal.exp2 (0 - (((C j x * c2 : ℝ) : EReal) - ((R x * c2 : ℝ) : EReal))))
    = ((score Q K C i j : ℝ) : EReal) := by
  rw [score, coe_fsum]
  refine Finset.sum_congr rfl fun x _ => ?_
  rw [← EReal.coe_sub, ← EReal.coe_sub, zero_sub_coe, ← sub_mul, ← sub_mul,
    show 0 - (C j x - R x) * c2 = (R x - C j x) * c2 by ring, exp2_coe, exp2_coe, ← EReal.coe_mul, ← EReal.coe_mul,
    ← EReal.coe_mul, show C i x - C j x = (C i x - R x) + (R x - C j x) by ring, Real.exp_add]
  congr 1
  ring

include ok hq hk hbl in
/-- The scores of a half after `m` levels: the score where the two rows meet at one of them, and nothing elsewhere. -/
theorem scores_apply (o : ℕ) (ho : S256x128.Slices ![o, 0] S128x128) (h : o = 0 ∨ o = 128) (m : ℕ) (hm : m ≤ 7)
    (i j : Fin 128) :
    ((∃ n < m, D.level (ix2 i j) = BitVec.ofNat 32 n) →
      scores D o ho q k bl m (ix2 i j) = ((score Q K C (ps o h i) (ps o h j) : ℝ) : EReal)) ∧
    ((¬ ∃ n < m, D.level (ix2 i j) = BitVec.ofNat 32 n) → scores D o ho q k bl m (ix2 i j) = 0) := by
  induction m with
  | zero =>
    refine ⟨fun ⟨n, hn, _⟩ => absurd hn (Nat.not_lt_zero n), fun _ => ?_⟩
    pointwise [scores]
  | succ m ih =>
    have hs : scores D o ho q k bl (m + 1) (ix2 i j) = if D.level (ix2 i j) = BitVec.ofNat 32 m then
        (∑ x, q (ix2 (ps o h i) x) * Ideal.exp2 (bl (ix2 (ps o h i) x) - D.ref m bl (ix2 (ps o h i) x))
          * (k (ix2 (ps o h j) x) * Ideal.exp2 (0 - (bl (ix2 (ps o h j) x) - D.ref m bl (ix2 (ps o h j) x)))))
        else scores D o ho q k bl m (ix2 i j) := by
      rw [← select_if, ← cmpi_eq]
      pointwise [scores, upBy, downBy]
      rfl
    rw [hs]
    by_cases hl : D.level (ix2 i j) = BitVec.ofNat 32 m
    · refine ⟨fun _ => ?_, fun hn => absurd ⟨m, Nat.lt_succ_self m, hl⟩ hn⟩
      rw [if_pos hl]
      obtain ⟨g, hg⟩ := ok.ref m (by omega)
      obtain ⟨hgr, _⟩ := ok.meet o h m (by omega) i j hl
      rw [← pair_sum Q K C (ps o h i) (ps o h j) (C (g ((ps o h i).val / 2 ^ (m + 1))))]
      refine Finset.sum_congr rfl fun x _ => ?_
      rw [hg, hg, ← hgr, hbl, hbl, hbl, hq, hk]
    · rw [if_neg hl]
      have he : (∃ n < m + 1, D.level (ix2 i j) = BitVec.ofNat 32 n) → ∃ n < m, D.level (ix2 i j) = BitVec.ofNat 32 n := by
        rintro ⟨n, hn, e⟩
        rcases Nat.lt_succ_iff_lt_or_eq.mp hn with h1 | h1
        · exact ⟨n, h1, e⟩
        · exact absurd (h1 ▸ e) hl
      obtain ⟨i1, i2⟩ := ih (by omega)
      exact ⟨fun h' => i1 (he h'), fun h' => i2 fun ⟨n, hn, e⟩ => h' ⟨n, by omega, e⟩⟩

include ok hq hk hbl in
/-- The scores of a half after all levels: each token against the earlier ones of the half. -/
theorem scores_all (o : ℕ) (ho : S256x128.Slices ![o, 0] S128x128) (h : o = 0 ∨ o = 128) (i j : Fin 128) :
    scores D o ho q k bl 7 (ix2 i j)
      = ((if (σ (ps o h j)).val < (σ (ps o h i)).val then score Q K C (ps o h i) (ps o h j) else 0 : ℝ) : EReal) := by
  obtain ⟨h1, h2⟩ := scores_apply ok q k bl Q K C hq hk hbl o ho h 7 le_rfl i j
  by_cases hl : (σ (ps o h j)).val < (σ (ps o h i)).val
  · rw [if_pos hl, h1 (ok.meets o h i j hl)]
  · rw [if_neg hl, h2 (fun ⟨n, hn, e⟩ => hl (ok.meet o h n hn i j e).2), EReal.coe_zero]

variable (v : FVec Ideal S256x128 .f32) (V : Fin 256 → Fin 128 → ℝ) (hv : ∀ i d, v (ix2 i d) = (V i d : EReal))
  (st : FVec Ideal S1x1x128x128 .f32) (T : Fin 128 → Fin 128 → ℝ) (hst : ∀ e d, st (ix4 0 0 e d) = (T d e : EReal))

include hq hk hbl hv hst in
/-- What a token takes from itself and from the carried state. -/
theorem rest_apply (i : Fin 256) (e : Fin 128) : rest q k v bl st (ix2 i e)
    = ((score Q K C i i * V i e + ∑ d, Q i d * Real.exp (C i d) * T d e : ℝ) : EReal) := by
  pointwise [rest, upBy, stMat]
  rw [EReal.coe_add, EReal.coe_mul, score, coe_fsum, coe_fsum, hv]
  congr 1
  · congr 1
    refine Finset.sum_congr rfl fun d _ => ?_
    rw [hq, hk, sub_self, Real.exp_zero, mul_one, EReal.coe_mul]
  · refine Finset.sum_congr rfl fun d _ => ?_
    show q (ix2 i d) * Ideal.exp2 (bl (ix2 i d)) * st (ix4 0 0 e d) = _
    rw [hq, hbl, hst, exp2_coe, EReal.coe_mul, EReal.coe_mul]

include ok hq hk hbl hv hst in
/-- The rows of a half without what comes from the other half. -/
theorem near_apply (o : ℕ) (ho : S256x128.Slices ![o, 0] S128x128) (h : o = 0 ∨ o = 128) (i e : Fin 128) :
    near D o ho q k v bl st (ix2 i e)
      = (((∑ j, if (σ (ps o h j)).val < (σ (ps o h i)).val then score Q K C (ps o h i) (ps o h j) * V (ps o h j) e else 0)
          + (score Q K C (ps o h i) (ps o h i) * V (ps o h i) e
            + ∑ d, Q (ps o h i) d * Real.exp (C (ps o h i) d) * T d e) : ℝ) : EReal) := by
  pointwise [near]
  rw [EReal.coe_add, coe_fsum, ← rest_apply q k bl Q K C hq hk hbl v V hv st T hst]
  congr 1
  refine Finset.sum_congr rfl fun j _ => ?_
  show scores D o ho q k bl 7 (ix2 i j) * v (ix2 (ps o h j) e) = _
  rw [scores_all ok q k bl Q K C hq hk hbl o ho h, hv, ← EReal.coe_mul, ite_mul, zero_mul]

include ok hq hk hbl in
/-- The scores of the second half against the first. -/
theorem cross_apply (i j : Fin 128) : cross D q k bl (ix2 i j)
    = ((score Q K C (ps D.l ok.l0 i) (ps D.e ok.e0 j) : ℝ) : EReal) := by
  pointwise [cross, toMid]
  obtain ⟨g, hg⟩ := ok.mid
  rw [← pair_sum Q K C (ps D.l ok.l0 i) (ps D.e ok.e0 j) (C g)]
  refine Finset.sum_congr rfl fun x _ => ?_
  show q (ix2 (ps D.l ok.l0 i) x) * Ideal.exp2 (bl (ix2 (ps D.l ok.l0 i) x) - D.mid bl (ix2 0 x))
    * (k (ix2 (ps D.e ok.e0 j) x) * Ideal.exp2 (0 - (bl (ix2 (ps D.e ok.e0 j) x) - D.mid bl (ix2 0 x)))) = _
  rw [hg, hbl, hbl, hbl, hq, hk]

end block

section head
variable {D : Dir Ideal} {σ : Fin 256 ≃ Fin 256} (ok : DirOk D σ) (n : ℕ)
  (x u v : FVec Ideal S256x128 .f32) (b : FVec Ideal S1x128 .f32) (st : FVec Ideal S1x1x128x128 .f32)
  (X U V : ℕ → Fin 128 → ℝ) (B : Fin 128 → ℝ)

/-- The queries of a sequence. -/
def seqQ : ℕ → Fin 128 → ℝ := fun t d => rq (X t d)
/-- The keys of a sequence. -/
def seqK : ℕ → Fin 128 → ℝ := fun t d => rk (B d) (U t d)
/-- The log decays of a sequence. -/
def seqL : ℕ → Fin 128 → ℝ := fun t d => rl (B d) (U t d)

/-- A block holds the sequences' tokens from `n` in order `σ`, and the state at `n`. -/
structure Holds (σ : Fin 256 ≃ Fin 256) (n : ℕ) (u v : FVec Ideal S256x128 .f32) (b : FVec Ideal S1x128 .f32)
    (st : FVec Ideal S1x1x128x128 .f32) (U V : ℕ → Fin 128 → ℝ) (B : Fin 128 → ℝ) : Prop where
  u : ∀ i d, u (ix2 i d) = (U (n + (σ i).val) d : EReal)
  v : ∀ i d, v (ix2 i d) = (V (n + (σ i).val) d : EReal)
  b : ∀ d, b (ix2 0 d) = (B d : EReal)
  st : ∀ e d, st (ix4 0 0 e d) = (state (seqL U B) (seqK U B) V n d e : EReal)

variable (H : Holds σ n u v b st U V B) (hx : ∀ i d, x (ix2 i d) = (X (n + (σ i).val) d : EReal))

include ok H hx

/-- The first half's outputs are the recurrence's. -/
theorem outE_apply (i e : Fin 128) : outE D x u v b st (ix2 i e)
    = ((out (seqQ X) (seqL U B) (seqK U B) V (n + (σ (ps D.e ok.e0 i)).val) e : ℝ) : EReal) := by
  unfold outE
  rw [near_apply ok (Cert.Hgrn.hq x) (Cert.Hgrn.hk b u) (Cert.Hgrn.hbl D b u) _ _ _
    (hq_apply x (fun i d => X (n + (σ i).val) d) hx)
    (hk_apply b u B (fun i d => U (n + (σ i).val) d) H.b H.u)
    (hbl_apply b u B (fun i d => U (n + (σ i).val) d) H.b H.u ok (seqL U B) n (fun _ _ => rfl))
    v _ H.v st (state (seqL U B) (seqK U B) V n) H.st D.e D.he ok.e0, out_ord]
  congr 1
  rw [sum_first ok (fun j => (∑ d, seqQ X (n + (σ (ps D.e ok.e0 i)).val) d * seqK U B (n + (σ j).val) d
    * Real.exp (cum (seqL U B) n (σ (ps D.e ok.e0 i)).val d - cum (seqL U B) n (σ j).val d)) * V (n + (σ j).val) e) i, add_assoc]
  rfl

/-- The second half's outputs are the recurrence's. -/
theorem outL_apply (i e : Fin 128) : outL D x u v b st (ix2 i e)
    = ((out (seqQ X) (seqL U B) (seqK U B) V (n + (σ (ps D.l ok.l0 i)).val) e : ℝ) : EReal) := by
  pointwise [outL]
  have hQ := hq_apply x (fun i d => X (n + (σ i).val) d) hx
  have hK := hk_apply b u B (fun i d => U (n + (σ i).val) d) H.b H.u
  have hC := hbl_apply b u B (fun i d => U (n + (σ i).val) d) H.b H.u ok (seqL U B) n (fun _ _ => rfl)
  rw [near_apply ok (Cert.Hgrn.hq x) (Cert.Hgrn.hk b u) (Cert.Hgrn.hbl D b u) _ _ _ hQ hK hC
    v _ H.v st (state (seqL U B) (seqK U B) V n) H.st D.l D.hl ok.l0, out_ord,
    sum_second ok (fun j => (∑ d, seqQ X (n + (σ (ps D.l ok.l0 i)).val) d * seqK U B (n + (σ j).val) d
    * Real.exp (cum (seqL U B) n (σ (ps D.l ok.l0 i)).val d - cum (seqL U B) n (σ j).val d)) * V (n + (σ j).val) e) i]
  have hc : ∑ j, cross D (Cert.Hgrn.hq x) (Cert.Hgrn.hk b u) (Cert.Hgrn.hbl D b u) (ix2 i j) * v (ix2 (ps D.e ok.e0 j) e)
      = ((∑ j, score (fun i d => rq (X (n + (σ i).val) d)) (fun i d => rk (B d) (U (n + (σ i).val) d))
          (fun i d => cum (seqL U B) n (σ i).val d) (ps D.l ok.l0 i) (ps D.e ok.e0 j) * V (n + (σ (ps D.e ok.e0 j)).val) e : ℝ) : EReal) := by
    rw [coe_fsum]
    refine Finset.sum_congr rfl fun j _ => ?_
    rw [cross_apply ok _ _ _ _ _ _ hQ hK hC, H.v, EReal.coe_mul]
  refine (congrArg _ hc).trans ?_
  rw [← EReal.coe_add]
  congr 1
  rw [add_assoc, add_assoc, add_assoc, add_assoc]
  congr 2
  rw [add_comm]
  rfl

omit hx in
/-- The state the block leaves is the recurrence's. -/
theorem stNew_apply (e d : Fin 128) : stNew D u v b st (ix4 0 0 e d)
    = ((state (seqL U B) (seqK U B) V (n + 256) d e : ℝ) : EReal) := by
  pointwise [stNew, upBy, stMat]
  obtain ⟨g, hg, hf⟩ := ok.fin
  have hK := hk_apply b u B (fun i d => U (n + (σ i).val) d) H.b H.u
  have hC := hbl_apply b u B (fun i d => U (n + (σ i).val) d) H.b H.u ok (seqL U B) n (fun _ _ => rfl)
  rw [state_ord (seqL U B) (seqK U B) V σ n g hg, EReal.coe_add, coe_fsum, hf, H.st, hC]
  congr 1
  · show _ * Ideal.exp2 _ = _
    rw [exp2_coe, EReal.coe_mul, mul_comm]
  · refine Finset.sum_congr rfl fun j _ => ?_
    show v (ix2 j e) * (Cert.Hgrn.hk b u (ix2 j d) * Ideal.exp2 (_ - _)) = _
    rw [H.v, hK, hC, ← EReal.coe_sub, ← sub_mul, exp2_coe, ← EReal.coe_mul, ← EReal.coe_mul]
    congr 1
    show _ * (seqK U B (n + (σ j).val) d * _) = _
    ring

end head

end Cert.Hgrn

end
-- ==== Proof.Spec.lean ====
/-
  What both programs compute, over the reals: the recurrence of each sample, head and direction on the rows and columns
  of the projection it reads.
-/
module
public import proofs.«01_k».proof.Proof.HeadValue

@[expose] public section
noncomputable section
namespace Cert.Hgrn

/-- The row of the projection that holds token `t` of sample `b`: 256 context tokens, then 4096 latent ones; each part
    backwards if `rev`. -/
def row (rev : Bool) (b t : ℕ) : ℕ :=
  if t < 256 then 256 * b + (if rev then 255 - t else t) else 1024 + 4096 * b + (if rev then 4095 - (t - 256) else t - 256)

variable (p : ℕ → ℕ → ℝ) (l : ℕ → ℝ) (rev : Bool) (b hd : ℕ)

/-- The query columns of a head. -/
def sX : ℕ → Fin 128 → ℝ := fun t d => p (row rev b t) (6144 + 128 * hd + d.val)
/-- The gate columns of a head. -/
def sU : ℕ → Fin 128 → ℝ := fun t d => p (row rev b t) ((if rev then 10240 else 8192) + 128 * hd + d.val)
/-- The value columns of a head. -/
def sV : ℕ → Fin 128 → ℝ := fun t d => p (row rev b t) (12288 + 128 * hd + d.val)
/-- The lower bounds of a head. -/
def sB : Fin 128 → ℝ := fun d => l (128 * hd + d.val)

/-- The state of a head before token `t`. -/
def hst (t : ℕ) (d e : Fin 128) : ℝ :=
  state (seqL (sU p rev b hd) (sB l hd)) (seqK (sU p rev b hd) (sB l hd)) (sV p rev b hd) t d e

/-- The output of a head at token `t`. -/
def res (t : ℕ) (e : Fin 128) : ℝ :=
  out (seqQ (sX p rev b hd)) (seqL (sU p rev b hd) (sB l hd)) (seqK (sU p rev b hd) (sB l hd)) (sV p rev b hd) t e

/-- The sample a row belongs to. -/
def bOf (r : ℕ) : ℕ := if r < 1024 then r / 256 else (r - 1024) / 4096

/-- The token a row holds. -/
def tOf (rev : Bool) (r : ℕ) : ℕ :=
  if r < 1024 then (if rev then 255 - r % 256 else r % 256)
  else 256 + (if rev then 4095 - (r - 1024) % 4096 else (r - 1024) % 4096)

/-- The value at a row and a column. -/
def spec (r c : ℕ) : ℝ := res p l rev (bOf r) (c / 128) (tOf rev r) ⟨c % 128, Nat.mod_lt _ (by omega)⟩

/-- A token's row belongs to its sample. -/
theorem bOf_row (hb : b < 4) (t : ℕ) (ht : t < 4352) : bOf (row rev b t) = b := by
  unfold bOf row
  cases rev <;> simp only [Bool.false_eq_true, if_true, if_false] <;> split_ifs <;> omega

/-- A token's row holds it. -/
theorem tOf_row (hb : b < 4) (t : ℕ) (ht : t < 4352) : tOf rev (row rev b t) = t := by
  unfold tOf row
  cases rev <;> simp only [Bool.false_eq_true, if_true, if_false] <;> split_ifs <;> omega

/-- The value at a token's row and a head's column. -/
theorem spec_row (hb : b < 4) (t : ℕ) (ht : t < 4352) (e : Fin 128) :
    spec p l rev (row rev b t) (128 * hd + e.val) = res p l rev b hd t e := by
  unfold spec
  rw [bOf_row rev b hb t ht, tOf_row rev b hb t ht]
  have h1 : (128 * hd + e.val) / 128 = hd := by omega
  have h2 : (⟨(128 * hd + e.val) % 128, Nat.mod_lt _ (by omega)⟩ : Fin 128) = e := Fin.ext (by show (128 * hd + e.val) % 128 = e.val; omega)
  rw [h1, h2]

/-- Rows are below the projection's. -/
theorem row_lt (hb : b < 4) (t : ℕ) (ht : t < 4352) : row rev b t < 17408 := by
  unfold row
  cases rev <;> simp only [Bool.false_eq_true, if_true, if_false] <;> split_ifs <;> omega

end Cert.Hgrn

end
-- ==== Proof.Bridge.lean ====
/- What a run of the scan kernel's body stores, told by the head functions of Head.lean: the eight heads of each
   direction one after the other, over the loads the run names. -/
module

public import proofs.«01_k».proof.Proof.Head
public import proofs.«01_k».proof.Proof.Gen.KernelIdeal.Frame.RunA
public import proofs.«01_k».proof.Proof.Gen.KernelIdeal.Frame.RunB

@[expose] public section

set_option maxRecDepth 16384

noncomputable section

namespace Cert.Hgrn

open Idealize.ShloMosaic Idealize.SL.Sem Idealize.ShloMosaic.TcCoe Cert.KernelIdeal Cert.KernelIdeal.Gen

variable {F : FTy → Type} [FloatOps F] [Named F]

/-- The 128 columns of head `h` in a 256 by 1024 block. -/
@[implicit_reducible] def rCol (h : ℕ) : Rect S256x1024 :=
  Rect.unit (s := S256x1024) ![0, 128 * (h % 8)] S256x128.size fun a => by
    fin_cases a
    · exact Nat.le_refl 256
    · show 128 * (h % 8) + 128 ≤ 1024; omega

/-- Rows `o` (0 or 128) to `o + 127` of those columns. -/
@[implicit_reducible] def rOut (o h : ℕ) (ho : o ≤ 128) : Rect S256x1024 :=
  Rect.unit (s := S256x1024) ![o, 128 * (h % 8)] S128x128.size fun a => by
    fin_cases a
    · show o + 128 ≤ 256; omega
    · show 128 * (h % 8) + 128 ≤ 1024; omega

/-- The 128 columns of head `h` in the row of lower bounds. -/
@[implicit_reducible] def rRow (h : ℕ) : Rect S1x1024 :=
  Rect.unit (s := S1x1024) ![0, 128 * (h % 8)] S1x128.size fun a => by
    fin_cases a
    · exact Nat.le_refl 1
    · show 128 * (h % 8) + 128 ≤ 1024; omega

/-- The state of head `h` of direction `d` in the scratch. -/
@[implicit_reducible] def rSt (d h : ℕ) : Rect S2x8x128x128 :=
  Rect.unit (s := S2x8x128x128) ![d % 2, h % 8, 0, 0] S1x1x128x128.size fun a => by
    fin_cases a
    · show d % 2 + 1 ≤ 2; omega
    · show h % 8 + 1 ≤ 8; omega
    · exact Nat.le_refl 128
    · exact Nat.le_refl 128

/-- The columns of head `h`, loaded. -/
def ldCol (a : Memref sig .tc .vmem S256x1024 .f32) (ha : a.IsWhole) (x : Vec F S256x1024 .f32) (h : ℕ) :
    FVec F S256x128 .f32 :=
  View.readAt (Elt F) a.view (rCol h).toLoadRect (ha.unread x)

/-- The lower bounds of head `h`, loaded. -/
def ldRow (a : Memref sig .tc .vmem S1x1024 .f32) (ha : a.IsWhole) (x : Vec F S1x1024 .f32) (h : ℕ) :
    FVec F S1x128 .f32 :=
  shapeCast S1x128 (View.readAt (Elt F) a.view (rRow h).toLoadRect (ha.unread x)) shapeCasts_S1x128_S1x128

/-- The output pieces of the first `n` heads: `p0` the upper half of each, `p1` the lower half. -/
def outP (p0 p1 : ℕ → FVec F S128x128 .f32) : ℕ → List (View.Piece (Elt F) S256x1024 .f32)
  | 0 => []
  | h + 1 => ⟨rOut 128 h (by decide), p1 h⟩ :: ⟨rOut 0 h (by decide), p0 h⟩ :: outP p0 p1 h

/-- The state pieces after `n` heads of direction `d`, over those before (`base`); head `h` finds its state by `rd` in
    the pieces so far. -/
def hist (rd : List (View.Piece (Elt F) S2x8x128x128 .f32) → ℕ → FVec F S1x1x128x128 .f32) (D : Dir F) (d : ℕ)
    (u v : ℕ → FVec F S256x128 .f32) (b : ℕ → FVec F S1x128 .f32)
    (base : List (View.Piece (Elt F) S2x8x128x128 .f32)) : ℕ → List (View.Piece (Elt F) S2x8x128x128 .f32)
  | 0 => base
  | h + 1 => ⟨rSt d h, stNew D (u h) (v h) (b h) (rd (hist rd D d u v b base h) h)⟩ :: hist rd D d u v b base h

/-- A state read from pieces that cover it. -/
def rdCov (a : Memref sig .tc .vmem S2x8x128x128 .f32) (d : ℕ) (L : List (View.Piece (Elt F) S2x8x128x128 .f32)) (h : ℕ) :
    FVec F S1x1x128x128 .f32 :=
  a.view.readCov L (rSt d h).toLoadRect

/-- A state read from the contents `x` carried in. -/
def rdAt (a : Memref sig .tc .vmem S2x8x128x128 .f32) (ha : a.IsWhole) (x : Vec F S2x8x128x128 .f32) (d : ℕ)
    (_L : List (View.Piece (Elt F) S2x8x128x128 .f32)) (h : ℕ) : FVec F S1x1x128x128 .f32 :=
  View.readAt (Elt F) a.view (rSt d h).toLoadRect (ha.unread x)

/-- The zeros the first point of a run stores over the whole scratch. -/
def zeroP : List (View.Piece (Elt F) S2x8x128x128 .f32) :=
  [⟨Rect.unit (s := S2x8x128x128) ![0, 0, 0, 0] S2x8x128x128.size inb_S2x8x128x128_S2x8x128x128_0_0_0_0, k0_pay1⟩]

variable (c : Dev nD) (i : grid0.Coords)
  (a3 : Memref sig .tc .vmem S256x1024 .f32) (h3 : a3.IsWhole) (a4 : Memref sig .tc .vmem S256x1024 .f32) (h4 : a4.IsWhole)
  (a5 : Memref sig .tc .vmem S256x1024 .f32) (h5 : a5.IsWhole) (a6 : Memref sig .tc .vmem S256x1024 .f32) (h6 : a6.IsWhole)
  (a7 : Memref sig .tc .vmem S256x1024 .f32) (h7 : a7.IsWhole) (a8 : Memref sig .tc .vmem S256x1024 .f32) (h8 : a8.IsWhole)
  (a9 : Memref sig .tc .vmem S1x1024 .f32) (h9 : a9.IsWhole) (a10 : Memref sig .tc .vmem S256x1024 .f32) (h10 : a10.IsWhole)
  (a11 : Memref sig .tc .vmem S256x1024 .f32) (h11 : a11.IsWhole) (a12 : Memref sig .tc .vmem S2x8x128x128 .f32)
  (h12 : a12.IsWhole)
  (x0 x1 x2 x3 x4 x5 : Vec F S256x1024 .f32) (x6 : Vec F S1x1024 .f32) (xs : Vec F S2x8x128x128 .f32)

/-- A carried-in point stores these forward outputs. -/
theorem runB_7 (hc : ¬cond0_0 i) :
    (kernelRun0_B c i a3 h3 a4 h4 a5 h5 a6 h6 a7 h7 a8 h8 a9 h9 a10 h10 a11 h11 a12 h12 hc x0 x1 x2 x3 x4 x5 x6 xs).1
      = outP (fun h => outE fwd (ldCol a3 h3 x0 h) (ldCol a4 h4 x1 h) (ldCol a5 h5 x2 h) (ldRow a9 h9 x6 h) (rdAt a12 h12 xs 0 [] h))
          (fun h => outL fwd (ldCol a3 h3 x0 h) (ldCol a4 h4 x1 h) (ldCol a5 h5 x2 h) (ldRow a9 h9 x6 h) (rdAt a12 h12 xs 0 [] h)) 8 := by
  sl_kernel_rfl

/-- A carried-in point stores these backward outputs. -/
theorem runB_8 (hc : ¬cond0_0 i) :
    (kernelRun0_B c i a3 h3 a4 h4 a5 h5 a6 h6 a7 h7 a8 h8 a9 h9 a10 h10 a11 h11 a12 h12 hc x0 x1 x2 x3 x4 x5 x6 xs).2.1
      = outP (fun h => outL bwd (ldCol a6 h6 x3 h) (ldCol a7 h7 x4 h) (ldCol a8 h8 x5 h) (ldRow a9 h9 x6 h) (rdAt a12 h12 xs 1 [] h))
          (fun h => outE bwd (ldCol a6 h6 x3 h) (ldCol a7 h7 x4 h) (ldCol a8 h8 x5 h) (ldRow a9 h9 x6 h) (rdAt a12 h12 xs 1 [] h)) 8 := by
  sl_kernel_rfl

/-- A carried-in point stores these states. -/
theorem runB_S (hc : ¬cond0_0 i) :
    (kernelRun0_B c i a3 h3 a4 h4 a5 h5 a6 h6 a7 h7 a8 h8 a9 h9 a10 h10 a11 h11 a12 h12 hc x0 x1 x2 x3 x4 x5 x6 xs).2.2.1
      = hist (rdAt a12 h12 xs 1) bwd 1 (ldCol a7 h7 x4) (ldCol a8 h8 x5) (ldRow a9 h9 x6)
          (hist (rdAt a12 h12 xs 0) fwd 0 (ldCol a4 h4 x1) (ldCol a5 h5 x2) (ldRow a9 h9 x6) [] 8) 8 := by
  sl_kernel_rfl

/-- The state pieces of the forward heads before head `n`, at a run's first point. -/
abbrev histF (n : ℕ) := hist (rdCov a12 0) fwd 0 (ldCol a4 h4 x1) (ldCol a5 h5 x2) (ldRow a9 h9 x6) zeroP n

/-- The state pieces before backward head `n`, at a run's first point. -/
abbrev histB (n : ℕ) := hist (rdCov a12 1) bwd 1 (ldCol a7 h7 x4) (ldCol a8 h8 x5) (ldRow a9 h9 x6)
  (histF a4 h4 a5 h5 a9 h9 a12 x1 x2 x6 8) n

/-- A run's first point stores these forward outputs. -/
theorem runA_7 (hc : cond0_0 i) :
    (kernelRun0_A c i a3 h3 a4 h4 a5 h5 a6 h6 a7 h7 a8 h8 a9 h9 a10 h10 a11 h11 a12 h12 hc x0 x1 x2 x3 x4 x5 x6).1
      = outP (fun h => outE fwd (ldCol a3 h3 x0 h) (ldCol a4 h4 x1 h) (ldCol a5 h5 x2 h) (ldRow a9 h9 x6 h)
            (rdCov a12 0 (histF a4 h4 a5 h5 a9 h9 a12 x1 x2 x6 h) h))
          (fun h => outL fwd (ldCol a3 h3 x0 h) (ldCol a4 h4 x1 h) (ldCol a5 h5 x2 h) (ldRow a9 h9 x6 h)
            (rdCov a12 0 (histF a4 h4 a5 h5 a9 h9 a12 x1 x2 x6 h) h)) 8 := by
  sl_kernel_rfl

/-- A run's first point stores these backward outputs. -/
theorem runA_8 (hc : cond0_0 i) :
    (kernelRun0_A c i a3 h3 a4 h4 a5 h5 a6 h6 a7 h7 a8 h8 a9 h9 a10 h10 a11 h11 a12 h12 hc x0 x1 x2 x3 x4 x5 x6).2.1
      = outP (fun h => outL bwd (ldCol a6 h6 x3 h) (ldCol a7 h7 x4 h) (ldCol a8 h8 x5 h) (ldRow a9 h9 x6 h)
            (rdCov a12 1 (histB a4 h4 a5 h5 a7 h7 a8 h8 a9 h9 a12 x1 x2 x4 x5 x6 h) h))
          (fun h => outE bwd (ldCol a6 h6 x3 h) (ldCol a7 h7 x4 h) (ldCol a8 h8 x5 h) (ldRow a9 h9 x6 h)
            (rdCov a12 1 (histB a4 h4 a5 h5 a7 h7 a8 h8 a9 h9 a12 x1 x2 x4 x5 x6 h) h)) 8 := by
  sl_kernel_rfl

/-- A run's first point stores these states. -/
theorem runA_S (hc : cond0_0 i) :
    (kernelRun0_A c i a3 h3 a4 h4 a5 h5 a6 h6 a7 h7 a8 h8 a9 h9 a10 h10 a11 h11 a12 h12 hc x0 x1 x2 x3 x4 x5 x6).2.2.1
      = histB a4 h4 a5 h5 a7 h7 a8 h8 a9 h9 a12 x1 x2 x4 x5 x6 8 := by
  sl_kernel_rfl

end Cert.Hgrn

end
-- ==== Proof.Blocks.lean ====
/-
  Reading back what a point of the scan stores: the output pieces and the state pieces of the heads, at an index.
-/
module
public import proofs.«01_k».proof.Proof.Bridge
public import proofs.«01_k».proof.Proof.HeadValue
public import Idealize.ShloMosaic.Lib.Pipeline.ValueKit
public import Idealize.ShloMosaic.Lib.Pipeline.ReadBack

@[expose] public section
set_option maxRecDepth 16384
set_option maxHeartbeats 400000
noncomputable section
namespace Cert.Hgrn
open Idealize.ShloMosaic Idealize.SL.Sem Idealize.ShloMosaic.TcCoe Cert.KernelIdeal Cert.KernelIdeal.Gen

/-- Column `d` of head `h` in a block of eight heads. -/
def col (h : Fin 8) (d : Fin 128) : Fin 1024 := ⟨128 * h.val + d.val, by omega⟩

variable {F : FTy → Type} [FloatOps F] [Named F]

/-- The loaded columns of a head. -/
theorem ldCol_apply (a : Memref sig .tc .vmem S256x1024 .f32) (ha : a.IsWhole) (x : Vec F S256x1024 .f32) (h : Fin 8)
    (i : Fin 256) (d : Fin 128) : ldCol a ha x h.val (ix2 i d) = x (ix2 i (col h d)) := by
  unfold ldCol
  rw [View.readAt_eq_ld, ha.read_unread x]
  refine View.ld_unit_apply_of x _ _ _ _ (ix2 i (col h d)) fun a => ?_
  fin_cases a
  · exact (Nat.zero_add i.val).symm
  · show 128 * h.val + d.val = 128 * (h.val % 8) + d.val
    rw [Nat.mod_eq_of_lt h.isLt]

/-- The loaded lower bounds of a head. -/
theorem ldRow_apply (a : Memref sig .tc .vmem S1x1024 .f32) (ha : a.IsWhole) (x : Vec F S1x1024 .f32) (h : Fin 8)
    (d : Fin 128) : ldRow a ha x h.val (ix2 0 d) = x (ix2 0 (col h d)) := by
  have e : ldRow a ha x h.val (ix2 0 d) = View.readAt (Elt F) a.view (rRow h.val).toLoadRect (ha.unread x) (ix2 0 d) := by
    unfold ldRow
    pointwise
  rw [e, View.readAt_eq_ld, ha.read_unread x]
  refine View.ld_unit_apply_of x _ _ _ _ (ix2 0 (col h d)) fun a => ?_
  fin_cases a
  · rfl
  · show 128 * h.val + d.val = 128 * (h.val % 8) + d.val
    rw [Nat.mod_eq_of_lt h.isLt]

/-- A state read from the contents carried in. -/
theorem rdAt_apply (a : Memref sig .tc .vmem S2x8x128x128 .f32) (ha : a.IsWhole) (x : Vec F S2x8x128x128 .f32) (d : Fin 2)
    (L : List (View.Piece (Elt F) S2x8x128x128 .f32)) (h : Fin 8) (e dd : Fin 128) :
    rdAt a ha x d.val L h.val (ix4 0 0 e dd) = x (ix4 d h e dd) := by
  unfold rdAt
  rw [View.readAt_eq_ld, ha.read_unread x]
  refine View.ld_unit_apply_of x _ _ _ _ (ix4 d h e dd) fun a => ?_
  fin_cases a
  · show d.val = d.val % 2 + 0; omega
  · show h.val = h.val % 8 + 0; omega
  · exact (Nat.zero_add e.val).symm
  · exact (Nat.zero_add dd.val).symm

/-- The index of a row of a half in the block. -/
theorem emb_rOut (o : ℕ) (h : o = 0 ∨ o = 128) (ho : o ≤ 128) (hd : Fin 8) (i e : Fin 128) :
    ix2 (ps o h i) (col hd e) = (rOut o hd.val ho).emb (ix2 i e) := by
  funext a; apply Fin.ext
  refine Eq.trans ?_ (Rect.idx_unit_val _ _ _ (ix2 i e) a).symm
  fin_cases a
  · rfl
  · show 128 * hd.val + e.val = 128 * (hd.val % 8) + e.val; omega

/-- A row of the upper half is not in a lower half. -/
theorem not_mem_lower (n : ℕ) (hd : Fin 8) (i e : Fin 128) :
    ix2 (ps 0 (.inl rfl) i) (col hd e) ∉ (rOut 128 n (by decide)).set := fun hmem => by
  have h1 : 128 ≤ 0 + i.val := (Rect.mem_set_unit.mp hmem 0).1
  omega

/-- A column of one head is not in another's. -/
theorem not_mem_other (o : ℕ) (ho : o ≤ 128) (n : ℕ) (hn : n < 8) (hd : Fin 8) (hne : hd.val ≠ n) (r : Fin 256) (e : Fin 128) :
    ix2 r (col hd e) ∉ (rOut o n ho).set := fun hmem => by
  have h0 := Rect.mem_set_unit.mp hmem 1
  have h1 : 128 * (n % 8) ≤ 128 * hd.val + e.val := h0.1
  have h2 : 128 * hd.val + e.val < 128 * (n % 8) + 128 := h0.2
  omega

/-- The pieces of one head more. -/
theorem outP_succ (p0 p1 : ℕ → FVec F S128x128 .f32) (n : ℕ) :
    outP p0 p1 (n + 1) = ⟨rOut 128 n (by decide), p1 n⟩ :: ⟨rOut 0 n (by decide), p0 n⟩ :: outP p0 p1 n := rfl

/-- The output block from its pieces: the upper half's rows and the lower half's. -/
theorem canon_outP (p0 p1 : ℕ → FVec F S128x128 .f32) (n : ℕ) (hn : n ≤ 8) (h : Fin 8) (hh : h.val < n) (i e : Fin 128) :
    View.canon (Val := Elt F) (outP p0 p1 n) (ix2 (ps 0 (.inl rfl) i) (col h e)) = p0 h.val (ix2 i e) ∧
    View.canon (Val := Elt F) (outP p0 p1 n) (ix2 (ps 128 (.inr rfl) i) (col h e)) = p1 h.val (ix2 i e) := by
  induction n with
  | zero => omega
  | succ n ih =>
    rw [outP_succ]
    by_cases hc : h.val = n
    · subst hc
      constructor
      · refine (View.canon_cons_of_not_mem (Val := Elt F) (e := .f32) ⟨rOut 128 h.val (by decide), p1 h.val⟩ _ (not_mem_lower h.val h i e)).trans ?_
        rw [emb_rOut 0 _ (by decide)]
        exact View.canon_cons_emb (Val := Elt F) (e := .f32) (rOut 0 h.val (by decide)) (p0 h.val) _ (ix2 i e)
      · rw [emb_rOut 128 _ (by decide)]
        exact View.canon_cons_emb (Val := Elt F) (e := .f32) (rOut 128 h.val (by decide)) (p1 h.val) _ (ix2 i e)
    · obtain ⟨i1, i2⟩ := ih (by omega) (by omega)
      constructor
      · refine (View.canon_cons_of_not_mem (Val := Elt F) (e := .f32) ⟨rOut 128 n (by decide), p1 n⟩ _ (not_mem_other 128 (by decide) n (by omega) h hc _ e)).trans ?_
        refine (View.canon_cons_of_not_mem (Val := Elt F) (e := .f32) ⟨rOut 0 n (by decide), p0 n⟩ _ (not_mem_other 0 (by decide) n (by omega) h hc _ e)).trans ?_
        exact i1
      · refine (View.canon_cons_of_not_mem (Val := Elt F) (e := .f32) ⟨rOut 128 n (by decide), p1 n⟩ _ (not_mem_other 128 (by decide) n (by omega) h hc _ e)).trans ?_
        refine (View.canon_cons_of_not_mem (Val := Elt F) (e := .f32) ⟨rOut 0 n (by decide), p0 n⟩ _ (not_mem_other 0 (by decide) n (by omega) h hc _ e)).trans ?_
        exact i2

section states
variable (rd : List (View.Piece (Elt F) S2x8x128x128 .f32) → ℕ → FVec F S1x1x128x128 .f32) (D : Dir F) (d : Fin 2)
    (u v : ℕ → FVec F S256x128 .f32) (b : ℕ → FVec F S1x128 .f32)
    (base : List (View.Piece (Elt F) S2x8x128x128 .f32))

/-- An index of another direction or another head is not in a head's state. -/
theorem not_mem_rSt (d' : Fin 2) (h : Fin 8) (n : ℕ) (hn : n < 8) (hne : d' ≠ d ∨ h.val ≠ n) (e dd : Fin 128) :
    ix4 d' h e dd ∉ (rSt d.val n).set := fun hmem => by
  have h0 := Rect.mem_set_unit.mp hmem 0
  have h1 := Rect.mem_set_unit.mp hmem 1
  have a1 : d.val % 2 ≤ d'.val := h0.1
  have a2 : d'.val < d.val % 2 + 1 := h0.2
  have b1 : n % 8 ≤ h.val := h1.1
  have b2 : h.val < n % 8 + 1 := h1.2
  rcases hne with hne | hne
  · exact hne (Fin.ext (by omega))
  · omega

/-- The index of a head's state in the scratch. -/
theorem emb_rSt (h : Fin 8) (e dd : Fin 128) : ix4 d h e dd = (rSt d.val h.val).emb (ix4 0 0 e dd) := by
  funext a; apply Fin.ext
  refine Eq.trans ?_ (Rect.idx_unit_val _ _ _ (ix4 0 0 e dd) a).symm
  fin_cases a
  · show d.val = d.val % 2 + 0; omega
  · show h.val = h.val % 8 + 0; omega
  · exact (Nat.zero_add e.val).symm
  · exact (Nat.zero_add dd.val).symm

/-- The pieces of one head more. -/
theorem hist_succ (n : ℕ) : hist rd D d.val u v b base (n + 1)
    = ⟨rSt d.val n, stNew D (u n) (v n) (b n) (rd (hist rd D d.val u v b base n) n)⟩ :: hist rd D d.val u v b base n := rfl

/-- The states a direction's first `n` heads do not store are those before. -/
theorem canon_hist_miss (n : ℕ) (hn : n ≤ 8) (d' : Fin 2) (h : Fin 8) (hne : d' ≠ d ∨ n ≤ h.val) (e dd : Fin 128) :
    View.canon (Val := Elt F) (hist rd D d.val u v b base n) (ix4 d' h e dd) = View.canon (Val := Elt F) base (ix4 d' h e dd) := by
  induction n with
  | zero => rfl
  | succ n ih =>
    rw [hist_succ]
    refine (View.canon_cons_of_not_mem _ _ (not_mem_rSt d d' h n (by omega) (hne.imp_right (by omega)) e dd)).trans ?_
    exact ih (by omega) (hne.imp_right (by omega))

/-- The state of a head that has been stored. -/
theorem canon_hist_hit (n : ℕ) (hn : n ≤ 8) (h : Fin 8) (hh : h.val < n) (e dd : Fin 128) :
    View.canon (Val := Elt F) (hist rd D d.val u v b base n) (ix4 d h e dd)
      = stNew D (u h.val) (v h.val) (b h.val) (rd (hist rd D d.val u v b base h.val) h.val) (ix4 0 0 e dd) := by
  induction n with
  | zero => omega
  | succ n ih =>
    rw [hist_succ]
    by_cases hc : h.val = n
    · subst hc
      rw [emb_rSt]
      exact View.canon_cons_emb (rSt d.val h.val) _ _ (ix4 0 0 e dd)
    · refine (View.canon_cons_of_not_mem _ _ (not_mem_rSt d d h n (by omega) (.inr hc) e dd)).trans ?_
      exact ih (by omega) (by omega)

/-- A state read from the pieces. -/
theorem rdCov_apply (a : Memref sig .tc .vmem S2x8x128x128 .f32) (L : List (View.Piece (Elt F) S2x8x128x128 .f32))
    (h : Fin 8) (e dd : Fin 128) : rdCov a d.val L h.val (ix4 0 0 e dd) = View.canon (Val := Elt F) L (ix4 d h e dd) := by
  unfold rdCov
  rw [View.readCov_eq_canon', emb_rSt]
  rfl

end states

/-- The first stores leave zeros. -/
theorem canon_zeroP (y : S2x8x128x128.Idx) : View.canon (Val := Elt Ideal) (zeroP (F := Ideal)) y = (0 : EReal) := by
  unfold zeroP
  rw [View.canon_cons_unit_lit _ _ _ (by decide)]
  show k0_pay1 y = _
  unfold k0_pay1
  pointwise

end Cert.Hgrn

end
-- ==== Proof.Windows.lean ====
/-
  What the windows of the scan hold at a grid point: the rows and columns of the projection, and the lower bounds.
-/
module
public import proofs.«01_k».proof.Proof.Spec
public import proofs.«01_k».proof.Proof.Blocks
public import proofs.«01_k».proof.Proof.Gen.KernelIdeal.Value

@[expose] public section
set_option maxRecDepth 16384
noncomputable section
namespace Cert.Hgrn
open Idealize.ShloMosaic Idealize.SL.Sem Idealize.ShloMosaic.TcCoe Cert.KernelIdeal Cert.KernelIdeal.Gen

/-- The row block of the forward windows. -/
def rbF (t : ℕ) : ℕ := if t % 17 = 0 then t / 34 else 4 + 16 * (t / 34) + (t % 17 - 1)
/-- The row block of the backward windows. -/
def rbB (t : ℕ) : ℕ := if t % 17 = 0 then t / 34 else 4 + 16 * (t / 34) + (15 - (t % 17 - 1))

theorem idx0 : ∀ t : Fin cfg0.N, win0_0.index t 0 = rbF t.val ∧ win0_0.index t 1 = 6 + t.val / 17 % 2 :=
  (by decide +kernel : ∀ t : Fin grid0.N, win0_0.index t 0 = rbF t.val ∧ win0_0.index t 1 = 6 + t.val / 17 % 2)
theorem idx1 : ∀ t : Fin cfg0.N, win0_1.index t 0 = rbF t.val ∧ win0_1.index t 1 = 8 + t.val / 17 % 2 :=
  (by decide +kernel : ∀ t : Fin grid0.N, win0_1.index t 0 = rbF t.val ∧ win0_1.index t 1 = 8 + t.val / 17 % 2)
theorem idx2 : ∀ t : Fin cfg0.N, win0_2.index t 0 = rbF t.val ∧ win0_2.index t 1 = 12 + t.val / 17 % 2 :=
  (by decide +kernel : ∀ t : Fin grid0.N, win0_2.index t 0 = rbF t.val ∧ win0_2.index t 1 = 12 + t.val / 17 % 2)
theorem idx3 : ∀ t : Fin cfg0.N, win0_3.index t 0 = rbB t.val ∧ win0_3.index t 1 = 6 + t.val / 17 % 2 :=
  (by decide +kernel : ∀ t : Fin grid0.N, win0_3.index t 0 = rbB t.val ∧ win0_3.index t 1 = 6 + t.val / 17 % 2)
theorem idx4 : ∀ t : Fin cfg0.N, win0_4.index t 0 = rbB t.val ∧ win0_4.index t 1 = 10 + t.val / 17 % 2 :=
  (by decide +kernel : ∀ t : Fin grid0.N, win0_4.index t 0 = rbB t.val ∧ win0_4.index t 1 = 10 + t.val / 17 % 2)
theorem idx5 : ∀ t : Fin cfg0.N, win0_5.index t 0 = rbB t.val ∧ win0_5.index t 1 = 12 + t.val / 17 % 2 :=
  (by decide +kernel : ∀ t : Fin grid0.N, win0_5.index t 0 = rbB t.val ∧ win0_5.index t 1 = 12 + t.val / 17 % 2)
theorem idx6 : ∀ t : Fin cfg0.N, win0_6.index t 0 = 0 ∧ win0_6.index t 1 = t.val / 17 % 2 :=
  (by decide +kernel : ∀ t : Fin grid0.N, win0_6.index t 0 = 0 ∧ win0_6.index t 1 = t.val / 17 % 2)
theorem idx7 : ∀ t : Fin cfg0.N, win0_7.index t 0 = rbF t.val ∧ win0_7.index t 1 = t.val / 17 % 2 :=
  (by decide +kernel : ∀ t : Fin grid0.N, win0_7.index t 0 = rbF t.val ∧ win0_7.index t 1 = t.val / 17 % 2)
theorem idx8 : ∀ t : Fin cfg0.N, win0_8.index t 0 = rbB t.val ∧ win0_8.index t 1 = t.val / 17 % 2 :=
  (by decide +kernel : ∀ t : Fin grid0.N, win0_8.index t 0 = rbB t.val ∧ win0_8.index t 1 = t.val / 17 % 2)

/-- The grid has 136 points. -/
theorem pt_lt (t : Fin cfg0.N) : t.val < 136 := lt_of_lt_of_eq t.isLt N_0

/-- The rows of a forward block are the sample's tokens from the block's first. -/
theorem rbF_row (t : ℕ) (i : ℕ) (hi : i < 256) : rbF t * 256 + i = row false (t / 34) (256 * (t % 17) + i) := by
  unfold rbF row
  simp only [Bool.false_eq_true, if_false]
  split_ifs <;> omega

/-- The rows of a backward block are the sample's tokens from the block's first, the last row first. -/
theorem rbB_row (t : ℕ) (i : ℕ) (hi : i < 256) : rbB t * 256 + i = row true (t / 34) (256 * (t % 17) + (255 - i)) := by
  unfold rbB row
  simp only [if_true]
  split_ifs <;> omega

/-- The row of token `σ i` of the point's block, in either direction. -/
theorem rbF_lt (t : ℕ) (ht : t < 136) : rbF t < 68 := by unfold rbF; split_ifs <;> omega
theorem rbB_lt (t : ℕ) (ht : t < 136) : rbB t < 68 := by unfold rbB; split_ifs <;> omega

variable (m : (ℓ : Loc nD τ sig) → Buf (Elt Ideal) ℓ) (c : Dev nD)

/-- The projection and the lower bounds are the reals `p` and `l` where the scan reads them. -/
structure Reals (P : FVec Ideal S17408x20480 .f32) (B : FVec Ideal S2048 .f32) (p : ℕ → ℕ → ℝ) (l : ℕ → ℝ) : Prop where
  p : ∀ (r : Fin 17408) (k : Fin 20480), 6144 ≤ k.val → k.val < 14336 → P (ix2 r k) = ((p r.val k.val : ℝ) : EReal)
  l : ∀ k : Fin 2048, B (ix1 k) = ((l k.val : ℝ) : EReal)

variable (p : ℕ → ℕ → ℝ) (l : ℕ → ℝ) (H : Reals (m ((c : Thread nD τ).loc main_arg0)) (m ((c : Thread nD τ).loc main_arg1)) p l)
include H

/-- The projection at a row and a column the scan reads. -/
theorem at_proj (y : S17408x20480.Idx) (r k : ℕ) (h0 : (y 0).val = r) (h1 : (y 1).val = k) (hk : 6144 ≤ k) (hk' : k < 14336) :
    V m c main_arg0 y = ((p r k : ℝ) : EReal) := by
  subst h0 h1
  rw [V_main_arg0]
  refine Eq.trans ?_ (H.p (y 0) (y 1) hk hk')
  exact congrArg _ (by funext a; fin_cases a <;> rfl)

/-- The forward query block. -/
theorem iblk0 (t : Fin cfg0.N) (h : Fin 8) (i : Fin 256) (d : Fin 128) :
    (iblk m c 0 t : Vec Ideal S256x1024 .f32) (ix2 i (col h d))
      = ((sX p false (t.val / 34) (8 * (t.val / 17 % 2) + h.val) (256 * (t.val % 17) + (Equiv.refl (Fin 256) i).val) d : ℝ) : EReal) := by
  unfold iblk sX
  rw [View.read_apply, Equiv.refl_apply, ← rbF_row t.val i.val i.isLt]
  refine at_proj m c p l H _ _ _ ?_ ?_ (by omega) (by omega)
  · show win0_0.index t 0 * 256 + 1 * i.val = _
    rw [(idx0 t).1]; omega
  · show win0_0.index t 1 * 1024 + 1 * (128 * h.val + d.val) = _
    rw [(idx0 t).2]; omega

/-- The forward gate block. -/
theorem iblk1 (t : Fin cfg0.N) (h : Fin 8) (i : Fin 256) (d : Fin 128) :
    (iblk m c 1 t : Vec Ideal S256x1024 .f32) (ix2 i (col h d))
      = ((sU p false (t.val / 34) (8 * (t.val / 17 % 2) + h.val) (256 * (t.val % 17) + (Equiv.refl (Fin 256) i).val) d : ℝ) : EReal) := by
  unfold iblk sU
  simp only [Bool.false_eq_true, if_false]
  rw [View.read_apply, Equiv.refl_apply, ← rbF_row t.val i.val i.isLt]
  refine at_proj m c p l H _ _ _ ?_ ?_ (by omega) (by omega)
  · show win0_1.index t 0 * 256 + 1 * i.val = _
    rw [(idx1 t).1]; omega
  · show win0_1.index t 1 * 1024 + 1 * (128 * h.val + d.val) = _
    rw [(idx1 t).2]; omega

/-- The forward value block. -/
theorem iblk2 (t : Fin cfg0.N) (h : Fin 8) (i : Fin 256) (d : Fin 128) :
    (iblk m c 2 t : Vec Ideal S256x1024 .f32) (ix2 i (col h d))
      = ((sV p false (t.val / 34) (8 * (t.val / 17 % 2) + h.val) (256 * (t.val % 17) + (Equiv.refl (Fin 256) i).val) d : ℝ) : EReal) := by
  unfold iblk sV
  rw [View.read_apply, Equiv.refl_apply, ← rbF_row t.val i.val i.isLt]
  refine at_proj m c p l H _ _ _ ?_ ?_ (by omega) (by omega)
  · show win0_2.index t 0 * 256 + 1 * i.val = _
    rw [(idx2 t).1]; omega
  · show win0_2.index t 1 * 1024 + 1 * (128 * h.val + d.val) = _
    rw [(idx2 t).2]; omega

omit H in
/-- A row counted from the block's end. -/
theorem rev_val (i : Fin 256) : (Fin.revPerm i).val = 255 - i.val := by
  rw [Fin.revPerm_apply, Fin.val_rev]; omega

/-- The backward query block. -/
theorem iblk3 (t : Fin cfg0.N) (h : Fin 8) (i : Fin 256) (d : Fin 128) :
    (iblk m c 3 t : Vec Ideal S256x1024 .f32) (ix2 i (col h d))
      = ((sX p true (t.val / 34) (8 * (t.val / 17 % 2) + h.val) (256 * (t.val % 17) + (Fin.revPerm i).val) d : ℝ) : EReal) := by
  unfold iblk sX
  rw [View.read_apply, rev_val, ← rbB_row t.val i.val i.isLt]
  refine at_proj m c p l H _ _ _ ?_ ?_ (by omega) (by omega)
  · show win0_3.index t 0 * 256 + 1 * i.val = _
    rw [(idx3 t).1]; omega
  · show win0_3.index t 1 * 1024 + 1 * (128 * h.val + d.val) = _
    rw [(idx3 t).2]; omega

/-- The backward gate block. -/
theorem iblk4 (t : Fin cfg0.N) (h : Fin 8) (i : Fin 256) (d : Fin 128) :
    (iblk m c 4 t : Vec Ideal S256x1024 .f32) (ix2 i (col h d))
      = ((sU p true (t.val / 34) (8 * (t.val / 17 % 2) + h.val) (256 * (t.val % 17) + (Fin.revPerm i).val) d : ℝ) : EReal) := by
  unfold iblk sU
  simp only [if_true]
  rw [View.read_apply, rev_val, ← rbB_row t.val i.val i.isLt]
  refine at_proj m c p l H _ _ _ ?_ ?_ (by omega) (by omega)
  · show win0_4.index t 0 * 256 + 1 * i.val = _
    rw [(idx4 t).1]; omega
  · show win0_4.index t 1 * 1024 + 1 * (128 * h.val + d.val) = _
    rw [(idx4 t).2]; omega

/-- The backward value block. -/
theorem iblk5 (t : Fin cfg0.N) (h : Fin 8) (i : Fin 256) (d : Fin 128) :
    (iblk m c 5 t : Vec Ideal S256x1024 .f32) (ix2 i (col h d))
      = ((sV p true (t.val / 34) (8 * (t.val / 17 % 2) + h.val) (256 * (t.val % 17) + (Fin.revPerm i).val) d : ℝ) : EReal) := by
  unfold iblk sV
  rw [View.read_apply, rev_val, ← rbB_row t.val i.val i.isLt]
  refine at_proj m c p l H _ _ _ ?_ ?_ (by omega) (by omega)
  · show win0_5.index t 0 * 256 + 1 * i.val = _
    rw [(idx5 t).1]; omega
  · show win0_5.index t 1 * 1024 + 1 * (128 * h.val + d.val) = _
    rw [(idx5 t).2]; omega

/-- The lower bounds as the scan's row. -/
theorem at_lb (y : S1x2048.Idx) (k : ℕ) (h1 : (y 1).val = k) : V m c main_v0 y = ((l k : ℝ) : EReal) := by
  subst h1
  refine Eq.trans ?_ (H.l (y 1))
  show StableHlo.after hostOps0 (fun b => m (c, b)) main_v0 y = _
  entry_read
  rw [broadcastInDim_apply]
  intro a
  fin_cases a
  rfl

/-- The block of lower bounds. -/
theorem iblk6 (t : Fin cfg0.N) (h : Fin 8) (d : Fin 128) :
    (iblk m c 6 t : Vec Ideal S1x1024 .f32) (ix2 0 (col h d))
      = ((sB l (8 * (t.val / 17 % 2) + h.val) d : ℝ) : EReal) := by
  unfold iblk sB
  rw [View.read_apply]
  refine at_lb m c p l H _ _ ?_
  show win0_6.index t 1 * 1024 + 1 * (128 * h.val + d.val) = _
  rw [(idx6 t).2]; omega

end Cert.Hgrn

end
-- ==== Proof.Point.lean ====
/-
  The scan along the grid: what a point's body leaves in the two output blocks and in the scratch, by the head
  functions, and the invariant along the 17 points of a sample and a head group.
-/
module
public import proofs.«01_k».proof.Proof.Windows

@[expose] public section
set_option maxRecDepth 16384
noncomputable section
namespace Cert.Hgrn
open Idealize.ShloMosaic Idealize.SL.Sem Idealize.ShloMosaic.TcCoe Cert.KernelIdeal Cert.KernelIdeal.Gen

section body
variable (X U V : ℕ → ℕ → Fin 128 → ℝ) (B : ℕ → Fin 128 → ℝ) (n : ℕ) (σ : Fin 256 ≃ Fin 256)

/-- A block of 1024 columns holds a sequence's rows of a point, head by head. -/
def Blk (x : Vec Ideal S256x1024 .f32) (W : ℕ → ℕ → Fin 128 → ℝ) : Prop :=
  ∀ (h : Fin 8) (i : Fin 256) (d : Fin 128), x (ix2 i (col h d)) = ((W h.val (n + (σ i).val) d : ℝ) : EReal)

/-- A row of 1024 lower bounds holds those of each head. -/
def Row (x : Vec Ideal S1x1024 .f32) : Prop :=
  ∀ (h : Fin 8) (d : Fin 128), x (ix2 0 (col h d)) = ((B h.val d : ℝ) : EReal)

/-- A head's state after `k` tokens. -/
def stAt (h k : ℕ) (d e : Fin 128) : ℝ := state (seqL (U h) (B h)) (seqK (U h) (B h)) (V h) k d e

/-- What each head reads is its state before the block. -/
def Sts (st : ℕ → FVec Ideal S1x1x128x128 .f32) : Prop :=
  ∀ (h : Fin 8) (e d : Fin 128), st h.val (ix4 0 0 e d) = ((stAt U V B h.val n d e : ℝ) : EReal)

variable (a3 a4 a5 : Memref sig .tc .vmem S256x1024 .f32) (h3 : a3.IsWhole) (h4 : a4.IsWhole) (h5 : a5.IsWhole)
  (a9 : Memref sig .tc .vmem S1x1024 .f32) (h9 : a9.IsWhole)
  (x0 x1 x2 : Vec Ideal S256x1024 .f32) (x6 : Vec Ideal S1x1024 .f32)
  (H0 : Blk n σ x0 X) (H1 : Blk n σ x1 U) (H2 : Blk n σ x2 V) (H6 : Row B x6)

include H1 H2 H6 in
/-- A head's loads and its state are what the head's value asks. -/
theorem holds_of (st : ℕ → FVec Ideal S1x1x128x128 .f32) (S : Sts U V B n st) (h : Fin 8) :
    Holds σ n (ldCol a4 h4 x1 h.val) (ldCol a5 h5 x2 h.val) (ldRow a9 h9 x6 h.val) (st h.val) (U h.val) (V h.val) (B h.val) where
  u i d := by rw [ldCol_apply]; exact H1 h i d
  v i d := by rw [ldCol_apply]; exact H2 h i d
  b d := by rw [ldRow_apply]; exact H6 h d
  st e d := S h e d

/-- A head's output at token `k`. -/
def outAt (h k : ℕ) (e : Fin 128) : ℝ := out (seqQ (X h)) (seqL (U h) (B h)) (seqK (U h) (B h)) (V h) k e

include H0 H1 H2 H6 in
/-- The forward output block. -/
theorem block_fwd (hσ : σ = Equiv.refl _) (st : ℕ → FVec Ideal S1x1x128x128 .f32) (S : Sts U V B n st) (h : Fin 8) (i : Fin 256) (e : Fin 128) :
    View.canon (Val := Elt Ideal) (outP
        (fun h => outE fwd (ldCol a3 h3 x0 h) (ldCol a4 h4 x1 h) (ldCol a5 h5 x2 h) (ldRow a9 h9 x6 h) (st h))
        (fun h => outL fwd (ldCol a3 h3 x0 h) (ldCol a4 h4 x1 h) (ldCol a5 h5 x2 h) (ldRow a9 h9 x6 h) (st h)) 8)
      (ix2 i (col h e)) = ((outAt X U V B h.val (n + (σ i).val) e : ℝ) : EReal) := by
  have hd := holds_of U V B n σ a4 a5 h4 h5 a9 h9 x1 x2 x6 H1 H2 H6 st S h
  have hx : ∀ (i : Fin 256) (d : Fin 128), ldCol a3 h3 x0 h.val (ix2 i d) = ((X h.val (n + (σ i).val) d : ℝ) : EReal) :=
    fun i d => by rw [ldCol_apply]; exact H0 h i d
  have ok : DirOk fwd σ := hσ ▸ fwd_ok
  by_cases hi : i.val < 128
  · have ei : i = ps 0 (.inl rfl) ⟨i.val, hi⟩ := Fin.ext (by show i.val = 0 + i.val; omega)
    rw [ei, (canon_outP _ _ 8 (by omega) h h.isLt ⟨i.val, hi⟩ e).1]
    exact outE_apply ok n _ _ _ _ _ _ _ _ _ hd hx ⟨i.val, hi⟩ e
  · have ei : i = ps 128 (.inr rfl) ⟨i.val - 128, by omega⟩ := Fin.ext (by show i.val = 128 + (i.val - 128); omega)
    rw [ei, (canon_outP _ _ 8 (by omega) h h.isLt ⟨i.val - 128, by omega⟩ e).2]
    exact outL_apply ok n _ _ _ _ _ _ _ _ _ hd hx ⟨i.val - 128, by omega⟩ e

include H0 H1 H2 H6 in
/-- The backward output block. -/
theorem block_bwd (hσ : σ = Fin.revPerm) (st : ℕ → FVec Ideal S1x1x128x128 .f32) (S : Sts U V B n st) (h : Fin 8) (i : Fin 256) (e : Fin 128) :
    View.canon (Val := Elt Ideal) (outP
        (fun h => outL bwd (ldCol a3 h3 x0 h) (ldCol a4 h4 x1 h) (ldCol a5 h5 x2 h) (ldRow a9 h9 x6 h) (st h))
        (fun h => outE bwd (ldCol a3 h3 x0 h) (ldCol a4 h4 x1 h) (ldCol a5 h5 x2 h) (ldRow a9 h9 x6 h) (st h)) 8)
      (ix2 i (col h e)) = ((outAt X U V B h.val (n + (σ i).val) e : ℝ) : EReal) := by
  have hd := holds_of U V B n σ a4 a5 h4 h5 a9 h9 x1 x2 x6 H1 H2 H6 st S h
  have hx : ∀ (i : Fin 256) (d : Fin 128), ldCol a3 h3 x0 h.val (ix2 i d) = ((X h.val (n + (σ i).val) d : ℝ) : EReal) :=
    fun i d => by rw [ldCol_apply]; exact H0 h i d
  have ok : DirOk bwd σ := hσ ▸ bwd_ok
  by_cases hi : i.val < 128
  · have ei : i = ps 0 (.inl rfl) ⟨i.val, hi⟩ := Fin.ext (by show i.val = 0 + i.val; omega)
    rw [ei, (canon_outP _ _ 8 (by omega) h h.isLt ⟨i.val, hi⟩ e).1]
    exact outL_apply ok n _ _ _ _ _ _ _ _ _ hd hx ⟨i.val, hi⟩ e
  · have ei : i = ps 128 (.inr rfl) ⟨i.val - 128, by omega⟩ := Fin.ext (by show i.val = 128 + (i.val - 128); omega)
    rw [ei, (canon_outP _ _ 8 (by omega) h h.isLt ⟨i.val - 128, by omega⟩ e).2]
    exact outE_apply ok n _ _ _ _ _ _ _ _ _ hd hx ⟨i.val - 128, by omega⟩ e

include H1 H2 H6 in
/-- The states one direction stores. -/
theorem block_state {D : Dir Ideal} (ok : DirOk D σ) (d : Fin 2)
    (rd : List (View.Piece (Elt Ideal) S2x8x128x128 .f32) → ℕ → FVec Ideal S1x1x128x128 .f32)
    (base : List (View.Piece (Elt Ideal) S2x8x128x128 .f32))
    (S : Sts U V B n fun h => rd (hist rd D d.val (ldCol a4 h4 x1) (ldCol a5 h5 x2) (ldRow a9 h9 x6) base h) h)
    (h : Fin 8) (e dd : Fin 128) :
    View.canon (Val := Elt Ideal) (hist rd D d.val (ldCol a4 h4 x1) (ldCol a5 h5 x2) (ldRow a9 h9 x6) base 8) (ix4 d h e dd)
      = ((stAt U V B h.val (n + 256) dd e : ℝ) : EReal) := by
  rw [canon_hist_hit (n := 8) (hn := by omega) (h := h) (hh := h.isLt)]
  exact stNew_apply ok n _ _ _ _ _ _ _ (holds_of U V B n σ a4 a5 h4 h5 a9 h9 x1 x2 x6 H1 H2 H6 _ S h) e dd

end body

end Cert.Hgrn

end
-- ==== Proof.Scan.lean ====
/-
  The invariant along the grid: after each point the two output blocks hold the outputs of its tokens and the scratch
  the states after them.
-/
module
public import proofs.«01_k».proof.Proof.Point

@[expose] public section
set_option maxRecDepth 16384
noncomputable section
namespace Cert.Hgrn
open Idealize.ShloMosaic Idealize.SL.Sem Idealize.ShloMosaic.TcCoe Cert.KernelIdeal Cert.KernelIdeal.Gen

section read
variable (c : Dev nD) (i : grid0.Coords)
  (a3 : Memref sig .tc .vmem S256x1024 .f32) (h3 : a3.IsWhole) (a4 : Memref sig .tc .vmem S256x1024 .f32) (h4 : a4.IsWhole)
  (a5 : Memref sig .tc .vmem S256x1024 .f32) (h5 : a5.IsWhole) (a6 : Memref sig .tc .vmem S256x1024 .f32) (h6 : a6.IsWhole)
  (a7 : Memref sig .tc .vmem S256x1024 .f32) (h7 : a7.IsWhole) (a8 : Memref sig .tc .vmem S256x1024 .f32) (h8 : a8.IsWhole)
  (a9 : Memref sig .tc .vmem S1x1024 .f32) (h9 : a9.IsWhole) (a10 : Memref sig .tc .vmem S256x1024 .f32) (h10 : a10.IsWhole)
  (a11 : Memref sig .tc .vmem S256x1024 .f32) (h11 : a11.IsWhole) (a12 : Memref sig .tc .vmem S2x8x128x128 .f32)
  (h12 : a12.IsWhole)
  (x0 x1 x2 x3 x4 x5 : Vec Ideal S256x1024 .f32) (x6 : Vec Ideal S1x1024 .f32) (xs : Vec Ideal S2x8x128x128 .f32)

/-- The forward block of a run's first point, from its pieces. -/
theorem readA_7 (hc : cond0_0 i) : out0_A_7 c i a3 h3 a4 h4 a5 h5 a6 h6 a7 h7 a8 h8 a9 h9 a10 h10 a11 h11 a12 h12 hc x0 x1 x2 x3 x4 x5 x6
    = View.canon (Val := Elt Ideal) (outP (fun h => outE fwd (ldCol a3 h3 x0 h) (ldCol a4 h4 x1 h) (ldCol a5 h5 x2 h) (ldRow a9 h9 x6 h)
            (rdCov a12 0 (histF a4 h4 a5 h5 a9 h9 a12 x1 x2 x6 h) h))
          (fun h => outL fwd (ldCol a3 h3 x0 h) (ldCol a4 h4 x1 h) (ldCol a5 h5 x2 h) (ldRow a9 h9 x6 h)
            (rdCov a12 0 (histF a4 h4 a5 h5 a9 h9 a12 x1 x2 x6 h) h)) 8) :=
  (View.read_writes_junk_eq_canon _ _).trans
    (congrArg _ (runA_7 c i a3 h3 a4 h4 a5 h5 a6 h6 a7 h7 a8 h8 a9 h9 a10 h10 a11 h11 a12 h12 x0 x1 x2 x3 x4 x5 x6 hc))

/-- The backward block of a run's first point, from its pieces. -/
theorem readA_8 (hc : cond0_0 i) : out0_A_8 c i a3 h3 a4 h4 a5 h5 a6 h6 a7 h7 a8 h8 a9 h9 a10 h10 a11 h11 a12 h12 hc x0 x1 x2 x3 x4 x5 x6
    = View.canon (Val := Elt Ideal) (outP (fun h => outL bwd (ldCol a6 h6 x3 h) (ldCol a7 h7 x4 h) (ldCol a8 h8 x5 h) (ldRow a9 h9 x6 h)
            (rdCov a12 1 (histB a4 h4 a5 h5 a7 h7 a8 h8 a9 h9 a12 x1 x2 x4 x5 x6 h) h))
          (fun h => outE bwd (ldCol a6 h6 x3 h) (ldCol a7 h7 x4 h) (ldCol a8 h8 x5 h) (ldRow a9 h9 x6 h)
            (rdCov a12 1 (histB a4 h4 a5 h5 a7 h7 a8 h8 a9 h9 a12 x1 x2 x4 x5 x6 h) h)) 8) :=
  (View.read_writes_junk_eq_canon _ _).trans
    (congrArg _ (runA_8 c i a3 h3 a4 h4 a5 h5 a6 h6 a7 h7 a8 h8 a9 h9 a10 h10 a11 h11 a12 h12 x0 x1 x2 x3 x4 x5 x6 hc))

/-- The states of a run's first point, from their pieces. -/
theorem readA_S (hc : cond0_0 i) : sout0_A_0 c i a3 h3 a4 h4 a5 h5 a6 h6 a7 h7 a8 h8 a9 h9 a10 h10 a11 h11 a12 h12 hc x0 x1 x2 x3 x4 x5 x6
    = View.canon (Val := Elt Ideal) (histB a4 h4 a5 h5 a7 h7 a8 h8 a9 h9 a12 x1 x2 x4 x5 x6 8) :=
  (View.read_writes_junk_eq_canon _ _).trans
    (congrArg _ (runA_S c i a3 h3 a4 h4 a5 h5 a6 h6 a7 h7 a8 h8 a9 h9 a10 h10 a11 h11 a12 h12 x0 x1 x2 x3 x4 x5 x6 hc))

/-- The forward block of a later point, from its pieces. -/
theorem readB_7 (hc : ¬cond0_0 i) : out0_B_7 c i a3 h3 a4 h4 a5 h5 a6 h6 a7 h7 a8 h8 a9 h9 a10 h10 a11 h11 a12 h12 hc x0 x1 x2 x3 x4 x5 x6 xs
    = View.canon (Val := Elt Ideal) (outP (fun h => outE fwd (ldCol a3 h3 x0 h) (ldCol a4 h4 x1 h) (ldCol a5 h5 x2 h) (ldRow a9 h9 x6 h) (rdAt a12 h12 xs 0 [] h))
          (fun h => outL fwd (ldCol a3 h3 x0 h) (ldCol a4 h4 x1 h) (ldCol a5 h5 x2 h) (ldRow a9 h9 x6 h) (rdAt a12 h12 xs 0 [] h)) 8) :=
  (View.read_writes_junk_eq_canon _ _).trans
    (congrArg _ (runB_7 c i a3 h3 a4 h4 a5 h5 a6 h6 a7 h7 a8 h8 a9 h9 a10 h10 a11 h11 a12 h12 x0 x1 x2 x3 x4 x5 x6 xs hc))

/-- The backward block of a later point, from its pieces. -/
theorem readB_8 (hc : ¬cond0_0 i) : out0_B_8 c i a3 h3 a4 h4 a5 h5 a6 h6 a7 h7 a8 h8 a9 h9 a10 h10 a11 h11 a12 h12 hc x0 x1 x2 x3 x4 x5 x6 xs
    = View.canon (Val := Elt Ideal) (outP (fun h => outL bwd (ldCol a6 h6 x3 h) (ldCol a7 h7 x4 h) (ldCol a8 h8 x5 h) (ldRow a9 h9 x6 h) (rdAt a12 h12 xs 1 [] h))
          (fun h => outE bwd (ldCol a6 h6 x3 h) (ldCol a7 h7 x4 h) (ldCol a8 h8 x5 h) (ldRow a9 h9 x6 h) (rdAt a12 h12 xs 1 [] h)) 8) :=
  (View.read_writes_junk_eq_canon _ _).trans
    (congrArg _ (runB_8 c i a3 h3 a4 h4 a5 h5 a6 h6 a7 h7 a8 h8 a9 h9 a10 h10 a11 h11 a12 h12 x0 x1 x2 x3 x4 x5 x6 xs hc))

/-- The states of a later point, from their pieces. -/
theorem readB_S (hc : ¬cond0_0 i) : sout0_B_0 c i a3 h3 a4 h4 a5 h5 a6 h6 a7 h7 a8 h8 a9 h9 a10 h10 a11 h11 a12 h12 hc x0 x1 x2 x3 x4 x5 x6 xs
    = View.canon (Val := Elt Ideal) (hist (rdAt a12 h12 xs 1) bwd 1 (ldCol a7 h7 x4) (ldCol a8 h8 x5) (ldRow a9 h9 x6)
          (hist (rdAt a12 h12 xs 0) fwd 0 (ldCol a4 h4 x1) (ldCol a5 h5 x2) (ldRow a9 h9 x6) [] 8) 8) :=
  (View.read_writes_junk_eq_canon _ _).trans
    (congrArg _ (runB_S c i a3 h3 a4 h4 a5 h5 a6 h6 a7 h7 a8 h8 a9 h9 a10 h10 a11 h11 a12 h12 x0 x1 x2 x3 x4 x5 x6 xs hc))

end read

variable (m : (ℓ : Loc nD τ sig) → Buf (Elt Ideal) ℓ) (c : Dev nD)
variable (p : ℕ → ℕ → ℝ) (l : ℕ → ℝ)

/-- The head a point's local head is. -/
abbrev hdOf (t h : ℕ) : ℕ := 8 * (t / 17 % 2) + h

/-- The scratch after point `t`: the states after its tokens. -/
def InvS (t : ℕ) (S : Vec Ideal S2x8x128x128 .f32) : Prop := ∀ (h : Fin 8) (e d : Fin 128),
  S (ix4 0 h e d) = ((hst p l false (t / 34) (hdOf t h.val) (256 * (t % 17) + 256) d e : ℝ) : EReal) ∧
  S (ix4 1 h e d) = ((hst p l true (t / 34) (hdOf t h.val) (256 * (t % 17) + 256) d e : ℝ) : EReal)

/-- An output block of point `t`: the outputs at its tokens, row `i` holding token `σ i`. -/
def InvO (rev : Bool) (σ : Fin 256 ≃ Fin 256) (t : ℕ) (O : Vec Ideal S256x1024 .f32) : Prop :=
  ∀ (h : Fin 8) (i : Fin 256) (e : Fin 128),
    O (ix2 i (col h e)) = ((res p l rev (t / 34) (hdOf t h.val) (256 * (t % 17) + (σ i).val) e : ℝ) : EReal)

/-- What point `t` leaves. -/
def Inv (t : ℕ) (o : Vec Ideal S256x1024 .f32 × Vec Ideal S256x1024 .f32 × Vec Ideal S2x8x128x128 .f32) : Prop :=
  InvO p l false (Equiv.refl _) t o.1 ∧ InvO p l true Fin.revPerm t o.2.1 ∧ InvS p l t o.2.2

variable (H : Reals (m ((c : Thread nD τ).loc main_arg0)) (m ((c : Thread nD τ).loc main_arg1)) p l)

/-- No state before the first token. -/
theorem stAt_zero (U V : ℕ → ℕ → Fin 128 → ℝ) (B : ℕ → Fin 128 → ℝ) (h : ℕ) (d e : Fin 128) : stAt U V B h 0 d e = 0 := rfl

include H in
/-- At the first point of a sample and a head group the states start from zero. -/
theorem inv_first (t : Fin cfg0.N) (h0 : t.val % 17 = 0) : Inv p l t.val (outsAt0 m c t.val t.isLt) := by
  rw [outsAt0_A m c t h0]
  unfold Inv
  dsimp only
  rw [readA_7, readA_8, readA_S]
  have H6 : Row (fun h => sB l (hdOf t.val h)) (iblk m c 6 t) := iblk6 m c p l H t
  have HF1 : Blk (256 * (t.val % 17)) (Equiv.refl _) (iblk m c 1 t) (fun h => sU p false (t.val / 34) (hdOf t.val h)) := iblk1 m c p l H t
  have HF2 : Blk (256 * (t.val % 17)) (Equiv.refl _) (iblk m c 2 t) (fun h => sV p false (t.val / 34) (hdOf t.val h)) := iblk2 m c p l H t
  have HB1 : Blk (256 * (t.val % 17)) Fin.revPerm (iblk m c 4 t) (fun h => sU p true (t.val / 34) (hdOf t.val h)) := iblk4 m c p l H t
  have HB2 : Blk (256 * (t.val % 17)) Fin.revPerm (iblk m c 5 t) (fun h => sV p true (t.val / 34) (hdOf t.val h)) := iblk5 m c p l H t
  have z : 256 * (t.val % 17) = 0 := by omega
  have SF : Sts (fun h => sU p false (t.val / 34) (hdOf t.val h)) (fun h => sV p false (t.val / 34) (hdOf t.val h))
      (fun h => sB l (hdOf t.val h)) (256 * (t.val % 17))
      (fun h => rdCov scM0_0 0 (histF (ms0_1 t) (hs0_1 t) (ms0_2 t) (hs0_2 t) (ms0_6 t) (hs0_6 t) scM0_0 (iblk m c 1 t) (iblk m c 2 t) (iblk m c 6 t) h) h) := by
    intro h e d
    rw [z, stAt_zero]
    refine (rdCov_apply 0 scM0_0 _ h e d).trans ?_
    refine (canon_hist_miss _ _ 0 _ _ _ _ h.val (by omega) 0 h (.inr le_rfl) e d).trans ?_
    rw [canon_zeroP]; rfl
  have SB : Sts (fun h => sU p true (t.val / 34) (hdOf t.val h)) (fun h => sV p true (t.val / 34) (hdOf t.val h))
      (fun h => sB l (hdOf t.val h)) (256 * (t.val % 17))
      (fun h => rdCov scM0_0 1 (histB (ms0_1 t) (hs0_1 t) (ms0_2 t) (hs0_2 t) (ms0_4 t) (hs0_4 t) (ms0_5 t) (hs0_5 t) (ms0_6 t) (hs0_6 t) scM0_0
        (iblk m c 1 t) (iblk m c 2 t) (iblk m c 4 t) (iblk m c 5 t) (iblk m c 6 t) h) h) := by
    intro h e d
    rw [z, stAt_zero]
    refine (rdCov_apply 1 scM0_0 _ h e d).trans ?_
    refine (canon_hist_miss _ _ 1 _ _ _ _ h.val (by omega) 1 h (.inr le_rfl) e d).trans ?_
    refine (canon_hist_miss _ _ 0 _ _ _ _ 8 (by omega) 1 h (.inl (by decide)) e d).trans ?_
    rw [canon_zeroP]; rfl
  refine ⟨fun h i e => ?_, fun h i e => ?_, fun h e d => ⟨?_, ?_⟩⟩
  · exact block_fwd (fun h => sX p false (t.val / 34) (hdOf t.val h)) _ _ _ _ _ _ _ _ _ _ _ _ _ _ _ _ _ (iblk0 m c p l H t) HF1 HF2 H6 rfl _ SF h i e
  · exact block_bwd (fun h => sX p true (t.val / 34) (hdOf t.val h)) _ _ _ _ _ _ _ _ _ _ _ _ _ _ _ _ _ (iblk3 m c p l H t) HB1 HB2 H6 rfl _ SB h i e
  · refine (canon_hist_miss _ _ 1 _ _ _ _ 8 (by omega) 0 h (.inl (by decide)) e d).trans ?_
    exact block_state _ _ _ _ _ _ _ _ _ _ _ _ _ _ HF1 HF2 H6 fwd_ok 0 _ _ SF h e d
  · exact block_state _ _ _ _ _ _ _ _ _ _ _ _ _ _ HB1 HB2 H6 bwd_ok 1 _ _ SB h e d

include H in
/-- At a later point the states are those the point before left. -/
theorem inv_next (t : Fin cfg0.N) (h0 : ¬t.val % 17 = 0)
    (ih : InvS p l (t.val - 1) (outsAt0 m c (t.val - 1) (by have := t.isLt; omega)).2.2) : Inv p l t.val (outsAt0 m c t.val t.isLt) := by
  rw [outsAt0_B m c t h0]
  unfold Inv
  dsimp only
  rw [readB_7, readB_8, readB_S]
  have H6 : Row (fun h => sB l (hdOf t.val h)) (iblk m c 6 t) := iblk6 m c p l H t
  have HF1 : Blk (256 * (t.val % 17)) (Equiv.refl _) (iblk m c 1 t) (fun h => sU p false (t.val / 34) (hdOf t.val h)) := iblk1 m c p l H t
  have HF2 : Blk (256 * (t.val % 17)) (Equiv.refl _) (iblk m c 2 t) (fun h => sV p false (t.val / 34) (hdOf t.val h)) := iblk2 m c p l H t
  have HB1 : Blk (256 * (t.val % 17)) Fin.revPerm (iblk m c 4 t) (fun h => sU p true (t.val / 34) (hdOf t.val h)) := iblk4 m c p l H t
  have HB2 : Blk (256 * (t.val % 17)) Fin.revPerm (iblk m c 5 t) (fun h => sV p true (t.val / 34) (hdOf t.val h)) := iblk5 m c p l H t
  have z : 256 * ((t.val - 1) % 17) + 256 = 256 * (t.val % 17) := by omega
  have z1 : (t.val - 1) / 34 = t.val / 34 := by omega
  have z2 : (t.val - 1) / 17 = t.val / 17 := by omega
  unfold InvS hdOf at ih
  rw [z, z1, z2] at ih
  have SF : ∀ L : ℕ → List (View.Piece (Elt Ideal) S2x8x128x128 .f32), Sts (fun h => sU p false (t.val / 34) (hdOf t.val h)) (fun h => sV p false (t.val / 34) (hdOf t.val h))
      (fun h => sB l (hdOf t.val h)) (256 * (t.val % 17))
      (fun h => rdAt scM0_0 (Memref.isWhole_whole _) (outsAt0 m c (t.val - 1) (by have := t.isLt; omega)).2.2 0 (L h) h) := fun L h e d =>
    (rdAt_apply scM0_0 (Memref.isWhole_whole _) _ 0 (L h.val) h e d).trans (ih h e d).1
  have SB : ∀ L : ℕ → List (View.Piece (Elt Ideal) S2x8x128x128 .f32), Sts (fun h => sU p true (t.val / 34) (hdOf t.val h)) (fun h => sV p true (t.val / 34) (hdOf t.val h))
      (fun h => sB l (hdOf t.val h)) (256 * (t.val % 17))
      (fun h => rdAt scM0_0 (Memref.isWhole_whole _) (outsAt0 m c (t.val - 1) (by have := t.isLt; omega)).2.2 1 (L h) h) := fun L h e d =>
    (rdAt_apply scM0_0 (Memref.isWhole_whole _) _ 1 (L h.val) h e d).trans (ih h e d).2
  refine ⟨fun h i e => ?_, fun h i e => ?_, fun h e d => ⟨?_, ?_⟩⟩
  · exact block_fwd (fun h => sX p false (t.val / 34) (hdOf t.val h)) _ _ _ _ _ _ _ _ _ _ _ _ _ _ _ _ _ (iblk0 m c p l H t) HF1 HF2 H6 rfl _ (SF fun _ => []) h i e
  · exact block_bwd (fun h => sX p true (t.val / 34) (hdOf t.val h)) _ _ _ _ _ _ _ _ _ _ _ _ _ _ _ _ _ (iblk3 m c p l H t) HB1 HB2 H6 rfl _ (SB fun _ => []) h i e
  · refine (canon_hist_miss _ _ 1 _ _ _ _ 8 (by omega) 0 h (.inl (by decide)) e d).trans ?_
    exact block_state _ _ _ _ _ _ _ _ _ _ _ _ _ _ HF1 HF2 H6 fwd_ok 0 _ _ (SF _) h e d
  · exact block_state _ _ _ _ _ _ _ _ _ _ _ _ _ _ HB1 HB2 H6 bwd_ok 1 _ _ (SB _) h e d

include H in
/-- The invariant holds after every point. -/
theorem inv_all (n : ℕ) (hn : n < cfg0.N) : Inv p l n (outsAt0 m c n hn) := by
  induction n with
  | zero => exact inv_first m c p l H ⟨0, hn⟩ rfl
  | succ n ih =>
    by_cases h0 : (n + 1) % 17 = 0
    · exact inv_first m c p l H ⟨n + 1, hn⟩ h0
    · exact inv_next m c p l H ⟨n + 1, hn⟩ h0 (ih (by omega)).2.2

end Cert.Hgrn

end
-- ==== Proof.KernelValue.lean ====
/-
  What the kernel's run leaves in its two results.
-/
module
public import proofs.«01_k».proof.Proof.Scan

@[expose] public section
set_option maxRecDepth 16384
noncomputable section
namespace Cert.Hgrn
open Idealize.ShloMosaic Idealize.SL.Sem Idealize.ShloMosaic.TcCoe Cert.KernelIdeal Cert.KernelIdeal.Gen

/-- A direction's result: every row and column its value. -/
def result (p : ℕ → ℕ → ℝ) (l : ℕ → ℝ) (rev : Bool) : FVec Ideal S17408x2048 .f32 :=
  fun y => ((spec p l rev (y 0).val (y 1).val : ℝ) : EReal)

variable (m : (ℓ : Loc nD τ sig) → Buf (Elt Ideal) ℓ) (ρ : Dev nD → PrngReg) (c : Dev nD)
variable (p : ℕ → ℕ → ℝ) (l : ℕ → ℝ)
variable (H : Reals (m ((c : Thread nD τ).loc main_arg0)) (m ((c : Thread nD τ).loc main_arg1)) p l)

theorem col_split (k : Fin 1024) : ∃ (h : Fin 8) (e : Fin 128), k = col h e :=
  ⟨⟨k.val / 128, by omega⟩, ⟨k.val % 128, by omega⟩, Fin.ext (by show k.val = 128 * (k.val / 128) + k.val % 128; omega)⟩

/-- What a block's invariant gives at an element, on the array's row and column. -/
theorem at_block (rev : Bool) (σ : Equiv.Perm (Fin 256)) (t : ℕ) (ht : t < 136) (O : FVec Ideal S256x1024 .f32)
    (h : InvO p l rev σ t O) (rb : ℕ) (hrb : ∀ i : Fin 256, rb * 256 + i.val = row rev (t / 34) (256 * (t % 17) + (σ i).val))
    (i : Fin 256) (k : Fin 1024) (y : S17408x2048.Idx) (h0 : (y 0).val = rb * 256 + i.val) (h1 : (y 1).val = t / 17 % 2 * 1024 + k.val) :
    O (ix2 i k) = result p l rev y := by
  obtain ⟨g, e, rfl⟩ := col_split k
  rw [h g i e]
  unfold result
  have hc : (y 1).val = 128 * hdOf t g.val + e.val := by
    rw [h1]
    show t / 17 % 2 * 1024 + (128 * g.val + e.val) = 128 * (8 * (t / 17 % 2) + g.val) + e.val
    omega
  have := (σ i).isLt
  rw [h0, hc, hrb, spec_row p l rev (t / 34) _ (by omega) _ (by omega)]

include H in
/-- The forward result. -/
theorem arr7 : (dats m 0 c).arrAt 7 cfg0.N = result p l false := by
  refine (dats m 0 c).arrAt_eq_of_covers 7 (result p l false) (by decide +kernel) fun t hf y => ?_
  rw [after0_7, cast_eq]
  have hI := (inv_all m c p l H t.val t.isLt).1
  have hy : (cfg0.win 7).xinj (cfg0.grid.coords t) y = (ix2 (y 0) (y 1) : S256x1024.Idx) := by funext a; fin_cases a <;> rfl
  refine (congrArg _ hy).trans ?_
  refine at_block p l false (Equiv.refl _) t.val (pt_lt t) _ hI (rbF t.val) (fun i => rbF_row t.val i.val i.isLt) (y 0) (y 1) _ ?_ ?_
  · show win0_7.index t 0 * 256 + 1 * (y 0).val = _
    rw [(idx7 t).1, one_mul]
  · show win0_7.index t 1 * 1024 + 1 * (y 1).val = _
    rw [(idx7 t).2, one_mul]

include H in
/-- The backward result. -/
theorem arr8 : (dats m 0 c).arrAt 8 cfg0.N = result p l true := by
  refine (dats m 0 c).arrAt_eq_of_covers 8 (result p l true) (by decide +kernel) fun t hf y => ?_
  rw [after0_8, cast_eq]
  have hI := (inv_all m c p l H t.val t.isLt).2.1
  have hy : (cfg0.win 8).xinj (cfg0.grid.coords t) y = (ix2 (y 0) (y 1) : S256x1024.Idx) := by funext a; fin_cases a <;> rfl
  refine (congrArg _ hy).trans ?_
  refine at_block p l true Fin.revPerm t.val (pt_lt t) _ hI (rbB t.val) (fun i => ?_) (y 0) (y 1) _ ?_ ?_
  · rw [rev_val]; exact rbB_row t.val i.val i.isLt
  · show win0_8.index t 0 * 256 + 1 * (y 0).val = _
    rw [(idx8 t).1, one_mul]
  · show win0_8.index t 1 * 1024 + 1 * (y 1).val = _
    rw [(idx8 t).2, one_mul]

include H in
/-- The kernel's program ends with the two results in its two result arrays. -/
theorem out_reals : (dats m 0 c).arrAt 7 cfg0.N = result p l false ∧ (dats m 0 c).arrAt 8 cfg0.N = result p l true :=
  ⟨arr7 m c p l H, arr8 m c p l H⟩

end Cert.Hgrn

end
-- ==== Proof.RefEntry.lean ====
/-
  What the reference's loop starts from: the four stacks of chunks, the triangle, the empty state.
-/
module
public import proofs.«01_k».proof.Proof.Spec
public import proofs.«01_k».proof.Proof.Gen.ReferenceIdeal.Run
public import Idealize.ShloMosaic.Lib.Pointwise
public import Idealize.ShloMosaic.Lib.Pipeline.Value
public import Idealize.ShloMosaic.Lib.Tactic.CleanTypes

@[expose] public section
set_option maxRecDepth 16384
noncomputable section
namespace Cert.HgrnRef
open Idealize.ShloMosaic Idealize.SL.Sem Idealize.ShloMosaic.TcCoe Cert.ReferenceIdeal Cert.ReferenceIdeal.Value Cert.ReferenceIdeal.Gen
open Idealize.ShloMosaic.StableHlo Idealize.ShloMosaic.Tactic

/-- The context tokens of the four samples. -/
def ctx (y : FVec Ideal S17408x2048 .f32) : FVec Ideal S4x256x2048 .f32 :=
  shapeCast _ (extractStridedSlice S1024x2048 ![0, 0] y slices_S17408x2048_S1024x2048_0_0) shapeCasts_S1024x2048_S4x256x2048

/-- The latent tokens of the four samples. -/
def lat (y : FVec Ideal S17408x2048 .f32) : FVec Ideal S4x4096x2048 .f32 :=
  shapeCast _ (extractStridedSlice S16384x2048 ![1024, 0] y slices_S17408x2048_S16384x2048_1024_0) shapeCasts_S16384x2048_S4x4096x2048

/-- A sample's tokens, context first. -/
def pair (a : FVec Ideal S4x256x2048 .f32) (b : FVec Ideal S4x4096x2048 .f32) : FVec Ideal S4x4352x2048 .f32 :=
  concatenate S4x4352x2048 1 [⟨S4x256x2048, a⟩, ⟨S4x4096x2048, b⟩] concatenates_S4x256x2048_S4x4096x2048_S4x4352x2048_d1

/-- Two directions, one after the other. -/
def cat (a b : FVec Ideal S4x4352x2048 .f32) : FVec Ideal S8x4352x2048 .f32 :=
  concatenate S8x4352x2048 0 [⟨S4x4352x2048, a⟩, ⟨S4x4352x2048, b⟩] concatenates_S4x4352x2048_S4x4352x2048_S8x4352x2048_d0

/-- Both directions: forward first, then backward. -/
def both (y z : FVec Ideal S17408x2048 .f32) : FVec Ideal S8x4352x2048 .f32 :=
  cat (pair (ctx y) (lat y)) (pair (Host.reverse [1] (ctx z)) (Host.reverse [1] (lat z)))

/-- The columns cut into heads. -/
def heads (x : FVec Ideal S8x4352x2048 .f32) : FVec Ideal S8x16x4352x128 .f32 :=
  transpose S8x16x4352x128 [0, 2, 1, 3] (shapeCast S8x4352x16x128 x shapeCasts_S8x4352x2048_S8x4352x16x128) transposes_S8x4352x16x128_S8x16x4352x128_0_2_1_3

/-- The tokens cut into chunks. -/
def chunks (x : FVec Ideal S8x16x4352x128 .f32) : FVec Ideal S68x8x16x64x128 .f32 :=
  transpose S68x8x16x64x128 [2, 0, 1, 3, 4] (shapeCast S8x16x68x64x128 x shapeCasts_S8x16x4352x128_S8x16x68x64x128) transposes_S8x16x68x64x128_S68x8x16x64x128_2_0_1_3_4

/-- The queries' nonlinearity. -/
def silu (x : FVec Ideal S8x4352x2048 .f32) : FVec Ideal S8x4352x2048 .f32 :=
  mulf x (Host.divf (broadcastInDim S8x4352x2048 ![] bcast_S_S8x4352x2048 (constant S_ .f32 0x3F800000#32))
    (addf (broadcastInDim S8x4352x2048 ![] bcast_S_S8x4352x2048 (constant S_ .f32 0x3F800000#32)) (Host.exp (Host.negf x))))

/-- The scaled queries. -/
def scaled (x : FVec Ideal S8x16x4352x128 .f32) : FVec Ideal S8x16x4352x128 .f32 :=
  mulf x (broadcastInDim S8x16x4352x128 ![] bcast_S_S8x16x4352x128 (constant S_ .f32 0x3DB504F3#32))

/-- The lower bounds by head. -/
def lbh (b : FVec Ideal S2048 .f32) : FVec Ideal S16x1x128 .f32 := shapeCast _ b shapeCasts_S2048_S16x1x128

/-- A row of bounds over all tokens. -/
def spread (b : FVec Ideal S16x1x128 .f32) : FVec Ideal S8x16x4352x128 .f32 :=
  broadcastInDim S8x16x4352x128 ![0, 1, 2, 3] bcast_S1x16x1x128_S8x16x4352x128_0_1_2_3
    (broadcastInDim S1x16x1x128 ![1, 2, 3] bcast_S16x1x128_S1x16x1x128_1_2_3 b)

/-- Zero everywhere. -/
def zer : FVec Ideal S8x16x4352x128 .f32 := broadcastInDim S8x16x4352x128 ![] bcast_S_S8x16x4352x128 (constant S_ .f32 0x00000000#32)

/-- One everywhere. -/
def one : FVec Ideal S8x16x4352x128 .f32 := broadcastInDim S8x16x4352x128 ![] bcast_S_S8x16x4352x128 (constant S_ .f32 0x3F800000#32)

/-- The logarithm of a sum of two exponentials, given the logarithms and their larger. -/
def addexp (a c w : FVec Ideal S8x16x4352x128 .f32) : FVec Ideal S8x16x4352x128 .f32 :=
  select (cmpf .une (subf a c) (subf a c)) (addf a c) (addf w (Host.log1p (Host.exp (Host.negf (Host.absf (subf a c))))))

/-- The logarithm of the logistic function. -/
def logsig (u : FVec Ideal S8x16x4352x128 .f32) : FVec Ideal S8x16x4352x128 .f32 :=
  Host.negf (addexp (Host.negf u) zer (maximumf (Host.negf u) zer))

/-- The logarithm of the decay, of the bounds' logarithms and the gates' logarithm. -/
def mix (a b : FVec Ideal S16x1x128 .f32) (s : FVec Ideal S8x16x4352x128 .f32) : FVec Ideal S8x16x4352x128 .f32 :=
  addexp (spread a) (addf (spread b) s) (maximumf (spread a) (addf (spread b) s))

/-- The logarithm of the decay. -/
def decay (b : FVec Ideal S16x1x128 .f32) (u : FVec Ideal S8x16x4352x128 .f32) : FVec Ideal S8x16x4352x128 .f32 :=
  mix (Host.log b) (Host.log1p (Host.negf b)) (logsig u)

/-- The keys. -/
def keys (b : FVec Ideal S16x1x128 .f32) (u : FVec Ideal S8x16x4352x128 .f32) : FVec Ideal S8x16x4352x128 .f32 :=
  mulf (spread (subf (broadcastInDim S16x1x128 ![] bcast_S_S16x1x128 (constant S_ .f32 0x3F800000#32)) b))
    (Host.divf one (addf one (Host.exp (Host.negf (Host.negf u)))))

/-- The query columns. -/
def colQ (x : FVec Ideal S17408x20480 .f32) : FVec Ideal S17408x2048 .f32 := extractStridedSlice S17408x2048 ![0, 6144] x slices_S17408x20480_S17408x2048_0_6144
/-- The forward gate columns. -/
def colU (x : FVec Ideal S17408x20480 .f32) : FVec Ideal S17408x2048 .f32 := extractStridedSlice S17408x2048 ![0, 8192] x slices_S17408x20480_S17408x2048_0_8192
/-- The backward gate columns. -/
def colW (x : FVec Ideal S17408x20480 .f32) : FVec Ideal S17408x2048 .f32 := extractStridedSlice S17408x2048 ![0, 10240] x slices_S17408x20480_S17408x2048_0_10240
/-- The value columns. -/
def colV (x : FVec Ideal S17408x20480 .f32) : FVec Ideal S17408x2048 .f32 := extractStridedSlice S17408x2048 ![0, 12288] x slices_S17408x20480_S17408x2048_0_12288

/-- The lower triangle of a mask. -/
def tri (x : IVec S64x64 1) : IVec S64x64 1 :=
  select (cmpi .sge (addi (iotaInDim S64x64 32 0) (broadcastInDim S64x64 ![] bcast_S_S64x64 (constantI S_ 32 0#32))) (iotaInDim S64x64 32 1)) x
    (broadcastInDim S64x64 ![] bcast_S_S64x64 (constantI S_ 1 0#1))

section stretches
variable (V : Valuation τ sig (Elt Ideal))

theorem k0 (r : Ref sig .tc) (h : r ∉ hostOps0_W) : after hostOps0 V (Proc.devRef .tc r) = V (Proc.devRef .tc r) :=
  after_of_writes_sub hostOps0 V hostOps0_writes h
theorem k1 (r : Ref sig .tc) (h : r ∉ hostOps0_1_W) : after hostOps0_1 V (Proc.devRef .tc r) = V (Proc.devRef .tc r) :=
  after_of_writes_sub hostOps0_1 V hostOps0_1_writes h
theorem k2 (r : Ref sig .tc) (h : r ∉ hostOps0_2_W) : after hostOps0_2 V (Proc.devRef .tc r) = V (Proc.devRef .tc r) :=
  after_of_writes_sub hostOps0_2 V hostOps0_2_writes h
theorem k3 (r : Ref sig .tc) (h : r ∉ hostOps0_3_W) : after hostOps0_3 V (Proc.devRef .tc r) = V (Proc.devRef .tc r) :=
  after_of_writes_sub hostOps0_3 V hostOps0_3_writes h
theorem k4 (r : Ref sig .tc) (h : r ∉ hostOps0_4_W) : after hostOps0_4 V (Proc.devRef .tc r) = V (Proc.devRef .tc r) :=
  after_of_writes_sub hostOps0_4 V hostOps0_4_writes h
theorem k5 (r : Ref sig .tc) (h : r ∉ hostOps0_5_W) : after hostOps0_5 V (Proc.devRef .tc r) = V (Proc.devRef .tc r) :=
  after_of_writes_sub hostOps0_5 V hostOps0_5_writes h
theorem k6 (r : Ref sig .tc) (h : r ∉ hostOps0_6_W) : after hostOps0_6 V (Proc.devRef .tc r) = V (Proc.devRef .tc r) :=
  after_of_writes_sub hostOps0_6 V hostOps0_6_writes h
theorem k7 (r : Ref sig .tc) (h : r ∉ hostOps0_7_W) : after hostOps0_7 V (Proc.devRef .tc r) = V (Proc.devRef .tc r) :=
  after_of_writes_sub hostOps0_7 V hostOps0_7_writes h
theorem k8 (r : Ref sig .tc) (h : r ∉ hostOps0_8_W) : after hostOps0_8 V (Proc.devRef .tc r) = V (Proc.devRef .tc r) :=
  after_of_writes_sub hostOps0_8 V hostOps0_8_writes h
theorem k9 (r : Ref sig .tc) (h : r ∉ hostOps0_9_W) : after hostOps0_9 V (Proc.devRef .tc r) = V (Proc.devRef .tc r) :=
  after_of_writes_sub hostOps0_9 V hostOps0_9_writes h
theorem k10 (r : Ref sig .tc) (h : r ∉ hostOps0_10_W) : after hostOps0_10 V (Proc.devRef .tc r) = V (Proc.devRef .tc r) :=
  after_of_writes_sub hostOps0_10 V hostOps0_10_writes h
theorem k11 (r : Ref sig .tc) (h : r ∉ hostOps0_11_W) : after hostOps0_11 V (Proc.devRef .tc r) = V (Proc.devRef .tc r) :=
  after_of_writes_sub hostOps0_11 V hostOps0_11_writes h
theorem k12 (r : Ref sig .tc) (h : r ∉ hostOps0_12_W) : after hostOps0_12 V (Proc.devRef .tc r) = V (Proc.devRef .tc r) :=
  after_of_writes_sub hostOps0_12 V hostOps0_12_writes h
theorem k13 (r : Ref sig .tc) (h : r ∉ hostOps0_13_W) : after hostOps0_13 V (Proc.devRef .tc r) = V (Proc.devRef .tc r) :=
  after_of_writes_sub hostOps0_13 V hostOps0_13_writes h
theorem k14 (r : Ref sig .tc) (h : r ∉ hostOps0_14_W) : after hostOps0_14 V (Proc.devRef .tc r) = V (Proc.devRef .tc r) :=
  after_of_writes_sub hostOps0_14 V hostOps0_14_writes h
theorem k15 (r : Ref sig .tc) (h : r ∉ hostOps0_15_W) : after hostOps0_15 V (Proc.devRef .tc r) = V (Proc.devRef .tc r) :=
  after_of_writes_sub hostOps0_15 V hostOps0_15_writes h
theorem r0_v5 : after hostOps0 V (Proc.devRef .tc main_v5) = pair (ctx (colQ (V (Proc.devRef .tc main_arg0)))) (lat (colQ (V (Proc.devRef .tc main_arg0)))) := by
  after_reads_simp
  rfl
theorem r0_v8 : after hostOps0 V (Proc.devRef .tc main_v8) = ctx (colQ (V (Proc.devRef .tc main_arg0))) := by
  after_reads_simp
  rfl
theorem r0_v10 : after hostOps0 V (Proc.devRef .tc main_v10) = lat (colQ (V (Proc.devRef .tc main_arg0))) := by
  after_reads_simp
  rfl
theorem r1_v11 : after hostOps0_1 V (Proc.devRef .tc main_v11) = Host.reverse [1] (V (Proc.devRef .tc main_v8) : FVec Ideal S4x256x2048 .f32) := by
  after_reads_simp
  rfl
theorem r2_v12 : after hostOps0_2 V (Proc.devRef .tc main_v12) = Host.reverse [1] (V (Proc.devRef .tc main_v10) : FVec Ideal S4x4096x2048 .f32) := by
  after_reads_simp
  rfl
theorem r3_v14 : after hostOps0_3 V (Proc.devRef .tc main_v14) = cat (V (Proc.devRef .tc main_v5)) (pair (V (Proc.devRef .tc main_v11)) (V (Proc.devRef .tc main_v12))) := by
  after_reads_simp
  rfl
theorem r3_v20 : after hostOps0_3 V (Proc.devRef .tc main_v20) = pair (ctx (colU (V (Proc.devRef .tc main_arg0)))) (lat (colU (V (Proc.devRef .tc main_arg0)))) := by
  after_reads_simp
  rfl
theorem r3_v23 : after hostOps0_3 V (Proc.devRef .tc main_v23) = ctx (colW (V (Proc.devRef .tc main_arg0))) := by
  after_reads_simp
  rfl
theorem r3_v25 : after hostOps0_3 V (Proc.devRef .tc main_v25) = lat (colW (V (Proc.devRef .tc main_arg0))) := by
  after_reads_simp
  rfl
theorem r4_v26 : after hostOps0_4 V (Proc.devRef .tc main_v26) = Host.reverse [1] (V (Proc.devRef .tc main_v23) : FVec Ideal S4x256x2048 .f32) := by
  after_reads_simp
  rfl
theorem r5_v27 : after hostOps0_5 V (Proc.devRef .tc main_v27) = Host.reverse [1] (V (Proc.devRef .tc main_v25) : FVec Ideal S4x4096x2048 .f32) := by
  after_reads_simp
  rfl
theorem r6_v29 : after hostOps0_6 V (Proc.devRef .tc main_v29) = cat (V (Proc.devRef .tc main_v20)) (pair (V (Proc.devRef .tc main_v26)) (V (Proc.devRef .tc main_v27))) := by
  after_reads_simp
  rfl
theorem r6_v35 : after hostOps0_6 V (Proc.devRef .tc main_v35) = pair (ctx (colV (V (Proc.devRef .tc main_arg0)))) (lat (colV (V (Proc.devRef .tc main_arg0)))) := by
  after_reads_simp
  rfl
theorem r6_v38 : after hostOps0_6 V (Proc.devRef .tc main_v38) = ctx (colV (V (Proc.devRef .tc main_arg0))) := by
  after_reads_simp
  rfl
theorem r6_v40 : after hostOps0_6 V (Proc.devRef .tc main_v40) = lat (colV (V (Proc.devRef .tc main_arg0))) := by
  after_reads_simp
  rfl
theorem r7_v41 : after hostOps0_7 V (Proc.devRef .tc main_v41) = Host.reverse [1] (V (Proc.devRef .tc main_v38) : FVec Ideal S4x256x2048 .f32) := by
  after_reads_simp
  rfl
theorem r8_v42 : after hostOps0_8 V (Proc.devRef .tc main_v42) = Host.reverse [1] (V (Proc.devRef .tc main_v40) : FVec Ideal S4x4096x2048 .f32) := by
  after_reads_simp
  rfl
theorem r9_v44 : after hostOps0_9 V (Proc.devRef .tc main_v44) = cat (V (Proc.devRef .tc main_v35)) (pair (V (Proc.devRef .tc main_v41)) (V (Proc.devRef .tc main_v42))) := by
  after_reads_simp
  rfl
theorem r10_v45 : after hostOps0_10 V (Proc.devRef .tc main_v45) = silu (V (Proc.devRef .tc main_v14)) := by
  after_reads_simp
  rfl
theorem r11_v49 : after hostOps0_11 V (Proc.devRef .tc main_v49) = scaled (heads (V (Proc.devRef .tc main_v45))) := by
  after_reads_simp
  rfl
theorem r11_v51 : after hostOps0_11 V (Proc.devRef .tc main_v51) = heads (V (Proc.devRef .tc main_v29)) := by
  after_reads_simp
  rfl
theorem r11_v52 : after hostOps0_11 V (Proc.devRef .tc main_v52) = lbh (V (Proc.devRef .tc main_arg1)) := by
  after_reads_simp
  rfl
theorem r11_v53 : after hostOps0_11 V (Proc.devRef .tc main_v53) = Host.log (lbh (V (Proc.devRef .tc main_arg1))) := by
  after_reads_simp
  rfl
theorem r11_v55 : after hostOps0_11 V (Proc.devRef .tc main_v55) = Host.log1p (Host.negf (lbh (V (Proc.devRef .tc main_arg1)))) := by
  after_reads_simp
  rfl
theorem r12_v56 : after hostOps0_12 V (Proc.devRef .tc main_v56) = logsig (V (Proc.devRef .tc main_v51)) := by
  after_reads_simp
  rfl
theorem r13_v73 : after hostOps0_13 V (Proc.devRef .tc main_v73) = mix (V (Proc.devRef .tc main_v53)) (V (Proc.devRef .tc main_v55)) (V (Proc.devRef .tc main_v56)) := by
  after_reads_simp
  rfl
theorem r13_v85 : after hostOps0_13 V (Proc.devRef .tc main_v85) = keys (V (Proc.devRef .tc main_v52)) (V (Proc.devRef .tc main_v51)) := by
  after_reads_simp
  rfl
theorem r13_v87 : after hostOps0_13 V (Proc.devRef .tc main_v87) = heads (V (Proc.devRef .tc main_v44)) := by
  after_reads_simp
  rfl
theorem r13_v88 : after hostOps0_13 V (Proc.devRef .tc main_v88) = broadcastInDim S8x16x128x128 ![] bcast_S_S8x16x128x128 (constant (F := Ideal) S_ .f32 0x00000000#32) := by
  after_reads_simp
theorem r13_v89 : after hostOps0_13 V (Proc.devRef .tc main_v89) = broadcastInDim S64x64 ![] bcast_S_S64x64 (constantI S_ 1 1#1) := by
  after_reads_simp
theorem r14_v90 : after hostOps0_14 V (Proc.devRef .tc main_v90) = tri (V (Proc.devRef .tc main_v89)) := by
  after_reads_simp
  rfl
theorem r15_v100_0 : after hostOps0_15 V (Proc.devRef .tc main_v100_0) = chunks (V (Proc.devRef .tc main_v49)) := by
  after_reads_simp
  rfl
theorem r15_v100_1 : after hostOps0_15 V (Proc.devRef .tc main_v100_1) = chunks (V (Proc.devRef .tc main_v85)) := by
  after_reads_simp
  rfl
theorem r15_v100_2 : after hostOps0_15 V (Proc.devRef .tc main_v100_2) = chunks (V (Proc.devRef .tc main_v87)) := by
  after_reads_simp
  rfl
theorem r15_v100_3 : after hostOps0_15 V (Proc.devRef .tc main_v100_3) = chunks (V (Proc.devRef .tc main_v73)) := by
  after_reads_simp
  rfl
theorem r15_v100_4 : after hostOps0_15 V (Proc.devRef .tc main_v100_4) = (V (Proc.devRef .tc main_v90)) := by
  after_reads_simp
  rfl
theorem r15_v100_6 : after hostOps0_15 V (Proc.devRef .tc main_v100_6) = (V (Proc.devRef .tc main_v88)) := by
  after_reads_simp
  rfl

end stretches

variable (m : (ℓ : Loc nD τ sig) → Buf (Elt Ideal) ℓ) (c : Dev nD)

/-- The projection at the launch. -/
def P0 : FVec Ideal S17408x20480 .f32 := m ((c : Thread nD τ).loc main_arg0)
/-- The lower bounds at the launch. -/
def B0 : FVec Ideal S2048 .f32 := m ((c : Thread nD τ).loc main_arg1)

section
variable (V : Valuation τ sig (Elt Ideal))

/-- The contents after the first eleven stretches. -/
def mid : Valuation τ sig (Elt Ideal) :=
  after hostOps0_10 (after hostOps0_9 (after hostOps0_8 (after hostOps0_7 (after hostOps0_6 (after hostOps0_5 (after hostOps0_4
    (after hostOps0_3 (after hostOps0_2 (after hostOps0_1 (after hostOps0 V))))))))))

theorem mid_q : mid V (Proc.devRef .tc main_v45) = silu (both (colQ (V (Proc.devRef .tc main_arg0))) (colQ (V (Proc.devRef .tc main_arg0)))) := by
  unfold mid
  rw [r10_v45, k9 _ main_v14 (by decide), k8 _ main_v14 (by decide), k7 _ main_v14 (by decide), k6 _ main_v14 (by decide), k5 _ main_v14 (by decide), k4 _ main_v14 (by decide), r3_v14, k2 _ main_v5 (by decide), k1 _ main_v5 (by decide), r0_v5, r2_v12, k1 _ main_v10 (by decide), r0_v10, k2 _ main_v11 (by decide), r1_v11, r0_v8]
  rfl

theorem mid_u : mid V (Proc.devRef .tc main_v29) = both (colU (V (Proc.devRef .tc main_arg0))) (colW (V (Proc.devRef .tc main_arg0))) := by
  unfold mid
  rw [k10 _ main_v29 (by decide), k9 _ main_v29 (by decide), k8 _ main_v29 (by decide), k7 _ main_v29 (by decide), r6_v29, k5 _ main_v20 (by decide), k4 _ main_v20 (by decide), r3_v20, k5 _ main_v26 (by decide), r4_v26, r3_v23, r5_v27, k4 _ main_v25 (by decide), r3_v25,
    k2 _ main_arg0 (by decide), k1 _ main_arg0 (by decide), k0 _ main_arg0 (by decide)]
  rfl

theorem mid_v : mid V (Proc.devRef .tc main_v44) = both (colV (V (Proc.devRef .tc main_arg0))) (colV (V (Proc.devRef .tc main_arg0))) := by
  unfold mid
  rw [k10 _ main_v44 (by decide), r9_v44, k8 _ main_v35 (by decide), k7 _ main_v35 (by decide), r6_v35, r8_v42, k7 _ main_v40 (by decide), r6_v40, k8 _ main_v41 (by decide), r7_v41, r6_v38,
    k5 _ main_arg0 (by decide), k4 _ main_arg0 (by decide), k3 _ main_arg0 (by decide), k2 _ main_arg0 (by decide), k1 _ main_arg0 (by decide), k0 _ main_arg0 (by decide)]
  rfl

theorem mid_b : mid V (Proc.devRef .tc main_arg1) = (V (Proc.devRef .tc main_arg1)) := by
  unfold mid
  rw [k10 _ main_arg1 (by decide), k9 _ main_arg1 (by decide), k8 _ main_arg1 (by decide), k7 _ main_arg1 (by decide), k6 _ main_arg1 (by decide), k5 _ main_arg1 (by decide), k4 _ main_arg1 (by decide), k3 _ main_arg1 (by decide), k2 _ main_arg1 (by decide), k1 _ main_arg1 (by decide), k0 _ main_arg1 (by decide)]

/-- The contents after the operations before the loop. -/
def start : Valuation τ sig (Elt Ideal) :=
  after hostOps0_15 (after hostOps0_14 (after hostOps0_13 (after hostOps0_12 (after hostOps0_11 (mid V)))))

theorem start_q : start V (Proc.devRef .tc main_v100_0) = chunks (scaled (heads (silu (both (colQ (V (Proc.devRef .tc main_arg0))) (colQ (V (Proc.devRef .tc main_arg0))))))) := by
  unfold start
  rw [r15_v100_0, k14 _ main_v49 (by decide), k13 _ main_v49 (by decide), k12 _ main_v49 (by decide), r11_v49, mid_q]

theorem start_k : start V (Proc.devRef .tc main_v100_1) = chunks (keys (lbh (V (Proc.devRef .tc main_arg1))) (heads (both (colU (V (Proc.devRef .tc main_arg0))) (colW (V (Proc.devRef .tc main_arg0)))))) := by
  unfold start
  rw [r15_v100_1, k14 _ main_v85 (by decide), r13_v85, k12 _ main_v52 (by decide), k12 _ main_v51 (by decide), r11_v52, r11_v51, mid_u, mid_b]

theorem start_v : start V (Proc.devRef .tc main_v100_2) = chunks (heads (both (colV (V (Proc.devRef .tc main_arg0))) (colV (V (Proc.devRef .tc main_arg0))))) := by
  unfold start
  rw [r15_v100_2, k14 _ main_v87 (by decide), r13_v87, k12 _ main_v44 (by decide), k11 _ main_v44 (by decide), mid_v]

theorem start_a : start V (Proc.devRef .tc main_v100_3) = chunks (decay (lbh (V (Proc.devRef .tc main_arg1))) (heads (both (colU (V (Proc.devRef .tc main_arg0))) (colW (V (Proc.devRef .tc main_arg0)))))) := by
  unfold start
  rw [r15_v100_3, k14 _ main_v73 (by decide), r13_v73, k12 _ main_v53 (by decide), k12 _ main_v55 (by decide), r12_v56, r11_v53, r11_v55, r11_v51, mid_u, mid_b]
  rfl

theorem start_m : start V (Proc.devRef .tc main_v100_4) = tri (broadcastInDim S64x64 ![] bcast_S_S64x64 (constantI S_ 1 1#1)) := by
  unfold start
  rw [r15_v100_4, r14_v90, r13_v89]

theorem start_s : start V (Proc.devRef .tc main_v100_6)
    = broadcastInDim S8x16x128x128 ![] bcast_S_S8x16x128x128 (constant (F := Ideal) S_ .f32 0x00000000#32) := by
  unfold start
  rw [r15_v100_6, k14 _ main_v88 (by decide), r13_v88]

end

/-- The loop starts from these contents. -/
theorem entry_start : entryContents preI m c = start (launchContents m c) := by
  simp only [entryContents, preI, afterL_cons, afterL_nil, start, mid]

end Cert.HgrnRef

end
-- ==== Proof.RefOps.lean ====
/-
  Four operations of the reference read at an index: a running sum, a chunk taken out of the stack of chunks, a chunk
  put into it, and the lower triangle.
-/
module
public import proofs.«01_k».proof.Proof.Math
public import proofs.«01_k».proof.Proof.Scalar
public import proofs.«01_k».proof.Proof.Gen.ReferenceIdeal.Run
public import Idealize.ShloMosaic.Lib.Pointwise
public import Idealize.ShloMosaic.Lib.DynamicIndex
public import Idealize.ShloMosaic.Lib.Pipeline.Value
public import Idealize.ShloMosaic.Lib.Tactic.CleanTypes

@[expose] public section
set_option maxRecDepth 16384
noncomputable section
namespace Cert.HgrnRef
open Idealize.ShloMosaic Idealize.SL.Sem Idealize.ShloMosaic.TcCoe Cert.ReferenceIdeal Finset

/-- A fold that adds is a sum. -/
theorem foldl_add (n : ℕ) (g : Fin n → EReal) : (List.finRange n).foldl (fun r k => r + g k) 0 = ∑ k, g k := by
  have h : ∀ (L : List (Fin n)) (a : EReal), L.foldl (fun r k => r + g k) a = a + (L.map g).sum := by
    intro L
    induction L with
    | nil => intro a; simp
    | cons x L ih => intro a; rw [List.foldl_cons, ih, List.map_cons, List.sum_cons, add_assoc]
  rw [h, zero_add, Fin.sum_univ_def]

/-- The running sum along a chunk, of reals. -/
theorem cumsum_apply (x : FVec Ideal S8x16x64x128 .f32) (z : FVec Ideal S_ .f32) (hz : ∀ j, z j = (0 : EReal))
    (g : Fin 8) (h : Fin 16) (d : Fin 128) (f : ℕ → ℝ) (hx : ∀ i : Fin 64, x (ix4 g h i d) = ((f i.val : ℝ) : EReal))
    (hw : Shape.ReduceWindows S8x16x64x128 ![1, 1, 64, 1] ![1, 1, 1, 1] ![0, 0, 63, 0] ![0, 0, 0, 0] S8x16x64x128) (hu : 0 < S_.numel)
    (i : Fin 64) :
    (Host.reduceWindowAdd ![1, 1, 64, 1] ![1, 1, 1, 1] ![0, 0, 63, 0] ![0, 0, 0, 0] x z hw hu : FVec Ideal S8x16x64x128 .f32) (ix4 g h i d)
      = ((∑ l ∈ range (i.val + 1), f l : ℝ) : EReal) := by
  unfold Host.reduceWindowAdd
  rw [Ideal.hostReduceWindowAdd_def]
  unfold Ideal.hostReduceWindowAdd Host.reduceWindow
  dsimp only
  rw [hz, foldl_add]
  let W : Shape := ⟨4, ![1, 1, 64, 1]⟩
  let G : W.Idx → EReal := fun w =>
    if hin : ∀ a, (![0, 0, 63, 0] : Fin 4 → ℕ) a ≤ (ix4 g h i d a).val * (![1, 1, 1, 1] : Fin 4 → ℕ) a + (w a).val
        ∧ (ix4 g h i d a).val * (![1, 1, 1, 1] : Fin 4 → ℕ) a + (w a).val - (![0, 0, 63, 0] : Fin 4 → ℕ) a < S8x16x64x128.size a then
      x (fun a => ⟨(ix4 g h i d a).val * (![1, 1, 1, 1] : Fin 4 → ℕ) a + (w a).val - (![0, 0, 63, 0] : Fin 4 → ℕ) a, (hin a).2⟩) else 0
  have e : ∑ k, G (W.rowMajor.symm k) = ∑ w, G w := Equiv.sum_comp W.rowMajor.symm G
  refine (sum_congr rfl fun k _ => ?_ : _ = ∑ k, G (W.rowMajor.symm k)).trans (e.trans ?_)
  · exact dite_congr rfl (fun _ => rfl) (fun _ => rfl)
  rw [sum_idx4]
  have hG : ∀ (a b c : Fin 1) (w : Fin 64), G (ix4 a b w c) = if 63 ≤ i.val + w.val then ((f (i.val + w.val - 63) : ℝ) : EReal) else 0 := by
    intro a b c w
    have := i.isLt
    by_cases h63 : 63 ≤ i.val + w.val
    · rw [if_pos h63]
      refine (dif_pos (fun k => ?_)).trans ?_
      · fin_cases k
        · exact ⟨Nat.zero_le _, by show g.val * 1 + a.val - 0 < 8; omega⟩
        · exact ⟨Nat.zero_le _, by show h.val * 1 + b.val - 0 < 16; omega⟩
        · exact ⟨by show 63 ≤ i.val * 1 + w.val; omega, by show i.val * 1 + w.val - 63 < 64; omega⟩
        · exact ⟨Nat.zero_le _, by show d.val * 1 + c.val - 0 < 128; omega⟩
      · refine Eq.trans (congrArg x (funext fun k => Fin.ext ?_)) (hx ⟨i.val + w.val - 63, by omega⟩)
        fin_cases k
        · show g.val * 1 + a.val - 0 = g.val; omega
        · show h.val * 1 + b.val - 0 = h.val; omega
        · show i.val * 1 + w.val - 63 = i.val + w.val - 63; omega
        · show d.val * 1 + c.val - 0 = d.val; omega
    · rw [if_neg h63]
      refine dif_neg fun hin => h63 ?_
      have h2 : 63 ≤ i.val * 1 + w.val := (hin 2).1
      omega
  simp only [Fin.sum_univ_one, hG]
  rw [Cert.Hgrn.coe_fsum]
  rw [Fin.sum_univ_eq_sum_range (fun w => if 63 ≤ i.val + w then ((f (i.val + w - 63) : ℝ) : EReal) else 0) 64, ← sum_filter]
  refine sum_nbij' (fun w => i.val + w - 63) (fun l => l + 63 - i.val) ?_ ?_ ?_ ?_ ?_
  all_goals intro w hw'; have := i.isLt; simp only [mem_filter, mem_range] at hw' ⊢
  all_goals omega

/-- Chunk `k` taken out of the stack. -/
theorem chunk_read (x : FVec Ideal S68x8x16x64x128 .f32) (n : IVec S_ 32) (k : Fin 68) (hn : ∀ j, n j = BitVec.ofNat 32 k.val)
    (hs : S68x8x16x64x128.Slices (fun _ => 0) S1x8x16x64x128) (hc : S1x8x16x64x128.ShapeCasts S8x16x64x128) (hu : 0 < S_.numel)
    (g : Fin 8) (h : Fin 16) (i : Fin 64) (d : Fin 128) :
    (shapeCast S8x16x64x128 (Host.dynamicSlice S1x8x16x64x128 x (fun a => ((![n, constantI S_ 32 0#32, constantI S_ 32 0#32,
      constantI S_ 32 0#32, constantI S_ 32 0#32] : Fin 5 → IVec S_ 32) a (Shape.Idx.first hu)).toInt) hs) hc : FVec Ideal S8x16x64x128 .f32)
      (ix4 g h i d) = x (ix5 k g h i d) := by
  have hk := k.isLt
  have ht : (BitVec.ofNat 32 k.val).toInt = (k.val : ℤ) := by
    rw [BitVec.toInt_eq_toNat_of_lt (by rw [BitVec.toNat_ofNat]; omega), BitVec.toNat_ofNat, Nat.mod_eq_of_lt (by omega)]
  rw [Host.dynamicSlice_eq_extractStridedSlice S1x8x16x64x128 x _ ![k.val, 0, 0, 0, 0] hs
    ⟨rfl, fun a => by fin_cases a <;> first | (show k.val + 1 ≤ 68; omega) | exact Nat.le_refl _⟩
    (fun a => by
      fin_cases a
      · show (n (Shape.Idx.first hu)).toInt = _
        rw [hn]; exact ht
      all_goals rfl)]
  pointwise

/-- Chunk `k` put into the stack. -/
theorem chunk_write (x : FVec Ideal S68x8x16x64x128 .f32) (u : FVec Ideal S8x16x64x128 .f32) (n : IVec S_ 32) (k : Fin 68) (hn : ∀ j, n j = BitVec.ofNat 32 k.val)
    (hs : S68x8x16x64x128.Slices (fun _ => 0) S1x8x16x64x128) (hb : Shape.BroadcastsInDim S8x16x64x128 S1x8x16x64x128 ![1, 2, 3, 4]) (hu : 0 < S_.numel)
    (q : Fin 68) (g : Fin 8) (h : Fin 16) (i : Fin 64) (d : Fin 128) :
    (Host.dynamicUpdateSlice x (broadcastInDim S1x8x16x64x128 ![1, 2, 3, 4] hb u) (fun a => ((![n, constantI S_ 32 0#32, constantI S_ 32 0#32,
      constantI S_ 32 0#32, constantI S_ 32 0#32] : Fin 5 → IVec S_ 32) a (Shape.Idx.first hu)).toInt) hs : FVec Ideal S68x8x16x64x128 .f32)
      (ix5 q g h i d) = if q = k then u (ix4 g h i d) else x (ix5 q g h i d) := by
  have hk := k.isLt
  have ht : (BitVec.ofNat 32 k.val).toInt = (k.val : ℤ) := by
    rw [BitVec.toInt_eq_toNat_of_lt (by rw [BitVec.toNat_ofNat]; omega), BitVec.toNat_ofNat, Nat.mod_eq_of_lt (by omega)]
  rw [Host.dynamicUpdateSlice_eq_updateSlice x _ _ hs ![k.val, 0, 0, 0, 0]
    (fun a => by
      fin_cases a
      · show (min (max (n (Shape.Idx.first hu)).toInt 0) ((68 - 1 : ℕ) : ℤ)).toNat = k.val
        rw [hn, ht]; omega
      all_goals rfl)
    ⟨rfl, fun a => by fin_cases a <;> first | (show k.val + 1 ≤ 68; omega) | exact Nat.le_refl _⟩]
  pointwise
  have hq : (k.val ≤ q.val ∧ q.val < k.val + 1) ↔ q = k := by rw [Fin.ext_iff]; omega
  by_cases e : q = k
  · rw [if_pos e, dif_pos (hq.2 e)]
  · rw [if_neg e, dif_neg (fun h' => e (hq.1 h'))]

end Cert.HgrnRef

end
-- ==== Proof.RefStep.lean ====
/-
  One trip of the reference's loop, over the reals: a chunk of 64 tokens of the recurrence.
-/
module
public import proofs.«01_k».proof.Proof.RefOps

@[expose] public section
set_option maxRecDepth 16384
noncomputable section
namespace Cert.HgrnRef
open Idealize.ShloMosaic Idealize.SL.Sem Idealize.ShloMosaic.TcCoe Cert.ReferenceIdeal Cert.ReferenceIdeal.Value Finset
open Cert.Hgrn (cum state out coe_fsum exp_coe)

/-- A family of sequences, by direction and sample together, head, token and lane. -/
abbrev Fam := Fin 8 → Fin 16 → ℕ → Fin 128 → ℝ

/-- A stack of chunks holds a family. -/
def Holds (x : FVec Ideal S68x8x16x64x128 .f32) (f : Fam) : Prop :=
  ∀ n g h i d, x (ix5 n g h i d) = ((f g h (64 * n.val + i.val) d : ℝ) : EReal)

/-- What does not change during the loop. -/
structure Fixed (V : Valuation τ sig (Elt Ideal)) (q k v a : Fam) : Prop where
  q : Holds (V (Proc.devRef .tc main_v100_0)) q
  k : Holds (V (Proc.devRef .tc main_v100_1)) k
  v : Holds (V (Proc.devRef .tc main_v100_2)) v
  a : Holds (V (Proc.devRef .tc main_v100_3)) a
  m : ∀ i j : Fin 64, (V (Proc.devRef .tc main_v100_4) : IVec S64x64 1) (ix2 i j) = if j.val ≤ i.val then 1#1 else 0#1

/-- What the loop has done before trip `n`. -/
structure Done (V : Valuation τ sig (Elt Ideal)) (q k v a : Fam) (n : ℕ) : Prop where
  c : ∀ j, (V (Proc.devRef .tc main_v100_5) : IVec S_ 32) j = BitVec.ofNat 32 n
  s : ∀ g h d e, (V (Proc.devRef .tc main_v100_6) : FVec Ideal S8x16x128x128 .f32) (ix4 g h d e)
        = ((state (a g h) (k g h) (v g h) (64 * n) d e : ℝ) : EReal)
  o : ∀ (r : Fin 68) g h i e, r.val < n → (V (Proc.devRef .tc main_v100_7) : FVec Ideal S68x8x16x64x128 .f32) (ix5 r g h i e)
        = ((out (q g h) (a g h) (k g h) (v g h) (64 * r.val + i.val) e : ℝ) : EReal)

/-- A selection on true. -/
theorem sel_one {α : Type} (x y : α) : Scalar.select 1#1 x y = x := rfl
/-- A selection on false. -/
theorem sel_zero {α : Type} (x y : α) : Scalar.select 0#1 x y = y := rfl

/-- The exponential of the masked entries' value is zero. -/
theorem exp_masked : Ideal.exp (id (constant (F := Ideal) S_ .f32 4286578688#32) ix0) = 0 := by
  have h : Ideal.ofBits FTy.f32 4286578688#32 = ⊥ := by
    show Ideal.ieee 8 23 (4286578688#32) = ⊥
    unfold Ideal.ieee
    dsimp only
    rw [if_pos (by decide : (BitVec.extractLsb' 23 8 (4286578688#32)).toNat = 2 ^ 8 - 1)]
    rfl
  show Ideal.exp (Ideal.ofBits FTy.f32 4286578688#32) = 0
  rw [h]
  rfl

variable (V : Valuation τ sig (Elt Ideal)) (q k v a : Fam) (n : Fin 68) (F : Fixed V q k v a) (D : Done V q k v a n.val)

include F D in
theorem chunk_q (g : Fin 8) (h : Fin 16) (i : Fin 64) (d : Fin 128) :
    (res_main_while0b_v119 V : FVec Ideal S8x16x64x128 .f32) (ix4 g h i d) = ((q g h (64 * n.val + i.val) d : ℝ) : EReal) := by
  unfold res_main_while0b_v119
  exact (chunk_read _ _ n D.c _ _ _ g h i d).trans (F.q n g h i d)

include F D in
theorem chunk_k (g : Fin 8) (h : Fin 16) (i : Fin 64) (d : Fin 128) :
    (res_main_while0b_v120 V : FVec Ideal S8x16x64x128 .f32) (ix4 g h i d) = ((k g h (64 * n.val + i.val) d : ℝ) : EReal) := by
  unfold res_main_while0b_v120
  exact (chunk_read _ _ n D.c _ _ _ g h i d).trans (F.k n g h i d)

include F D in
theorem chunk_v (g : Fin 8) (h : Fin 16) (i : Fin 64) (d : Fin 128) :
    (res_main_while0b_v121 V : FVec Ideal S8x16x64x128 .f32) (ix4 g h i d) = ((v g h (64 * n.val + i.val) d : ℝ) : EReal) := by
  unfold res_main_while0b_v121
  exact (chunk_read _ _ n D.c _ _ _ g h i d).trans (F.v n g h i d)

include F D in
theorem chunk_a (g : Fin 8) (h : Fin 16) (i : Fin 64) (d : Fin 128) :
    (res_main_while0b_v123 V : FVec Ideal S8x16x64x128 .f32) (ix4 g h i d) = ((cum (a g h) (64 * n.val) i.val d : ℝ) : EReal) := by
  unfold res_main_while0b_v123
  refine (cumsum_apply _ _ ?_ g h d (fun l => a g h (64 * n.val + l) d) ?_ _ _ i).trans ?_
  · intro j
    pointwise
  · intro i'
    exact (chunk_read _ _ n D.c _ _ _ g h i' d).trans (F.a n g h i' d)
  · rfl

include F D in
theorem chunk_end (g : Fin 8) (h : Fin 16) (i : Fin 1) (d : Fin 128) :
    (res_main_while0b_v124 V : FVec Ideal S8x16x1x128 .f32) (ix4 g h i d) = ((cum (a g h) (64 * n.val) 63 d : ℝ) : EReal) := by
  unfold res_main_while0b_v124
  clean_types
  pointwise
  exact chunk_a V q k v a n F D g h 63 d

include F D in
/-- The state after the trip. -/
theorem step_state (g : Fin 8) (h : Fin 16) (d e : Fin 128) :
    (step_main_v100_6 V : FVec Ideal S8x16x128x128 .f32) (ix4 g h d e)
      = ((state (a g h) (k g h) (v g h) (64 * (n.val + 1)) d e : ℝ) : EReal) := by
  unfold step_main_v100_6
  clean_types
  rw [id_eq]
  pointwise
  have h1 : (state (a g h) (k g h) (v g h) (64 * (n.val + 1)) d e : ℝ) = _ :=
    (congrArg (fun t => state (a g h) (k g h) (v g h) t d e) (by omega : 64 * (n.val + 1) = 64 * n.val + 64)).trans
      (Cert.Hgrn.state_ord (a g h) (k g h) (v g h) (Equiv.refl (Fin 64)) (64 * n.val) 63 rfl d e)
  rw [h1, EReal.coe_add, EReal.coe_mul, coe_fsum, D.s g h d e, chunk_end V q k v a n F D g h 0 d]
  congr 1
  refine sum_congr rfl fun x _ => ?_
  rw [chunk_k V q k v a n F D, chunk_a V q k v a n F D, chunk_v V q k v a n F D, ← EReal.coe_sub, exp_coe, ← EReal.coe_mul, ← EReal.coe_mul]
  congr 1
  show _ = Real.exp (_ - cum (a g h) (64 * n.val) x.val d) * (k g h (64 * n.val + x.val) d * v g h (64 * n.val + x.val) e)
  show _ * Real.exp (cum (a g h) (64 * n.val) 63 d - _) * _ = Real.exp (cum (a g h) (64 * n.val) 63 d - _) * _
  ring

include F D in
/-- The outputs after the trip. -/
theorem step_out (r : Fin 68) (hr : r.val < n.val + 1) (g : Fin 8) (h : Fin 16) (i : Fin 64) (e : Fin 128) :
    (step_main_v100_7 V : FVec Ideal S68x8x16x64x128 .f32) (ix5 r g h i e)
      = ((out (q g h) (a g h) (k g h) (v g h) (64 * r.val + i.val) e : ℝ) : EReal) := by
  unfold step_main_v100_7
  rw [id_eq]
  refine (chunk_write _ _ _ n D.c _ _ _ r g h i e).trans ?_
  split_ifs with hrn
  · subst hrn
    clean_types
    pointwise
    have h1 : out (q g h) (a g h) (k g h) (v g h) (64 * r.val + i.val) e = _ :=
      Cert.Hgrn.out_ord (q g h) (a g h) (k g h) (v g h) (Equiv.refl (Fin 64)) (64 * r.val) i e
    rw [h1, EReal.coe_add, coe_fsum, coe_fsum]
    congr 1
    · refine sum_congr rfl fun x _ => ?_
      rw [chunk_v V q k v a r F D, F.m i x]
      show _ = ((if x.val ≤ i.val then (∑ d, q g h (64 * r.val + i.val) d * k g h (64 * r.val + x.val) d
        * Real.exp (cum (a g h) (64 * r.val) i.val d - cum (a g h) (64 * r.val) x.val d)) * v g h (64 * r.val + x.val) e else 0 : ℝ) : EReal)
      split_ifs with hx
      · rw [EReal.coe_mul, coe_fsum]
        congr 1
        refine sum_congr rfl fun d _ => ?_
        rw [chunk_q V q k v a r F D, chunk_k V q k v a r F D, chunk_a V q k v a r F D, chunk_a V q k v a r F D, sel_one,
          ← EReal.coe_sub, exp_coe, ← EReal.coe_mul, ← EReal.coe_mul]
      · rw [sum_eq_zero, zero_mul, EReal.coe_zero]
        intro d _
        rw [sel_zero]
        rw [exp_masked, mul_zero]
    · refine sum_congr rfl fun d _ => ?_
      rw [chunk_q V q k v a r F D, chunk_a V q k v a r F D, D.s g h d e, exp_coe, ← EReal.coe_mul, ← EReal.coe_mul]
      rfl
  · exact D.o r g h i e (by have : r.val ≠ n.val := fun h' => hrn (Fin.ext h'); omega)

end Cert.HgrnRef

end
-- ==== Proof.RefRead.lean ====
/-
  The pieces the reference's loop starts from, read at an index.
-/
module
public import proofs.«01_k».proof.Proof.RefEntry
public import proofs.«01_k».proof.Proof.RefStep

@[expose] public section
set_option maxRecDepth 16384
noncomputable section
namespace Cert.HgrnRef
open Idealize.ShloMosaic Idealize.SL.Sem Idealize.ShloMosaic.TcCoe Cert.ReferenceIdeal Cert.ReferenceIdeal.Value Cert.ReferenceIdeal.Gen
open Cert.Hgrn (row sg sg_coe ks ks_coe lsig lsig_coe lae logf_parts logfE logfE_coe zero_sub_coe exp_coe log1p_exp_coe abs_coe coe_max' coe_min')

/-- The logarithm of the logistic function, as the reference takes it. -/
theorem lsig_ref (y : ℝ) : -(max (-(y : EReal)) 0 + Ideal.log1p (Ideal.exp (0 - FloatOps.absf (F := Ideal) (φ := .f32) (-(y : EReal)))))
    = ((lsig y : ℝ) : EReal) := by
  rw [← EReal.coe_neg, abs_coe, zero_sub_coe, log1p_exp_coe, ← EReal.coe_zero, ← coe_max', ← EReal.coe_add, ← EReal.coe_neg]
  congr 1
  unfold lsig
  have h1 : max (-y) (0 - -y) = max y (0 - y) := by rw [zero_sub, zero_sub, neg_neg, max_comm]
  have h2 : max (-y) 0 = -(min y 0) := by
    rcases le_total y 0 with h | h
    · rw [max_eq_left (by linarith), min_eq_left h]
    · rw [max_eq_right (by linarith), min_eq_right h, neg_zero]
  rw [h1, h2]
  ring

/-- The sum of two exponentials in the logarithm, as the reference takes it. -/
theorem lae_ref (a c : EReal) (ha : a = ⊥ ∨ ∃ r : ℝ, a = r) (hc : c = ⊥ ∨ ∃ r : ℝ, c = r) (h : ¬ (a = ⊥ ∧ c = ⊥)) :
    max a c + Ideal.log1p (Ideal.exp (0 - FloatOps.absf (F := Ideal) (φ := .f32) (a - c))) = lae a c := by
  unfold lae
  have e : 0 - FloatOps.absf (F := Ideal) (φ := .f32) (a - c) = min a c - max a c := by
    show 0 - max (a - c) (-(a - c)) = _
    rcases ha with ha | ⟨x, ha⟩ <;> rcases hc with hc | ⟨y, hc⟩
    · exact absurd ⟨ha, hc⟩ h
    · rw [ha, hc, EReal.bot_sub, max_eq_right bot_le, min_eq_left bot_le, max_eq_right bot_le, EReal.bot_sub, EReal.neg_bot, zero_sub, EReal.neg_top]
    · rw [ha, hc, EReal.coe_sub_bot, max_eq_left le_top, min_eq_right bot_le, max_eq_left bot_le, EReal.bot_sub, zero_sub, EReal.neg_top]
    · rw [ha, hc, ← coe_max', ← coe_min', ← EReal.coe_sub, ← EReal.coe_sub, ← EReal.coe_neg, ← coe_max', zero_sub_coe]
      congr 1
      rcases le_total x y with h' | h'
      · rw [max_eq_right (by linarith), min_eq_left h', max_eq_right h']; ring
      · rw [max_eq_left (by linarith), min_eq_right h', max_eq_left h']; ring
  rw [e]

/-- The tokens of both directions, read at an index. -/
theorem both_apply (y z : FVec Ideal S17408x2048 .f32) (g : Fin 8) (t : Fin 4352) (k : Fin 2048) :
    both y z (ix3 g t k) = if g.val < 4 then y (ix2 ⟨row false (g.val % 4) t.val, Cert.Hgrn.row_lt _ _ (by omega) _ t.isLt⟩ k)
      else z (ix2 ⟨row true (g.val % 4) t.val, Cert.Hgrn.row_lt _ _ (by omega) _ t.isLt⟩ k) := by
  unfold both cat pair ctx lat
  pointwise
  by_cases hg : g.val < 4
  · rw [dif_pos hg, if_pos hg]
    by_cases ht : t.val < 256
    · rw [dif_pos ht]
      refine congrArg (fun r => y (ix2 r k)) (Fin.ext ?_)
      show g.val * 256 + t.val = row false (g.val % 4) t.val
      unfold row
      rw [if_pos ht, if_neg (by decide)]
      omega
    · rw [dif_neg ht]
      refine congrArg (fun r => y (ix2 r k)) (Fin.ext ?_)
      show 1024 + (g.val * 4096 + (t.val - 256)) = row false (g.val % 4) t.val
      unfold row
      rw [if_neg ht, if_neg (by decide)]
      omega
  · refine (dif_neg hg).trans (Eq.trans ?_ (if_neg hg).symm)
    by_cases ht : t.val < 256
    · rw [dif_pos ht]
      refine congrArg₂ (fun r k => z (ix2 r k)) (Fin.ext ?_) (if_neg (by decide))
      show (g.val - 4) * 256 + (256 - (t.val + 1)) = row true (g.val % 4) t.val
      unfold row
      rw [if_pos ht, if_pos rfl]
      omega
    · rw [dif_neg ht]
      refine congrArg₂ (fun r k => z (ix2 r k)) (Fin.ext ?_) (if_neg (by decide))
      show 1024 + ((g.val - 4) * 4096 + (4096 - (t.val - 256 + 1))) = row true (g.val % 4) t.val
      unfold row
      rw [if_neg ht, if_pos rfl]
      omega

theorem heads_apply (x : FVec Ideal S8x4352x2048 .f32) (g : Fin 8) (h : Fin 16) (t : Fin 4352) (d : Fin 128) :
    heads x (ix4 g h t d) = x (ix3 g t ⟨128 * h.val + d.val, by omega⟩) := by
  unfold heads
  pointwise
  exact congrArg (fun k => x (ix3 g t k)) (Fin.ext (by show h.val * 128 + d.val = 128 * h.val + d.val; omega))

theorem chunks_apply (x : FVec Ideal S8x16x4352x128 .f32) (n : Fin 68) (g : Fin 8) (h : Fin 16) (i : Fin 64) (d : Fin 128) :
    chunks x (ix5 n g h i d) = x (ix4 g h ⟨64 * n.val + i.val, by omega⟩ d) := by
  unfold chunks
  pointwise
  exact congrArg (fun k => x (ix4 g h k d)) (Fin.ext (by show n.val * 64 + i.val = 64 * n.val + i.val; omega))

theorem silu_apply (x : FVec Ideal S8x4352x2048 .f32) (g : Fin 8) (t : Fin 4352) (k : Fin 2048) (a : ℝ) (h : x (ix3 g t k) = (a : EReal)) :
    silu x (ix3 g t k) = ((a * Cert.Hgrn.sg a : ℝ) : EReal) := by
  unfold silu
  pointwise
  rw [h, ← zero_sub (a : EReal), sg_coe, ← EReal.coe_mul]

theorem scaled_apply (x : FVec Ideal S8x16x4352x128 .f32) (g : Fin 8) (h : Fin 16) (t : Fin 4352) (d : Fin 128) :
    scaled x (ix4 g h t d) = x (ix4 g h t d) * (Cert.Hgrn.ks : EReal) := by
  unfold scaled
  pointwise
  rw [ks_coe]

theorem spread_apply (b : FVec Ideal S16x1x128 .f32) (g : Fin 8) (h : Fin 16) (t : Fin 4352) (d : Fin 128) :
    spread b (ix4 g h t d) = b (ix3 h 0 d) := by
  unfold spread
  pointwise

theorem lbh_apply (b : FVec Ideal S2048 .f32) (h : Fin 16) (d : Fin 128) :
    lbh b (ix3 h 0 d) = b (ix1 ⟨128 * h.val + d.val, by omega⟩) := by
  unfold lbh
  pointwise
  exact congrArg (fun k => b (ix1 k)) (Fin.ext (by show h.val * 128 + d.val = 128 * h.val + d.val; omega))

theorem addexp_apply (a c w : FVec Ideal S8x16x4352x128 .f32) (g : Fin 8) (h : Fin 16) (t : Fin 4352) (d : Fin 128) :
    addexp a c w (ix4 g h t d) = w (ix4 g h t d) + Ideal.log1p (Ideal.exp (0 - (FloatOps.absf (F := Ideal) (φ := .f32) (a (ix4 g h t d) - c (ix4 g h t d))))) := by
  unfold addexp
  pointwise
  rw [if_neg (not_not.mpr rfl), zero_sub]

theorem keys_apply (b : FVec Ideal S16x1x128 .f32) (u : FVec Ideal S8x16x4352x128 .f32) (g : Fin 8) (h : Fin 16) (t : Fin 4352) (d : Fin 128)
    (x y : ℝ) (hb : b (ix3 h 0 d) = (x : EReal)) (hu : u (ix4 g h t d) = (y : EReal)) :
    keys b u (ix4 g h t d) = ((Cert.Hgrn.rk x y : ℝ) : EReal) := by
  unfold keys spread one
  pointwise
  have e : - -((y : ℝ) : EReal) = 0 - ((0 - y : ℝ) : EReal) := by rw [EReal.coe_sub, EReal.coe_zero, zero_sub, zero_sub]
  rw [hb, hu, e, sg_coe, ← EReal.coe_one, ← EReal.coe_sub, ← EReal.coe_mul]
  rfl

theorem decay_apply (b : FVec Ideal S16x1x128 .f32) (u : FVec Ideal S8x16x4352x128 .f32) (g : Fin 8) (h : Fin 16) (t : Fin 4352) (d : Fin 128)
    (x y : ℝ) (hb : b (ix3 h 0 d) = (x : EReal)) (hu : u (ix4 g h t d) = (y : EReal)) :
    decay b u (ix4 g h t d) = ((Cert.Hgrn.rl x y : ℝ) : EReal) := by
  have e : logsig u (ix4 g h t d) = ((lsig y : ℝ) : EReal) := by
    unfold logsig
    pointwise
    rw [addexp_apply]
    unfold zer
    pointwise
    rw [hu]
    exact lsig_ref y
  unfold decay mix
  rw [addexp_apply]
  unfold spread
  pointwise
  rw [hb, e, ← zero_sub (x : EReal)]
  obtain ⟨h1, h2, h3⟩ := logf_parts x y
  rw [lae_ref _ _ h1 h2 h3, ← logfE_coe, logfE, lsig_coe]

theorem tri_apply (i j : Fin 64) :
    tri (broadcastInDim S64x64 ![] bcast_S_S64x64 (constantI S_ 1 1#1)) (ix2 i j) = if j.val ≤ i.val then 1#1 else 0#1 := by
  unfold tri
  pointwise
  revert i j
  decide +kernel

end Cert.HgrnRef

end
-- ==== Proof.RefValue.lean ====
/-
  What the reference's run leaves in its two results.
-/
module
public import proofs.«01_k».proof.Proof.RefRead

@[expose] public section
set_option maxRecDepth 16384
noncomputable section
namespace Cert.HgrnRef
open Idealize.ShloMosaic Idealize.SL.Sem Idealize.ShloMosaic.TcCoe Cert.ReferenceIdeal Cert.ReferenceIdeal.Value Cert.ReferenceIdeal.Gen
open Idealize.ShloMosaic.StableHlo
open Cert.Hgrn (row sX sU sV sB seqQ seqK seqL state out res spec bOf tOf rq rk rl)

variable (p : ℕ → ℕ → ℝ) (l : ℕ → ℝ)

/-- The direction of an entry of the stacked axis. -/
def rv (g : Fin 8) : Bool := decide (4 ≤ g.val)

/-- The queries of every direction, sample and head. -/
def fq : Fam := fun g h => seqQ (sX p (rv g) (g.val % 4) h.val)
/-- The keys. -/
def fk : Fam := fun g h => seqK (sU p (rv g) (g.val % 4) h.val) (sB l h.val)
/-- The values. -/
def fv : Fam := fun g h => sV p (rv g) (g.val % 4) h.val
/-- The logarithms of the decays. -/
def fa : Fam := fun g h => seqL (sU p (rv g) (g.val % 4) h.val) (sB l h.val)

/-- Columns that hold reals give the tokens' reals. -/
theorem both_real (y z : FVec Ideal S17408x2048 .f32) (a b : ℕ)
    (hy : ∀ (r : Fin 17408) (k : Fin 2048), y (ix2 r k) = ((p r.val (a + k.val) : ℝ) : EReal))
    (hz : ∀ (r : Fin 17408) (k : Fin 2048), z (ix2 r k) = ((p r.val (b + k.val) : ℝ) : EReal))
    (g : Fin 8) (t : Fin 4352) (k : Fin 2048) :
    both y z (ix3 g t k) = ((p (row (rv g) (g.val % 4) t.val) ((if rv g then b else a) + k.val) : ℝ) : EReal) := by
  rw [both_apply]
  unfold rv
  by_cases hg : g.val < 4
  · rw [if_pos hg, hy, decide_eq_false (by omega)]; rfl
  · rw [if_neg hg, hz, decide_eq_true (by omega)]; rfl

variable (V : Valuation τ sig (Elt Ideal)) (P : FVec Ideal S17408x20480 .f32) (B : FVec Ideal S2048 .f32)
  (hP : V (Proc.devRef .tc main_arg0) = P) (hB : V (Proc.devRef .tc main_arg1) = B)
  (hp : ∀ (r : Fin 17408) (k : Fin 20480), 6144 ≤ k.val → k.val < 14336 → P (ix2 r k) = ((p r.val k.val : ℝ) : EReal))
  (hl : ∀ k : Fin 2048, B (ix1 k) = ((l k.val : ℝ) : EReal))

include hp in
theorem colQ_real (r : Fin 17408) (k : Fin 2048) : colQ P (ix2 r k) = ((p r.val (6144 + k.val) : ℝ) : EReal) := by
  unfold colQ
  pointwise
  exact hp r ⟨6144 + k.val, by omega⟩ (by show 6144 ≤ 6144 + k.val; omega) (by show 6144 + k.val < 14336; omega)

include hp in
theorem colU_real (r : Fin 17408) (k : Fin 2048) : colU P (ix2 r k) = ((p r.val (8192 + k.val) : ℝ) : EReal) := by
  unfold colU
  pointwise
  exact hp r ⟨8192 + k.val, by omega⟩ (by show 6144 ≤ 8192 + k.val; omega) (by show 8192 + k.val < 14336; omega)

include hp in
theorem colW_real (r : Fin 17408) (k : Fin 2048) : colW P (ix2 r k) = ((p r.val (10240 + k.val) : ℝ) : EReal) := by
  unfold colW
  pointwise
  exact hp r ⟨10240 + k.val, by omega⟩ (by show 6144 ≤ 10240 + k.val; omega) (by show 10240 + k.val < 14336; omega)

include hp in
theorem colV_real (r : Fin 17408) (k : Fin 2048) : colV P (ix2 r k) = ((p r.val (12288 + k.val) : ℝ) : EReal) := by
  unfold colV
  pointwise
  exact hp r ⟨12288 + k.val, by omega⟩ (by show 6144 ≤ 12288 + k.val; omega) (by show 12288 + k.val < 14336; omega)

include hp in
/-- The gates by head. -/
theorem gate_real (g : Fin 8) (h : Fin 16) (t : Fin 4352) (d : Fin 128) :
    heads (both (colU P) (colW P)) (ix4 g h t d) = ((sU p (rv g) (g.val % 4) h.val t.val d : ℝ) : EReal) := by
  rw [heads_apply, both_real p _ _ 8192 10240 (colU_real p P hp) (colW_real p P hp)]
  unfold sU
  rw [Nat.add_assoc]

include hl in
/-- The bounds by head. -/
theorem bound_real (h : Fin 16) (d : Fin 128) : lbh B (ix3 h 0 d) = ((sB l h.val d : ℝ) : EReal) := by
  rw [lbh_apply, hl]
  rfl

include hP hB hp hl in
/-- What does not change during the loop, at its start. -/
theorem start_fixed : Fixed (start V) (fq p) (fk p l) (fv p) (fa p l) where
  q n g h i d := by
    rw [start_q, hP, chunks_apply, scaled_apply, heads_apply,
      silu_apply _ _ _ _ _ (both_real p _ _ 6144 6144 (colQ_real p P hp) (colQ_real p P hp) _ _ _), ← EReal.coe_mul, ite_self]
    congr 1
    show _ = rq (p _ (6144 + 128 * h.val + d.val))
    rw [Nat.add_assoc]
    rfl
  k n g h i d := by
    rw [start_k, hP, hB, chunks_apply]
    exact keys_apply _ _ _ _ _ _ _ _ (bound_real l B hl h d) (gate_real p P hp g h _ d)
  v n g h i d := by
    rw [start_v, hP, chunks_apply, heads_apply, both_real p _ _ 12288 12288 (colV_real p P hp) (colV_real p P hp), ite_self]
    congr 1
    show _ = p _ (12288 + 128 * h.val + d.val)
    rw [Nat.add_assoc]
  a n g h i d := by
    rw [start_a, hP, hB, chunks_apply]
    exact decay_apply _ _ _ _ _ _ _ _ (bound_real l B hl h d) (gate_real p P hp g h _ d)
  m i j := by
    rw [start_m]
    exact tri_apply i j

/-- What does not change during the loop does not change in a trip. -/
theorem fixed_step (W : Valuation τ sig (Elt Ideal)) (q k v a : Fam) (F : Fixed W q k v a) : Fixed (STEP W) q k v a where
  q := by rw [STEP_main_v100_0]; exact F.q
  k := by rw [STEP_main_v100_1]; exact F.k
  v := by rw [STEP_main_v100_2]; exact F.v
  a := by rw [STEP_main_v100_3]; exact F.a
  m := by rw [STEP_main_v100_4]; exact F.m

/-- A trip does one chunk more. -/
theorem done_step (W : Valuation τ sig (Elt Ideal)) (q k v a : Fam) (F : Fixed W q k v a) (n : ℕ) (hn : n < 68) (D : Done W q k v a n) :
    Done (STEP W) q k v a (n + 1) where
  c j := by
    rw [STEP_main_v100_5]
    unfold step_main_v100_5
    have h : (addi (W (Proc.devRef .tc main_v100_5)) (constantI S_ 32 1#32) : IVec S_ 32) j = BitVec.ofNat 32 n + 1#32 :=
      congrArg (· + 1#32) (D.c j)
    exact h.trans (BitVec.ofNat_add n 1).symm
  s g h d e := by
    rw [STEP_main_v100_6]
    exact step_state W q k v a ⟨n, hn⟩ F D g h d e
  o r g h i e hr := by
    rw [STEP_main_v100_7]
    exact step_out W q k v a ⟨n, hn⟩ F D r hr g h i e

/-- After `n` trips, `n` chunks are done. -/
theorem done_all (E : Valuation τ sig (Elt Ideal)) (q k v a : Fam) (F : Fixed E q k v a) (D : Done E q k v a 0) :
    ∀ n, n ≤ 68 → Fixed (STEP^[n] E) q k v a ∧ Done (STEP^[n] E) q k v a n
  | 0, _ => ⟨F, D⟩
  | n + 1, hn => by
    rw [Function.iterate_succ_apply']
    have h := done_all E q k v a F D n (by omega)
    exact ⟨fixed_step _ q k v a h.1, done_step _ q k v a h.1 n (by omega) h.2⟩

/-- The stack of outputs where a direction's token and a head's column lie. -/
theorem stack_real (W : Valuation τ sig (Elt Ideal)) (D : Done W (fq p) (fk p l) (fv p) (fa p l) 68) (n : Fin 68) (g : Fin 8)
    (h : Fin 16) (i : Fin 64) (e : Fin 128) (rev : Bool) (r k : ℕ) (hg : g.val = (if rev then 4 else 0) + bOf r) (hb : bOf r < 4)
    (ht : 64 * n.val + i.val = tOf rev r) (hk : h.val = k / 128) (he : e.val = k % 128) :
    (W (Proc.devRef .tc main_v100_7) : FVec Ideal S68x8x16x64x128 .f32) (ix5 n g h i e) = ((spec p l rev r k : ℝ) : EReal) := by
  refine (D.o n g h i e n.isLt).trans ?_
  have hr : rv g = rev := by
    unfold rv
    cases rev
    · exact decide_eq_false (by rw [hg, if_neg (by decide)]; omega)
    · exact decide_eq_true (by rw [hg, if_pos rfl]; omega)
  have hm : g.val % 4 = bOf r := by rw [hg]; split_ifs <;> omega
  have hee : e = ⟨k % 128, Nat.mod_lt _ (by omega)⟩ := Fin.ext he
  unfold spec res fq fk fv fa
  rw [hr, hm, ht, hk, hee]

/-- The sample of a row is one of four. -/
theorem bOf_lt (r : Fin 17408) : bOf r.val < 4 := by
  unfold bOf
  split_ifs <;> omega

/-- The forward result, read off the stack of outputs. -/
theorem out_fwd (W : Valuation τ sig (Elt Ideal)) (D : Done W (fq p) (fk p l) (fv p) (fa p l) 68) (r : Fin 17408) (k : Fin 2048) :
    (out_main_v110 W : FVec Ideal S17408x2048 .f32) (ix2 r k) = ((spec p l false r.val k.val : ℝ) : EReal) := by
  unfold out_main_v110
  clean_types
  pointwise
  have hb := bOf_lt r
  by_cases h : r.val < 1024
  · refine (dif_pos h).trans (stack_real p l W D _ _ _ _ _ false r.val k.val ?_ hb ?_ rfl rfl)
    · show r.val / 256 = 0 + bOf r.val
      unfold bOf
      rw [if_pos h, Nat.zero_add]
    · show 64 * (r.val % 256 / 64) + r.val % 256 % 64 = tOf false r.val
      unfold tOf
      rw [if_pos h, Nat.div_add_mod]
      rfl
  · refine (dif_neg h).trans (stack_real p l W D _ _ _ _ _ false r.val k.val ?_ hb ?_ rfl rfl)
    · show (r.val - 1024) / 4096 = 0 + bOf r.val
      unfold bOf
      rw [if_neg h, Nat.zero_add]
    · show 64 * ((256 + (r.val - 1024) % 4096) / 64) + (256 + (r.val - 1024) % 4096) % 64 = tOf false r.val
      unfold tOf
      rw [if_neg h, Nat.div_add_mod]
      rfl

/-- The backward result, read off the stack of outputs. -/
theorem out_bwd (W : Valuation τ sig (Elt Ideal)) (D : Done W (fq p) (fk p l) (fv p) (fa p l) 68) (r : Fin 17408) (k : Fin 2048) :
    (out_main_v118 W : FVec Ideal S17408x2048 .f32) (ix2 r k) = ((spec p l true r.val k.val : ℝ) : EReal) := by
  unfold out_main_v118
  clean_types
  pointwise
  have hb := bOf_lt r
  by_cases h : r.val < 1024
  · refine (dif_pos h).trans (stack_real p l W D _ _ _ _ _ true r.val k.val ?_ hb ?_ rfl rfl)
    · show 4 + r.val / 256 = 4 + bOf r.val
      unfold bOf
      rw [if_pos h]
    · show 64 * ((256 - (r.val % 256 + 1)) / 64) + (256 - (r.val % 256 + 1)) % 64 = tOf true r.val
      unfold tOf
      rw [if_pos h, Nat.div_add_mod, if_pos rfl]
      omega
  · refine (dif_neg h).trans (stack_real p l W D _ _ _ _ _ true r.val k.val ?_ hb ?_ rfl rfl)
    · show 4 + (r.val - 1024) / 4096 = 4 + bOf r.val
      unfold bOf
      rw [if_neg h]
    · show 64 * ((256 + (4096 - ((r.val - 1024) % 4096 + 1))) / 64) + (256 + (4096 - ((r.val - 1024) % 4096 + 1))) % 64 = tOf true r.val
      unfold tOf
      rw [if_neg h, Nat.div_add_mod, if_pos rfl]
      omega

variable (m : (ℓ : Loc nD τ sig) → Buf (Elt Ideal) ℓ) (c : Dev nD)
  (hm0 : m ((c : Thread nD τ).loc main_arg0) = P) (hm1 : m ((c : Thread nD τ).loc main_arg1) = B)

include hm0 hm1 hp hl in
/-- The loop does all the chunks. -/
theorem loop_done : Done (STEP^[68] (entryContents preI m c)) (fq p) (fk p l) (fv p) (fa p l) 68 := by
  have F : Fixed (entryContents preI m c) (fq p) (fk p l) (fv p) (fa p l) := by
    rw [entry_start]
    exact start_fixed p l (launchContents m c) P B hm0 hm1 hp hl
  refine (done_all _ _ _ _ _ F ⟨fun j => ?_, fun g h d e => ?_, fun r g h i e hr => absurd hr (Nat.not_lt_zero _)⟩ 68 (le_refl _)).2
  · rw [ctr_entry]
  · rw [entry_start, start_s]
    pointwise
    rfl

include hm0 hm1 hp hl in
/-- The two results. -/
theorem ref_reals : (out_main_v110 (STEP^[68] (entryContents preI m c)) : FVec Ideal S17408x2048 .f32)
      = (fun y => ((spec p l false (y 0).val (y 1).val : ℝ) : EReal))
    ∧ (out_main_v118 (STEP^[68] (entryContents preI m c)) : FVec Ideal S17408x2048 .f32)
      = (fun y => ((spec p l true (y 0).val (y 1).val : ℝ) : EReal)) := by
  have D := loop_done p l P B hp hl m c hm0 hm1
  constructor
  · funext y
    have hy : y = ix2 (y 0) (y 1) := by funext a; fin_cases a <;> rfl
    exact (congrArg _ hy).trans (out_fwd p l _ D (y 0) (y 1))
  · funext y
    have hy : y = ix2 (y 0) (y 1) := by funext a; fin_cases a <;> rfl
    exact (congrArg _ hy).trans (out_bwd p l _ D (y 0) (y 1))

end Cert.HgrnRef

end
-- ==== Proof.Algebraic.lean ====
/-
  The value claim: from finite columns and bounds, the kernel and the reference end with the same two results.
-/
module
public import proofs.«01_k».proof.Proof.Frames
public import proofs.«01_k».proof.Proof.KernelValue
public import proofs.«01_k».proof.Proof.RefValue
public import Idealize.ShloMosaic.Lib.ReduceAll
public import Idealize.ShloMosaic.Lib.Affine

@[expose] public section
set_option maxRecDepth 16384
noncomputable section
namespace Cert.Hgrn
open Idealize.ShloMosaic Idealize.SL.Sem Idealize.ShloMosaic.TcCoe

/-- The positive infinity's word. -/
theorem inf_word : Ideal.ofBits .f32 0x7F800000#32 = ⊤ := by simp [Ideal.ofBits, Ideal.ieee]

/-- A value whose magnitude is below infinity is a real. -/
theorem real_of_lt (x : Ideal .f32)
    (h : FloatOps.cmpf .olt (FloatOps.hostAbsf x) (FloatOps.ofBits (F := Ideal) .f32 0x7F800000#32) = 1#1) :
    x = ((EReal.toReal x : ℝ) : EReal) := by
  have h' : Ideal.cmp .olt (max (x : EReal) (-(x : EReal))) (Ideal.ofBits .f32 0x7F800000#32) = 1#1 := h
  rw [inf_word] at h'
  have hlt : max (x : EReal) (-(x : EReal)) < ⊤ := by
    by_contra hn
    unfold Ideal.cmp at h'
    simp [hn] at h'
  rw [max_lt_iff] at hlt
  refine (EReal.coe_toReal hlt.1.ne fun hb => ?_).symm
  rw [hb] at hlt
  exact absurd hlt.2 (by simp)

/-- The precondition's word at its one index: every value it names is a real. -/
theorem pre_reads (P : FVec Ideal Cert.Pre_finite.S17408x20480 .f32) (B : FVec Ideal Cert.Pre_finite.S2048 .f32)
    (h : Cert.Pre_finite.fn (F := Ideal) P B = fun _ => 1#1) :
    (∀ (r : Fin 17408) (k : Fin 20480), 6144 ≤ k.val → k.val < 14336 → P (ix2 r k) = ((EReal.toReal (P (ix2 r k)) : ℝ) : EReal))
    ∧ ∀ k : Fin 2048, B (ix1 k) = ((EReal.toReal (B (ix1 k)) : ℝ) : EReal) := by
  dsimp only [Cert.Pre_finite.fn] at h
  obtain ⟨h1, h2⟩ := IntOp.andi_eq_one.1 (congrFun h ix0)
  haveI : Subsingleton Cert.Pre_finite.S_.Idx := ⟨fun a b => funext fun i => i.elim0⟩
  constructor
  · intro r k hk hk'
    have e := Host.reduce_andi_all _ _ _ _ _ h1 (ix2 r ⟨k.val - 6144, by omega⟩)
    refine real_of_lt _ ?_
    have hi : (ix2 r k : Cert.Pre_finite.S17408x20480.Idx) = ix2 r ⟨6144 + (k.val - 6144), by omega⟩ :=
      congrArg (ix2 r) (Fin.ext (by show k.val = 6144 + (k.val - 6144); omega))
    rw [hi]
    revert e
    pointwise
    exact id
  · intro k
    have e := Host.reduce_andi_all _ _ _ _ _ h2 (ix1 k)
    refine real_of_lt _ ?_
    revert e
    pointwise
    exact id

/-- A projection's reals. -/
def pR (P : FVec Ideal Cert.KernelIdeal.S17408x20480 .f32) (r k : ℕ) : ℝ :=
  if h : r < 17408 ∧ k < 20480 then EReal.toReal (P (ix2 ⟨r, h.1⟩ ⟨k, h.2⟩)) else 0

/-- The bounds' reals. -/
def lR (B : FVec Ideal Cert.KernelIdeal.S2048 .f32) (k : ℕ) : ℝ :=
  if h : k < 2048 then EReal.toReal (B (ix1 ⟨k, h⟩)) else 0

/-- Under the precondition the arguments are reals where the scan reads them. -/
theorem reals_of_pre (P : FVec Ideal Cert.KernelIdeal.S17408x20480 .f32) (B : FVec Ideal Cert.KernelIdeal.S2048 .f32)
    (h : Cert.Pre_finite.fn (F := Ideal) P B = fun _ => 1#1) : Reals P B (pR P) (lR B) where
  p r k hk hk' := by
    unfold pR
    rw [dif_pos ⟨r.isLt, k.isLt⟩]
    exact (pre_reads P B h).1 r k hk hk'
  l k := by
    unfold lR
    rw [dif_pos k.isLt]
    exact (pre_reads P B h).2 k

/-- The kernel and the reference end with the same results. -/
theorem algebraic : Cert.algebraic_KernelIdeal_ReferenceIdeal_pre_finite := by
  intro m g m' g' hpre hargs
  have H := fun c => reals_of_pre _ _ (hpre c)
  refine ⟨fun c => result (pR (m ((c.tc : Thread Cert.KernelIdeal.nD Cert.KernelIdeal.τ).loc Cert.KernelIdeal.main_arg0)))
      (lR (m ((c.tc : Thread Cert.KernelIdeal.nD Cert.KernelIdeal.τ).loc Cert.KernelIdeal.main_arg1))) false,
    fun c => result (pR (m ((c.tc : Thread Cert.KernelIdeal.nD Cert.KernelIdeal.τ).loc Cert.KernelIdeal.main_arg0)))
      (lR (m ((c.tc : Thread Cert.KernelIdeal.nD Cert.KernelIdeal.τ).loc Cert.KernelIdeal.main_arg1))) true, ?_, ?_⟩
  · refine (θ_run Cert.KernelIdeal.defs _ _).mono (fun r h c => ?_) (Cert.KernelIdeal.Value.run_blocks (F := Ideal) m g)
    have ho := out_reals m c _ _ (H c)
    exact ⟨(h c).1.trans ho.1, (h c).2.1.trans ho.2, (h c).2.2⟩
  · refine (θ_run Cert.ReferenceIdeal.defs _ _).mono (fun r h c => ?_) (Cert.ReferenceIdeal.Value.run (F := Ideal) m' g')
    have ho := Cert.HgrnRef.ref_reals _ _ _ _ (H c).p (H c).l m' c (hargs c).1 (hargs c).2
    exact ⟨(h c).1.trans ho.1, (h c).2.1.trans ho.2, (h c).2.2⟩

end Cert.Hgrn

end
-- ==== Proof.InValue.lean ====
/-
  The input projection: what the kernel's run leaves in its result, and what the reference's leaves.
-/
module
public import proofs.«01_k».proof.Proof.Gen.InIdeal.Value
public import proofs.«01_k».proof.Proof.Gen.InRefIdeal.Run
public import Idealize.ShloMosaic.Lib.Pipeline.ValueKit
public import Idealize.ShloMosaic.Lib.Pointwise
public import Idealize.ShloMosaic.Lib.Pipeline.ReadBack

@[expose] public section
set_option maxRecDepth 16384
noncomputable section
namespace Cert.InProof
open Idealize.ShloMosaic Idealize.SL.Sem Idealize.ShloMosaic.TcCoe Cert.InIdeal Cert.InIdeal.Gen

/-- The product of the activations with a layer's weights, of the columns kept. -/
def product (l : Fin 2) (h : FVec Ideal S17408x4096 .bf16) (w : FVec Ideal S2x4096x22880 .f32) : FVec Ideal S17408x20480 .f32 :=
  fun y => ∑ k : Fin 4096, h (ix2 (y 0) k) * w (ix3 l k ⟨(y 1).val, lt_of_lt_of_le (y 1).isLt (by decide)⟩)

/-- The blocks of a point: its rows, its columns. -/
theorem idx0 : ∀ t : Fin cfg0.N, win0_0.index t 0 = t.val / 20 ∧ win0_0.index t 1 = 0 :=
  (by decide +kernel : ∀ t : Fin grid0.N, win0_0.index t 0 = t.val / 20 ∧ win0_0.index t 1 = 0)
theorem idx1 : ∀ t : Fin cfg0.N, win0_1.index t 0 = 0 ∧ win0_1.index t 1 = 0 ∧ win0_1.index t 2 = t.val % 20 :=
  (by decide +kernel : ∀ t : Fin grid0.N, win0_1.index t 0 = 0 ∧ win0_1.index t 1 = 0 ∧ win0_1.index t 2 = t.val % 20)
theorem idx2 : ∀ t : Fin cfg0.N, win0_2.index t 0 = t.val / 20 ∧ win0_2.index t 1 = t.val % 20 :=
  (by decide +kernel : ∀ t : Fin grid0.N, win0_2.index t 0 = t.val / 20 ∧ win0_2.index t 1 = t.val % 20)

/-- A block's product, at an element. -/
theorem pay_apply (a : FVec Ideal S1024x4096 .bf16) (w : FVec Ideal S1x4096x1024 .bf16) (i j : Fin 1024) :
    k0_pay1 (F := Ideal) a w (ix2 i j) = ∑ k : Fin 4096, a (ix2 i k) * w (ix3 0 k j) := by
  unfold k0_pay1
  pointwise

variable (m : (ℓ : Loc nD τ sig) → Buf (Elt Ideal) ℓ) (c : Dev nD)

theorem out_apply (t : Fin cfg0.N) : outsAt0 m c t = k0_pay1 (iblk m c 0 t) (X0_1 m c t) := by
  unfold outsAt0
  frame_out

/-- The array the weights' window reads: the weights, cast. -/
theorem weights : (V m c main_v0 : FVec Ideal S2x4096x22880 .bf16)
    = (truncf .bf16 (m ((c : Thread nD τ).loc main_arg1) : FVec Ideal S2x4096x22880 .f32) bitsLt_bf16_f32 : FVec Ideal S2x4096x22880 .bf16) := by
  unfold V
  after_results <;> rfl

/-- The rows' block. -/
theorem rows_apply (t : Fin cfg0.N) (i : Fin 1024) (k : Fin 4096) (r : Fin 17408) (hr : r.val = t.val / 20 * 1024 + i.val) :
    (iblk m c 0 t : Vec Ideal S1024x4096 .bf16) (ix2 i k) = (m ((c : Thread nD τ).loc main_arg0) : FVec Ideal S17408x4096 .bf16) (ix2 r k) := by
  unfold iblk
  rw [View.read_apply]
  refine (congrFun (V_main_arg0 m c) _).trans (congrArg _ ?_)
  funext a; apply Fin.ext
  fin_cases a
  · show win0_0.index t 0 * 1024 + 1 * i.val = r.val
    rw [(idx0 t).1]; omega
  · show win0_0.index t 1 * 4096 + 1 * k.val = k.val
    rw [(idx0 t).2]; omega

/-- The columns' block of the first layer's weights. -/
theorem cols_apply (t : Fin cfg0.N) (j : Fin 1024) (k : Fin 4096) (q : Fin 22880) (hq : q.val = t.val % 20 * 1024 + j.val) :
    (X0_1 m c t : Vec Ideal S1x4096x1024 .bf16) (ix3 0 k j)
      = (m ((c : Thread nD τ).loc main_arg1) : FVec Ideal S2x4096x22880 .f32) (ix3 0 k q) := by
  have hx := xsize0_1 t
  let y : ((cfg0.win 1).xblock (cfg0.grid.coords t)).Idx := fun a => ⟨((ix3 0 k j : S1x4096x1024.Idx) a).val, by
    show _ < (cfg0.win 1).xsize (cfg0.grid.coords t) a
    rw [hx a]; exact ((ix3 0 k j : S1x4096x1024.Idx) a).isLt⟩
  have hy : (cfg0.win 1).xinj (cfg0.grid.coords t) y = (ix3 0 k j : S1x4096x1024.Idx) := by funext a; fin_cases a <;> rfl
  unfold X0_1
  rw [← hy]
  refine ((cfg0.win 1).fill_xinj (cfg0.grid.coords t) _ _ y).trans ?_
  unfold iblk
  rw [View.read_apply]
  refine (congrFun (weights m c) _).trans ?_
  refine congrArg (m ((c : Thread nD τ).loc main_arg1) : FVec Ideal S2x4096x22880 .f32) ?_
  funext a; apply Fin.ext
  fin_cases a
  · show win0_1.index t 0 * 1 + 1 * 0 = 0
    rw [(idx1 t).1]
  · show win0_1.index t 1 * 4096 + 1 * k.val = k.val
    rw [(idx1 t).2.1]; omega
  · show win0_1.index t 2 * 1024 + 1 * j.val = q.val
    rw [(idx1 t).2.2]; omega

/-- The result's array after the run. -/
theorem arr2 : (dats m 0 c).arrAt 2 cfg0.N = product 0 (m ((c : Thread nD τ).loc main_arg0)) (m ((c : Thread nD τ).loc main_arg1)) := by
  refine (dats m 0 c).arrAt_eq_of_covers 2 _ (by decide +kernel) fun t hf y => ?_
  rw [after0_2, cast_eq, out_apply]
  have hy : (cfg0.win 2).xinj (cfg0.grid.coords t) y = (ix2 (y 0) (y 1) : S1024x1024.Idx) := by funext a; fin_cases a <;> rfl
  refine (congrArg _ hy).trans ((pay_apply _ _ (y 0) (y 1)).trans ?_)
  unfold product
  refine Finset.sum_congr rfl fun k _ => ?_
  refine congrArg₂ (· * ·) (rows_apply m c t (y 0) k _ ?_) (cols_apply m c t (y 1) k _ ?_)
  · show win0_2.index t 0 * 1024 + 1 * (y 0).val = _
    rw [(idx2 t).1, one_mul]
  · show win0_2.index t 1 * 1024 + 1 * (y 1).val = _
    rw [(idx2 t).2, one_mul]

/-- The reference's term is the product. -/
theorem ref_product (h : FVec Ideal S17408x4096 .bf16) (w : FVec Ideal S2x4096x22880 .f32) (hs hc hs' hb) :
    extractStridedSlice Cert.InRefIdeal.S17408x20480 ![0, 0] (Host.dotGeneral (F := Ideal) Cert.InRefIdeal.dot_S17408x4096_S4096x22880_S17408x22880_1_0_0_1_n_n none
      (extf .f32 h hb) (shapeCast Cert.InRefIdeal.S4096x22880 (extractStridedSlice Cert.InRefIdeal.S1x4096x22880 ![0, 0, 0] w hs) hc)) hs' = product 0 h w := by
  funext y
  rw [show y = ix2 (y 0) (y 1) by funext a; fin_cases a <;> rfl]
  unfold product
  pointwise

end Cert.InProof

end
-- ==== Proof.UpValue.lean ====
/-
  The feed-forward layer's first half: what the kernel's run leaves in its result, and what the reference's leaves.
-/
module
public import proofs.«01_k».proof.Proof.Gen.UpIdeal.Value
public import proofs.«01_k».proof.Proof.Gen.UpRefIdeal.Run
public import Idealize.ShloMosaic.Lib.Pipeline.ValueKit
public import Idealize.ShloMosaic.Lib.Pointwise
public import Idealize.ShloMosaic.Lib.Pipeline.ReadBack

@[expose] public section
set_option maxRecDepth 16384
noncomputable section
namespace Cert.UpProof
open Idealize.ShloMosaic Idealize.SL.Sem Idealize.ShloMosaic.TcCoe Cert.UpIdeal Cert.UpIdeal.Gen

/-- The gated unit of the two products. -/
def glu (a b : EReal) : EReal := a * Ideal.div 1 (1 + Ideal.exp (-a)) * b

/-- A sum over 4096 by its halves. -/
theorem sum_halves (f : Fin 4096 → EReal) : ∑ k : Fin 4096, f k
    = ∑ k : Fin 2048, f ⟨0 * 2048 + k.val, by omega⟩ + ∑ k : Fin 2048, f ⟨1 * 2048 + k.val, by omega⟩ := by
  refine (Fin.sum_univ_add (a := 2048) (b := 2048) f).trans (congrArg₂ (· + ·) ?_ ?_)
  · exact Finset.sum_congr rfl fun k _ => congrArg f (Fin.ext (by show k.val = 0 * 2048 + k.val; omega))
  · exact Finset.sum_congr rfl fun k _ => congrArg f (Fin.ext (by show 2048 + k.val = 1 * 2048 + k.val; omega))

theorem idx0 : ∀ t : Fin cfg0.N, win0_0.index t 0 = t.val / 16 ∧ win0_0.index t 1 = t.val % 2 :=
  (by decide +kernel : ∀ t : Fin grid0.N, win0_0.index t 0 = t.val / 16 ∧ win0_0.index t 1 = t.val % 2)
theorem idx1 : ∀ t : Fin cfg0.N, win0_1.index t 0 = t.val % 2 ∧ win0_1.index t 1 = t.val / 2 % 8 :=
  (by decide +kernel : ∀ t : Fin grid0.N, win0_1.index t 0 = t.val % 2 ∧ win0_1.index t 1 = t.val / 2 % 8)
theorem idx2 : ∀ t : Fin cfg0.N, win0_2.index t 0 = t.val % 2 ∧ win0_2.index t 1 = t.val / 2 % 8 :=
  (by decide +kernel : ∀ t : Fin grid0.N, win0_2.index t 0 = t.val % 2 ∧ win0_2.index t 1 = t.val / 2 % 8)
theorem idx3 : ∀ t : Fin cfg0.N, win0_3.index t 0 = t.val / 16 ∧ win0_3.index t 1 = t.val / 2 % 8 :=
  (by decide +kernel : ∀ t : Fin grid0.N, win0_3.index t 0 = t.val / 16 ∧ win0_3.index t 1 = t.val / 2 % 8)

/-- A block's product. -/
def dot (a : FVec Ideal S1024x2048 .bf16) (w : FVec Ideal S2048x1024 .bf16) (i j : Fin 1024) : EReal :=
  ∑ k : Fin 2048, a (ix2 i k) * w (ix2 k j)

theorem pay1_apply (a w i j) : k0_pay1 (F := Ideal) a w (ix2 i j) = dot a w i j := by
  unfold k0_pay1 dot
  pointwise

theorem pay2_apply (a w i j) : k0_pay2 (F := Ideal) a w (ix2 i j) = dot a w i j := by
  unfold k0_pay2 dot
  pointwise

theorem pay5_apply (a w w' s s' i j) : k0_pay5 (F := Ideal) a w w' s s' (ix2 i j)
    = glu (s (ix2 i j) + dot a w i j) (s' (ix2 i j) + dot a w' i j) := by
  unfold k0_pay5 dot glu
  pointwise
  rw [zero_sub]

variable (m : (ℓ : Loc nD τ sig) → Buf (Elt Ideal) ℓ) (c : Dev nD)

/-- What a point of the second step leaves in the result's block. -/
theorem out_apply (t : Fin cfg0.N) (h : t.val % 2 = 1) (s : Fin cfg0.N) (hs : s.val = t.val - 1) (i j : Fin 1024) :
    (outsAt0 m c t.val t.isLt).1 (ix2 i j)
      = glu (dot (iblk m c 0 s) (iblk m c 1 s) i j + dot (iblk m c 0 t) (iblk m c 1 t) i j)
          (dot (iblk m c 0 s) (iblk m c 2 s) i j + dot (iblk m c 0 t) (iblk m c 2 t) i j) := by
  have e := outsAt0_A m c s (by omega) (by omega)
  have e' : outsAt0 m c (t.val - 1) (Nat.lt_of_le_of_lt (Nat.sub_le _ _) t.isLt) = outsAt0 m c s.val s.isLt := by
    congr 1; exact hs.symm
  rw [outsAt0_B m c t (by omega) h]
  frame_out
  rw [pay5_apply, e', e]
  frame_out
  simp only [read_unread_whole]
  rw [pay1_apply, pay2_apply]

/-- The arrays the weights' windows read: the weights, cast. -/
theorem weights1 : (V m c main_v0 : FVec Ideal S4096x8192 .bf16)
    = (truncf .bf16 (m ((c : Thread nD τ).loc main_arg1) : FVec Ideal S4096x8192 .f32) bitsLt_bf16_f32 : FVec Ideal S4096x8192 .bf16) := by
  unfold V
  after_results <;> rfl
theorem weights2 : (V m c main_v1 : FVec Ideal S4096x8192 .bf16)
    = (truncf .bf16 (m ((c : Thread nD τ).loc main_arg2) : FVec Ideal S4096x8192 .f32) bitsLt_bf16_f32 : FVec Ideal S4096x8192 .bf16) := by
  unfold V
  after_results <;> rfl

/-- The rows' block of a point. -/
theorem rows_apply (t : Fin cfg0.N) (i : Fin 1024) (k : Fin 2048) (r : Fin 17408) (q : Fin 4096)
    (hr : r.val = t.val / 16 * 1024 + i.val) (hq : q.val = t.val % 2 * 2048 + k.val) :
    (iblk m c 0 t : Vec Ideal S1024x2048 .bf16) (ix2 i k) = (m ((c : Thread nD τ).loc main_arg0) : FVec Ideal S17408x4096 .bf16) (ix2 r q) := by
  unfold iblk
  rw [View.read_apply]
  refine (congrFun (V_main_arg0 m c) _).trans (congrArg _ ?_)
  funext a; apply Fin.ext
  fin_cases a
  · show win0_0.index t 0 * 1024 + 1 * i.val = r.val
    rw [(idx0 t).1]; omega
  · show win0_0.index t 1 * 2048 + 1 * k.val = q.val
    rw [(idx0 t).2]; omega

/-- The two weights' blocks of a point. -/
theorem cols1_apply (t : Fin cfg0.N) (k : Fin 2048) (j : Fin 1024) (q : Fin 4096) (r : Fin 8192)
    (hq : q.val = t.val % 2 * 2048 + k.val) (hr : r.val = t.val / 2 % 8 * 1024 + j.val) :
    (iblk m c 1 t : Vec Ideal S2048x1024 .bf16) (ix2 k j) = (m ((c : Thread nD τ).loc main_arg1) : FVec Ideal S4096x8192 .f32) (ix2 q r) := by
  unfold iblk
  rw [View.read_apply]
  refine (congrFun (weights1 m c) _).trans (congrArg (m ((c : Thread nD τ).loc main_arg1) : FVec Ideal S4096x8192 .f32) ?_)
  funext a; apply Fin.ext
  fin_cases a
  · show win0_1.index t 0 * 2048 + 1 * k.val = q.val
    rw [(idx1 t).1]; omega
  · show win0_1.index t 1 * 1024 + 1 * j.val = r.val
    rw [(idx1 t).2]; omega
theorem cols2_apply (t : Fin cfg0.N) (k : Fin 2048) (j : Fin 1024) (q : Fin 4096) (r : Fin 8192)
    (hq : q.val = t.val % 2 * 2048 + k.val) (hr : r.val = t.val / 2 % 8 * 1024 + j.val) :
    (iblk m c 2 t : Vec Ideal S2048x1024 .bf16) (ix2 k j) = (m ((c : Thread nD τ).loc main_arg2) : FVec Ideal S4096x8192 .f32) (ix2 q r) := by
  unfold iblk
  rw [View.read_apply]
  refine (congrFun (weights2 m c) _).trans (congrArg (m ((c : Thread nD τ).loc main_arg2) : FVec Ideal S4096x8192 .f32) ?_)
  funext a; apply Fin.ext
  fin_cases a
  · show win0_2.index t 0 * 2048 + 1 * k.val = q.val
    rw [(idx2 t).1]; omega
  · show win0_2.index t 1 * 1024 + 1 * j.val = r.val
    rw [(idx2 t).2]; omega

/-- The whole product of the activations with one of the weights. -/
def full (h : FVec Ideal S17408x4096 .bf16) (w : FVec Ideal S4096x8192 .f32) (r : Fin 17408) (q : Fin 8192) : EReal :=
  ∑ k : Fin 4096, h (ix2 r k) * w (ix2 k q)

/-- The two steps' products are the halves of the whole ones. -/
theorem full1 (t s : Fin cfg0.N) (h : t.val % 2 = 1) (hs : s.val = t.val - 1) (i j : Fin 1024) (r : Fin 17408) (q : Fin 8192)
    (hr : r.val = t.val / 16 * 1024 + i.val) (hq : q.val = t.val / 2 % 8 * 1024 + j.val) :
    dot (iblk m c 0 s) (iblk m c 1 s) i j + dot (iblk m c 0 t) (iblk m c 1 t) i j
      = full (m ((c : Thread nD τ).loc main_arg0)) (m ((c : Thread nD τ).loc main_arg1)) r q := by
  unfold full dot
  rw [sum_halves]
  refine congrArg₂ (· + ·) (Finset.sum_congr rfl fun k _ => ?_) (Finset.sum_congr rfl fun k _ => ?_)
  · exact congrArg₂ (· * ·) (rows_apply m c s i k r _ (by omega) (by show 0 * 2048 + k.val = _; omega))
      (cols1_apply m c s k j _ q (by show 0 * 2048 + k.val = _; omega) (by omega))
  · exact congrArg₂ (· * ·) (rows_apply m c t i k r _ (by omega) (by show 1 * 2048 + k.val = _; omega))
      (cols1_apply m c t k j _ q (by show 1 * 2048 + k.val = _; omega) (by omega))
theorem full2 (t s : Fin cfg0.N) (h : t.val % 2 = 1) (hs : s.val = t.val - 1) (i j : Fin 1024) (r : Fin 17408) (q : Fin 8192)
    (hr : r.val = t.val / 16 * 1024 + i.val) (hq : q.val = t.val / 2 % 8 * 1024 + j.val) :
    dot (iblk m c 0 s) (iblk m c 2 s) i j + dot (iblk m c 0 t) (iblk m c 2 t) i j
      = full (m ((c : Thread nD τ).loc main_arg0)) (m ((c : Thread nD τ).loc main_arg2)) r q := by
  unfold full dot
  rw [sum_halves]
  refine congrArg₂ (· + ·) (Finset.sum_congr rfl fun k _ => ?_) (Finset.sum_congr rfl fun k _ => ?_)
  · exact congrArg₂ (· * ·) (rows_apply m c s i k r _ (by omega) (by show 0 * 2048 + k.val = _; omega))
      (cols2_apply m c s k j _ q (by show 0 * 2048 + k.val = _; omega) (by omega))
  · exact congrArg₂ (· * ·) (rows_apply m c t i k r _ (by omega) (by show 1 * 2048 + k.val = _; omega))
      (cols2_apply m c t k j _ q (by show 1 * 2048 + k.val = _; omega) (by omega))

/-- The result, as an array. -/
def result (h : FVec Ideal S17408x4096 .bf16) (w w' : FVec Ideal S4096x8192 .f32) : FVec Ideal S17408x8192 .bf16 :=
  fun y => glu (full h w (y 0) (y 1)) (full h w' (y 0) (y 1))

/-- The result's array after the run. -/
theorem arr3 : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  rw [after0_3, cast_eq]
  have hy : (cfg0.win 3).xinj (cfg0.grid.coords t) y = (ix2 (y 0) (y 1) : S1024x1024.Idx) := by funext a; fin_cases a <;> rfl
  have h : t.val % 2 = 1 := (flush0_3 t).mp hf
  have hs : t.val - 1 < cfg0.N := Nat.lt_of_le_of_lt (Nat.sub_le _ _) t.isLt
  refine (congrArg _ hy).trans ((out_apply m c t h ⟨t.val - 1, hs⟩ rfl (y 0) (y 1)).trans ?_)
  unfold result
  have e0 : (((cfg0.win 3).blk t).view.emb y 0).val = t.val / 16 * 1024 + (y 0).val := by
    show win0_3.index t 0 * 1024 + 1 * (y 0).val = _
    rw [(idx3 t).1, one_mul]
  have e1 : (((cfg0.win 3).blk t).view.emb y 1).val = t.val / 2 % 8 * 1024 + (y 1).val := by
    show win0_3.index t 1 * 1024 + 1 * (y 1).val = _
    rw [(idx3 t).2, one_mul]
  exact congrArg₂ glu (full1 m c t ⟨t.val - 1, hs⟩ h rfl (y 0) (y 1) _ _ e0 e1) (full2 m c t ⟨t.val - 1, hs⟩ h rfl (y 0) (y 1) _ _ e0 e1)

/-- The reference's term is the result. -/
theorem ref_result (h : FVec Ideal Cert.UpIdeal.S17408x4096 .bf16) (w w' : FVec Ideal Cert.UpIdeal.S4096x8192 .f32) (hb hb' hd) :
    truncf .bf16 (mulf (mulf (Host.dotGeneral (F := Ideal) Cert.UpRefIdeal.dot_S17408x4096_S4096x8192_S17408x8192_1_0_0_1_n_n none (extf .f32 h hb) w) (Host.divf (broadcastInDim Cert.UpRefIdeal.S17408x8192 ![] hd (constant Cert.UpRefIdeal.S_ .f32 0x3F800000#32)) (addf (broadcastInDim Cert.UpRefIdeal.S17408x8192 ![] hd (constant Cert.UpRefIdeal.S_ .f32 0x3F800000#32)) (Host.exp (Host.negf (Host.dotGeneral (F := Ideal) Cert.UpRefIdeal.dot_S17408x4096_S4096x8192_S17408x8192_1_0_0_1_n_n none (extf .f32 h hb) w)))))) (Host.dotGeneral (F := Ideal) Cert.UpRefIdeal.dot_S17408x4096_S4096x8192_S17408x8192_1_0_0_1_n_n none (extf .f32 h hb) w')) hb'
    = result h w w' := by
  funext y
  rw [show y = ix2 (y 0) (y 1) by funext a; fin_cases a <;> rfl]
  unfold result glu full
  pointwise

end Cert.UpProof

end
-- ==== Proof.DownValue.lean ====
/-
  The feed-forward layer's second half: what the kernel's run leaves in its result, and what the reference's leaves.
-/
module
public import proofs.«01_k».proof.Proof.Gen.DownIdeal.Value
public import proofs.«01_k».proof.Proof.Gen.DownRefIdeal.Run
public import Idealize.ShloMosaic.Lib.Pipeline.ValueKit
public import Idealize.ShloMosaic.Lib.Pointwise
public import Idealize.ShloMosaic.Lib.Pipeline.ReadBack

@[expose] public section
set_option maxRecDepth 16384
noncomputable section
namespace Cert.DownProof
open Idealize.ShloMosaic Idealize.SL.Sem Idealize.ShloMosaic.TcCoe Cert.DownIdeal Cert.DownIdeal.Gen

/-- The modulation's row of a row of the activations: the context's, or the sample's. -/
def modRow (r : ℕ) : ℕ := if r < 1024 then 4 else (r - 1024) / 4096

theorem modRow_lt (r : ℕ) (h : r < 17408) : modRow r < 8 := by unfold modRow; split_ifs <;> omega

/-- A row block lies in one segment. -/
theorem modRow_block (b i : ℕ) (hi : i < 1024) : modRow (b * 1024 + i) = if b = 0 then 4 else (b - 1) / 4 := by
  unfold modRow; split_ifs <;> omega

/-- The gated addition of the product to the activations. -/
def result (h : FVec Ideal S17408x8192 .bf16) (w : FVec Ideal S8192x4096 .f32) (x : FVec Ideal S17408x4096 .f32)
    (md : FVec Ideal S8x24576 .f32) : FVec Ideal S17408x4096 .f32 :=
  fun y => x (ix2 (y 0) (y 1))
    + md (ix2 ⟨modRow (y 0).val, modRow_lt _ (y 0).isLt⟩ ⟨20480 + (y 1).val, by have : (y 1).val < 4096 := (y 1).isLt; omega⟩)
      * ∑ k : Fin 8192, h (ix2 (y 0) k) * w (ix2 k (y 1))

theorem idx0 : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)
theorem idx1 : ∀ t : Fin cfg0.N, win0_1.index t 0 = t.val % 4 ∧ win0_1.index t 1 = t.val / 4 % 4 :=
  (by decide +kernel : ∀ t : Fin grid0.N, win0_1.index t 0 = t.val % 4 ∧ win0_1.index t 1 = t.val / 4 % 4)
theorem idx2 : ∀ t : Fin cfg0.N, win0_2.index t 0 = t.val / 16 ∧ win0_2.index t 1 = t.val / 4 % 4 :=
  (by decide +kernel : ∀ t : Fin grid0.N, win0_2.index t 0 = t.val / 16 ∧ win0_2.index t 1 = t.val / 4 % 4)
theorem idx3 : ∀ t : Fin cfg0.N, win0_3.index t 0 = 0 ∧ win0_3.index t 1 = 20 + t.val / 4 % 4 :=
  (by decide +kernel : ∀ t : Fin grid0.N, win0_3.index t 0 = 0 ∧ win0_3.index t 1 = 20 + t.val / 4 % 4)
theorem idx4 : ∀ t : Fin cfg0.N, win0_4.index t 0 = t.val / 16 ∧ win0_4.index t 1 = t.val / 4 % 4 :=
  (by decide +kernel : ∀ t : Fin grid0.N, win0_4.index t 0 = t.val / 16 ∧ win0_4.index t 1 = t.val / 4 % 4)

/-- The row of the modulation a point's body reads. -/
theorem off1 : ∀ t : Fin cfg0.N, k0_off1 (grid0.coords t) 0 = (if t.val / 16 = 0 then 4 else (t.val / 16 - 1) / 4) ∧ k0_off1 (grid0.coords t) 1 = 0 :=
  (by decide +kernel : ∀ t : Fin grid0.N, k0_off1 (grid0.coords t) 0 = (if t.val / 16 = 0 then 4 else (t.val / 16 - 1) / 4) ∧ k0_off1 (grid0.coords t) 1 = 0)

/-- A sum over 8192 by its quarters. -/
theorem sum_quarters (f : Fin 8192 → EReal) : ∑ k : Fin 8192, f k
    = ∑ k : Fin 2048, f ⟨0 * 2048 + k.val, by omega⟩ + ∑ k : Fin 2048, f ⟨1 * 2048 + k.val, by omega⟩
      + ∑ k : Fin 2048, f ⟨2 * 2048 + k.val, by omega⟩ + ∑ k : Fin 2048, f ⟨3 * 2048 + k.val, by omega⟩ := by
  refine (Fin.sum_univ_add (a := 6144) (b := 2048) f).trans (congrArg₂ (· + ·) ?_ ?_)
  · refine (Fin.sum_univ_add (a := 4096) (b := 2048) _).trans (congrArg₂ (· + ·) ?_ ?_)
    · refine (Fin.sum_univ_add (a := 2048) (b := 2048) _).trans (congrArg₂ (· + ·) ?_ ?_)
      · exact Finset.sum_congr rfl fun k _ => congrArg f (Fin.ext (by show k.val = 0 * 2048 + k.val; omega))
      · exact Finset.sum_congr rfl fun k _ => congrArg f (Fin.ext (by show 2048 + k.val = 1 * 2048 + k.val; omega))
    · exact Finset.sum_congr rfl fun k _ => congrArg f (Fin.ext (by show 4096 + k.val = 2 * 2048 + k.val; omega))
  · exact Finset.sum_congr rfl fun k _ => congrArg f (Fin.ext (by show 6144 + k.val = 3 * 2048 + k.val; omega))

/-- A block's product. -/
def dot (a : FVec Ideal S1024x2048 .bf16) (w : FVec Ideal S2048x1024 .bf16) (i j : Fin 1024) : EReal :=
  ∑ k : Fin 2048, a (ix2 i k) * w (ix2 k j)

theorem pay1_apply (a w) (i j : Fin 1024) : k0_pay1 (F := Ideal) a w (ix2 i j) = dot a w i j := by
  unfold k0_pay1 dot
  pointwise

theorem pay2_apply (a w s) (i j : Fin 1024) : k0_pay2 (F := Ideal) a w s (ix2 i j) = s (ix2 i j) + dot a w i j := by
  unfold k0_pay2 dot
  pointwise

theorem pay3_apply (a w s x g) (i j : Fin 1024) :
    k0_pay3 (F := Ideal) a w s x g (ix2 i j) = x (ix2 i j) + g (ix2 0 j) * (s (ix2 i j) + dot a w i j) := by
  unfold k0_pay3 dot
  pointwise

variable (m : (ℓ : Loc nD τ sig) → Buf (Elt Ideal) ℓ) (c : Dev nD)

/-- The scratch after the first step, -/
theorem step_first (t : Fin cfg0.N) (h : t.val % 4 = 0) (i j : Fin 1024) :
    (outsAt0 m c t.val t.isLt).2 (ix2 i j) = dot (iblk m c 0 t) (iblk m c 1 t) i j := by
  rw [outsAt0_A m c t h (by omega) (by omega)]
  frame_out
  rw [pay1_apply]

/-- and after a later one. -/
theorem step_later (t s : Fin cfg0.N) (h : 1 ≤ t.val % 4 ∧ t.val % 4 ≤ 2) (hs : s.val = t.val - 1) (i j : Fin 1024) :
    (outsAt0 m c t.val t.isLt).2 (ix2 i j) = (outsAt0 m c s.val s.isLt).2 (ix2 i j) + dot (iblk m c 0 t) (iblk m c 1 t) i j := by
  have e' : outsAt0 m c (t.val - 1) (Nat.lt_of_le_of_lt (Nat.sub_le _ _) t.isLt) = outsAt0 m c s.val s.isLt := by
    congr 1; exact hs.symm
  rw [outsAt0_B m c t (by omega) h (by omega)]
  frame_out
  simp only [read_unread_whole]
  rw [pay2_apply, e']

/-- A block's element, by the row of the modulation. -/
def blockAt (P : EReal) (x : FVec Ideal S1024x1024 .f32) (md : FVec Ideal S8x1024 .f32) (i j : Fin 1024) (r : Fin 8) : EReal :=
  x (ix2 i j) + md (ix2 r j) * P

theorem out_apply (t s : Fin cfg0.N) (h : t.val % 4 = 3) (hs : s.val = t.val - 1) (i j : Fin 1024) (r : Fin 8)
    (hr : r.val = if t.val / 16 = 0 then 4 else (t.val / 16 - 1) / 4) :
    (outsAt0 m c t.val t.isLt).1 (ix2 i j)
      = blockAt ((outsAt0 m c s.val s.isLt).2 (ix2 i j) + dot (iblk m c 0 t) (iblk m c 1 t) i j) (iblk m c 2 t) (iblk m c 3 t) i j r := by
  have e' : outsAt0 m c (t.val - 1) (Nat.lt_of_le_of_lt (Nat.sub_le _ _) t.isLt) = outsAt0 m c s.val s.isLt := by
    congr 1; exact hs.symm
  rw [outsAt0_C m c t (by omega) (by omega) h]
  unfold blockAt
  frame_out
  simp only [read_unread_whole]
  rw [pay3_apply, e']
  refine congrArg₂ (· + ·) rfl (congrArg₂ (· * ·) ?_ rfl)
  refine View.ld_unit_apply_of _ _ _ _ _ (ix2 r j) fun a => ?_
  fin_cases a
  · show r.val = k0_off1 (grid0.coords t) 0 + 0
    rw [(off1 t).1]; exact hr
  · show j.val = k0_off1 (grid0.coords t) 1 + j.val
    rw [(off1 t).2]; omega

/-- The array the weights' window reads: the weights, cast. -/
theorem weights : (V m c main_v0 : FVec Ideal S8192x4096 .bf16)
    = (truncf .bf16 (m ((c : Thread nD τ).loc main_arg1) : FVec Ideal S8192x4096 .f32) bitsLt_bf16_f32 : FVec Ideal S8192x4096 .bf16) := by
  unfold V
  after_results <;> rfl

/-- The rows' block of a point. -/
theorem rows_apply (t : Fin cfg0.N) (i : Fin 1024) (k : Fin 2048) (r : Fin 17408) (q : Fin 8192)
    (hr : r.val = t.val / 16 * 1024 + i.val) (hq : q.val = t.val % 4 * 2048 + k.val) :
    (iblk m c 0 t : Vec Ideal S1024x2048 .bf16) (ix2 i k) = (m ((c : Thread nD τ).loc main_arg0) : FVec Ideal S17408x8192 .bf16) (ix2 r q) := by
  unfold iblk
  rw [View.read_apply]
  refine (congrFun (V_main_arg0 m c) _).trans (congrArg _ ?_)
  funext a; apply Fin.ext
  fin_cases a
  · show win0_0.index t 0 * 1024 + 1 * i.val = r.val
    rw [(idx0 t).1]; omega
  · show win0_0.index t 1 * 2048 + 1 * k.val = q.val
    rw [(idx0 t).2]; omega

/-- The weights' block of a point. -/
theorem cols_apply (t : Fin cfg0.N) (k : Fin 2048) (j : Fin 1024) (q : Fin 8192) (r : Fin 4096)
    (hq : q.val = t.val % 4 * 2048 + k.val) (hr : r.val = t.val / 4 % 4 * 1024 + j.val) :
    (iblk m c 1 t : Vec Ideal S2048x1024 .bf16) (ix2 k j) = (m ((c : Thread nD τ).loc main_arg1) : FVec Ideal S8192x4096 .f32) (ix2 q r) := by
  unfold iblk
  rw [View.read_apply]
  refine (congrFun (weights m c) _).trans (congrArg (m ((c : Thread nD τ).loc main_arg1) : FVec Ideal S8192x4096 .f32) ?_)
  funext a; apply Fin.ext
  fin_cases a
  · show win0_1.index t 0 * 2048 + 1 * k.val = q.val
    rw [(idx1 t).1]; omega
  · show win0_1.index t 1 * 1024 + 1 * j.val = r.val
    rw [(idx1 t).2]; omega

/-- A term of the product. -/
def term (h : FVec Ideal S17408x8192 .bf16) (w : FVec Ideal S8192x4096 .f32) (r : Fin 17408) (q : Fin 4096) (k : Fin 8192) : EReal :=
  h (ix2 r k) * w (ix2 k q)

/-- A term of a block's product is one of the whole. -/
theorem mul_term {a : FVec Ideal S1024x2048 .bf16} {b : FVec Ideal S2048x1024 .bf16} {h : FVec Ideal S17408x8192 .bf16}
    {w : FVec Ideal S8192x4096 .f32} {i j : Fin 1024} {k : Fin 2048} {r : Fin 17408} {q : Fin 4096} {l : Fin 8192}
    (ha : a (ix2 i k) = h (ix2 r l)) (hb : b (ix2 k j) = w (ix2 l q)) : a (ix2 i k) * b (ix2 k j) = term h w r q l :=
  congrArg₂ (· * ·) ha hb

/-- A point's product is a quarter of the whole one. -/
theorem quarter (t : Fin cfg0.N) (n : ℕ) (hn : n < 4) (h : t.val % 4 = n) (i j : Fin 1024) (r : Fin 17408) (q : Fin 4096)
    (hr : r.val = t.val / 16 * 1024 + i.val) (hq : q.val = t.val / 4 % 4 * 1024 + j.val) :
    dot (iblk m c 0 t) (iblk m c 1 t) i j = ∑ k : Fin 2048,
      term (m ((c : Thread nD τ).loc main_arg0)) (m ((c : Thread nD τ).loc main_arg1)) r q ⟨n * 2048 + k.val, by omega⟩ := by
  subst h
  exact Finset.sum_congr rfl fun k _ => mul_term (rows_apply m c t i k r _ hr rfl) (cols_apply m c t k j _ q rfl hq)

/-- The whole product, from the scratch and the last point. -/
theorem full (t s : Fin cfg0.N) (h : t.val % 4 = 3) (hs : s.val = t.val - 1) (i j : Fin 1024) (r : Fin 17408) (q : Fin 4096)
    (hr : r.val = t.val / 16 * 1024 + i.val) (hq : q.val = t.val / 4 % 4 * 1024 + j.val) :
    (outsAt0 m c s.val s.isLt).2 (ix2 i j) + dot (iblk m c 0 t) (iblk m c 1 t) i j = ∑ k : Fin 8192,
      term (m ((c : Thread nD τ).loc main_arg0)) (m ((c : Thread nD τ).loc main_arg1)) r q k := by
  have hp : ∀ n, t.val - n < cfg0.N := fun n => Nat.lt_of_le_of_lt (Nat.sub_le _ _) t.isLt
  rw [step_later m c s ⟨t.val - 2, hp 2⟩ (by omega) (by show t.val - 2 = _; omega),
    step_later m c ⟨t.val - 2, hp 2⟩ ⟨t.val - 3, hp 3⟩ (by show 1 ≤ (t.val - 2) % 4 ∧ (t.val - 2) % 4 ≤ 2; omega) (by show t.val - 3 = t.val - 2 - 1; omega),
    step_first m c ⟨t.val - 3, hp 3⟩ (by show (t.val - 3) % 4 = 0; omega), sum_quarters]
  refine congrArg₂ (· + ·) (congrArg₂ (· + ·) (congrArg₂ (· + ·) ?_ ?_) ?_) ?_
  · exact quarter m c ⟨t.val - 3, hp 3⟩ 0 (by omega) (by show (t.val - 3) % 4 = 0; omega) i j r q (by show r.val = (t.val - 3) / 16 * 1024 + i.val; omega) (by show q.val = (t.val - 3) / 4 % 4 * 1024 + j.val; omega)
  · exact quarter m c ⟨t.val - 2, hp 2⟩ 1 (by omega) (by show (t.val - 2) % 4 = 1; omega) i j r q (by show r.val = (t.val - 2) / 16 * 1024 + i.val; omega) (by show q.val = (t.val - 2) / 4 % 4 * 1024 + j.val; omega)
  · exact quarter m c s 2 (by omega) (by omega) i j r q (by omega) (by omega)
  · exact quarter m c t 3 (by omega) (by omega) i j r q hr hq

/-- The activations' block. -/
theorem x_apply (t : Fin cfg0.N) (i j : Fin 1024) (r : Fin 17408) (q : Fin 4096) (hr : r.val = t.val / 16 * 1024 + i.val)
    (hq : q.val = t.val / 4 % 4 * 1024 + j.val) :
    (iblk m c 2 t : Vec Ideal S1024x1024 .f32) (ix2 i j) = (m ((c : Thread nD τ).loc main_arg2) : FVec Ideal S17408x4096 .f32) (ix2 r q) := by
  unfold iblk
  rw [View.read_apply]
  refine (congrFun (V_main_arg2 m c) _).trans (congrArg _ ?_)
  funext a; apply Fin.ext
  fin_cases a
  · show win0_2.index t 0 * 1024 + 1 * i.val = r.val
    rw [(idx2 t).1]; omega
  · show win0_2.index t 1 * 1024 + 1 * j.val = q.val
    rw [(idx2 t).2]; omega

/-- The modulation's block. -/
theorem mod_apply (t : Fin cfg0.N) (i : Fin 8) (j : Fin 1024) (r : Fin 8) (q : Fin 24576) (hr : r.val = i.val)
    (hq : q.val = 20480 + (t.val / 4 % 4 * 1024 + j.val)) :
    (iblk m c 3 t : Vec Ideal S8x1024 .f32) (ix2 i j) = (m ((c : Thread nD τ).loc main_arg3) : FVec Ideal S8x24576 .f32) (ix2 r q) := by
  unfold iblk
  rw [View.read_apply]
  refine (congrFun (V_main_arg3 m c) _).trans (congrArg _ ?_)
  funext a; apply Fin.ext
  fin_cases a
  · show win0_3.index t 0 * 8 + 1 * i.val = r.val
    rw [(idx3 t).1]; omega
  · show win0_3.index t 1 * 1024 + 1 * j.val = q.val
    rw [(idx3 t).2]; omega

/-- The result's array after the run. -/
theorem arr4 : (dats m 0 c).arrAt 4 cfg0.N = result (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  rw [after0_4, cast_eq]
  have hy : (cfg0.win 4).xinj (cfg0.grid.coords t) y = (ix2 (y 0) (y 1) : S1024x1024.Idx) := by funext a; fin_cases a <;> rfl
  have h : t.val % 4 = 3 := (flush0_4 t).mp hf
  have hs : t.val - 1 < cfg0.N := Nat.lt_of_le_of_lt (Nat.sub_le _ _) t.isLt
  have e0 : (((cfg0.win 4).blk t).view.emb y 0).val = t.val / 16 * 1024 + (y 0).val := by
    show win0_4.index t 0 * 1024 + 1 * (y 0).val = _
    rw [(idx4 t).1, one_mul]
  have e1 : (((cfg0.win 4).blk t).view.emb y 1).val = t.val / 4 % 4 * 1024 + (y 1).val := by
    show win0_4.index t 1 * 1024 + 1 * (y 1).val = _
    rw [(idx4 t).2, one_mul]
  have hm : modRow (((cfg0.win 4).blk t).view.emb y 0).val = if t.val / 16 = 0 then 4 else (t.val / 16 - 1) / 4 := by
    rw [e0]; exact modRow_block _ _ (y 0).isLt
  refine (congrArg _ hy).trans ((out_apply m c t ⟨t.val - 1, hs⟩ h rfl (y 0) (y 1)
    ⟨modRow (((cfg0.win 4).blk t).view.emb y 0).val, modRow_lt _ (((cfg0.win 4).blk t).view.emb y 0).isLt⟩ hm).trans ?_)
  unfold result blockAt
  refine congrArg₂ (· + ·) (x_apply m c t (y 0) (y 1) _ _ e0 e1) (congrArg₂ (· * ·) (mod_apply m c t _ (y 1) _ _ rfl ?_) ?_)
  · exact congrArg (20480 + ·) e1
  · exact full m c t ⟨t.val - 1, hs⟩ h rfl (y 0) (y 1) _ _ e0 e1

/-- The reference's term, its product named, is the result: a row is in the context or in a sample. -/
theorem ref_result (h : FVec Ideal Cert.DownIdeal.S17408x8192 .bf16) (w : FVec Ideal Cert.DownIdeal.S8192x4096 .f32)
    (x : FVec Ideal Cert.DownIdeal.S17408x4096 .f32) (md : FVec Ideal Cert.DownIdeal.S8x24576 .f32)
    (P : FVec Ideal Cert.DownIdeal.S17408x4096 .f32) (hP : ∀ r q, P (ix2 r q) = ∑ k : Fin 8192, h (ix2 r k) * w (ix2 k q))
    (h1 h2 h3 h4 h5 h6 h7 h8 h9 h10 h11 h12 h13 h14 h15 h16 h17) :
    concatenate Cert.DownRefIdeal.S17408x4096 0 [⟨Cert.DownRefIdeal.S1024x4096, (shapeCast _ (addf (F := Ideal) (φ := .f32) (shapeCast _ (extractStridedSlice Cert.DownRefIdeal.S1024x4096 ![0, 0] x h1) h2)
        (mulf (broadcastInDim Cert.DownRefIdeal.S4x256x4096 ![0, 1, 2] h3 (broadcastInDim Cert.DownRefIdeal.S1x1x4096 ![2] h4 (shapeCast Cert.DownRefIdeal.S4096 (extractStridedSlice Cert.DownRefIdeal.S1x4096 ![4, 20480] md h5) h6)))
          (shapeCast _ (extractStridedSlice Cert.DownRefIdeal.S1024x4096 ![0, 0] P h1) h7))) h8)⟩,
      ⟨Cert.DownRefIdeal.S16384x4096, (shapeCast _ (addf (F := Ideal) (φ := .f32) (shapeCast _ (extractStridedSlice Cert.DownRefIdeal.S16384x4096 ![1024, 0] x h9) h10)
        (mulf (broadcastInDim Cert.DownRefIdeal.S4x4096x4096 ![0, 1, 2] h11 (broadcastInDim Cert.DownRefIdeal.S4x1x4096 ![0, 2] h12 (extractStridedSlice Cert.DownRefIdeal.S4x4096 ![0, 20480] md h13)))
          (shapeCast _ (extractStridedSlice Cert.DownRefIdeal.S16384x4096 ![1024, 0] P h14) h15))) h16)⟩] h17 = result h w x md := by
  funext y
  rw [show y = ix2 (y 0) (y 1) by funext a; fin_cases a <;> rfl]
  generalize hr0 : y 0 = r; generalize hq0 : y 1 = q
  clear hr0 hq0 y
  revert r q
  intro (r : Fin 17408) (q : Fin 4096)
  pointwise
  unfold result
  by_cases hr : r.val < 1024
  · refine (dif_pos hr).trans ?_
    have e : ∀ g, (⟨r.val / 256 * 256 + r.val % 256, g⟩ : Fin 17408) = r := fun g => Fin.ext (by show r.val / 256 * 256 + r.val % 256 = r.val; omega)
    simp only [e, hP]
    refine congrArg₂ (· + ·) rfl (congrArg₂ (· * ·) (congrArg md (congrArg₂ ix2 (Fin.ext ?_) rfl)) rfl)
    exact (if_pos hr).symm
  · refine (dif_neg hr).trans ?_
    have e : ∀ g, (⟨1024 + ((r.val - 1024) / 4096 * 4096 + (r.val - 1024) % 4096), g⟩ : Fin 17408) = r :=
      fun g => Fin.ext (by show 1024 + ((r.val - 1024) / 4096 * 4096 + (r.val - 1024) % 4096) = r.val; omega)
    simp only [e, hP]
    refine congrArg₂ (· + ·) rfl (congrArg₂ (· * ·) (congrArg md (congrArg₂ ix2 (Fin.ext ?_) rfl)) rfl)
    exact (if_neg hr).symm

/-- The reference's product, at an element. -/
theorem ref_product (h : FVec Ideal Cert.DownIdeal.S17408x8192 .bf16) (w : FVec Ideal Cert.DownIdeal.S8192x4096 .f32) (hb) (r : Fin 17408) (q : Fin 4096) :
    Host.dotGeneral (F := Ideal) Cert.DownRefIdeal.dot_S17408x8192_S8192x4096_S17408x4096_1_0_0_1_n_n none (extf .f32 h hb) w (ix2 r q)
      = ∑ k : Fin 8192, h (ix2 r k) * w (ix2 k q) := by
  pointwise

end Cert.DownProof

end
-- ==== Proof.MergeValue.lean ====
/-
  The gated sum of the three branches' projections: what the kernel's run leaves in its result, and what the reference's leaves.
-/
module
public import proofs.«01_k».proof.Proof.Gen.MergeIdeal.Value
public import proofs.«01_k».proof.Proof.Gen.MergeRefIdeal.Run
public import Idealize.ShloMosaic.Lib.Pipeline.ValueKit
public import Idealize.ShloMosaic.Lib.Pointwise
public import Idealize.ShloMosaic.Lib.Pipeline.ReadBack

@[expose] public section
set_option maxRecDepth 16384
noncomputable section
namespace Cert.MergeProof
open Idealize.ShloMosaic Idealize.SL.Sem Idealize.ShloMosaic.TcCoe Cert.MergeIdeal Cert.MergeIdeal.Gen

/-- The sigmoid. -/
def sigmoid (x : EReal) : EReal := Ideal.div 1 (1 + Ideal.exp (-x))

theorem idx0 : ∀ t : Fin cfg0.N, win0_0.index t 0 = t.val / 12 ∧ win0_0.index t 1 = 0 :=
  (by decide +kernel : ∀ t : Fin grid0.N, win0_0.index t 0 = t.val / 12 ∧ win0_0.index t 1 = 0)
theorem idx1 : ∀ t : Fin cfg0.N, win0_1.index t 0 = t.val / 12 ∧ win0_1.index t 1 = 0 :=
  (by decide +kernel : ∀ t : Fin grid0.N, win0_1.index t 0 = t.val / 12 ∧ win0_1.index t 1 = 0)
theorem idx2 : ∀ t : Fin cfg0.N, win0_2.index t 0 = t.val / 12 ∧ win0_2.index t 1 = 0 :=
  (by decide +kernel : ∀ t : Fin grid0.N, win0_2.index t 0 = t.val / 12 ∧ win0_2.index t 1 = 0)
theorem idx3 : ∀ t : Fin cfg0.N, win0_3.index t 0 = 0 ∧ win0_3.index t 1 = t.val % 3 ∧ win0_3.index t 2 = 0 ∧ win0_3.index t 3 = t.val / 3 % 4 :=
  (by decide +kernel : ∀ t : Fin grid0.N, win0_3.index t 0 = 0 ∧ win0_3.index t 1 = t.val % 3 ∧ win0_3.index t 2 = 0 ∧ win0_3.index t 3 = t.val / 3 % 4)
theorem idx4 : ∀ t : Fin cfg0.N, win0_4.index t 0 = t.val / 12 ∧ win0_4.index t 1 = 8 :=
  (by decide +kernel : ∀ t : Fin grid0.N, win0_4.index t 0 = t.val / 12 ∧ win0_4.index t 1 = 8)
theorem idx5 : ∀ t : Fin cfg0.N, win0_5.index t 0 = 0 ∧ win0_5.index t 1 = 0 ∧ win0_5.index t 2 = t.val % 3 * 4 + t.val / 3 % 4 :=
  (by decide +kernel : ∀ t : Fin grid0.N, win0_5.index t 0 = 0 ∧ win0_5.index t 1 = 0 ∧ win0_5.index t 2 = t.val % 3 * 4 + t.val / 3 % 4)
theorem idx6 : ∀ t : Fin cfg0.N, win0_6.index t 0 = 0 ∧ win0_6.index t 1 = t.val % 3 * 4 + t.val / 3 % 4 :=
  (by decide +kernel : ∀ t : Fin grid0.N, win0_6.index t 0 = 0 ∧ win0_6.index t 1 = t.val % 3 * 4 + t.val / 3 % 4)
theorem idx7 : ∀ t : Fin cfg0.N, win0_7.index t 0 = t.val / 12 ∧ win0_7.index t 1 = t.val / 3 % 4 :=
  (by decide +kernel : ∀ t : Fin grid0.N, win0_7.index t 0 = t.val / 12 ∧ win0_7.index t 1 = t.val / 3 % 4)

/-- A block's gate. -/
def gate (p : FVec Ideal S1024x256 .f32) (g : FVec Ideal S1x256x1024 .bf16) (b : FVec Ideal S1x1024 .f32) (i j : Fin 1024) : EReal :=
  sigmoid (∑ k : Fin 256, p (ix2 i k) * g (ix3 0 k j) + b (ix2 0 j))

/-- A block's product. -/
def dot (y : FVec Ideal S1024x2048 .bf16) (w : FVec Ideal S1x1x2048x1024 .bf16) (i j : Fin 1024) : EReal :=
  ∑ k : Fin 2048, y (ix2 i k) * w (ix4 0 0 k j)

/-- A branch's part of a block. -/
def part (p : FVec Ideal S1024x256 .f32) (g : FVec Ideal S1x256x1024 .bf16) (b : FVec Ideal S1x1024 .f32)
    (y : FVec Ideal S1024x2048 .bf16) (w : FVec Ideal S1x1x2048x1024 .bf16) (i j : Fin 1024) : EReal := gate p g b i j * dot y w i j

theorem pay2_apply (p g b y w) (i j : Fin 1024) : k0_pay2 (F := Ideal) p g b y w (ix2 i j) = part p g b y w i j := by
  unfold k0_pay2 k0_pay1 part gate dot sigmoid
  pointwise
  simp only [zero_sub]

theorem pay3_apply (p g b y w s) (i j : Fin 1024) :
    k0_pay3 (F := Ideal) p g b y w s (ix2 i j) = s (ix2 i j) + part p g b y w i j := by
  unfold k0_pay3 k0_pay1 part gate dot sigmoid
  pointwise
  simp only [zero_sub]

theorem pay4_apply (p g b y w s) (i j : Fin 1024) :
    k0_pay4 (F := Ideal) p g b y w s (ix2 i j) = s (ix2 i j) + part p g b y w i j := by
  unfold k0_pay4 k0_pay1 part gate dot sigmoid
  pointwise
  simp only [zero_sub]

variable (m : (ℓ : Loc nD τ sig) → Buf (Elt Ideal) ℓ) (c : Dev nD)

/-- What a point of the last step leaves in the result's block: the three steps' parts. -/
theorem out_apply (t s u : Fin cfg0.N) (h : t.val % 3 = 2) (hs : s.val = t.val - 1) (hu : u.val = s.val - 1) (i j : Fin 1024) :
    (outsAt0 m c t.val t.isLt).1 (ix2 i j)
      = (part (iblk m c 4 u) (iblk m c 5 u) (iblk m c 6 u) (iblk m c 0 u) (iblk m c 3 u) i j
        + part (iblk m c 4 s) (iblk m c 5 s) (iblk m c 6 s) (iblk m c 1 s) (iblk m c 3 s) i j)
        + part (iblk m c 4 t) (iblk m c 5 t) (iblk m c 6 t) (iblk m c 2 t) (iblk m c 3 t) i j := by
  have e1 : outsAt0 m c (t.val - 1) (Nat.lt_of_le_of_lt (Nat.sub_le _ _) t.isLt) = outsAt0 m c s.val s.isLt := by
    congr 1; exact hs.symm
  have e2 : outsAt0 m c (s.val - 1) (Nat.lt_of_le_of_lt (Nat.sub_le _ _) s.isLt) = outsAt0 m c u.val u.isLt := by
    congr 1; exact hu.symm
  have a1 := outsAt0_A m c u (by omega) (by omega) (by omega)
  have a2 := outsAt0_B m c s (by omega) (by omega) (by omega)
  rw [outsAt0_C m c t (by omega) (by omega) h]
  frame_out
  simp only [read_unread_whole]
  rw [pay4_apply, e1, a2]
  frame_out
  rw [pay3_apply, e2, a1]
  frame_out
  simp only [read_unread_whole]
  rw [pay2_apply]

/-- The arrays the weights' windows read: the weights, cast. -/
theorem weights0 : (V m c main_v0 : FVec Ideal S2x3x2048x4096 .bf16)
    = (truncf .bf16 (m ((c : Thread nD τ).loc main_arg3) : FVec Ideal S2x3x2048x4096 .f32) bitsLt_bf16_f32 : FVec Ideal S2x3x2048x4096 .bf16) := by
  unfold V
  after_results <;> rfl
theorem weights1 : (V m c main_v1 : FVec Ideal S2x256x12288 .bf16)
    = (truncf .bf16 (m ((c : Thread nD τ).loc main_arg5) : FVec Ideal S2x256x12288 .f32) bitsLt_bf16_f32 : FVec Ideal S2x256x12288 .bf16) := by
  unfold V
  after_results <;> rfl

/-- The array the bias's window reads: the first layer's bias. -/
theorem bias : (V m c main_v4 : FVec Ideal S1x12288 .f32)
    = (broadcastInDim S1x12288 ![1] bcast_S12288_S1x12288_1 (shapeCast S12288 (extractStridedSlice S1x12288 ![0, 0]
        (m ((c : Thread nD τ).loc main_arg6) : FVec Ideal S2x12288 .f32) slices_S2x12288_S1x12288_0_0) shapeCasts_S1x12288_S12288) : FVec Ideal S1x12288 .f32) := by
  unfold V
  after_results <;> rfl
theorem bias_apply (q : Fin 12288) :
    (V m c main_v4 : FVec Ideal S1x12288 .f32) (ix2 0 q) = (m ((c : Thread nD τ).loc main_arg6) : FVec Ideal S2x12288 .f32) (ix2 0 q) := by
  rw [bias]
  pointwise

/-- The branches' blocks of a point. -/
theorem rows0_apply (t : Fin cfg0.N) (i : Fin 1024) (k : Fin 2048) (r : Fin 17408) (hr : r.val = t.val / 12 * 1024 + i.val) :
    (iblk m c 0 t : Vec Ideal S1024x2048 .bf16) (ix2 i k) = (m ((c : Thread nD τ).loc main_arg0) : FVec Ideal S17408x2048 .bf16) (ix2 r k) := by
  unfold iblk
  rw [View.read_apply]
  refine (congrFun (V_main_arg0 m c) _).trans (congrArg _ ?_)
  funext a; apply Fin.ext
  fin_cases a
  · show win0_0.index t 0 * 1024 + 1 * i.val = r.val
    rw [(idx0 t).1]; omega
  · show win0_0.index t 1 * 2048 + 1 * k.val = k.val
    rw [(idx0 t).2]; omega
theorem rows1_apply (t : Fin cfg0.N) (i : Fin 1024) (k : Fin 2048) (r : Fin 17408) (hr : r.val = t.val / 12 * 1024 + i.val) :
    (iblk m c 1 t : Vec Ideal S1024x2048 .bf16) (ix2 i k) = (m ((c : Thread nD τ).loc main_arg1) : FVec Ideal S17408x2048 .bf16) (ix2 r k) := by
  unfold iblk
  rw [View.read_apply]
  refine (congrFun (V_main_arg1 m c) _).trans (congrArg _ ?_)
  funext a; apply Fin.ext
  fin_cases a
  · show win0_1.index t 0 * 1024 + 1 * i.val = r.val
    rw [(idx1 t).1]; omega
  · show win0_1.index t 1 * 2048 + 1 * k.val = k.val
    rw [(idx1 t).2]; omega
theorem rows2_apply (t : Fin cfg0.N) (i : Fin 1024) (k : Fin 2048) (r : Fin 17408) (hr : r.val = t.val / 12 * 1024 + i.val) :
    (iblk m c 2 t : Vec Ideal S1024x2048 .bf16) (ix2 i k) = (m ((c : Thread nD τ).loc main_arg2) : FVec Ideal S17408x2048 .bf16) (ix2 r k) := by
  unfold iblk
  rw [View.read_apply]
  refine (congrFun (V_main_arg2 m c) _).trans (congrArg _ ?_)
  funext a; apply Fin.ext
  fin_cases a
  · show win0_2.index t 0 * 1024 + 1 * i.val = r.val
    rw [(idx2 t).1]; omega
  · show win0_2.index t 1 * 2048 + 1 * k.val = k.val
    rw [(idx2 t).2]; omega

/-- The weights' block of a point. -/
theorem cols_apply (t : Fin cfg0.N) (k : Fin 2048) (j : Fin 1024) (n : Fin 3) (q : Fin 4096)
    (hn : n.val = t.val % 3) (hq : q.val = t.val / 3 % 4 * 1024 + j.val) :
    (iblk m c 3 t : Vec Ideal S1x1x2048x1024 .bf16) (ix4 0 0 k j)
      = (m ((c : Thread nD τ).loc main_arg3) : FVec Ideal S2x3x2048x4096 .f32) (ix4 0 n k q) := by
  unfold iblk
  rw [View.read_apply]
  refine (congrFun (weights0 m c) _).trans (congrArg (m ((c : Thread nD τ).loc main_arg3) : FVec Ideal S2x3x2048x4096 .f32) ?_)
  funext a; apply Fin.ext
  fin_cases a
  · show win0_3.index t 0 * 1 + 1 * 0 = 0
    rw [(idx3 t).1]
  · show win0_3.index t 1 * 1 + 1 * 0 = n.val
    rw [(idx3 t).2.1]; omega
  · show win0_3.index t 2 * 2048 + 1 * k.val = k.val
    rw [(idx3 t).2.2.1]; omega
  · show win0_3.index t 3 * 1024 + 1 * j.val = q.val
    rw [(idx3 t).2.2.2]; omega

/-- The gates' rows' block of a point. -/
theorem tail_apply (t : Fin cfg0.N) (i : Fin 1024) (k : Fin 256) (r : Fin 17408) (hr : r.val = t.val / 12 * 1024 + i.val) :
    (iblk m c 4 t : Vec Ideal S1024x256 .f32) (ix2 i k)
      = (m ((c : Thread nD τ).loc main_arg4) : FVec Ideal S17408x2560 .f32) (ix2 r ⟨2048 + k.val, by omega⟩) := by
  unfold iblk
  rw [View.read_apply]
  refine (congrFun (V_main_arg4 m c) _).trans (congrArg _ ?_)
  funext a; apply Fin.ext
  fin_cases a
  · show win0_4.index t 0 * 1024 + 1 * i.val = r.val
    rw [(idx4 t).1]; omega
  · show win0_4.index t 1 * 256 + 1 * k.val = 2048 + k.val
    rw [(idx4 t).2]; omega

/-- The gates' weights' block of a point. -/
theorem gates_apply (t : Fin cfg0.N) (k : Fin 256) (j : Fin 1024) (q : Fin 12288)
    (hq : q.val = (t.val % 3 * 4 + t.val / 3 % 4) * 1024 + j.val) :
    (iblk m c 5 t : Vec Ideal S1x256x1024 .bf16) (ix3 0 k j)
      = (m ((c : Thread nD τ).loc main_arg5) : FVec Ideal S2x256x12288 .f32) (ix3 0 k q) := by
  unfold iblk
  rw [View.read_apply]
  refine (congrFun (weights1 m c) _).trans (congrArg (m ((c : Thread nD τ).loc main_arg5) : FVec Ideal S2x256x12288 .f32) ?_)
  funext a; apply Fin.ext
  fin_cases a
  · show win0_5.index t 0 * 1 + 1 * 0 = 0
    rw [(idx5 t).1]
  · show win0_5.index t 1 * 256 + 1 * k.val = k.val
    rw [(idx5 t).2.1]; omega
  · show win0_5.index t 2 * 1024 + 1 * j.val = q.val
    rw [(idx5 t).2.2]; omega

/-- The bias's block of a point. -/
theorem biases_apply (t : Fin cfg0.N) (j : Fin 1024) (q : Fin 12288)
    (hq : q.val = (t.val % 3 * 4 + t.val / 3 % 4) * 1024 + j.val) :
    (iblk m c 6 t : Vec Ideal S1x1024 .f32) (ix2 0 j)
      = (m ((c : Thread nD τ).loc main_arg6) : FVec Ideal S2x12288 .f32) (ix2 0 q) := by
  unfold iblk
  rw [View.read_apply]
  refine Eq.trans (congrArg (V m c main_v4 : FVec Ideal S1x12288 .f32) ?_) (bias_apply m c q)
  funext a; apply Fin.ext
  fin_cases a
  · show win0_6.index t 0 * 1 + 1 * 0 = 0
    rw [(idx6 t).1]
  · show win0_6.index t 1 * 1024 + 1 * j.val = q.val
    rw [(idx6 t).2]; omega

/-- A layer's gate of the whole arrays. -/
def gateOf (l : Fin 2) (p : FVec Ideal S17408x2560 .f32) (g : FVec Ideal S2x256x12288 .f32) (b : FVec Ideal S2x12288 .f32)
    (r : Fin 17408) (q : Fin 12288) : EReal :=
  sigmoid (∑ k : Fin 256, p (ix2 r ⟨2048 + k.val, by omega⟩) * g (ix3 l k q) + b (ix2 l q))

/-- A branch's projection by a layer's weights. -/
def branch (l : Fin 2) (y : FVec Ideal S17408x2048 .bf16) (w : FVec Ideal S2x3x2048x4096 .f32) (n : Fin 3) (r : Fin 17408) (q : Fin 4096) : EReal :=
  ∑ k : Fin 2048, y (ix2 r k) * w (ix4 l n k q)

/-- A layer's result, as an array. -/
def result (l : Fin 2) (y0 y1 y2 : FVec Ideal S17408x2048 .bf16) (w : FVec Ideal S2x3x2048x4096 .f32) (p : FVec Ideal S17408x2560 .f32)
    (g : FVec Ideal S2x256x12288 .f32) (b : FVec Ideal S2x12288 .f32) : FVec Ideal S17408x4096 .bf16 := fun z =>
  let r : Fin 17408 := z 0
  let q : Fin 4096 := z 1
  (gateOf l p g b r ⟨q.val, by omega⟩ * branch l y0 w 0 r q + gateOf l p g b r ⟨4096 + q.val, by omega⟩ * branch l y1 w 1 r q)
    + gateOf l p g b r ⟨8192 + q.val, by omega⟩ * branch l y2 w 2 r q

/-- A block's part is one of the whole arrays'. -/
theorem part_eq {e : Fin 2} {p : FVec Ideal S1024x256 .f32} {g : FVec Ideal S1x256x1024 .bf16} {b : FVec Ideal S1x1024 .f32}
    {y : FVec Ideal S1024x2048 .bf16} {w : FVec Ideal S1x1x2048x1024 .bf16} {P : FVec Ideal S17408x2560 .f32}
    {G : FVec Ideal S2x256x12288 .f32} {B : FVec Ideal S2x12288 .f32} {Y : FVec Ideal S17408x2048 .bf16}
    {W : FVec Ideal S2x3x2048x4096 .f32} {i j : Fin 1024} {r : Fin 17408} {q : Fin 4096} {l : Fin 12288} {n : Fin 3}
    (hp : ∀ k : Fin 256, p (ix2 i k) = P (ix2 r ⟨2048 + k.val, by omega⟩)) (hg : ∀ k : Fin 256, g (ix3 0 k j) = G (ix3 e k l))
    (hb : b (ix2 0 j) = B (ix2 e l)) (hy : ∀ k : Fin 2048, y (ix2 i k) = Y (ix2 r k))
    (hw : ∀ k : Fin 2048, w (ix4 0 0 k j) = W (ix4 e n k q)) : part p g b y w i j = gateOf e P G B r l * branch e Y W n r q := by
  unfold part gate dot gateOf branch
  simp only [hp, hg, hb, hy, hw]

/-- The result's array after the run. -/
theorem arr7 : (dats m 0 c).arrAt 7 cfg0.N = result 0 (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  refine (dats m 0 c).arrAt_eq_of_covers 7 _ (by decide +kernel) fun t hf y => ?_
  rw [after0_7, cast_eq]
  have hy : (cfg0.win 7).xinj (cfg0.grid.coords t) y = (ix2 (y 0) (y 1) : S1024x1024.Idx) := by funext a; fin_cases a <;> rfl
  have h : t.val % 3 = 2 := (flush0_7 t).mp hf
  have hp : ∀ n, t.val - n < cfg0.N := fun n => Nat.lt_of_le_of_lt (Nat.sub_le _ _) t.isLt
  have e0 : (((cfg0.win 7).blk t).view.emb y 0).val = t.val / 12 * 1024 + (y 0).val := by
    show win0_7.index t 0 * 1024 + 1 * (y 0).val = _
    rw [(idx7 t).1, one_mul]
  have e1 : (((cfg0.win 7).blk t).view.emb y 1).val = t.val / 3 % 4 * 1024 + (y 1).val := by
    show win0_7.index t 1 * 1024 + 1 * (y 1).val = _
    rw [(idx7 t).2, one_mul]
  refine (congrArg _ hy).trans ((out_apply m c t ⟨t.val - 1, hp 1⟩ ⟨t.val - 2, hp 2⟩ h rfl (by show t.val - 2 = t.val - 1 - 1; omega) (y 0) (y 1)).trans ?_)
  unfold result
  refine congrArg₂ (· + ·) (congrArg₂ (· + ·) ?_ ?_) ?_
  · have f1 : (t.val - 2) / 12 = t.val / 12 := by omega
    have f2 : (t.val - 2) / 3 % 4 = t.val / 3 % 4 := by omega
    have f3 : (t.val - 2) % 3 = 0 := by omega
    exact part_eq (fun k => tail_apply m c ⟨t.val - 2, hp 2⟩ _ k _ (by show _ = (t.val - 2) / 12 * 1024 + _; rw [f1]; exact e0))
      (fun k => gates_apply m c ⟨t.val - 2, hp 2⟩ k _ _ (by show (((cfg0.win 7).blk t).view.emb y 1).val = ((t.val - 2) % 3 * 4 + (t.val - 2) / 3 % 4) * 1024 + _; rw [f2, f3, e1]; omega))
      (biases_apply m c ⟨t.val - 2, hp 2⟩ _ _ (by show (((cfg0.win 7).blk t).view.emb y 1).val = ((t.val - 2) % 3 * 4 + (t.val - 2) / 3 % 4) * 1024 + _; rw [f2, f3, e1]; omega))
      (fun k => rows0_apply m c ⟨t.val - 2, hp 2⟩ _ k _ (by show _ = (t.val - 2) / 12 * 1024 + _; rw [f1]; exact e0))
      (fun k => cols_apply m c ⟨t.val - 2, hp 2⟩ k _ 0 _ f3.symm (by show _ = (t.val - 2) / 3 % 4 * 1024 + _; rw [f2]; exact e1))
  · have f1 : (t.val - 1) / 12 = t.val / 12 := by omega
    have f2 : (t.val - 1) / 3 % 4 = t.val / 3 % 4 := by omega
    have f3 : (t.val - 1) % 3 = 1 := by omega
    exact part_eq (fun k => tail_apply m c ⟨t.val - 1, hp 1⟩ _ k _ (by show _ = (t.val - 1) / 12 * 1024 + _; rw [f1]; exact e0))
      (fun k => gates_apply m c ⟨t.val - 1, hp 1⟩ k _ _ (by show 4096 + (((cfg0.win 7).blk t).view.emb y 1).val = ((t.val - 1) % 3 * 4 + (t.val - 1) / 3 % 4) * 1024 + _; rw [f2, f3, e1]; omega))
      (biases_apply m c ⟨t.val - 1, hp 1⟩ _ _ (by show 4096 + (((cfg0.win 7).blk t).view.emb y 1).val = ((t.val - 1) % 3 * 4 + (t.val - 1) / 3 % 4) * 1024 + _; rw [f2, f3, e1]; omega))
      (fun k => rows1_apply m c ⟨t.val - 1, hp 1⟩ _ k _ (by show _ = (t.val - 1) / 12 * 1024 + _; rw [f1]; exact e0))
      (fun k => cols_apply m c ⟨t.val - 1, hp 1⟩ k _ 1 _ f3.symm (by show _ = (t.val - 1) / 3 % 4 * 1024 + _; rw [f2]; exact e1))
  · exact part_eq (fun k => tail_apply m c t _ k _ e0)
      (fun k => gates_apply m c t k _ _ (by show 8192 + (((cfg0.win 7).blk t).view.emb y 1).val = _; rw [h, e1]; omega))
      (biases_apply m c t _ _ (by show 8192 + (((cfg0.win 7).blk t).view.emb y 1).val = _; rw [h, e1]; omega))
      (fun k => rows2_apply m c t _ k _ e0) (fun k => cols_apply m c t k _ 2 _ h.symm e1)

/-- The reference's gates, at an element. -/
theorem ref_gates (p : FVec Ideal Cert.MergeIdeal.S17408x2560 .f32) (g : FVec Ideal Cert.MergeIdeal.S2x256x12288 .f32)
    (b : FVec Ideal Cert.MergeIdeal.S2x12288 .f32) (h1 h2 h3 h4 h5 h6 h7 h8) (r : Fin 17408) (q : Fin 12288) :
    Host.divf (F := Ideal) (φ := .f32) (broadcastInDim Cert.MergeRefIdeal.S17408x12288 ![] h1 (constant Cert.MergeRefIdeal.S_ .f32 0x3F800000#32)) (addf (broadcastInDim Cert.MergeRefIdeal.S17408x12288 ![] h1 (constant Cert.MergeRefIdeal.S_ .f32 0x3F800000#32)) (Host.exp (Host.negf (addf
      (Host.dotGeneral Cert.MergeRefIdeal.dot_S17408x256_S256x12288_S17408x12288_1_0_0_1_n_n none (extractStridedSlice Cert.MergeRefIdeal.S17408x256 ![0, 2048] p h2)
        (shapeCast Cert.MergeRefIdeal.S256x12288 (extractStridedSlice Cert.MergeRefIdeal.S1x256x12288 ![0, 0, 0] g h3) h4))
      (broadcastInDim Cert.MergeRefIdeal.S17408x12288 ![0, 1] h5 (broadcastInDim Cert.MergeRefIdeal.S1x12288 ![1] h6
        (shapeCast Cert.MergeRefIdeal.S12288 (extractStridedSlice Cert.MergeRefIdeal.S1x12288 ![0, 0] b h7) h8))))))) (ix2 r q)
      = gateOf 0 p g b r q := by
  unfold gateOf sigmoid
  pointwise

/-- The reference's projections, at an element. -/
theorem ref_branch0 (y : FVec Ideal Cert.MergeIdeal.S17408x2048 .bf16) (w : FVec Ideal Cert.MergeIdeal.S2x3x2048x4096 .f32) (hb hs hc) (r : Fin 17408) (q : Fin 4096) :
    Host.dotGeneral (F := Ideal) Cert.MergeRefIdeal.dot_S17408x2048_S2048x4096_S17408x4096_1_0_0_1_n_n none (extf .f32 y hb)
      (shapeCast Cert.MergeRefIdeal.S2048x4096 (extractStridedSlice Cert.MergeRefIdeal.S1x1x2048x4096 ![0, 0, 0, 0] w hs) hc) (ix2 r q)
      = branch 0 y w 0 r q := by
  unfold branch
  pointwise
theorem ref_branch1 (y : FVec Ideal Cert.MergeIdeal.S17408x2048 .bf16) (w : FVec Ideal Cert.MergeIdeal.S2x3x2048x4096 .f32) (hb hs hc) (r : Fin 17408) (q : Fin 4096) :
    Host.dotGeneral (F := Ideal) Cert.MergeRefIdeal.dot_S17408x2048_S2048x4096_S17408x4096_1_0_0_1_n_n none (extf .f32 y hb)
      (shapeCast Cert.MergeRefIdeal.S2048x4096 (extractStridedSlice Cert.MergeRefIdeal.S1x1x2048x4096 ![0, 1, 0, 0] w hs) hc) (ix2 r q)
      = branch 0 y w 1 r q := by
  unfold branch
  pointwise
theorem ref_branch2 (y : FVec Ideal Cert.MergeIdeal.S17408x2048 .bf16) (w : FVec Ideal Cert.MergeIdeal.S2x3x2048x4096 .f32) (hb hs hc) (r : Fin 17408) (q : Fin 4096) :
    Host.dotGeneral (F := Ideal) Cert.MergeRefIdeal.dot_S17408x2048_S2048x4096_S17408x4096_1_0_0_1_n_n none (extf .f32 y hb)
      (shapeCast Cert.MergeRefIdeal.S2048x4096 (extractStridedSlice Cert.MergeRefIdeal.S1x1x2048x4096 ![0, 2, 0, 0] w hs) hc) (ix2 r q)
      = branch 0 y w 2 r q := by
  unfold branch
  pointwise

/-- The reference's term is the result, its gates and projections named. -/
theorem ref_result (y0 y1 y2 : FVec Ideal Cert.MergeIdeal.S17408x2048 .bf16) (w : FVec Ideal Cert.MergeIdeal.S2x3x2048x4096 .f32)
    (p : FVec Ideal Cert.MergeIdeal.S17408x2560 .f32) (g : FVec Ideal Cert.MergeIdeal.S2x256x12288 .f32) (b : FVec Ideal Cert.MergeIdeal.S2x12288 .f32)
    (G : FVec Ideal Cert.MergeRefIdeal.S17408x12288 .f32) (D0 D1 D2 : FVec Ideal Cert.MergeRefIdeal.S17408x4096 .f32)
    (hG : ∀ r q, G (ix2 r q) = gateOf 0 p g b r q) (h0 : ∀ r q, D0 (ix2 r q) = branch 0 y0 w 0 r q)
    (h1 : ∀ r q, D1 (ix2 r q) = branch 0 y1 w 1 r q) (h2 : ∀ r q, D2 (ix2 r q) = branch 0 y2 w 2 r q) (s0 s1 s2 hb) :
    truncf .bf16 (addf (F := Ideal) (φ := .f32) (addf (mulf (extractStridedSlice Cert.MergeRefIdeal.S17408x4096 ![0, 0] G s0) D0)
      (mulf (extractStridedSlice Cert.MergeRefIdeal.S17408x4096 ![0, 4096] G s1) D1))
      (mulf (extractStridedSlice Cert.MergeRefIdeal.S17408x4096 ![0, 8192] G s2) D2)) hb = result 0 y0 y1 y2 w p g b := by
  funext z
  rw [show z = ix2 (z 0) (z 1) by funext a; fin_cases a <;> rfl]
  generalize hr0 : z 0 = r; generalize hq0 : z 1 = q
  clear hr0 hq0 z
  revert r q
  intro (r : Fin 17408) (q : Fin 4096)
  pointwise
  simp only [hG, h0, h1, h2]
  rfl

end Cert.MergeProof

end
-- ==== Proof.OutValue.lean ====
/-
  The output projection: what the kernel's run leaves in its result, and what the reference's leaves.
-/
module
public import proofs.«01_k».proof.Proof.Gen.OutIdeal.Value
public import proofs.«01_k».proof.Proof.Gen.OutRefIdeal.Run
public import Idealize.ShloMosaic.Lib.Pipeline.ValueKit
public import Idealize.ShloMosaic.Lib.Pointwise
public import Idealize.ShloMosaic.Lib.Pipeline.ReadBack

@[expose] public section
set_option maxRecDepth 16384
noncomputable section
namespace Cert.OutProof
open Idealize.ShloMosaic Idealize.SL.Sem Idealize.ShloMosaic.TcCoe Cert.OutIdeal Cert.OutIdeal.Gen

/-- The modulation's row of a row of the activations: the context's, or the sample's. -/
def modRow (r : ℕ) : ℕ := if r < 1024 then 4 else (r - 1024) / 4096

theorem modRow_lt (r : ℕ) (h : r < 17408) : modRow r < 8 := by unfold modRow; split_ifs <;> omega

/-- A row block lies in one segment. -/
theorem modRow_block (b i : ℕ) (hi : i < 1024) : modRow (b * 1024 + i) = if b = 0 then 4 else (b - 1) / 4 := by
  unfold modRow; split_ifs <;> omega

/-- The gated addition of the product with a layer's weights to the activations. -/
def result (l : Fin 2) (h : FVec Ideal S17408x4096 .bf16) (w : FVec Ideal S2x4096x4096 .f32) (x : FVec Ideal S17408x4096 .f32)
    (md : FVec Ideal S8x24576 .f32) : FVec Ideal S17408x4096 .f32 :=
  fun y => x (ix2 (y 0) (y 1))
    + md (ix2 ⟨modRow (y 0).val, modRow_lt _ (y 0).isLt⟩ ⟨8192 + (y 1).val, by have : (y 1).val < 4096 := (y 1).isLt; omega⟩)
      * ∑ k : Fin 4096, h (ix2 (y 0) k) * w (ix3 l k (y 1))

theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = 0 ∧ win0_1.index t 1 = 0 ∧ win0_1.index t 2 = t.val % 4 :=
  (by decide +kernel : ∀ t : Fin grid0.N, win0_1.index t 0 = 0 ∧ win0_1.index t 1 = 0 ∧ win0_1.index t 2 = t.val % 4)
theorem idx2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)
theorem idx3 : ∀ t : Fin cfg0.N, win0_3.index t 0 = 0 ∧ win0_3.index t 1 = 8 + t.val % 4 :=
  (by decide +kernel : ∀ t : Fin grid0.N, win0_3.index t 0 = 0 ∧ win0_3.index t 1 = 8 + t.val % 4)
theorem idx4 : ∀ t : Fin cfg0.N, win0_4.index t 0 = t.val / 4 ∧ win0_4.index t 1 = t.val % 4 :=
  (by decide +kernel : ∀ t : Fin grid0.N, win0_4.index t 0 = t.val / 4 ∧ win0_4.index t 1 = t.val % 4)

/-- The row of the modulation a point's body reads. -/
theorem off1 : ∀ t : Fin cfg0.N, k0_off1 (grid0.coords t) 0 = (if t.val / 4 = 0 then 4 else (t.val / 4 - 1) / 4) ∧ k0_off1 (grid0.coords t) 1 = 0 :=
  (by decide +kernel : ∀ t : Fin grid0.N, k0_off1 (grid0.coords t) 0 = (if t.val / 4 = 0 then 4 else (t.val / 4 - 1) / 4) ∧ k0_off1 (grid0.coords t) 1 = 0)

/-- A block's gated addition, at an element. -/
theorem pay_apply (a w x g) (i j : Fin 1024) :
    k0_pay1 (F := Ideal) a w x g (ix2 i j) = x (ix2 i j) + g (ix2 0 j) * ∑ k : Fin 4096, a (ix2 i k) * w (ix3 0 k j) := by
  unfold k0_pay1
  pointwise

variable (m : (ℓ : Loc nD τ sig) → Buf (Elt Ideal) ℓ) (c : Dev nD)

/-- A block's element, by the row of the modulation. -/
def blockAt (a : FVec Ideal S1024x4096 .bf16) (w : FVec Ideal S1x4096x1024 .bf16) (x : FVec Ideal S1024x1024 .f32) (md : FVec Ideal S8x1024 .f32)
    (i j : Fin 1024) (r : Fin 8) : EReal :=
  x (ix2 i j) + md (ix2 r j) * ∑ k : Fin 4096, a (ix2 i k) * w (ix3 0 k j)

theorem out_apply (t : Fin cfg0.N) (i j : Fin 1024) (r : Fin 8) (hr : r.val = if t.val / 4 = 0 then 4 else (t.val / 4 - 1) / 4) :
    outsAt0 m c t (ix2 i j) = blockAt (iblk m c 0 t) (iblk m c 1 t) (iblk m c 2 t) (iblk m c 3 t) i j r := by
  unfold outsAt0 blockAt
  frame_out
  rw [pay_apply]
  refine congrArg₂ (· + ·) rfl (congrArg₂ (· * ·) ?_ rfl)
  refine View.ld_unit_apply_of _ _ _ _ _ (ix2 r j) fun a => ?_
  fin_cases a
  · show r.val = k0_off1 (grid0.coords t) 0 + 0
    rw [(off1 t).1]; exact hr
  · show j.val = k0_off1 (grid0.coords t) 1 + j.val
    rw [(off1 t).2]; omega

/-- The array the weights' window reads: the weights, cast. -/
theorem weights : (V m c main_v0 : FVec Ideal S2x4096x4096 .bf16)
    = (truncf .bf16 (m ((c : Thread nD τ).loc main_arg1) : FVec Ideal S2x4096x4096 .f32) bitsLt_bf16_f32 : FVec Ideal S2x4096x4096 .bf16) := by
  unfold V
  after_results <;> rfl

/-- The rows' block. -/
theorem rows_apply (t : Fin cfg0.N) (i : Fin 1024) (k : Fin 4096) (r : Fin 17408) (hr : r.val = t.val / 4 * 1024 + i.val) :
    (iblk m c 0 t : Vec Ideal S1024x4096 .bf16) (ix2 i k) = (m ((c : Thread nD τ).loc main_arg0) : FVec Ideal S17408x4096 .bf16) (ix2 r k) := by
  unfold iblk
  rw [View.read_apply]
  refine (congrFun (V_main_arg0 m c) _).trans (congrArg _ ?_)
  funext a; apply Fin.ext
  fin_cases a
  · show win0_0.index t 0 * 1024 + 1 * i.val = r.val
    rw [(idx0 t).1]; omega
  · show win0_0.index t 1 * 4096 + 1 * k.val = k.val
    rw [(idx0 t).2]; omega

/-- The columns' block of the first layer's weights. -/
theorem cols_apply (t : Fin cfg0.N) (j : Fin 1024) (k : Fin 4096) (q : Fin 4096) (hq : q.val = t.val % 4 * 1024 + j.val) :
    (iblk m c 1 t : Vec Ideal S1x4096x1024 .bf16) (ix3 0 k j)
      = (m ((c : Thread nD τ).loc main_arg1) : FVec Ideal S2x4096x4096 .f32) (ix3 0 k q) := by
  unfold iblk
  rw [View.read_apply]
  refine (congrFun (weights m c) _).trans ?_
  refine congrArg (m ((c : Thread nD τ).loc main_arg1) : FVec Ideal S2x4096x4096 .f32) ?_
  funext a; apply Fin.ext
  fin_cases a
  · show win0_1.index t 0 * 1 + 1 * 0 = 0
    rw [(idx1 t).1]
  · show win0_1.index t 1 * 4096 + 1 * k.val = k.val
    rw [(idx1 t).2.1]; omega
  · show win0_1.index t 2 * 1024 + 1 * j.val = q.val
    rw [(idx1 t).2.2]; omega

/-- The activations' block. -/
theorem x_apply (t : Fin cfg0.N) (i j : Fin 1024) (r : Fin 17408) (q : Fin 4096) (hr : r.val = t.val / 4 * 1024 + i.val)
    (hq : q.val = t.val % 4 * 1024 + j.val) :
    (iblk m c 2 t : Vec Ideal S1024x1024 .f32) (ix2 i j) = (m ((c : Thread nD τ).loc main_arg2) : FVec Ideal S17408x4096 .f32) (ix2 r q) := by
  unfold iblk
  rw [View.read_apply]
  refine (congrFun (V_main_arg2 m c) _).trans (congrArg _ ?_)
  funext a; apply Fin.ext
  fin_cases a
  · show win0_2.index t 0 * 1024 + 1 * i.val = r.val
    rw [(idx2 t).1]; omega
  · show win0_2.index t 1 * 1024 + 1 * j.val = q.val
    rw [(idx2 t).2]; omega

/-- The modulation's block. -/
theorem mod_apply (t : Fin cfg0.N) (i : Fin 8) (j : Fin 1024) (r : Fin 8) (q : Fin 24576) (hr : r.val = i.val)
    (hq : q.val = 8192 + (t.val % 4 * 1024 + j.val)) :
    (iblk m c 3 t : Vec Ideal S8x1024 .f32) (ix2 i j) = (m ((c : Thread nD τ).loc main_arg3) : FVec Ideal S8x24576 .f32) (ix2 r q) := by
  unfold iblk
  rw [View.read_apply]
  refine (congrFun (V_main_arg3 m c) _).trans (congrArg _ ?_)
  funext a; apply Fin.ext
  fin_cases a
  · show win0_3.index t 0 * 8 + 1 * i.val = r.val
    rw [(idx3 t).1]; omega
  · show win0_3.index t 1 * 1024 + 1 * j.val = q.val
    rw [(idx3 t).2]; omega

/-- The result's array after the run. -/
theorem arr4 : (dats m 0 c).arrAt 4 cfg0.N = result 0 (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  rw [after0_4, cast_eq]
  have hy : (cfg0.win 4).xinj (cfg0.grid.coords t) y = (ix2 (y 0) (y 1) : S1024x1024.Idx) := by funext a; fin_cases a <;> rfl
  have e0 : (((cfg0.win 4).blk t).view.emb y 0).val = t.val / 4 * 1024 + (y 0).val := by
    show win0_4.index t 0 * 1024 + 1 * (y 0).val = _
    rw [(idx4 t).1, one_mul]
  have e1 : (((cfg0.win 4).blk t).view.emb y 1).val = t.val % 4 * 1024 + (y 1).val := by
    show win0_4.index t 1 * 1024 + 1 * (y 1).val = _
    rw [(idx4 t).2, one_mul]
  have hm : modRow (((cfg0.win 4).blk t).view.emb y 0).val = if t.val / 4 = 0 then 4 else (t.val / 4 - 1) / 4 := by
    rw [e0]; exact modRow_block _ _ (y 0).isLt
  refine (congrArg _ hy).trans ((out_apply m c t (y 0) (y 1)
    ⟨modRow (((cfg0.win 4).blk t).view.emb y 0).val, modRow_lt _ (((cfg0.win 4).blk t).view.emb y 0).isLt⟩ hm).trans ?_)
  unfold result blockAt
  refine congrArg₂ (· + ·) (x_apply m c t (y 0) (y 1) _ _ e0 e1) (congrArg₂ (· * ·) (mod_apply m c t _ (y 1) _ _ rfl ?_) ?_)
  · exact congrArg (8192 + ·) e1
  · exact Finset.sum_congr rfl fun k _ => congrArg₂ (· * ·) (rows_apply m c t (y 0) k _ e0) (cols_apply m c t (y 1) k _ e1)

/-- The reference's term, its product named, is the result: a row is in the context or in a sample. -/
theorem ref_result (h : FVec Ideal Cert.OutIdeal.S17408x4096 .bf16) (w : FVec Ideal Cert.OutIdeal.S2x4096x4096 .f32)
    (x : FVec Ideal Cert.OutIdeal.S17408x4096 .f32) (md : FVec Ideal Cert.OutIdeal.S8x24576 .f32)
    (P : FVec Ideal Cert.OutIdeal.S17408x4096 .f32) (hP : ∀ r q, P (ix2 r q) = ∑ k : Fin 4096, h (ix2 r k) * w (ix3 0 k q))
    (h1 h2 h3 h4 h5 h6 h7 h8 h9 h10 h11 h12 h13 h14 h15 h16 h17) :
    concatenate Cert.OutRefIdeal.S17408x4096 0 [⟨Cert.OutRefIdeal.S1024x4096, (shapeCast _ (addf (F := Ideal) (φ := .f32) (shapeCast _ (extractStridedSlice Cert.OutRefIdeal.S1024x4096 ![0, 0] x h1) h2)
        (mulf (broadcastInDim Cert.OutRefIdeal.S4x256x4096 ![0, 1, 2] h3 (broadcastInDim Cert.OutRefIdeal.S1x1x4096 ![2] h4 (shapeCast Cert.OutRefIdeal.S4096 (extractStridedSlice Cert.OutRefIdeal.S1x4096 ![4, 8192] md h5) h6)))
          (shapeCast _ (extractStridedSlice Cert.OutRefIdeal.S1024x4096 ![0, 0] P h1) h7))) h8)⟩,
      ⟨Cert.OutRefIdeal.S16384x4096, (shapeCast _ (addf (F := Ideal) (φ := .f32) (shapeCast _ (extractStridedSlice Cert.OutRefIdeal.S16384x4096 ![1024, 0] x h9) h10)
        (mulf (broadcastInDim Cert.OutRefIdeal.S4x4096x4096 ![0, 1, 2] h11 (broadcastInDim Cert.OutRefIdeal.S4x1x4096 ![0, 2] h12 (extractStridedSlice Cert.OutRefIdeal.S4x4096 ![0, 8192] md h13)))
          (shapeCast _ (extractStridedSlice Cert.OutRefIdeal.S16384x4096 ![1024, 0] P h14) h15))) h16)⟩] h17 = result 0 h w x md := by
  funext y
  rw [show y = ix2 (y 0) (y 1) by funext a; fin_cases a <;> rfl]
  generalize hr0 : y 0 = r; generalize hq0 : y 1 = q
  clear hr0 hq0 y
  revert r q
  intro (r : Fin 17408) (q : Fin 4096)
  pointwise
  unfold result
  by_cases hr : r.val < 1024
  · refine (dif_pos hr).trans ?_
    have e : ∀ g, (⟨r.val / 256 * 256 + r.val % 256, g⟩ : Fin 17408) = r := fun g => Fin.ext (by show r.val / 256 * 256 + r.val % 256 = r.val; omega)
    simp only [e, hP]
    refine congrArg₂ (· + ·) rfl (congrArg₂ (· * ·) (congrArg md (congrArg₂ ix2 (Fin.ext ?_) rfl)) rfl)
    exact (if_pos hr).symm
  · refine (dif_neg hr).trans ?_
    have e : ∀ g, (⟨1024 + ((r.val - 1024) / 4096 * 4096 + (r.val - 1024) % 4096), g⟩ : Fin 17408) = r :=
      fun g => Fin.ext (by show 1024 + ((r.val - 1024) / 4096 * 4096 + (r.val - 1024) % 4096) = r.val; omega)
    simp only [e, hP]
    refine congrArg₂ (· + ·) rfl (congrArg₂ (· * ·) (congrArg md (congrArg₂ ix2 (Fin.ext ?_) rfl)) rfl)
    exact (if_neg hr).symm

/-- The reference's product, at an element. -/
theorem ref_product (h : FVec Ideal Cert.OutIdeal.S17408x4096 .bf16) (w : FVec Ideal Cert.OutIdeal.S2x4096x4096 .f32) (hb hs hc) (r : Fin 17408) (q : Fin 4096) :
    Host.dotGeneral (F := Ideal) Cert.OutRefIdeal.dot_S17408x4096_S4096x4096_S17408x4096_1_0_0_1_n_n none (extf .f32 h hb)
      (shapeCast Cert.OutRefIdeal.S4096x4096 (extractStridedSlice Cert.OutRefIdeal.S1x4096x4096 ![0, 0, 0] w hs) hc) (ix2 r q)
      = ∑ k : Fin 4096, h (ix2 r k) * w (ix3 0 k q) := by
  pointwise

end Cert.OutProof

end
-- ==== Proof.InTwoValue.lean ====
/-
  The second layer's input projection: what the kernel's run leaves in its result, and what the reference's leaves.
-/
module
public import proofs.«01_k».proof.Proof.InValue
public import proofs.«01_k».proof.Proof.Gen.InTwoIdeal.Value
public import proofs.«01_k».proof.Proof.Gen.InTwoRefIdeal.Run
public import Idealize.ShloMosaic.Lib.Pipeline.ValueKit
public import Idealize.ShloMosaic.Lib.Pointwise
public import Idealize.ShloMosaic.Lib.Pipeline.ReadBack

@[expose] public section
set_option maxRecDepth 16384
noncomputable section
namespace Cert.InTwoProof
open Cert.InProof (product)
open Idealize.ShloMosaic Idealize.SL.Sem Idealize.ShloMosaic.TcCoe Cert.InTwoIdeal Cert.InTwoIdeal.Gen

/-- The blocks of a point: its rows, its columns. -/
theorem idx0 : ∀ t : Fin cfg0.N, win0_0.index t 0 = t.val / 20 ∧ win0_0.index t 1 = 0 :=
  (by decide +kernel : ∀ t : Fin grid0.N, win0_0.index t 0 = t.val / 20 ∧ win0_0.index t 1 = 0)
theorem idx1 : ∀ t : Fin cfg0.N, win0_1.index t 0 = 1 ∧ win0_1.index t 1 = 0 ∧ win0_1.index t 2 = t.val % 20 :=
  (by decide +kernel : ∀ t : Fin grid0.N, win0_1.index t 0 = 1 ∧ win0_1.index t 1 = 0 ∧ win0_1.index t 2 = t.val % 20)
theorem idx2 : ∀ t : Fin cfg0.N, win0_2.index t 0 = t.val / 20 ∧ win0_2.index t 1 = t.val % 20 :=
  (by decide +kernel : ∀ t : Fin grid0.N, win0_2.index t 0 = t.val / 20 ∧ win0_2.index t 1 = t.val % 20)

variable (m : (ℓ : Loc nD τ sig) → Buf (Elt Ideal) ℓ) (c : Dev nD)

theorem out_apply (t : Fin cfg0.N) : outsAt0 m c t = k0_pay1 (iblk m c 0 t) (X0_1 m c t) := by
  unfold outsAt0
  frame_out

/-- The array the weights' window reads: the weights, cast. -/
theorem weights : (V m c main_v0 : FVec Ideal S2x4096x22880 .bf16)
    = (truncf .bf16 (m ((c : Thread nD τ).loc main_arg1) : FVec Ideal S2x4096x22880 .f32) bitsLt_bf16_f32 : FVec Ideal S2x4096x22880 .bf16) := by
  unfold V
  after_results <;> rfl

/-- The rows' block. -/
theorem rows_apply (t : Fin cfg0.N) (i : Fin 1024) (k : Fin 4096) (r : Fin 17408) (hr : r.val = t.val / 20 * 1024 + i.val) :
    (iblk m c 0 t : Vec Ideal S1024x4096 .bf16) (ix2 i k) = (m ((c : Thread nD τ).loc main_arg0) : FVec Ideal S17408x4096 .bf16) (ix2 r k) := by
  unfold iblk
  rw [View.read_apply]
  refine (congrFun (V_main_arg0 m c) _).trans (congrArg _ ?_)
  funext a; apply Fin.ext
  fin_cases a
  · show win0_0.index t 0 * 1024 + 1 * i.val = r.val
    rw [(idx0 t).1]; omega
  · show win0_0.index t 1 * 4096 + 1 * k.val = k.val
    rw [(idx0 t).2]; omega

/-- The columns' block of the second layer's weights. -/
theorem cols_apply (t : Fin cfg0.N) (j : Fin 1024) (k : Fin 4096) (q : Fin 22880) (hq : q.val = t.val % 20 * 1024 + j.val) :
    (X0_1 m c t : Vec Ideal S1x4096x1024 .bf16) (ix3 0 k j)
      = (m ((c : Thread nD τ).loc main_arg1) : FVec Ideal S2x4096x22880 .f32) (ix3 1 k q) := by
  have hx := xsize0_1 t
  let y : ((cfg0.win 1).xblock (cfg0.grid.coords t)).Idx := fun a => ⟨((ix3 0 k j : S1x4096x1024.Idx) a).val, by
    show _ < (cfg0.win 1).xsize (cfg0.grid.coords t) a
    rw [hx a]; exact ((ix3 0 k j : S1x4096x1024.Idx) a).isLt⟩
  have hy : (cfg0.win 1).xinj (cfg0.grid.coords t) y = (ix3 0 k j : S1x4096x1024.Idx) := by funext a; fin_cases a <;> rfl
  unfold X0_1
  rw [← hy]
  refine ((cfg0.win 1).fill_xinj (cfg0.grid.coords t) _ _ y).trans ?_
  unfold iblk
  rw [View.read_apply]
  refine (congrFun (weights m c) _).trans ?_
  refine congrArg (m ((c : Thread nD τ).loc main_arg1) : FVec Ideal S2x4096x22880 .f32) ?_
  funext a; apply Fin.ext
  fin_cases a
  · show win0_1.index t 0 * 1 + 1 * 0 = 1
    rw [(idx1 t).1]
  · show win0_1.index t 1 * 4096 + 1 * k.val = k.val
    rw [(idx1 t).2.1]; omega
  · show win0_1.index t 2 * 1024 + 1 * j.val = q.val
    rw [(idx1 t).2.2]; omega

/-- The result's array after the run. -/
theorem arr2 : (dats m 0 c).arrAt 2 cfg0.N = product 1 (m ((c : Thread nD τ).loc main_arg0)) (m ((c : Thread nD τ).loc main_arg1)) := by
  refine (dats m 0 c).arrAt_eq_of_covers 2 _ (by decide +kernel) fun t hf y => ?_
  rw [after0_2, cast_eq, out_apply]
  have hy : (cfg0.win 2).xinj (cfg0.grid.coords t) y = (ix2 (y 0) (y 1) : S1024x1024.Idx) := by funext a; fin_cases a <;> rfl
  refine (congrArg _ hy).trans ((Cert.InProof.pay_apply _ _ (y 0) (y 1)).trans ?_)
  unfold product
  refine Finset.sum_congr rfl fun k _ => ?_
  refine congrArg₂ (· * ·) (rows_apply m c t (y 0) k _ ?_) (cols_apply m c t (y 1) k _ ?_)
  · show win0_2.index t 0 * 1024 + 1 * (y 0).val = _
    rw [(idx2 t).1, one_mul]
  · show win0_2.index t 1 * 1024 + 1 * (y 1).val = _
    rw [(idx2 t).2, one_mul]

/-- The reference's term is the product. -/
theorem ref_product (h : FVec Ideal S17408x4096 .bf16) (w : FVec Ideal S2x4096x22880 .f32) (hs hc hs' hb) :
    extractStridedSlice Cert.InTwoRefIdeal.S17408x20480 ![0, 0] (Host.dotGeneral (F := Ideal) Cert.InTwoRefIdeal.dot_S17408x4096_S4096x22880_S17408x22880_1_0_0_1_n_n none
      (extf .f32 h hb) (shapeCast Cert.InTwoRefIdeal.S4096x22880 (extractStridedSlice Cert.InTwoRefIdeal.S1x4096x22880 ![1, 0, 0] w hs) hc)) hs' = product 1 h w := by
  funext y
  rw [show y = ix2 (y 0) (y 1) by funext a; fin_cases a <;> rfl]
  unfold product
  pointwise

end Cert.InTwoProof

end
-- ==== Proof.TailValue.lean ====
/-
  The input projection's last columns: what the kernel's run leaves in its result, and what the reference's leaves.
-/
module
public import proofs.«01_k».proof.Proof.UpValue
public import proofs.«01_k».proof.Proof.Gen.TailIdeal.Value
public import proofs.«01_k».proof.Proof.Gen.TailRefIdeal.Run
public import Idealize.ShloMosaic.Lib.Pipeline.ValueKit
public import Idealize.ShloMosaic.Lib.Pointwise
public import Idealize.ShloMosaic.Lib.Pipeline.ReadBack

@[expose] public section
set_option maxRecDepth 16384
noncomputable section
namespace Cert.TailProof
open Idealize.ShloMosaic Idealize.SL.Sem Idealize.ShloMosaic.TcCoe Cert.TailIdeal Cert.TailIdeal.Gen

/-- The pieces of a row, regrouped: ss_z, merge, ml_gates, ss_dt, and zeros. -/
def regroup (f : Fin 22880 → EReal) (q : Fin 2560) : EReal :=
  if h : q.val < 2048 then f ⟨20512 + q.val, by omega⟩
  else if h : q.val - 2048 < 256 then f ⟨22624 + (q.val - 2048), by omega⟩
  else if h : q.val - 2048 - 256 < 32 then f ⟨20480 + (q.val - 2048 - 256), by omega⟩
  else if h : q.val - 2048 - 256 - 32 < 64 then f ⟨22560 + (q.val - 2048 - 256 - 32), by omega⟩
  else 0

/-- A row's product with the regrouped weights is the regrouped product. -/
theorem regroup_sum (a : Fin 4096 → EReal) (w : Fin 4096 → Fin 22880 → EReal) (q : Fin 2560) :
    ∑ k : Fin 4096, a k * regroup (w k) q = regroup (fun p => ∑ k : Fin 4096, a k * w k p) q := by
  unfold regroup
  split_ifs
  · rfl
  · rfl
  · rfl
  · rfl
  · exact Finset.sum_eq_zero fun k _ => mul_zero _

/-- A layer's result, as an array. -/
def result (l : Fin 2) (h : FVec Ideal S17408x4096 .bf16) (w : FVec Ideal S2x4096x22880 .f32) : FVec Ideal S17408x2560 .f32 :=
  fun y => ∑ k : Fin 4096, h (ix2 (y 0) k) * regroup (fun p => w (ix3 l k p)) (y 1)

theorem idx0 : ∀ t : Fin cfg0.N, win0_0.index t 0 = t.val / 4 ∧ win0_0.index t 1 = t.val % 2 :=
  (by decide +kernel : ∀ t : Fin grid0.N, win0_0.index t 0 = t.val / 4 ∧ win0_0.index t 1 = t.val % 2)
theorem idx1 : ∀ t : Fin cfg0.N, win0_1.index t 0 = 0 ∧ win0_1.index t 1 = t.val % 2 ∧ win0_1.index t 2 = t.val / 2 % 2 :=
  (by decide +kernel : ∀ t : Fin grid0.N, win0_1.index t 0 = 0 ∧ win0_1.index t 1 = t.val % 2 ∧ win0_1.index t 2 = t.val / 2 % 2)
theorem idx2 : ∀ t : Fin cfg0.N, win0_2.index t 0 = t.val / 4 ∧ win0_2.index t 1 = t.val / 2 % 2 :=
  (by decide +kernel : ∀ t : Fin grid0.N, win0_2.index t 0 = t.val / 4 ∧ win0_2.index t 1 = t.val / 2 % 2)

/-- A block's product. -/
def dot (a : FVec Ideal S1024x2048 .bf16) (w : FVec Ideal S1x2048x1280 .bf16) (i : Fin 1024) (j : Fin 1280) : EReal :=
  ∑ k : Fin 2048, a (ix2 i k) * w (ix3 0 k j)

theorem pay1_apply (a w) (i : Fin 1024) (j : Fin 1280) : k0_pay1 (F := Ideal) a w (ix2 i j) = dot a w i j := by
  unfold k0_pay1 dot
  pointwise

theorem pay3_apply (a w s) (i : Fin 1024) (j : Fin 1280) : k0_pay3 (F := Ideal) a w s (ix2 i j) = s (ix2 i j) + dot a w i j := by
  unfold k0_pay3 dot
  pointwise

/-- The regrouped weights, at an element. -/
theorem regrouped (w : FVec Ideal Cert.TailIdeal.S2x4096x22880 .f32) (h1 h2 h3 h4 h5 hc hb) (l : Fin 2) (k : Fin 4096) (q : Fin 2560) :
    (truncf (F := Ideal) .bf16 (concatenate Cert.TailIdeal.S2x4096x2560 2 [⟨Cert.TailIdeal.S2x4096x2048, extractStridedSlice _ ![0, 0, 20512] w h1⟩,
      ⟨Cert.TailIdeal.S2x4096x256, extractStridedSlice _ ![0, 0, 22624] w h2⟩, ⟨Cert.TailIdeal.S2x4096x32, extractStridedSlice _ ![0, 0, 20480] w h3⟩,
      ⟨Cert.TailIdeal.S2x4096x64, extractStridedSlice _ ![0, 0, 22560] w h4⟩,
      ⟨Cert.TailIdeal.S2x4096x160, broadcastInDim Cert.TailIdeal.S2x4096x160 ![] h5 (constant Cert.TailIdeal.S_ .f32 0x00000000#32)⟩] hc : FVec Ideal Cert.TailIdeal.S2x4096x2560 .f32) hb) (ix3 l k q)
      = regroup (fun p => w (ix3 l k p)) q := by
  unfold regroup
  pointwise

variable (m : (ℓ : Loc nD τ sig) → Buf (Elt Ideal) ℓ) (c : Dev nD)

/-- What a point of the second step leaves in the result's block. -/
theorem out_apply (t : Fin cfg0.N) (h : t.val % 2 = 1) (s : Fin cfg0.N) (hs : s.val = t.val - 1) (i : Fin 1024) (j : Fin 1280) :
    (outsAt0 m c t.val t.isLt).1 (ix2 i j) = dot (iblk m c 0 s) (iblk m c 1 s) i j + dot (iblk m c 0 t) (iblk m c 1 t) i j := by
  have e := outsAt0_A m c s (by omega) (by omega)
  have e' : outsAt0 m c (t.val - 1) (Nat.lt_of_le_of_lt (Nat.sub_le _ _) t.isLt) = outsAt0 m c s.val s.isLt := by
    congr 1; exact hs.symm
  rw [outsAt0_B m c t (by omega) h]
  frame_out
  simp only [read_unread_whole]
  rw [pay3_apply, e', e]
  frame_out
  rw [pay1_apply]

/-- The array the weights' window reads, at an element: the weights' columns, regrouped and cast. -/
theorem weights_apply (l : Fin 2) (k : Fin 4096) (q : Fin 2560) : (V m c main_v6 : FVec Ideal S2x4096x2560 .bf16) (ix3 l k q)
    = regroup (fun p => (m ((c : Thread nD τ).loc main_arg1) : FVec Ideal S2x4096x22880 .f32) (ix3 l k p)) q := by
  refine (congrFun (?_ : (V m c main_v6 : FVec Ideal S2x4096x2560 .bf16) = _) _).trans (regrouped _
    slices_S2x4096x22880_S2x4096x2048_0_0_20512 slices_S2x4096x22880_S2x4096x256_0_0_22624 slices_S2x4096x22880_S2x4096x32_0_0_20480
    slices_S2x4096x22880_S2x4096x64_0_0_22560 bcast_S_S2x4096x160
    concatenates_S2x4096x2048_S2x4096x256_S2x4096x32_S2x4096x64_S2x4096x160_S2x4096x2560_d2 bitsLt_bf16_f32 l k q)
  unfold V
  after_results <;> rfl

/-- The rows' block of a point. -/
theorem rows_apply (t : Fin cfg0.N) (i : Fin 1024) (k : Fin 2048) (r : Fin 17408) (q : Fin 4096)
    (hr : r.val = t.val / 4 * 1024 + i.val) (hq : q.val = t.val % 2 * 2048 + k.val) :
    (iblk m c 0 t : Vec Ideal S1024x2048 .bf16) (ix2 i k) = (m ((c : Thread nD τ).loc main_arg0) : FVec Ideal S17408x4096 .bf16) (ix2 r q) := by
  unfold iblk
  rw [View.read_apply]
  refine (congrFun (V_main_arg0 m c) _).trans (congrArg _ ?_)
  funext a; apply Fin.ext
  fin_cases a
  · show win0_0.index t 0 * 1024 + 1 * i.val = r.val
    rw [(idx0 t).1]; omega
  · show win0_0.index t 1 * 2048 + 1 * k.val = q.val
    rw [(idx0 t).2]; omega

/-- The columns' block of a point. -/
theorem cols_apply (t : Fin cfg0.N) (k : Fin 2048) (j : Fin 1280) (q : Fin 4096) (r : Fin 2560)
    (hq : q.val = t.val % 2 * 2048 + k.val) (hr : r.val = t.val / 2 % 2 * 1280 + j.val) :
    (iblk m c 1 t : Vec Ideal S1x2048x1280 .bf16) (ix3 0 k j)
      = regroup (fun p => (m ((c : Thread nD τ).loc main_arg1) : FVec Ideal S2x4096x22880 .f32) (ix3 0 q p)) r := by
  unfold iblk
  rw [View.read_apply]
  refine Eq.trans (congrArg (V m c main_v6 : FVec Ideal S2x4096x2560 .bf16) ?_) (weights_apply m c 0 q r)
  funext a; apply Fin.ext
  fin_cases a
  · show win0_1.index t 0 * 1 + 1 * 0 = 0
    rw [(idx1 t).1]
  · show win0_1.index t 1 * 2048 + 1 * k.val = q.val
    rw [(idx1 t).2.1]; omega
  · show win0_1.index t 2 * 1280 + 1 * j.val = r.val
    rw [(idx1 t).2.2]; omega

/-- The result's array after the run. -/
theorem arr2 : (dats m 0 c).arrAt 2 cfg0.N
    = result 0 (m ((c : Thread nD τ).loc main_arg0)) (m ((c : Thread nD τ).loc main_arg1)) := by
  refine (dats m 0 c).arrAt_eq_of_covers 2 _ (by decide +kernel) fun t hf y => ?_
  rw [after0_2, cast_eq]
  have hy : (cfg0.win 2).xinj (cfg0.grid.coords t) y = (ix2 (y 0) (y 1) : S1024x1280.Idx) := by funext a; fin_cases a <;> rfl
  have h : t.val % 2 = 1 := (flush0_2 t).mp hf
  have hs : t.val - 1 < cfg0.N := Nat.lt_of_le_of_lt (Nat.sub_le _ _) t.isLt
  refine (congrArg _ hy).trans ((out_apply m c t h ⟨t.val - 1, hs⟩ rfl (y 0) (y 1)).trans ?_)
  have e0 : (((cfg0.win 2).blk t).view.emb y 0).val = t.val / 4 * 1024 + (y 0).val := by
    show win0_2.index t 0 * 1024 + 1 * (y 0).val = _
    rw [(idx2 t).1, one_mul]
  have e1 : (((cfg0.win 2).blk t).view.emb y 1).val = t.val / 2 % 2 * 1280 + (y 1).val := by
    show win0_2.index t 1 * 1280 + 1 * (y 1).val = _
    rw [(idx2 t).2, one_mul]
  unfold result dot
  refine Eq.trans ?_ (Cert.UpProof.sum_halves _).symm
  refine congrArg₂ (· + ·) (Finset.sum_congr rfl fun k _ => ?_) (Finset.sum_congr rfl fun k _ => ?_)
  · exact congrArg₂ (· * ·) (rows_apply m c ⟨t.val - 1, hs⟩ (y 0) k _ _ (e0.trans (by show _ = (t.val - 1) / 4 * 1024 + _; omega)) (by show 0 * 2048 + k.val = (t.val - 1) % 2 * 2048 + k.val; omega))
      (cols_apply m c ⟨t.val - 1, hs⟩ k (y 1) _ _ (by show 0 * 2048 + k.val = (t.val - 1) % 2 * 2048 + k.val; omega) (e1.trans (by show _ = (t.val - 1) / 2 % 2 * 1280 + _; omega)))
  · exact congrArg₂ (· * ·) (rows_apply m c t (y 0) k _ _ e0 (by show 1 * 2048 + k.val = _; omega))
      (cols_apply m c t k (y 1) _ _ (by show 1 * 2048 + k.val = _; omega) e1)

/-- The reference's term, its product named, is the result. -/
theorem ref_result (l : Fin 2) (h : FVec Ideal Cert.TailIdeal.S17408x4096 .bf16) (w : FVec Ideal Cert.TailIdeal.S2x4096x22880 .f32)
    (P : FVec Ideal Cert.TailRefIdeal.S17408x22880 .f32) (hP : ∀ r q, P (ix2 r q) = ∑ k : Fin 4096, h (ix2 r k) * w (ix3 l k q))
    (h1 h2 h3 h4 h5 hc) :
    (concatenate Cert.TailRefIdeal.S17408x2560 1 [⟨Cert.TailRefIdeal.S17408x2048, extractStridedSlice _ ![0, 20512] P h1⟩,
      ⟨Cert.TailRefIdeal.S17408x256, extractStridedSlice _ ![0, 22624] P h2⟩, ⟨Cert.TailRefIdeal.S17408x32, extractStridedSlice _ ![0, 20480] P h3⟩,
      ⟨Cert.TailRefIdeal.S17408x64, extractStridedSlice _ ![0, 22560] P h4⟩,
      ⟨Cert.TailRefIdeal.S17408x160, broadcastInDim Cert.TailRefIdeal.S17408x160 ![] h5 (constant Cert.TailRefIdeal.S_ .f32 0x00000000#32)⟩] hc : FVec Ideal Cert.TailRefIdeal.S17408x2560 .f32)
      = result l h w := by
  funext y
  rw [show y = ix2 (y 0) (y 1) by funext a; fin_cases a <;> rfl]
  generalize hr0 : y 0 = r; generalize hq0 : y 1 = q
  clear hr0 hq0 y
  revert r q
  intro (r : Fin 17408) (q : Fin 2560)
  refine Eq.trans ?_ (regroup_sum (fun k => h (ix2 r k)) (fun k p => w (ix3 l k p)) q).symm
  unfold regroup
  pointwise
  simp only [hP]

/-- The reference's product, at an element. -/
theorem ref_product (h : FVec Ideal Cert.TailIdeal.S17408x4096 .bf16) (w : FVec Ideal Cert.TailIdeal.S2x4096x22880 .f32) (hb hs hc) (r : Fin 17408) (q : Fin 22880) :
    Host.dotGeneral (F := Ideal) Cert.TailRefIdeal.dot_S17408x4096_S4096x22880_S17408x22880_1_0_0_1_n_n none (extf .f32 h hb)
      (shapeCast Cert.TailRefIdeal.S4096x22880 (extractStridedSlice Cert.TailRefIdeal.S1x4096x22880 ![0, 0, 0] w hs) hc) (ix2 r q)
      = ∑ k : Fin 4096, h (ix2 r k) * w (ix3 0 k q) := by
  pointwise

end Cert.TailProof

end
-- ==== Proof.TailTwoValue.lean ====
/-
  The second layer's projection's last columns: what the kernel's run leaves in its result, and what the reference's leaves.
-/
module
public import proofs.«01_k».proof.Proof.TailValue
public import proofs.«01_k».proof.Proof.Gen.TailTwoIdeal.Value
public import proofs.«01_k».proof.Proof.Gen.TailTwoRefIdeal.Run
public import Idealize.ShloMosaic.Lib.Pipeline.ValueKit
public import Idealize.ShloMosaic.Lib.Pointwise
public import Idealize.ShloMosaic.Lib.Pipeline.ReadBack

@[expose] public section
set_option maxRecDepth 16384
noncomputable section
namespace Cert.TailTwoProof
open Cert.TailProof (regroup result dot)
open Idealize.ShloMosaic Idealize.SL.Sem Idealize.ShloMosaic.TcCoe Cert.TailTwoIdeal Cert.TailTwoIdeal.Gen

theorem idx0 : ∀ t : Fin cfg0.N, win0_0.index t 0 = t.val / 4 ∧ win0_0.index t 1 = t.val % 2 :=
  (by decide +kernel : ∀ t : Fin grid0.N, win0_0.index t 0 = t.val / 4 ∧ win0_0.index t 1 = t.val % 2)
theorem idx1 : ∀ t : Fin cfg0.N, win0_1.index t 0 = 1 ∧ win0_1.index t 1 = t.val % 2 ∧ win0_1.index t 2 = t.val / 2 % 2 :=
  (by decide +kernel : ∀ t : Fin grid0.N, win0_1.index t 0 = 1 ∧ win0_1.index t 1 = t.val % 2 ∧ win0_1.index t 2 = t.val / 2 % 2)
theorem idx2 : ∀ t : Fin cfg0.N, win0_2.index t 0 = t.val / 4 ∧ win0_2.index t 1 = t.val / 2 % 2 :=
  (by decide +kernel : ∀ t : Fin grid0.N, win0_2.index t 0 = t.val / 4 ∧ win0_2.index t 1 = t.val / 2 % 2)

variable (m : (ℓ : Loc nD τ sig) → Buf (Elt Ideal) ℓ) (c : Dev nD)

/-- What a point of the second step leaves in the result's block. -/
theorem out_apply (t : Fin cfg0.N) (h : t.val % 2 = 1) (s : Fin cfg0.N) (hs : s.val = t.val - 1) (i : Fin 1024) (j : Fin 1280) :
    (outsAt0 m c t.val t.isLt).1 (ix2 i j) = dot (iblk m c 0 s) (iblk m c 1 s) i j + dot (iblk m c 0 t) (iblk m c 1 t) i j := by
  have e := outsAt0_A m c s (by omega) (by omega)
  have e' : outsAt0 m c (t.val - 1) (Nat.lt_of_le_of_lt (Nat.sub_le _ _) t.isLt) = outsAt0 m c s.val s.isLt := by
    congr 1; exact hs.symm
  rw [outsAt0_B m c t (by omega) h]
  frame_out
  simp only [read_unread_whole]
  refine (Cert.TailProof.pay3_apply _ _ _ i j).trans ?_
  rw [e', e]
  frame_out
  exact congrArg (· + _) (Cert.TailProof.pay1_apply _ _ i j)

/-- The array the weights' window reads, at an element: the weights' columns, regrouped and cast. -/
theorem weights_apply (l : Fin 2) (k : Fin 4096) (q : Fin 2560) : (V m c main_v6 : FVec Ideal S2x4096x2560 .bf16) (ix3 l k q)
    = regroup (fun p => (m ((c : Thread nD τ).loc main_arg1) : FVec Ideal S2x4096x22880 .f32) (ix3 l k p)) q := by
  refine (congrFun (?_ : (V m c main_v6 : FVec Ideal S2x4096x2560 .bf16) = _) _).trans (Cert.TailProof.regrouped _
    slices_S2x4096x22880_S2x4096x2048_0_0_20512 slices_S2x4096x22880_S2x4096x256_0_0_22624 slices_S2x4096x22880_S2x4096x32_0_0_20480
    slices_S2x4096x22880_S2x4096x64_0_0_22560 bcast_S_S2x4096x160
    concatenates_S2x4096x2048_S2x4096x256_S2x4096x32_S2x4096x64_S2x4096x160_S2x4096x2560_d2 bitsLt_bf16_f32 l k q)
  unfold V
  after_results <;> rfl

/-- The rows' block of a point. -/
theorem rows_apply (t : Fin cfg0.N) (i : Fin 1024) (k : Fin 2048) (r : Fin 17408) (q : Fin 4096)
    (hr : r.val = t.val / 4 * 1024 + i.val) (hq : q.val = t.val % 2 * 2048 + k.val) :
    (iblk m c 0 t : Vec Ideal S1024x2048 .bf16) (ix2 i k) = (m ((c : Thread nD τ).loc main_arg0) : FVec Ideal S17408x4096 .bf16) (ix2 r q) := by
  unfold iblk
  rw [View.read_apply]
  refine (congrFun (V_main_arg0 m c) _).trans (congrArg _ ?_)
  funext a; apply Fin.ext
  fin_cases a
  · show win0_0.index t 0 * 1024 + 1 * i.val = r.val
    rw [(idx0 t).1]; omega
  · show win0_0.index t 1 * 2048 + 1 * k.val = q.val
    rw [(idx0 t).2]; omega

/-- The columns' block of a point. -/
theorem cols_apply (t : Fin cfg0.N) (k : Fin 2048) (j : Fin 1280) (q : Fin 4096) (r : Fin 2560)
    (hq : q.val = t.val % 2 * 2048 + k.val) (hr : r.val = t.val / 2 % 2 * 1280 + j.val) :
    (iblk m c 1 t : Vec Ideal S1x2048x1280 .bf16) (ix3 0 k j)
      = regroup (fun p => (m ((c : Thread nD τ).loc main_arg1) : FVec Ideal S2x4096x22880 .f32) (ix3 1 q p)) r := by
  unfold iblk
  rw [View.read_apply]
  refine Eq.trans (congrArg (V m c main_v6 : FVec Ideal S2x4096x2560 .bf16) ?_) (weights_apply m c 1 q r)
  funext a; apply Fin.ext
  fin_cases a
  · show win0_1.index t 0 * 1 + 1 * 0 = 1
    rw [(idx1 t).1]
  · show win0_1.index t 1 * 2048 + 1 * k.val = q.val
    rw [(idx1 t).2.1]; omega
  · show win0_1.index t 2 * 1280 + 1 * j.val = r.val
    rw [(idx1 t).2.2]; omega

/-- The result's array after the run. -/
theorem arr2 : (dats m 0 c).arrAt 2 cfg0.N
    = result 1 (m ((c : Thread nD τ).loc main_arg0)) (m ((c : Thread nD τ).loc main_arg1)) := by
  refine (dats m 0 c).arrAt_eq_of_covers 2 _ (by decide +kernel) fun t hf y => ?_
  rw [after0_2, cast_eq]
  have hy : (cfg0.win 2).xinj (cfg0.grid.coords t) y = (ix2 (y 0) (y 1) : S1024x1280.Idx) := by funext a; fin_cases a <;> rfl
  have h : t.val % 2 = 1 := (flush0_2 t).mp hf
  have hs : t.val - 1 < cfg0.N := Nat.lt_of_le_of_lt (Nat.sub_le _ _) t.isLt
  refine (congrArg _ hy).trans ((out_apply m c t h ⟨t.val - 1, hs⟩ rfl (y 0) (y 1)).trans ?_)
  have e0 : (((cfg0.win 2).blk t).view.emb y 0).val = t.val / 4 * 1024 + (y 0).val := by
    show win0_2.index t 0 * 1024 + 1 * (y 0).val = _
    rw [(idx2 t).1, one_mul]
  have e1 : (((cfg0.win 2).blk t).view.emb y 1).val = t.val / 2 % 2 * 1280 + (y 1).val := by
    show win0_2.index t 1 * 1280 + 1 * (y 1).val = _
    rw [(idx2 t).2, one_mul]
  unfold result dot
  refine Eq.trans ?_ (Cert.UpProof.sum_halves _).symm
  refine congrArg₂ (· + ·) (Finset.sum_congr rfl fun k _ => ?_) (Finset.sum_congr rfl fun k _ => ?_)
  · exact congrArg₂ (· * ·) (rows_apply m c ⟨t.val - 1, hs⟩ (y 0) k _ _ (e0.trans (by show _ = (t.val - 1) / 4 * 1024 + _; omega)) (by show 0 * 2048 + k.val = (t.val - 1) % 2 * 2048 + k.val; omega))
      (cols_apply m c ⟨t.val - 1, hs⟩ k (y 1) _ _ (by show 0 * 2048 + k.val = (t.val - 1) % 2 * 2048 + k.val; omega) (e1.trans (by show _ = (t.val - 1) / 2 % 2 * 1280 + _; omega)))
  · exact congrArg₂ (· * ·) (rows_apply m c t (y 0) k _ _ e0 (by show 1 * 2048 + k.val = _; omega))
      (cols_apply m c t k (y 1) _ _ (by show 1 * 2048 + k.val = _; omega) e1)

/-- The reference's product, at an element. -/
theorem ref_product (h : FVec Ideal Cert.TailTwoIdeal.S17408x4096 .bf16) (w : FVec Ideal Cert.TailTwoIdeal.S2x4096x22880 .f32) (hb hs hc) (r : Fin 17408) (q : Fin 22880) :
    Host.dotGeneral (F := Ideal) Cert.TailTwoRefIdeal.dot_S17408x4096_S4096x22880_S17408x22880_1_0_0_1_n_n none (extf .f32 h hb)
      (shapeCast Cert.TailTwoRefIdeal.S4096x22880 (extractStridedSlice Cert.TailTwoRefIdeal.S1x4096x22880 ![1, 0, 0] w hs) hc) (ix2 r q)
      = ∑ k : Fin 4096, h (ix2 r k) * w (ix3 1 k q) := by
  pointwise

end Cert.TailTwoProof

end
-- ==== Proof.MergeTwoValue.lean ====
/-
  The second layer's gated sum of the three branches' projections, of the latent rows: what the kernel's run leaves in its result, and what the reference's leaves.
-/
module
public import proofs.«01_k».proof.Proof.MergeValue
public import proofs.«01_k».proof.Proof.Gen.MergeTwoIdeal.Frame
public import proofs.«01_k».proof.Proof.Gen.MergeTwoRefIdeal.Run
public import Idealize.ShloMosaic.Lib.Pipeline.ValueKit
public import Idealize.ShloMosaic.Lib.Pointwise
public import Idealize.ShloMosaic.Lib.Pipeline.ReadBack

@[expose] public section
set_option maxRecDepth 16384
noncomputable section
namespace Cert.MergeTwoProof
open Cert.MergeProof (sigmoid gate dot part gateOf branch result part_eq)
open Idealize.ShloMosaic Idealize.SL.Sem Idealize.ShloMosaic.TcCoe Cert.MergeTwoIdeal Cert.MergeTwoIdeal.Gen

theorem idx0 : ∀ t : Fin cfg0.N, win0_0.index t 0 = t.val / 12 + 1 ∧ win0_0.index t 1 = 0 :=
  (by decide +kernel : ∀ t : Fin grid0.N, win0_0.index t 0 = t.val / 12 + 1 ∧ win0_0.index t 1 = 0)
theorem idx1 : ∀ t : Fin cfg0.N, win0_1.index t 0 = t.val / 12 + 1 ∧ win0_1.index t 1 = 0 :=
  (by decide +kernel : ∀ t : Fin grid0.N, win0_1.index t 0 = t.val / 12 + 1 ∧ win0_1.index t 1 = 0)
theorem idx2 : ∀ t : Fin cfg0.N, win0_2.index t 0 = t.val / 12 + 1 ∧ win0_2.index t 1 = 0 :=
  (by decide +kernel : ∀ t : Fin grid0.N, win0_2.index t 0 = t.val / 12 + 1 ∧ win0_2.index t 1 = 0)
theorem idx3 : ∀ t : Fin cfg0.N, win0_3.index t 0 = 1 ∧ win0_3.index t 1 = t.val % 3 ∧ win0_3.index t 2 = 0 ∧ win0_3.index t 3 = t.val / 3 % 4 :=
  (by decide +kernel : ∀ t : Fin grid0.N, win0_3.index t 0 = 1 ∧ win0_3.index t 1 = t.val % 3 ∧ win0_3.index t 2 = 0 ∧ win0_3.index t 3 = t.val / 3 % 4)
theorem idx4 : ∀ t : Fin cfg0.N, win0_4.index t 0 = t.val / 12 + 1 ∧ win0_4.index t 1 = 8 :=
  (by decide +kernel : ∀ t : Fin grid0.N, win0_4.index t 0 = t.val / 12 + 1 ∧ win0_4.index t 1 = 8)
theorem idx5 : ∀ t : Fin cfg0.N, win0_5.index t 0 = 1 ∧ win0_5.index t 1 = 0 ∧ win0_5.index t 2 = t.val % 3 * 4 + t.val / 3 % 4 :=
  (by decide +kernel : ∀ t : Fin grid0.N, win0_5.index t 0 = 1 ∧ win0_5.index t 1 = 0 ∧ win0_5.index t 2 = t.val % 3 * 4 + t.val / 3 % 4)
theorem idx6 : ∀ t : Fin cfg0.N, win0_6.index t 0 = 0 ∧ win0_6.index t 1 = t.val % 3 * 4 + t.val / 3 % 4 :=
  (by decide +kernel : ∀ t : Fin grid0.N, win0_6.index t 0 = 0 ∧ win0_6.index t 1 = t.val % 3 * 4 + t.val / 3 % 4)
theorem idx7 : ∀ t : Fin cfg0.N, win0_7.index t 0 = t.val / 12 + 1 ∧ win0_7.index t 1 = t.val / 3 % 4 :=
  (by decide +kernel : ∀ t : Fin grid0.N, win0_7.index t 0 = t.val / 12 + 1 ∧ win0_7.index t 1 = t.val / 3 % 4)

variable (m : (ℓ : Loc nD τ sig) → Buf (Elt Ideal) ℓ) (c : Dev nD)

/-- What a point of the last step leaves in the result's block: the three steps' parts. -/
theorem out_apply (t s u : Fin cfg0.N) (h : t.val % 3 = 2) (hs : s.val = t.val - 1) (hu : u.val = s.val - 1) (i j : Fin 1024) :
    (outsAt0 m c t.val t.isLt).1 (ix2 i j)
      = (part (iblk m c 4 u) (iblk m c 5 u) (iblk m c 6 u) (iblk m c 0 u) (iblk m c 3 u) i j
        + part (iblk m c 4 s) (iblk m c 5 s) (iblk m c 6 s) (iblk m c 1 s) (iblk m c 3 s) i j)
        + part (iblk m c 4 t) (iblk m c 5 t) (iblk m c 6 t) (iblk m c 2 t) (iblk m c 3 t) i j := by
  have e1 : outsAt0 m c (t.val - 1) (Nat.lt_of_le_of_lt (Nat.sub_le _ _) t.isLt) = outsAt0 m c s.val s.isLt := by
    congr 1; exact hs.symm
  have e2 : outsAt0 m c (s.val - 1) (Nat.lt_of_le_of_lt (Nat.sub_le _ _) s.isLt) = outsAt0 m c u.val u.isLt := by
    congr 1; exact hu.symm
  have a1 := outsAt0_A m c u (by omega) (by omega) (by omega)
  have a2 := outsAt0_B m c s (by omega) (by omega) (by omega)
  rw [outsAt0_C m c t (by omega) (by omega) h]
  frame_out
  simp only [read_unread_whole]
  refine (Cert.MergeProof.pay4_apply _ _ _ _ _ _ i j).trans ?_
  rw [e1, a2]
  frame_out
  refine congrArg (· + _) ((Cert.MergeProof.pay3_apply _ _ _ _ _ _ i j).trans ?_)
  rw [e2, a1]
  frame_out
  simp only [read_unread_whole]
  exact congrArg (· + _) (Cert.MergeProof.pay2_apply _ _ _ _ _ i j)

/-- The arrays the weights' windows read: the weights, cast. -/
theorem weights0 : (V m c main_v0 : FVec Ideal S2x3x2048x4096 .bf16)
    = (truncf .bf16 (m ((c : Thread nD τ).loc main_arg3) : FVec Ideal S2x3x2048x4096 .f32) bitsLt_bf16_f32 : FVec Ideal S2x3x2048x4096 .bf16) := by
  unfold V V0
  simp only [hostOps0, List.flatten_cons, List.flatten_nil, List.append_nil]
  after_results <;> rfl
theorem weights1 : (V m c main_v1 : FVec Ideal S2x256x12288 .bf16)
    = (truncf .bf16 (m ((c : Thread nD τ).loc main_arg5) : FVec Ideal S2x256x12288 .f32) bitsLt_bf16_f32 : FVec Ideal S2x256x12288 .bf16) := by
  unfold V V0
  simp only [hostOps0, List.flatten_cons, List.flatten_nil, List.append_nil]
  after_results <;> rfl

/-- The array the bias's window reads: the second layer's bias. -/
theorem bias : (V m c main_v4 : FVec Ideal S1x12288 .f32)
    = (broadcastInDim S1x12288 ![1] bcast_S12288_S1x12288_1 (shapeCast S12288 (extractStridedSlice S1x12288 ![1, 0]
        (m ((c : Thread nD τ).loc main_arg6) : FVec Ideal S2x12288 .f32) slices_S2x12288_S1x12288_1_0) shapeCasts_S1x12288_S12288) : FVec Ideal S1x12288 .f32) := by
  unfold V V0
  simp only [hostOps0, List.flatten_cons, List.flatten_nil, List.append_nil]
  after_results <;> rfl
theorem bias_apply (q : Fin 12288) :
    (V m c main_v4 : FVec Ideal S1x12288 .f32) (ix2 0 q) = (m ((c : Thread nD τ).loc main_arg6) : FVec Ideal S2x12288 .f32) (ix2 1 q) := by
  rw [bias]
  pointwise

/-- The branches' blocks of a point. -/
theorem rows0_apply (t : Fin cfg0.N) (i : Fin 1024) (k : Fin 2048) (r : Fin 17408) (hr : r.val = (t.val / 12 + 1) * 1024 + i.val) :
    (iblk m c 0 t : Vec Ideal S1024x2048 .bf16) (ix2 i k) = (m ((c : Thread nD τ).loc main_arg0) : FVec Ideal S17408x2048 .bf16) (ix2 r k) := by
  unfold iblk
  rw [View.read_apply]
  refine (congrFun (V_main_arg0 m c) _).trans (congrArg _ ?_)
  funext a; apply Fin.ext
  fin_cases a
  · show win0_0.index t 0 * 1024 + 1 * i.val = r.val
    rw [(idx0 t).1]; omega
  · show win0_0.index t 1 * 2048 + 1 * k.val = k.val
    rw [(idx0 t).2]; omega
theorem rows1_apply (t : Fin cfg0.N) (i : Fin 1024) (k : Fin 2048) (r : Fin 17408) (hr : r.val = (t.val / 12 + 1) * 1024 + i.val) :
    (iblk m c 1 t : Vec Ideal S1024x2048 .bf16) (ix2 i k) = (m ((c : Thread nD τ).loc main_arg1) : FVec Ideal S17408x2048 .bf16) (ix2 r k) := by
  unfold iblk
  rw [View.read_apply]
  refine (congrFun (V_main_arg1 m c) _).trans (congrArg _ ?_)
  funext a; apply Fin.ext
  fin_cases a
  · show win0_1.index t 0 * 1024 + 1 * i.val = r.val
    rw [(idx1 t).1]; omega
  · show win0_1.index t 1 * 2048 + 1 * k.val = k.val
    rw [(idx1 t).2]; omega
theorem rows2_apply (t : Fin cfg0.N) (i : Fin 1024) (k : Fin 2048) (r : Fin 17408) (hr : r.val = (t.val / 12 + 1) * 1024 + i.val) :
    (iblk m c 2 t : Vec Ideal S1024x2048 .bf16) (ix2 i k) = (m ((c : Thread nD τ).loc main_arg2) : FVec Ideal S17408x2048 .bf16) (ix2 r k) := by
  unfold iblk
  rw [View.read_apply]
  refine (congrFun (V_main_arg2 m c) _).trans (congrArg _ ?_)
  funext a; apply Fin.ext
  fin_cases a
  · show win0_2.index t 0 * 1024 + 1 * i.val = r.val
    rw [(idx2 t).1]; omega
  · show win0_2.index t 1 * 2048 + 1 * k.val = k.val
    rw [(idx2 t).2]; omega

/-- The weights' block of a point. -/
theorem cols_apply (t : Fin cfg0.N) (k : Fin 2048) (j : Fin 1024) (n : Fin 3) (q : Fin 4096)
    (hn : n.val = t.val % 3) (hq : q.val = t.val / 3 % 4 * 1024 + j.val) :
    (iblk m c 3 t : Vec Ideal S1x1x2048x1024 .bf16) (ix4 0 0 k j)
      = (m ((c : Thread nD τ).loc main_arg3) : FVec Ideal S2x3x2048x4096 .f32) (ix4 1 n k q) := by
  unfold iblk
  rw [View.read_apply]
  refine (congrFun (weights0 m c) _).trans (congrArg (m ((c : Thread nD τ).loc main_arg3) : FVec Ideal S2x3x2048x4096 .f32) ?_)
  funext a; apply Fin.ext
  fin_cases a
  · show win0_3.index t 0 * 1 + 1 * 0 = 1
    rw [(idx3 t).1]
  · show win0_3.index t 1 * 1 + 1 * 0 = n.val
    rw [(idx3 t).2.1]; omega
  · show win0_3.index t 2 * 2048 + 1 * k.val = k.val
    rw [(idx3 t).2.2.1]; omega
  · show win0_3.index t 3 * 1024 + 1 * j.val = q.val
    rw [(idx3 t).2.2.2]; omega

/-- The gates' rows' block of a point. -/
theorem tail_apply (t : Fin cfg0.N) (i : Fin 1024) (k : Fin 256) (r : Fin 17408) (hr : r.val = (t.val / 12 + 1) * 1024 + i.val) :
    (iblk m c 4 t : Vec Ideal S1024x256 .f32) (ix2 i k)
      = (m ((c : Thread nD τ).loc main_arg4) : FVec Ideal S17408x2560 .f32) (ix2 r ⟨2048 + k.val, by omega⟩) := by
  unfold iblk
  rw [View.read_apply]
  refine (congrFun (V_main_arg4 m c) _).trans (congrArg _ ?_)
  funext a; apply Fin.ext
  fin_cases a
  · show win0_4.index t 0 * 1024 + 1 * i.val = r.val
    rw [(idx4 t).1]; omega
  · show win0_4.index t 1 * 256 + 1 * k.val = 2048 + k.val
    rw [(idx4 t).2]; omega

/-- The gates' weights' block of a point. -/
theorem gates_apply (t : Fin cfg0.N) (k : Fin 256) (j : Fin 1024) (q : Fin 12288)
    (hq : q.val = (t.val % 3 * 4 + t.val / 3 % 4) * 1024 + j.val) :
    (iblk m c 5 t : Vec Ideal S1x256x1024 .bf16) (ix3 0 k j)
      = (m ((c : Thread nD τ).loc main_arg5) : FVec Ideal S2x256x12288 .f32) (ix3 1 k q) := by
  unfold iblk
  rw [View.read_apply]
  refine (congrFun (weights1 m c) _).trans (congrArg (m ((c : Thread nD τ).loc main_arg5) : FVec Ideal S2x256x12288 .f32) ?_)
  funext a; apply Fin.ext
  fin_cases a
  · show win0_5.index t 0 * 1 + 1 * 0 = 1
    rw [(idx5 t).1]
  · show win0_5.index t 1 * 256 + 1 * k.val = k.val
    rw [(idx5 t).2.1]; omega
  · show win0_5.index t 2 * 1024 + 1 * j.val = q.val
    rw [(idx5 t).2.2]; omega

/-- The bias's block of a point. -/
theorem biases_apply (t : Fin cfg0.N) (j : Fin 1024) (q : Fin 12288)
    (hq : q.val = (t.val % 3 * 4 + t.val / 3 % 4) * 1024 + j.val) :
    (iblk m c 6 t : Vec Ideal S1x1024 .f32) (ix2 0 j)
      = (m ((c : Thread nD τ).loc main_arg6) : FVec Ideal S2x12288 .f32) (ix2 1 q) := by
  unfold iblk
  rw [View.read_apply]
  refine Eq.trans (congrArg (V m c main_v4 : FVec Ideal S1x12288 .f32) ?_) (bias_apply m c q)
  funext a; apply Fin.ext
  fin_cases a
  · show win0_6.index t 0 * 1 + 1 * 0 = 0
    rw [(idx6 t).1]
  · show win0_6.index t 1 * 1024 + 1 * j.val = q.val
    rw [(idx6 t).2]; omega

/-- The result's array after the run: the latent rows are written, the context's kept. -/
theorem arr7 : (dats m 0 c).arrAt 7 cfg0.N = fun i : S17408x4096.Idx => if 1 ≤ (i 0 : ℕ) / 1024 then result 1 (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) i
    else (dats m 0 c).A 7 i := by
  refine (dats m 0 c).arrAt_eq_of_coversWhere 7 _ (fun β => 1 ≤ β (0 : Fin 2)) (by decide +kernel) (fun t hf y => ?_) (fun j => Iff.rfl)
  rw [after0_7, cast_eq]
  have hy : (cfg0.win 7).xinj (cfg0.grid.coords t) y = (ix2 (y 0) (y 1) : S1024x1024.Idx) := by funext a; fin_cases a <;> rfl
  have h : t.val % 3 = 2 := (flush0_7 t).mp hf
  have hp : ∀ n, t.val - n < cfg0.N := fun n => Nat.lt_of_le_of_lt (Nat.sub_le _ _) t.isLt
  have e0 : (((cfg0.win 7).blk t).view.emb y 0).val = (t.val / 12 + 1) * 1024 + (y 0).val := by
    show win0_7.index t 0 * 1024 + 1 * (y 0).val = _
    rw [(idx7 t).1, one_mul]
  have e1 : (((cfg0.win 7).blk t).view.emb y 1).val = t.val / 3 % 4 * 1024 + (y 1).val := by
    show win0_7.index t 1 * 1024 + 1 * (y 1).val = _
    rw [(idx7 t).2, one_mul]
  refine (congrArg _ hy).trans ((out_apply m c t ⟨t.val - 1, hp 1⟩ ⟨t.val - 2, hp 2⟩ h rfl (by show t.val - 2 = t.val - 1 - 1; omega) (y 0) (y 1)).trans ?_)
  unfold result
  refine congrArg₂ (· + ·) (congrArg₂ (· + ·) ?_ ?_) ?_
  · have f1 : (t.val - 2) / 12 = t.val / 12 := by omega
    have f2 : (t.val - 2) / 3 % 4 = t.val / 3 % 4 := by omega
    have f3 : (t.val - 2) % 3 = 0 := by omega
    exact part_eq (fun k => tail_apply m c ⟨t.val - 2, hp 2⟩ _ k _ (by show _ = ((t.val - 2) / 12 + 1) * 1024 + _; rw [f1]; exact e0))
      (fun k => gates_apply m c ⟨t.val - 2, hp 2⟩ k _ _ (by show (((cfg0.win 7).blk t).view.emb y 1).val = ((t.val - 2) % 3 * 4 + (t.val - 2) / 3 % 4) * 1024 + _; rw [f2, f3, e1]; omega))
      (biases_apply m c ⟨t.val - 2, hp 2⟩ _ _ (by show (((cfg0.win 7).blk t).view.emb y 1).val = ((t.val - 2) % 3 * 4 + (t.val - 2) / 3 % 4) * 1024 + _; rw [f2, f3, e1]; omega))
      (fun k => rows0_apply m c ⟨t.val - 2, hp 2⟩ _ k _ (by show _ = ((t.val - 2) / 12 + 1) * 1024 + _; rw [f1]; exact e0))
      (fun k => cols_apply m c ⟨t.val - 2, hp 2⟩ k _ 0 _ f3.symm (by show _ = (t.val - 2) / 3 % 4 * 1024 + _; rw [f2]; exact e1))
  · have f1 : (t.val - 1) / 12 = t.val / 12 := by omega
    have f2 : (t.val - 1) / 3 % 4 = t.val / 3 % 4 := by omega
    have f3 : (t.val - 1) % 3 = 1 := by omega
    exact part_eq (fun k => tail_apply m c ⟨t.val - 1, hp 1⟩ _ k _ (by show _ = ((t.val - 1) / 12 + 1) * 1024 + _; rw [f1]; exact e0))
      (fun k => gates_apply m c ⟨t.val - 1, hp 1⟩ k _ _ (by show 4096 + (((cfg0.win 7).blk t).view.emb y 1).val = ((t.val - 1) % 3 * 4 + (t.val - 1) / 3 % 4) * 1024 + _; rw [f2, f3, e1]; omega))
      (biases_apply m c ⟨t.val - 1, hp 1⟩ _ _ (by show 4096 + (((cfg0.win 7).blk t).view.emb y 1).val = ((t.val - 1) % 3 * 4 + (t.val - 1) / 3 % 4) * 1024 + _; rw [f2, f3, e1]; omega))
      (fun k => rows1_apply m c ⟨t.val - 1, hp 1⟩ _ k _ (by show _ = ((t.val - 1) / 12 + 1) * 1024 + _; rw [f1]; exact e0))
      (fun k => cols_apply m c ⟨t.val - 1, hp 1⟩ k _ 1 _ f3.symm (by show _ = (t.val - 1) / 3 % 4 * 1024 + _; rw [f2]; exact e1))
  · exact part_eq (fun k => tail_apply m c t _ k _ e0)
      (fun k => gates_apply m c t k _ _ (by show 8192 + (((cfg0.win 7).blk t).view.emb y 1).val = _; rw [h, e1]; omega))
      (biases_apply m c t _ _ (by show 8192 + (((cfg0.win 7).blk t).view.emb y 1).val = _; rw [h, e1]; omega))
      (fun k => rows2_apply m c t _ k _ e0) (fun k => cols_apply m c t k _ 2 _ h.symm e1)

/-- The latent rows of the result. -/
def latent (y0 y1 y2 : FVec Ideal S17408x2048 .bf16) (w : FVec Ideal S2x3x2048x4096 .f32) (p : FVec Ideal S17408x2560 .f32)
    (g : FVec Ideal S2x256x12288 .f32) (b : FVec Ideal S2x12288 .f32) : FVec Ideal S16384x4096 .bf16 :=
  fun z => result 1 y0 y1 y2 w p g b (ix2 ⟨1024 + (z 0).val, by have : (z 0).val < 16384 := (z 0).isLt; omega⟩ (z 1))

/-- The slice after the call takes them. -/
theorem sliced (hs) : (extractStridedSlice S16384x4096 ![1024, 0] ((dats m 0 c).arrAt 7 cfg0.N : FVec Ideal S17408x4096 .bf16) hs : FVec Ideal S16384x4096 .bf16)
    = latent (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  rw [arr7]
  funext y
  rw [show y = ix2 (y 0) (y 1) by funext a; fin_cases a <;> rfl]
  generalize hr0 : y 0 = r; generalize hq0 : y 1 = q
  clear hr0 hq0 y
  revert r q
  intro (r : Fin 16384) (q : Fin 4096)
  pointwise
  refine (if_pos ?_).trans rfl
  show 1 ≤ (1024 + r.val) / 1024
  omega

/-- The reference's gates, at an element. -/
theorem ref_gates (p : FVec Ideal S17408x2560 .f32) (g : FVec Ideal S2x256x12288 .f32)
    (b : FVec Ideal S2x12288 .f32) (h1 h2 h3 h4 h5 h6 h7 h8) (r : Fin 16384) (q : Fin 12288) :
    Host.divf (F := Ideal) (φ := .f32) (broadcastInDim Cert.MergeTwoRefIdeal.S16384x12288 ![] h1 (constant Cert.MergeTwoRefIdeal.S_ .f32 0x3F800000#32)) (addf (broadcastInDim Cert.MergeTwoRefIdeal.S16384x12288 ![] h1 (constant Cert.MergeTwoRefIdeal.S_ .f32 0x3F800000#32)) (Host.exp (Host.negf (addf
      (Host.dotGeneral Cert.MergeTwoRefIdeal.dot_S16384x256_S256x12288_S16384x12288_1_0_0_1_n_n none (extractStridedSlice Cert.MergeTwoRefIdeal.S16384x256 ![1024, 2048] p h2)
        (shapeCast Cert.MergeTwoRefIdeal.S256x12288 (extractStridedSlice Cert.MergeTwoRefIdeal.S1x256x12288 ![1, 0, 0] g h3) h4))
      (broadcastInDim Cert.MergeTwoRefIdeal.S16384x12288 ![0, 1] h5 (broadcastInDim Cert.MergeTwoRefIdeal.S1x12288 ![1] h6
        (shapeCast Cert.MergeTwoRefIdeal.S12288 (extractStridedSlice Cert.MergeTwoRefIdeal.S1x12288 ![1, 0] b h7) h8))))))) (ix2 r q)
      = gateOf 1 p g b ⟨1024 + r.val, by omega⟩ q := by
  unfold gateOf sigmoid
  pointwise

/-- The reference's projections, at an element. -/
theorem ref_branch (n : Fin 3) (y : FVec Ideal S17408x2048 .bf16) (w : FVec Ideal S2x3x2048x4096 .f32) (hl hb hs hc) (r : Fin 16384) (q : Fin 4096) :
    Host.dotGeneral (F := Ideal) Cert.MergeTwoRefIdeal.dot_S16384x2048_S2048x4096_S16384x4096_1_0_0_1_n_n none
      (extf .f32 (extractStridedSlice Cert.MergeTwoRefIdeal.S16384x2048 ![1024, 0] y hl : FVec Ideal Cert.MergeTwoRefIdeal.S16384x2048 .bf16) hb)
      (shapeCast Cert.MergeTwoRefIdeal.S2048x4096 (extractStridedSlice Cert.MergeTwoRefIdeal.S1x1x2048x4096 ![1, n.val, 0, 0] w hs) hc) (ix2 r q)
      = branch 1 y w n ⟨1024 + r.val, by omega⟩ q := by
  unfold branch
  fin_cases n <;> pointwise

/-- The reference's term is the latent rows of the result, its gates and projections named. -/
theorem ref_result (y0 y1 y2 : FVec Ideal S17408x2048 .bf16) (w : FVec Ideal S2x3x2048x4096 .f32)
    (p : FVec Ideal S17408x2560 .f32) (g : FVec Ideal S2x256x12288 .f32) (b : FVec Ideal S2x12288 .f32)
    (G : FVec Ideal Cert.MergeTwoRefIdeal.S16384x12288 .f32) (D0 D1 D2 : FVec Ideal Cert.MergeTwoRefIdeal.S16384x4096 .f32)
    (hG : ∀ (r : Fin 16384) q, G (ix2 r q) = gateOf 1 p g b ⟨1024 + r.val, by omega⟩ q)
    (h0 : ∀ (r : Fin 16384) q, D0 (ix2 r q) = branch 1 y0 w 0 ⟨1024 + r.val, by omega⟩ q)
    (h1 : ∀ (r : Fin 16384) q, D1 (ix2 r q) = branch 1 y1 w 1 ⟨1024 + r.val, by omega⟩ q)
    (h2 : ∀ (r : Fin 16384) q, D2 (ix2 r q) = branch 1 y2 w 2 ⟨1024 + r.val, by omega⟩ q) (s0 s1 s2 hb) :
    truncf .bf16 (addf (F := Ideal) (φ := .f32) (addf (mulf (extractStridedSlice Cert.MergeTwoRefIdeal.S16384x4096 ![0, 0] G s0) D0)
      (mulf (extractStridedSlice Cert.MergeTwoRefIdeal.S16384x4096 ![0, 4096] G s1) D1))
      (mulf (extractStridedSlice Cert.MergeTwoRefIdeal.S16384x4096 ![0, 8192] G s2) D2)) hb = latent y0 y1 y2 w p g b := by
  funext z
  rw [show z = ix2 (z 0) (z 1) by funext a; fin_cases a <;> rfl]
  generalize hr0 : z 0 = r; generalize hq0 : z 1 = q
  clear hr0 hq0 z
  revert r q
  intro (r : Fin 16384) (q : Fin 4096)
  pointwise
  simp only [hG, h0, h1, h2]
  rfl

/-- What the lines after the call leave in the result. -/
theorem tail : Pipeline.afterTail₀ cfgs (dats m) 0 (V0 m) [hostOps1] c main_v6
    = latent (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  unfold Pipeline.afterTail₀
  simp only [hostOps1, List.flatten_cons, List.flatten_nil, List.append_nil]
  after_results
  refine (congrArg (fun x : FVec Ideal S17408x4096 .bf16 => extractStridedSlice S16384x4096 ![1024, 0] x slices_S17408x4096_S16384x4096_1024_0)
    (Pipeline.withArrays_arr spec0 (by decide) c (V0 m c) (fun w => (dats m 0 c).arrAt w cfg0.N) 7)).trans ?_
  exact sliced m c _

/-- The run, with its result named. -/
theorem run (ρ : Dev nD → PrngReg) : θ_run defs (onTc (τ := τ) (main (F := Ideal))) ⟨m, fun _ => 0, ρ⟩ (fun r => ∀ c : Dev nD,
    r.2.mem ((c : Thread nD τ).loc main_v6) = latent (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))) :=
  (θ_run defs _ _).mono (fun _ h c => ((h c).2 main_v6 (Pipeline.mem_restRefs_of main_v6 (by decide) (by decide))).trans (tail m c)) (run_main m ρ)

end Cert.MergeTwoProof

end
-- ==== Proof.OutTwoValue.lean ====
/-
  The second layer's output projection, of the latent rows: what the kernel's run leaves in its result, and what the reference's leaves.
-/
module
public import proofs.«01_k».proof.Proof.OutValue
public import proofs.«01_k».proof.Proof.Gen.OutTwoIdeal.Frame
public import proofs.«01_k».proof.Proof.Gen.OutTwoRefIdeal.Run
public import Idealize.ShloMosaic.Lib.Pipeline.ValueKit
public import Idealize.ShloMosaic.Lib.Pointwise
public import Idealize.ShloMosaic.Lib.Pipeline.ReadBack

@[expose] public section
set_option maxRecDepth 16384
noncomputable section
namespace Cert.OutTwoProof
open Cert.OutProof (result modRow modRow_lt modRow_block blockAt)
open Idealize.ShloMosaic Idealize.SL.Sem Idealize.ShloMosaic.TcCoe Cert.OutTwoIdeal Cert.OutTwoIdeal.Gen

theorem idx0 : ∀ t : Fin cfg0.N, win0_0.index t 0 = t.val / 4 + 1 ∧ win0_0.index t 1 = 0 :=
  (by decide +kernel : ∀ t : Fin grid0.N, win0_0.index t 0 = t.val / 4 + 1 ∧ win0_0.index t 1 = 0)
theorem idx1 : ∀ t : Fin cfg0.N, win0_1.index t 0 = 1 ∧ win0_1.index t 1 = 0 ∧ win0_1.index t 2 = t.val % 4 :=
  (by decide +kernel : ∀ t : Fin grid0.N, win0_1.index t 0 = 1 ∧ win0_1.index t 1 = 0 ∧ win0_1.index t 2 = t.val % 4)
theorem idx2 : ∀ t : Fin cfg0.N, win0_2.index t 0 = t.val / 4 + 1 ∧ win0_2.index t 1 = t.val % 4 :=
  (by decide +kernel : ∀ t : Fin grid0.N, win0_2.index t 0 = t.val / 4 + 1 ∧ win0_2.index t 1 = t.val % 4)
theorem idx3 : ∀ t : Fin cfg0.N, win0_3.index t 0 = 0 ∧ win0_3.index t 1 = 8 + t.val % 4 :=
  (by decide +kernel : ∀ t : Fin grid0.N, win0_3.index t 0 = 0 ∧ win0_3.index t 1 = 8 + t.val % 4)
theorem idx4 : ∀ t : Fin cfg0.N, win0_4.index t 0 = t.val / 4 + 1 ∧ win0_4.index t 1 = t.val % 4 :=
  (by decide +kernel : ∀ t : Fin grid0.N, win0_4.index t 0 = t.val / 4 + 1 ∧ win0_4.index t 1 = t.val % 4)

/-- The row of the modulation a point's body reads. -/
theorem off1 : ∀ t : Fin cfg0.N, k0_off1 (grid0.coords t) 0 = t.val / 16 ∧ k0_off1 (grid0.coords t) 1 = 0 :=
  (by decide +kernel : ∀ t : Fin grid0.N, k0_off1 (grid0.coords t) 0 = t.val / 16 ∧ k0_off1 (grid0.coords t) 1 = 0)

variable (m : (ℓ : Loc nD τ sig) → Buf (Elt Ideal) ℓ) (c : Dev nD)

theorem out_apply (t : Fin cfg0.N) (i j : Fin 1024) (r : Fin 8) (hr : r.val = t.val / 16) :
    outsAt0 m c t (ix2 i j) = blockAt (iblk m c 0 t) (iblk m c 1 t) (iblk m c 2 t) (iblk m c 3 t) i j r := by
  unfold outsAt0 blockAt
  frame_out
  refine (Cert.OutProof.pay_apply _ _ _ _ i j).trans ?_
  refine congrArg₂ (· + ·) rfl (congrArg₂ (· * ·) ?_ rfl)
  refine View.ld_unit_apply_of _ _ _ _ _ (ix2 r j) fun a => ?_
  fin_cases a
  · show r.val = k0_off1 (grid0.coords t) 0 + 0
    rw [(off1 t).1]; exact hr
  · show j.val = k0_off1 (grid0.coords t) 1 + j.val
    rw [(off1 t).2]; omega

/-- The array the weights' window reads: the weights, cast. -/
theorem weights : (V m c main_v0 : FVec Ideal S2x4096x4096 .bf16)
    = (truncf .bf16 (m ((c : Thread nD τ).loc main_arg1) : FVec Ideal S2x4096x4096 .f32) bitsLt_bf16_f32 : FVec Ideal S2x4096x4096 .bf16) := by
  unfold V V0
  simp only [hostOps0, List.flatten_cons, List.flatten_nil, List.append_nil]
  after_results <;> rfl

/-- The rows' block. -/
theorem rows_apply (t : Fin cfg0.N) (i : Fin 1024) (k : Fin 4096) (r : Fin 17408) (hr : r.val = (t.val / 4 + 1) * 1024 + i.val) :
    (iblk m c 0 t : Vec Ideal S1024x4096 .bf16) (ix2 i k) = (m ((c : Thread nD τ).loc main_arg0) : FVec Ideal S17408x4096 .bf16) (ix2 r k) := by
  unfold iblk
  rw [View.read_apply]
  refine (congrFun (V_main_arg0 m c) _).trans (congrArg _ ?_)
  funext a; apply Fin.ext
  fin_cases a
  · show win0_0.index t 0 * 1024 + 1 * i.val = r.val
    rw [(idx0 t).1]; omega
  · show win0_0.index t 1 * 4096 + 1 * k.val = k.val
    rw [(idx0 t).2]; omega

/-- The columns' block of the second layer's weights. -/
theorem cols_apply (t : Fin cfg0.N) (j : Fin 1024) (k : Fin 4096) (q : Fin 4096) (hq : q.val = t.val % 4 * 1024 + j.val) :
    (iblk m c 1 t : Vec Ideal S1x4096x1024 .bf16) (ix3 0 k j)
      = (m ((c : Thread nD τ).loc main_arg1) : FVec Ideal S2x4096x4096 .f32) (ix3 1 k q) := by
  unfold iblk
  rw [View.read_apply]
  refine (congrFun (weights m c) _).trans ?_
  refine congrArg (m ((c : Thread nD τ).loc main_arg1) : FVec Ideal S2x4096x4096 .f32) ?_
  funext a; apply Fin.ext
  fin_cases a
  · show win0_1.index t 0 * 1 + 1 * 0 = 1
    rw [(idx1 t).1]
  · show win0_1.index t 1 * 4096 + 1 * k.val = k.val
    rw [(idx1 t).2.1]; omega
  · show win0_1.index t 2 * 1024 + 1 * j.val = q.val
    rw [(idx1 t).2.2]; omega

/-- The activations' block. -/
theorem x_apply (t : Fin cfg0.N) (i j : Fin 1024) (r : Fin 17408) (q : Fin 4096) (hr : r.val = (t.val / 4 + 1) * 1024 + i.val)
    (hq : q.val = t.val % 4 * 1024 + j.val) :
    (iblk m c 2 t : Vec Ideal S1024x1024 .f32) (ix2 i j) = (m ((c : Thread nD τ).loc main_arg2) : FVec Ideal S17408x4096 .f32) (ix2 r q) := by
  unfold iblk
  rw [View.read_apply]
  refine (congrFun (V_main_arg2 m c) _).trans (congrArg _ ?_)
  funext a; apply Fin.ext
  fin_cases a
  · show win0_2.index t 0 * 1024 + 1 * i.val = r.val
    rw [(idx2 t).1]; omega
  · show win0_2.index t 1 * 1024 + 1 * j.val = q.val
    rw [(idx2 t).2]; omega

/-- The modulation's block. -/
theorem mod_apply (t : Fin cfg0.N) (i : Fin 8) (j : Fin 1024) (r : Fin 8) (q : Fin 24576) (hr : r.val = i.val)
    (hq : q.val = 8192 + (t.val % 4 * 1024 + j.val)) :
    (iblk m c 3 t : Vec Ideal S8x1024 .f32) (ix2 i j) = (m ((c : Thread nD τ).loc main_arg3) : FVec Ideal S8x24576 .f32) (ix2 r q) := by
  unfold iblk
  rw [View.read_apply]
  refine (congrFun (V_main_arg3 m c) _).trans (congrArg _ ?_)
  funext a; apply Fin.ext
  fin_cases a
  · show win0_3.index t 0 * 8 + 1 * i.val = r.val
    rw [(idx3 t).1]; omega
  · show win0_3.index t 1 * 1024 + 1 * j.val = q.val
    rw [(idx3 t).2]; omega

/-- The result's array after the run: the latent rows are written, the context's kept. -/
theorem arr4 : (dats m 0 c).arrAt 4 cfg0.N = fun i : S17408x4096.Idx => if 1 ≤ (i 0 : ℕ) / 1024 then result 1 (m ((c : Thread nD τ).loc main_arg0)) (m ((c : Thread nD τ).loc main_arg1))
    (m ((c : Thread nD τ).loc main_arg2)) (m ((c : Thread nD τ).loc main_arg3)) i
    else (dats m 0 c).A 4 i := by
  refine (dats m 0 c).arrAt_eq_of_coversWhere 4 _ (fun β => 1 ≤ β (0 : Fin 2)) (by decide +kernel) (fun t hf y => ?_) (fun j => Iff.rfl)
  rw [after0_4, cast_eq]
  have hy : (cfg0.win 4).xinj (cfg0.grid.coords t) y = (ix2 (y 0) (y 1) : S1024x1024.Idx) := by funext a; fin_cases a <;> rfl
  have e0 : (((cfg0.win 4).blk t).view.emb y 0).val = (t.val / 4 + 1) * 1024 + (y 0).val := by
    show win0_4.index t 0 * 1024 + 1 * (y 0).val = _
    rw [(idx4 t).1, one_mul]
  have e1 : (((cfg0.win 4).blk t).view.emb y 1).val = t.val % 4 * 1024 + (y 1).val := by
    show win0_4.index t 1 * 1024 + 1 * (y 1).val = _
    rw [(idx4 t).2, one_mul]
  have hm : modRow (((cfg0.win 4).blk t).view.emb y 0).val = t.val / 16 := by
    rw [e0]
    refine (modRow_block _ _ (y 0).isLt).trans ?_
    rw [if_neg (by omega)]; omega
  refine (congrArg _ hy).trans ((out_apply m c t (y 0) (y 1)
    ⟨modRow (((cfg0.win 4).blk t).view.emb y 0).val, modRow_lt _ (((cfg0.win 4).blk t).view.emb y 0).isLt⟩ hm).trans ?_)
  unfold result blockAt
  refine congrArg₂ (· + ·) (x_apply m c t (y 0) (y 1) _ _ e0 e1) (congrArg₂ (· * ·) (mod_apply m c t _ (y 1) _ _ rfl ?_) ?_)
  · exact congrArg (8192 + ·) e1
  · exact Finset.sum_congr rfl fun k _ => congrArg₂ (· * ·) (rows_apply m c t (y 0) k _ e0) (cols_apply m c t (y 1) k _ e1)

/-- The latent rows of the result. -/
def latent (h : FVec Ideal S17408x4096 .bf16) (w : FVec Ideal S2x4096x4096 .f32) (x : FVec Ideal S17408x4096 .f32)
    (md : FVec Ideal S8x24576 .f32) : FVec Ideal S16384x4096 .f32 :=
  fun y => result 1 h w x md (ix2 ⟨1024 + (y 0).val, by have : (y 0).val < 16384 := (y 0).isLt; omega⟩ (y 1))

/-- The slice after the call takes them. -/
theorem sliced (hs) : (extractStridedSlice S16384x4096 ![1024, 0] ((dats m 0 c).arrAt 4 cfg0.N : FVec Ideal S17408x4096 .f32) hs : FVec Ideal S16384x4096 .f32)
    = latent (m ((c : Thread nD τ).loc main_arg0)) (m ((c : Thread nD τ).loc main_arg1))
    (m ((c : Thread nD τ).loc main_arg2)) (m ((c : Thread nD τ).loc main_arg3)) := by
  rw [arr4]
  funext y
  rw [show y = ix2 (y 0) (y 1) by funext a; fin_cases a <;> rfl]
  generalize hr0 : y 0 = r; generalize hq0 : y 1 = q
  clear hr0 hq0 y
  revert r q
  intro (r : Fin 16384) (q : Fin 4096)
  pointwise
  refine (if_pos ?_).trans rfl
  show 1 ≤ (1024 + r.val) / 1024
  omega

/-- The reference's term, its product named, is the latent rows of the result. -/
theorem ref_result (h : FVec Ideal S17408x4096 .bf16) (w : FVec Ideal S2x4096x4096 .f32)
    (x : FVec Ideal S17408x4096 .f32) (md : FVec Ideal S8x24576 .f32)
    (P : FVec Ideal S16384x4096 .f32)
    (hP : ∀ (r : Fin 16384) (q : Fin 4096), P (ix2 r q) = ∑ k : Fin 4096, h (ix2 ⟨1024 + r.val, by omega⟩ k) * w (ix3 1 k q))
    (h1 h2 h3 h4 h5 h6 h7) :
    (shapeCast Cert.OutTwoRefIdeal.S16384x4096 (addf (F := Ideal) (φ := .f32) (shapeCast Cert.OutTwoRefIdeal.S4x4096x4096 (extractStridedSlice Cert.OutTwoRefIdeal.S16384x4096 ![1024, 0] x h1) h2)
        (mulf (broadcastInDim Cert.OutTwoRefIdeal.S4x4096x4096 ![0, 1, 2] h3 (broadcastInDim Cert.OutTwoRefIdeal.S4x1x4096 ![0, 2] h4 (extractStridedSlice Cert.OutTwoRefIdeal.S4x4096 ![0, 8192] md h5)))
          (shapeCast Cert.OutTwoRefIdeal.S4x4096x4096 P h6))) h7) = latent h w x md := by
  funext y
  rw [show y = ix2 (y 0) (y 1) by funext a; fin_cases a <;> rfl]
  generalize hr0 : y 0 = r; generalize hq0 : y 1 = q
  clear hr0 hq0 y
  revert r q
  intro (r : Fin 16384) (q : Fin 4096)
  pointwise
  unfold latent result
  have e : ∀ g, (⟨r.val / 4096 * 4096 + r.val % 4096, g⟩ : Fin 16384) = r :=
    fun g => Fin.ext (by show r.val / 4096 * 4096 + r.val % 4096 = r.val; omega)
  have e' : ∀ g, (⟨1024 + (r.val / 4096 * 4096 + r.val % 4096), g⟩ : Fin 17408) = ⟨1024 + r.val, by omega⟩ :=
    fun g => Fin.ext (by show 1024 + (r.val / 4096 * 4096 + r.val % 4096) = 1024 + r.val; omega)
  simp only [e, e', hP]
  refine congrArg₂ (· + ·) rfl (congrArg₂ (· * ·) (congrArg md (congrArg₂ ix2 (Fin.ext ?_) rfl)) rfl)
  show r.val / 4096 = modRow (1024 + r.val)
  unfold modRow
  rw [if_neg (by omega)]; omega

/-- The reference's product, at an element. -/
theorem ref_product (h : FVec Ideal S17408x4096 .bf16) (w : FVec Ideal S2x4096x4096 .f32) (hl hb hs hc) (r : Fin 16384) (q : Fin 4096) :
    Host.dotGeneral (F := Ideal) Cert.OutTwoRefIdeal.dot_S16384x4096_S4096x4096_S16384x4096_1_0_0_1_n_n none
      (extf .f32 (extractStridedSlice Cert.OutTwoRefIdeal.S16384x4096 ![1024, 0] h hl : FVec Ideal Cert.OutTwoRefIdeal.S16384x4096 .bf16) hb)
      (shapeCast Cert.OutTwoRefIdeal.S4096x4096 (extractStridedSlice Cert.OutTwoRefIdeal.S1x4096x4096 ![1, 0, 0] w hs) hc) (ix2 r q)
      = ∑ k : Fin 4096, h (ix2 ⟨1024 + r.val, by omega⟩ k) * w (ix3 1 k q) := by
  pointwise

/-- What the lines after the call leave in the result. -/
theorem tail : Pipeline.afterTail₀ cfgs (dats m) 0 (V0 m) [hostOps1] c main_v2
    = latent (m ((c : Thread nD τ).loc main_arg0)) (m ((c : Thread nD τ).loc main_arg1))
    (m ((c : Thread nD τ).loc main_arg2)) (m ((c : Thread nD τ).loc main_arg3)) := by
  unfold Pipeline.afterTail₀
  simp only [hostOps1, List.flatten_cons, List.flatten_nil, List.append_nil]
  after_results
  refine (congrArg (fun x : FVec Ideal S17408x4096 .f32 => extractStridedSlice S16384x4096 ![1024, 0] x slices_S17408x4096_S16384x4096_1024_0)
    (Pipeline.withArrays_arr spec0 (by decide) c (V0 m c) (fun w => (dats m 0 c).arrAt w cfg0.N) 4)).trans ?_
  exact sliced m c _

/-- The run, with its result named. -/
theorem run (ρ : Dev nD → PrngReg) : θ_run defs (onTc (τ := τ) (main (F := Ideal))) ⟨m, fun _ => 0, ρ⟩ (fun r => ∀ c : Dev nD,
    r.2.mem ((c : Thread nD τ).loc main_v2) = latent (m ((c : Thread nD τ).loc main_arg0)) (m ((c : Thread nD τ).loc main_arg1))
    (m ((c : Thread nD τ).loc main_arg2)) (m ((c : Thread nD τ).loc main_arg3))) :=
  (θ_run defs _ _).mono (fun _ h c => ((h c).2 main_v2 (Pipeline.mem_restRefs_of main_v2 (by decide) (by decide))).trans (tail m c)) (run_main m ρ)

end Cert.OutTwoProof

end
-- ==== Proof.Calls.lean ====
/-
  The claims of the calls around the scan: every program runs and stops, its arguments kept; no constant is named in them;
  the kernel and the reference of each end with the same result.
-/
module

public import proofs.«01_k».proof.Defs
public import proofs.«01_k».proof.Proof.Gen.In.Frame
public import proofs.«01_k».proof.Proof.InValue
public import proofs.«01_k».proof.Proof.Gen.Up.Frame
public import proofs.«01_k».proof.Proof.UpValue
public import proofs.«01_k».proof.Proof.Gen.Down.Frame
public import proofs.«01_k».proof.Proof.DownValue
public import proofs.«01_k».proof.Proof.Gen.Merge.Frame
public import proofs.«01_k».proof.Proof.MergeValue
public import proofs.«01_k».proof.Proof.Gen.Out.Frame
public import proofs.«01_k».proof.Proof.OutValue
public import proofs.«01_k».proof.Proof.Gen.InTwo.Frame
public import proofs.«01_k».proof.Proof.InTwoValue
public import proofs.«01_k».proof.Proof.Gen.Tail.Frame
public import proofs.«01_k».proof.Proof.TailValue
public import proofs.«01_k».proof.Proof.Gen.TailTwo.Frame
public import proofs.«01_k».proof.Proof.TailTwoValue
public import proofs.«01_k».proof.Proof.Gen.MergeTwo.Frame
public import proofs.«01_k».proof.Proof.MergeTwoValue
public import proofs.«01_k».proof.Proof.Gen.OutTwo.Frame
public import proofs.«01_k».proof.Proof.OutTwoValue
public import Idealize.ShloMosaic.Lib.Quiescent
public import Idealize.ShloMosaic.Adequacy
public import Idealize.ShloMosaic.Init

@[expose] public section
set_option maxRecDepth 16384
noncomputable section
namespace Cert.Calls
open Idealize.ShloMosaic Idealize.SL.Sem Idealize.ShloMosaic.TcCoe

/-- The programs of the projection run and keep their arguments. -/
theorem frame_In : Cert.quiescent_In := fun m ρ _ => Cert.In.Gen.frame m ρ
theorem frame_InIdeal : Cert.quiescent_InIdeal := fun m ρ _ => Cert.InIdeal.Gen.frame m ρ
theorem frame_InRefIdeal : Cert.quiescent_InRefIdeal := fun m ρ _ =>
  (θ_run Cert.InRefIdeal.defs _ _).mono (fun r h => ⟨fun c => (h c).2, sem_eq_zero_of_no_sems (by decide) r.2⟩)
    (Cert.InRefIdeal.Value.run (F := Ideal) m ρ)

/-- The ideal kernel is the kernel's own text. -/
theorem preserves_In : Cert.preserves_In_InIdeal := trivial

/-- Its kernel and its reference end with the same result. -/
theorem algebraic_In : Cert.algebraic_InIdeal_InRefIdeal := by
  intro m g m' g' hpre hargs
  refine ⟨fun c => Cert.InProof.product 0 (m ((c.tc : Thread Cert.InIdeal.nD Cert.InIdeal.τ).loc Cert.InIdeal.main_arg0)) (m ((c.tc : Thread Cert.InIdeal.nD Cert.InIdeal.τ).loc Cert.InIdeal.main_arg1)), ?_, ?_⟩
  · exact (θ_run Cert.InIdeal.defs _ _).mono (fun r h c => ⟨(h c).1.trans (Cert.InProof.arr2 m c), (h c).2⟩)
      (Cert.InIdeal.Value.run_blocks (F := Ideal) m g)
  · refine (θ_run Cert.InRefIdeal.defs _ _).mono (fun r h c => ⟨(h c).1.trans ?_, (h c).2⟩) (Cert.InRefIdeal.Value.run (F := Ideal) m' g')
    exact (Cert.InProof.ref_product _ _ _ _ _ _).trans
      (congrArg₂ (Cert.InProof.product 0) (hargs c).1 (hargs c).2)

/-- The programs of the feed-forward layer's first half run and keep their arguments. -/
theorem frame_Up : Cert.quiescent_Up := fun m ρ _ => Cert.Up.Gen.frame m ρ
theorem frame_UpIdeal : Cert.quiescent_UpIdeal := fun m ρ _ => Cert.UpIdeal.Gen.frame m ρ
theorem frame_UpRefIdeal : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

/-- The ideal kernel is the kernel's own text. -/
theorem preserves_Up : Cert.preserves_Up_UpIdeal := trivial

/-- Its kernel and its reference end with the same result. -/
theorem algebraic_Up : Cert.algebraic_UpIdeal_UpRefIdeal := by
  intro m g m' g' hpre hargs
  refine ⟨fun c => Cert.UpProof.result (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)), ?_, ?_⟩
  · exact (θ_run Cert.UpIdeal.defs _ _).mono (fun r h c => ⟨(h c).1.trans (Cert.UpProof.arr3 m c), (h c).2⟩)
      (Cert.UpIdeal.Value.run_blocks (F := Ideal) m g)
  · refine (θ_run Cert.UpRefIdeal.defs _ _).mono (fun r h c => ⟨(h c).1.trans ?_, (h c).2⟩) (Cert.UpRefIdeal.Value.run (F := Ideal) m' g')
    exact (Cert.UpProof.ref_result _ _ _ _ _ _).trans
      (congr (congrArg₂ Cert.UpProof.result (hargs c).1 (hargs c).2.1) (hargs c).2.2)

/-- The programs of the feed-forward layer's second half run and keep their arguments. -/
theorem frame_Down : Cert.quiescent_Down := fun m ρ _ => Cert.Down.Gen.frame m ρ
theorem frame_DownIdeal : Cert.quiescent_DownIdeal := fun m ρ _ => Cert.DownIdeal.Gen.frame m ρ
theorem frame_DownRefIdeal : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- The ideal kernel is the kernel's own text. -/
theorem preserves_Down : Cert.preserves_Down_DownIdeal := trivial

/-- Its kernel and its reference end with the same result. -/
theorem algebraic_Down : Cert.algebraic_DownIdeal_DownRefIdeal := by
  intro m g m' g' hpre hargs
  refine ⟨fun c => Cert.DownProof.result (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)), ?_, ?_⟩
  · exact (θ_run Cert.DownIdeal.defs _ _).mono (fun r h c => ⟨(h c).1.trans (Cert.DownProof.arr4 m c), (h c).2⟩)
      (Cert.DownIdeal.Value.run_blocks (F := Ideal) m g)
  · refine (θ_run Cert.DownRefIdeal.defs _ _).mono (fun r h c => ⟨(h c).1.trans ?_, (h c).2⟩) (Cert.DownRefIdeal.Value.run (F := Ideal) m' g')
    exact (Cert.DownProof.ref_result _ _ _ _ _ (fun r q => Cert.DownProof.ref_product _ _ _ r q) _ _ _ _ _ _ _ _ _ _ _ _ _ _ _ _ _).trans
      (congr (congr (congrArg₂ Cert.DownProof.result (hargs c).1 (hargs c).2.1) (hargs c).2.2.1) (hargs c).2.2.2)

/-- The programs of the branches' gated sum run and keep their arguments. -/
theorem frame_Merge : Cert.quiescent_Merge := fun m ρ _ => Cert.Merge.Gen.frame m ρ
theorem frame_MergeIdeal : Cert.quiescent_MergeIdeal := fun m ρ _ => Cert.MergeIdeal.Gen.frame m ρ
theorem frame_MergeRefIdeal : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The ideal kernel is the kernel's own text. -/
theorem preserves_Merge : Cert.preserves_Merge_MergeIdeal := trivial

/-- Its kernel and its reference end with the same result. -/
theorem algebraic_Merge : Cert.algebraic_MergeIdeal_MergeRefIdeal := by
  intro m g m' g' hpre hargs
  refine ⟨fun c => Cert.MergeProof.result 0 (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)), ?_, ?_⟩
  · exact (θ_run Cert.MergeIdeal.defs _ _).mono (fun r h c => ⟨(h c).1.trans (Cert.MergeProof.arr7 m c), (h c).2⟩)
      (Cert.MergeIdeal.Value.run_blocks (F := Ideal) m g)
  · refine (θ_run Cert.MergeRefIdeal.defs _ _).mono (fun r h c => ⟨(h c).1.trans ?_, (h c).2⟩) (Cert.MergeRefIdeal.Value.run (F := Ideal) m' g')
    exact (Cert.MergeProof.ref_result _ _ _ _ _ _ _ _ _ _ _ (fun r q => Cert.MergeProof.ref_gates _ _ _ _ _ _ _ _ _ _ _ r q) (fun r q => Cert.MergeProof.ref_branch0 _ _ _ _ _ r q) (fun r q => Cert.MergeProof.ref_branch1 _ _ _ _ _ r q) (fun r q => Cert.MergeProof.ref_branch2 _ _ _ _ _ r q) _ _ _ _).trans
      (congr (congr (congr (congr (congr (congrArg₂ (Cert.MergeProof.result 0) (hargs c).1 (hargs c).2.1) (hargs c).2.2.1) (hargs c).2.2.2.1) (hargs c).2.2.2.2.1) (hargs c).2.2.2.2.2.1) (hargs c).2.2.2.2.2.2)

/-- The programs of the output projection run and keep their arguments. -/
theorem frame_Out : Cert.quiescent_Out := fun m ρ _ => Cert.Out.Gen.frame m ρ
theorem frame_OutIdeal : Cert.quiescent_OutIdeal := fun m ρ _ => Cert.OutIdeal.Gen.frame m ρ
theorem frame_OutRefIdeal : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The ideal kernel is the kernel's own text. -/
theorem preserves_Out : Cert.preserves_Out_OutIdeal := trivial

/-- Its kernel and its reference end with the same result. -/
theorem algebraic_Out : Cert.algebraic_OutIdeal_OutRefIdeal := by
  intro m g m' g' hpre hargs
  refine ⟨fun c => Cert.OutProof.result 0 (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)), ?_, ?_⟩
  · exact (θ_run Cert.OutIdeal.defs _ _).mono (fun r h c => ⟨(h c).1.trans (Cert.OutProof.arr4 m c), (h c).2⟩)
      (Cert.OutIdeal.Value.run_blocks (F := Ideal) m g)
  · refine (θ_run Cert.OutRefIdeal.defs _ _).mono (fun r h c => ⟨(h c).1.trans ?_, (h c).2⟩) (Cert.OutRefIdeal.Value.run (F := Ideal) m' g')
    exact (Cert.OutProof.ref_result _ _ _ _ _ (fun r q => Cert.OutProof.ref_product _ _ _ _ _ r q) _ _ _ _ _ _ _ _ _ _ _ _ _ _ _ _ _).trans
      (congr (congr (congrArg₂ (Cert.OutProof.result 0) (hargs c).1 (hargs c).2.1) (hargs c).2.2.1) (hargs c).2.2.2)

/-- The programs of the second layer's projection run and keep their arguments. -/
theorem frame_InTwo : Cert.quiescent_InTwo := fun m ρ _ => Cert.InTwo.Gen.frame m ρ
theorem frame_InTwoIdeal : Cert.quiescent_InTwoIdeal := fun m ρ _ => Cert.InTwoIdeal.Gen.frame m ρ
theorem frame_InTwoRefIdeal : Cert.quiescent_InTwoRefIdeal := fun m ρ _ =>
  (θ_run Cert.InTwoRefIdeal.defs _ _).mono (fun r h => ⟨fun c => (h c).2, sem_eq_zero_of_no_sems (by decide) r.2⟩)
    (Cert.InTwoRefIdeal.Value.run (F := Ideal) m ρ)

/-- The ideal kernel is the kernel's own text. -/
theorem preserves_InTwo : Cert.preserves_InTwo_InTwoIdeal := trivial

/-- Its kernel and its reference end with the same result. -/
theorem algebraic_InTwo : Cert.algebraic_InTwoIdeal_InTwoRefIdeal := by
  intro m g m' g' hpre hargs
  refine ⟨fun c => Cert.InProof.product 1 (m ((c.tc : Thread Cert.InTwoIdeal.nD Cert.InTwoIdeal.τ).loc Cert.InTwoIdeal.main_arg0)) (m ((c.tc : Thread Cert.InTwoIdeal.nD Cert.InTwoIdeal.τ).loc Cert.InTwoIdeal.main_arg1)), ?_, ?_⟩
  · exact (θ_run Cert.InTwoIdeal.defs _ _).mono (fun r h c => ⟨(h c).1.trans (Cert.InTwoProof.arr2 m c), (h c).2⟩)
      (Cert.InTwoIdeal.Value.run_blocks (F := Ideal) m g)
  · refine (θ_run Cert.InTwoRefIdeal.defs _ _).mono (fun r h c => ⟨(h c).1.trans ?_, (h c).2⟩) (Cert.InTwoRefIdeal.Value.run (F := Ideal) m' g')
    exact (Cert.InTwoProof.ref_product _ _ _ _ _ _).trans
      (congrArg₂ (Cert.InProof.product 1) (hargs c).1 (hargs c).2)

/-- The programs of the projection's last columns run and keep their arguments. -/
theorem frame_Tail : Cert.quiescent_Tail := fun m ρ _ => Cert.Tail.Gen.frame m ρ
theorem frame_TailIdeal : Cert.quiescent_TailIdeal := fun m ρ _ => Cert.TailIdeal.Gen.frame m ρ
theorem frame_TailRefIdeal : Cert.quiescent_TailRefIdeal := fun m ρ _ =>
  (θ_run Cert.TailRefIdeal.defs _ _).mono (fun r h => ⟨fun c => (h c).2, sem_eq_zero_of_no_sems (by decide) r.2⟩)
    (Cert.TailRefIdeal.Value.run (F := Ideal) m ρ)

/-- The ideal kernel is the kernel's own text. -/
theorem preserves_Tail : Cert.preserves_Tail_TailIdeal := trivial

/-- Its kernel and its reference end with the same result. -/
theorem algebraic_Tail : Cert.algebraic_TailIdeal_TailRefIdeal := by
  intro m g m' g' hpre hargs
  refine ⟨fun c => Cert.TailProof.result 0 (m ((c.tc : Thread Cert.TailIdeal.nD Cert.TailIdeal.τ).loc Cert.TailIdeal.main_arg0)) (m ((c.tc : Thread Cert.TailIdeal.nD Cert.TailIdeal.τ).loc Cert.TailIdeal.main_arg1)), ?_, ?_⟩
  · exact (θ_run Cert.TailIdeal.defs _ _).mono (fun r h c => ⟨(h c).1.trans (Cert.TailProof.arr2 m c), (h c).2⟩)
      (Cert.TailIdeal.Value.run_blocks (F := Ideal) m g)
  · refine (θ_run Cert.TailRefIdeal.defs _ _).mono (fun r h c => ⟨(h c).1.trans ?_, (h c).2⟩) (Cert.TailRefIdeal.Value.run (F := Ideal) m' g')
    exact (Cert.TailProof.ref_result 0 _ _ _ (fun r q => Cert.TailProof.ref_product _ _ _ _ _ r q) _ _ _ _ _ _).trans
      (congrArg₂ (Cert.TailProof.result 0) (hargs c).1 (hargs c).2)

/-- The programs of the second layer's projection's last columns run and keep their arguments. -/
theorem frame_TailTwo : Cert.quiescent_TailTwo := fun m ρ _ => Cert.TailTwo.Gen.frame m ρ
theorem frame_TailTwoIdeal : Cert.quiescent_TailTwoIdeal := fun m ρ _ => Cert.TailTwoIdeal.Gen.frame m ρ
theorem frame_TailTwoRefIdeal : Cert.quiescent_TailTwoRefIdeal := fun m ρ _ =>
  (θ_run Cert.TailTwoRefIdeal.defs _ _).mono (fun r h => ⟨fun c => (h c).2, sem_eq_zero_of_no_sems (by decide) r.2⟩)
    (Cert.TailTwoRefIdeal.Value.run (F := Ideal) m ρ)

/-- The ideal kernel is the kernel's own text. -/
theorem preserves_TailTwo : Cert.preserves_TailTwo_TailTwoIdeal := trivial

/-- Its kernel and its reference end with the same result. -/
theorem algebraic_TailTwo : Cert.algebraic_TailTwoIdeal_TailTwoRefIdeal := by
  intro m g m' g' hpre hargs
  refine ⟨fun c => Cert.TailProof.result 1 (m ((c.tc : Thread Cert.TailTwoIdeal.nD Cert.TailTwoIdeal.τ).loc Cert.TailTwoIdeal.main_arg0)) (m ((c.tc : Thread Cert.TailTwoIdeal.nD Cert.TailTwoIdeal.τ).loc Cert.TailTwoIdeal.main_arg1)), ?_, ?_⟩
  · exact (θ_run Cert.TailTwoIdeal.defs _ _).mono (fun r h c => ⟨(h c).1.trans (Cert.TailTwoProof.arr2 m c), (h c).2⟩)
      (Cert.TailTwoIdeal.Value.run_blocks (F := Ideal) m g)
  · refine (θ_run Cert.TailTwoRefIdeal.defs _ _).mono (fun r h c => ⟨(h c).1.trans ?_, (h c).2⟩) (Cert.TailTwoRefIdeal.Value.run (F := Ideal) m' g')
    exact (Cert.TailProof.ref_result 1 _ _ _ (fun r q => Cert.TailTwoProof.ref_product _ _ _ _ _ r q) _ _ _ _ _ _).trans
      (congrArg₂ (Cert.TailProof.result 1) (hargs c).1 (hargs c).2)

/-- The programs of the second layer's branches' gated sum run and keep their arguments. -/
theorem frame_MergeTwo : Cert.quiescent_MergeTwo := fun m ρ _ => Cert.MergeTwo.Gen.frame m ρ
theorem frame_MergeTwoIdeal : Cert.quiescent_MergeTwoIdeal := fun m ρ _ => Cert.MergeTwoIdeal.Gen.frame m ρ
theorem frame_MergeTwoRefIdeal : Cert.quiescent_MergeTwoRefIdeal := fun m ρ _ =>
  (θ_run Cert.MergeTwoRefIdeal.defs _ _).mono (fun r h => ⟨fun c => (h c).2, sem_eq_zero_of_no_sems (by decide) r.2⟩)
    (Cert.MergeTwoRefIdeal.Value.run (F := Ideal) m ρ)

/-- The ideal kernel is the kernel's own text. -/
theorem preserves_MergeTwo : Cert.preserves_MergeTwo_MergeTwoIdeal := trivial

/-- Its kernel and its reference end with the same result. -/
theorem algebraic_MergeTwo : Cert.algebraic_MergeTwoIdeal_MergeTwoRefIdeal := by
  intro m g m' g' hpre hargs
  refine ⟨fun c => Cert.MergeTwoProof.latent (m ((c.tc : Thread Cert.MergeTwoIdeal.nD Cert.MergeTwoIdeal.τ).loc Cert.MergeTwoIdeal.main_arg0)) (m ((c.tc : Thread Cert.MergeTwoIdeal.nD Cert.MergeTwoIdeal.τ).loc Cert.MergeTwoIdeal.main_arg1)) (m ((c.tc : Thread Cert.MergeTwoIdeal.nD Cert.MergeTwoIdeal.τ).loc Cert.MergeTwoIdeal.main_arg2)) (m ((c.tc : Thread Cert.MergeTwoIdeal.nD Cert.MergeTwoIdeal.τ).loc Cert.MergeTwoIdeal.main_arg3)) (m ((c.tc : Thread Cert.MergeTwoIdeal.nD Cert.MergeTwoIdeal.τ).loc Cert.MergeTwoIdeal.main_arg4)) (m ((c.tc : Thread Cert.MergeTwoIdeal.nD Cert.MergeTwoIdeal.τ).loc Cert.MergeTwoIdeal.main_arg5)) (m ((c.tc : Thread Cert.MergeTwoIdeal.nD Cert.MergeTwoIdeal.τ).loc Cert.MergeTwoIdeal.main_arg6)), ?_, ?_⟩
  · exact (θ_run Cert.MergeTwoIdeal.defs _ _).mono (fun r h c => ⟨h.2 c, h.1 c⟩)
      (θ_run_and (Cert.MergeTwoIdeal.Gen.unchanged (F := Ideal) m g) (Cert.MergeTwoProof.run m g))
  · refine (θ_run Cert.MergeTwoRefIdeal.defs _ _).mono (fun r h c => ⟨(h c).1.trans ?_, (h c).2⟩) (Cert.MergeTwoRefIdeal.Value.run (F := Ideal) m' g')
    exact (Cert.MergeTwoProof.ref_result _ _ _ _ _ _ _ _ _ _ _ (fun r q => Cert.MergeTwoProof.ref_gates _ _ _ _ _ _ _ _ _ _ _ r q) (fun r q => Cert.MergeTwoProof.ref_branch 0 _ _ _ _ _ _ r q) (fun r q => Cert.MergeTwoProof.ref_branch 1 _ _ _ _ _ _ r q) (fun r q => Cert.MergeTwoProof.ref_branch 2 _ _ _ _ _ _ r q) _ _ _ _).trans
      (congr (congr (congr (congr (congr (congrArg₂ Cert.MergeTwoProof.latent (hargs c).1 (hargs c).2.1) (hargs c).2.2.1) (hargs c).2.2.2.1) (hargs c).2.2.2.2.1) (hargs c).2.2.2.2.2.1) (hargs c).2.2.2.2.2.2)

/-- The programs of the second layer's output projection run and keep their arguments. -/
theorem frame_OutTwo : Cert.quiescent_OutTwo := fun m ρ _ => Cert.OutTwo.Gen.frame m ρ
theorem frame_OutTwoIdeal : Cert.quiescent_OutTwoIdeal := fun m ρ _ => Cert.OutTwoIdeal.Gen.frame m ρ
theorem frame_OutTwoRefIdeal : Cert.quiescent_OutTwoRefIdeal := fun m ρ _ =>
  (θ_run Cert.OutTwoRefIdeal.defs _ _).mono (fun r h => ⟨fun c => (h c).2, sem_eq_zero_of_no_sems (by decide) r.2⟩)
    (Cert.OutTwoRefIdeal.Value.run (F := Ideal) m ρ)

/-- The ideal kernel is the kernel's own text. -/
theorem preserves_OutTwo : Cert.preserves_OutTwo_OutTwoIdeal := trivial

/-- Its kernel and its reference end with the same result. -/
theorem algebraic_OutTwo : Cert.algebraic_OutTwoIdeal_OutTwoRefIdeal := by
  intro m g m' g' hpre hargs
  refine ⟨fun c => Cert.OutTwoProof.latent (m ((c.tc : Thread Cert.OutTwoIdeal.nD Cert.OutTwoIdeal.τ).loc Cert.OutTwoIdeal.main_arg0)) (m ((c.tc : Thread Cert.OutTwoIdeal.nD Cert.OutTwoIdeal.τ).loc Cert.OutTwoIdeal.main_arg1)) (m ((c.tc : Thread Cert.OutTwoIdeal.nD Cert.OutTwoIdeal.τ).loc Cert.OutTwoIdeal.main_arg2)) (m ((c.tc : Thread Cert.OutTwoIdeal.nD Cert.OutTwoIdeal.τ).loc Cert.OutTwoIdeal.main_arg3)), ?_, ?_⟩
  · exact (θ_run Cert.OutTwoIdeal.defs _ _).mono (fun r h c => ⟨h.2 c, h.1 c⟩)
      (θ_run_and (Cert.OutTwoIdeal.Gen.unchanged (F := Ideal) m g) (Cert.OutTwoProof.run m g))
  · refine (θ_run Cert.OutTwoRefIdeal.defs _ _).mono (fun r h c => ⟨(h c).1.trans ?_, (h c).2⟩) (Cert.OutTwoRefIdeal.Value.run (F := Ideal) m' g')
    exact (Cert.OutTwoProof.ref_result _ _ _ _ _ (fun r q => Cert.OutTwoProof.ref_product _ _ _ _ _ _ r q) _ _ _ _ _ _ _).trans
      (congr (congr (congrArg₂ Cert.OutTwoProof.latent (hargs c).1 (hargs c).2.1) (hargs c).2.2.1) (hargs c).2.2.2)

end Cert.Calls

end
-- ==== Proof.lean ====
/- The certificate: every claim of `Claim`, from the modules below. -/
module

public import proofs.«01_k».proof.Defs
public import proofs.«01_k».proof.Proof.Frames
public import proofs.«01_k».proof.Proof.Algebraic
public import proofs.«01_k».proof.Proof.Calls

@[expose] public section

noncomputable section

namespace Cert.Proof

/-- Every claim holds. -/
theorem claim : Cert.Claim :=
  ⟨Cert.Kernel.Gen.facts, Cert.KernelIdeal.Gen.facts, Cert.ReferenceIdeal.Gen.facts,
    Cert.In.Gen.facts, Cert.InIdeal.Gen.facts, Cert.InRefIdeal.Gen.facts, Cert.Up.Gen.facts, Cert.UpIdeal.Gen.facts, Cert.UpRefIdeal.Gen.facts, Cert.Down.Gen.facts, Cert.DownIdeal.Gen.facts, Cert.DownRefIdeal.Gen.facts, Cert.Merge.Gen.facts, Cert.MergeIdeal.Gen.facts, Cert.MergeRefIdeal.Gen.facts, Cert.Out.Gen.facts, Cert.OutIdeal.Gen.facts, Cert.OutRefIdeal.Gen.facts, Cert.InTwo.Gen.facts, Cert.InTwoIdeal.Gen.facts, Cert.InTwoRefIdeal.Gen.facts, Cert.Tail.Gen.facts, Cert.TailIdeal.Gen.facts, Cert.TailRefIdeal.Gen.facts, Cert.TailTwo.Gen.facts, Cert.TailTwoIdeal.Gen.facts, Cert.TailTwoRefIdeal.Gen.facts, Cert.MergeTwo.Gen.facts, Cert.MergeTwoIdeal.Gen.facts, Cert.MergeTwoRefIdeal.Gen.facts, Cert.OutTwo.Gen.facts, Cert.OutTwoIdeal.Gen.facts, Cert.OutTwoRefIdeal.Gen.facts,
    Cert.Hgrn.preFacts,
    Cert.Hgrn.frame_k, Cert.Hgrn.frame_ki, Cert.Hgrn.frame_ki_pre, Cert.Hgrn.frame_ri, Cert.Hgrn.frame_ri_pre,
    Cert.Calls.frame_In, Cert.Calls.frame_InIdeal, Cert.Calls.frame_InRefIdeal, Cert.Calls.frame_Up, Cert.Calls.frame_UpIdeal, Cert.Calls.frame_UpRefIdeal, Cert.Calls.frame_Down, Cert.Calls.frame_DownIdeal, Cert.Calls.frame_DownRefIdeal, Cert.Calls.frame_Merge, Cert.Calls.frame_MergeIdeal, Cert.Calls.frame_MergeRefIdeal, Cert.Calls.frame_Out, Cert.Calls.frame_OutIdeal, Cert.Calls.frame_OutRefIdeal, Cert.Calls.frame_InTwo, Cert.Calls.frame_InTwoIdeal, Cert.Calls.frame_InTwoRefIdeal, Cert.Calls.frame_Tail, Cert.Calls.frame_TailIdeal, Cert.Calls.frame_TailRefIdeal, Cert.Calls.frame_TailTwo, Cert.Calls.frame_TailTwoIdeal, Cert.Calls.frame_TailTwoRefIdeal, Cert.Calls.frame_MergeTwo, Cert.Calls.frame_MergeTwoIdeal, Cert.Calls.frame_MergeTwoRefIdeal, Cert.Calls.frame_OutTwo, Cert.Calls.frame_OutTwoIdeal, Cert.Calls.frame_OutTwoRefIdeal,
    Cert.Hgrn.preserves, Cert.Hgrn.algebraic,
    Cert.Calls.preserves_In, Cert.Calls.algebraic_In, Cert.Calls.preserves_Up, Cert.Calls.algebraic_Up, Cert.Calls.preserves_Down, Cert.Calls.algebraic_Down, Cert.Calls.preserves_Merge, Cert.Calls.algebraic_Merge, Cert.Calls.preserves_Out, Cert.Calls.algebraic_Out, Cert.Calls.preserves_InTwo, Cert.Calls.algebraic_InTwo, Cert.Calls.preserves_Tail, Cert.Calls.algebraic_Tail, Cert.Calls.preserves_TailTwo, Cert.Calls.algebraic_TailTwo, Cert.Calls.preserves_MergeTwo, Cert.Calls.algebraic_MergeTwo, Cert.Calls.preserves_OutTwo, Cert.Calls.algebraic_OutTwo⟩

end Cert.Proof

end
